-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v5)) (v3 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v5) = v2 c
          ∧ r.2.mem ((c.tc : Thread Cert.Kernel2Ideal.nD Cert.Kernel2Ideal.τ).loc Cert.Kernel2Ideal.main_v6) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3_3) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v14_3) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
-- ==== Pre_finite_inputs.lean ====
abbrev S2x4096x4 : Shape := ⟨3, ![2, 4096, 4]⟩
abbrev S2x4096x3 : Shape := ⟨3, ![2, 4096, 3]⟩
abbrev S2x2048 : Shape := ⟨2, ![2, 2048]⟩
abbrev S2x3x2048 : Shape := ⟨3, ![2, 3, 2048]⟩
abbrev S2x1024 : Shape := ⟨2, ![2, 1024]⟩
abbrev S2x3x1024 : Shape := ⟨3, ![2, 3, 1024]⟩
abbrev S64x4 : Shape := ⟨2, ![64, 4]⟩
abbrev S64x8 : Shape := ⟨2, ![64, 8]⟩
abbrev S128x64 : Shape := ⟨2, ![128, 64]⟩
abbrev S128x68 : Shape := ⟨2, ![128, 68]⟩
abbrev S256x128 : Shape := ⟨2, ![256, 128]⟩
abbrev S256x132 : Shape := ⟨2, ![256, 132]⟩
abbrev S128x384 : Shape := ⟨2, ![128, 384]⟩
abbrev S128 : Shape := ⟨1, ![128]⟩
abbrev S128x128 : Shape := ⟨2, ![128, 128]⟩
abbrev S128x132 : Shape := ⟨2, ![128, 132]⟩
abbrev S64x192 : Shape := ⟨2, ![64, 192]⟩
abbrev S64 : Shape := ⟨1, ![64]⟩
abbrev S64x64 : Shape := ⟨2, ![64, 64]⟩
abbrev S64x68 : Shape := ⟨2, ![64, 68]⟩
abbrev S_ : Shape := ⟨0, ![]⟩

class Facts : Prop where
  bcast_S_S2x4096x4 : S_.BroadcastsInDim S2x4096x4 (![] : Fin 0 → Fin S2x4096x4.rank)
  reducesTo_S2x4096x4_S_d0_1_2 : S2x4096x4.ReducesTo [0, 1, 2] S_
  h_S_ : 0 < S_.numel
  bcast_S_S2x4096x3 : S_.BroadcastsInDim S2x4096x3 (![] : Fin 0 → Fin S2x4096x3.rank)
  reducesTo_S2x4096x3_S_d0_1_2 : S2x4096x3.ReducesTo [0, 1, 2] S_
  bcast_S_S2x3x2048 : S_.BroadcastsInDim S2x3x2048 (![] : Fin 0 → Fin S2x3x2048.rank)
  reducesTo_S2x3x2048_S_d0_1_2 : S2x3x2048.ReducesTo [0, 1, 2] S_
  bcast_S_S2x3x1024 : S_.BroadcastsInDim S2x3x1024 (![] : Fin 0 → Fin S2x3x1024.rank)
  reducesTo_S2x3x1024_S_d0_1_2 : S2x3x1024.ReducesTo [0, 1, 2] S_
  bcast_S_S64x4 : S_.BroadcastsInDim S64x4 (![] : Fin 0 → Fin S64x4.rank)
  reducesTo_S64x4_S_d0_1 : S64x4.ReducesTo [0, 1] S_
  bcast_S_S64x8 : S_.BroadcastsInDim S64x8 (![] : Fin 0 → Fin S64x8.rank)
  reducesTo_S64x8_S_d0_1 : S64x8.ReducesTo [0, 1] S_
  bcast_S_S128x64 : S_.BroadcastsInDim S128x64 (![] : Fin 0 → Fin S128x64.rank)
  reducesTo_S128x64_S_d0_1 : S128x64.ReducesTo [0, 1] S_
  bcast_S_S128x68 : S_.BroadcastsInDim S128x68 (![] : Fin 0 → Fin S128x68.rank)
  reducesTo_S128x68_S_d0_1 : S128x68.ReducesTo [0, 1] S_
  bcast_S_S256x128 : S_.BroadcastsInDim S256x128 (![] : Fin 0 → Fin S256x128.rank)
  reducesTo_S256x128_S_d0_1 : S256x128.ReducesTo [0, 1] S_
  bcast_S_S256x132 : S_.BroadcastsInDim S256x132 (![] : Fin 0 → Fin S256x132.rank)
  reducesTo_S256x132_S_d0_1 : S256x132.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x132 : S_.BroadcastsInDim S128x132 (![] : Fin 0 → Fin S128x132.rank)
  reducesTo_S128x132_S_d0_1 : S128x132.ReducesTo [0, 1] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S64x68 : S_.BroadcastsInDim S64x68 (![] : Fin 0 → Fin S64x68.rank)
  reducesTo_S64x68_S_d0_1 : S64x68.ReducesTo [0, 1] S_

variable [Facts]

def fn_part4 {F : FTy → Type} [FloatOps F] (main_arg16 : FVec F S64x192 .f32) (main_arg17 : FVec F S64 .f32) (main_arg19 : FVec F S64x68 .f32) (main_v63 : IVec S_ 1) (main_v67 : IVec S_ 1) : IVec S_ 1 :=
  let main_v68 : IVec S_ 1 := andi main_v63 main_v67
  let main_v69 : FVec F S64x192 .f32 := Host.absf main_arg16
  let main_cst_26 : FVec F S_ .f32 := constant S_ .f32 0x7F800000#32
  let main_v70 : FVec F S64x192 .f32 := broadcastInDim S64x192 ![] bcast_S_S64x192 main_cst_26
  let main_v71 : IVec S64x192 1 := cmpf .olt main_v69 main_v70
  let main_c_27 : IVec S_ 1 := constantI S_ 1 1#1
  let main_v72 : IVec S_ 1 := (fun x v => Host.reduce IntOp.andi x v reducesTo_S64x192_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x68 .f32 := Host.absf main_arg19
  let main_cst_30 : FVec F S_ .f32 := constant S_ .f32 0x7F800000#32
  let main_v80 : FVec F S64x68 .f32 := broadcastInDim S64x68 ![] bcast_S_S64x68 main_cst_30
  let main_v81 : IVec S64x68 1 := cmpf .olt main_v79 main_v80
  let main_c_31 : IVec S_ 1 := constantI S_ 1 1#1
  let main_v82 : IVec S_ 1 := (fun x v => Host.reduce IntOp.andi x v reducesTo_S64x68_S_d0_1 h_S_) main_v81 main_c_31
  let main_v83 : IVec S_ 1 := andi main_v78 main_v82
  main_v83

def fn_part3 {F : FTy → Type} [FloatOps F] (main_arg13 : FVec F S128 .f32) (main_arg14 : FVec F S128x128 .f32) (main_arg15 : FVec F S128x132 .f32) (main_arg16 : FVec F S64x192 .f32) (main_arg17 : FVec F S64 .f32) (main_arg19 : FVec F S64x68 .f32) (main_v48 : IVec S_ 1) (main_v49 : FVec F S128x384 .f32) (main_v50 : FVec F S128x384 .f32) : IVec S_ 1 :=
  let main_v51 : IVec S128x384 1 := cmpf .olt main_v49 main_v50
  let main_c_19 : IVec S_ 1 := constantI S_ 1 1#1
  let main_v52 : IVec S_ 1 := (fun x v => Host.reduce IntOp.andi x v reducesTo_S128x384_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x132 .f32 := Host.absf main_arg15
  let main_cst_24 : FVec F S_ .f32 := constant S_ .f32 0x7F800000#32
  let main_v65 : FVec F S128x132 .f32 := broadcastInDim S128x132 ![] bcast_S_S128x132 main_cst_24
  let main_v66 : IVec S128x132 1 := cmpf .olt main_v64 main_v65
  let main_c_25 : IVec S_ 1 := constantI S_ 1 1#1
  let main_v67 : IVec S_ 1 := (fun x v => Host.reduce IntOp.andi x v reducesTo_S128x132_S_d0_1 h_S_) main_v66 main_c_25
  fn_part4 (F := F) main_arg16 main_arg17 main_arg19 main_v63 main_v67

def fn_part2 {F : FTy → Type} [FloatOps F] (main_arg9 : FVec F S128x68 .f32) (main_arg10 : FVec F S256x128 .f32) (main_arg11 : FVec F S256x132 .f32) (main_arg12 : FVec F S128x384 .f32) (main_arg13 : FVec F S128 .f32) (main_arg14 : FVec F S128x128 .f32) (main_arg15 : FVec F S128x132 .f32) (main_arg16 : FVec F S64x192 .f32) (main_arg17 : FVec F S64 .f32) (main_arg19 : FVec F S64x68 .f32) (main_v33 : IVec S_ 1) : IVec S_ 1 :=
  let main_v34 : FVec F S128x68 .f32 := Host.absf main_arg9
  let main_cst_12 : FVec F S_ .f32 := constant S_ .f32 0x7F800000#32
  let main_v35 : FVec F S128x68 .f32 := broadcastInDim S128x68 ![] bcast_S_S128x68 main_cst_12
  let main_v36 : IVec S128x68 1 := cmpf .olt main_v34 main_v35
  let main_c_13 : IVec S_ 1 := constantI S_ 1 1#1
  let main_v37 : IVec S_ 1 := (fun x v => Host.reduce IntOp.andi x v reducesTo_S128x68_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256x132 .f32 := Host.absf main_arg11
  let main_cst_16 : FVec F S_ .f32 := constant S_ .f32 0x7F800000#32
  let main_v45 : FVec F S256x132 .f32 := broadcastInDim S256x132 ![] bcast_S_S256x132 main_cst_16
  let main_v46 : IVec S256x132 1 := cmpf .olt main_v44 main_v45
  let main_c_17 : IVec S_ 1 := constantI S_ 1 1#1
  let main_v47 : IVec S_ 1 := (fun x v => Host.reduce IntOp.andi x v reducesTo_S256x132_S_d0_1 h_S_) main_v46 main_c_17
  let main_v48 : IVec S_ 1 := andi main_v43 main_v47
  let main_v49 : FVec F S128x384 .f32 := Host.absf main_arg12
  let main_cst_18 : FVec F S_ .f32 := constant S_ .f32 0x7F800000#32
  let main_v50 : FVec F S128x384 .f32 := broadcastInDim S128x384 ![] bcast_S_S128x384 main_cst_18
  fn_part3 (F := F) main_arg13 main_arg14 main_arg15 main_arg16 main_arg17 main_arg19 main_v48 main_v49 main_v50

def fn_part1 {F : FTy → Type} [FloatOps F] (main_arg6 : FVec F S64x4 .f32) (main_arg7 : FVec F S64x8 .f32) (main_arg8 : FVec F S128x64 .f32) (main_arg9 : FVec F S128x68 .f32) (main_arg10 : FVec F S256x128 .f32) (main_arg11 : FVec F S256x132 .f32) (main_arg12 : FVec F S128x384 .f32) (main_arg13 : FVec F S128 .f32) (main_arg14 : FVec F S128x128 .f32) (main_arg15 : FVec F S128x132 .f32) (main_arg16 : FVec F S64x192 .f32) (main_arg17 : FVec F S64 .f32) (main_arg19 : FVec F S64x68 .f32) (main_v13 : IVec S_ 1) (main_v16 : IVec S2x3x1024 1) : IVec S_ 1 :=
  let main_c_5 : IVec S_ 1 := constantI S_ 1 1#1
  let main_v17 : IVec S_ 1 := (fun x v => Host.reduce IntOp.andi x v reducesTo_S2x3x1024_S_d0_1_2 h_S_) main_v16 main_c_5
  let main_v18 : IVec S_ 1 := andi main_v13 main_v17
  let main_v19 : FVec F S64x4 .f32 := Host.absf main_arg6
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S64x8 .f32 := Host.absf main_arg7
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg19 main_v33

def fn {F : FTy → Type} [FloatOps F] (main_arg0 : FVec F S2x4096x4 .f32) (main_arg1 : FVec F S2x4096x3 .f32) (main_arg2 : IVec S2x2048 32) (main_arg3 : FVec F S2x3x2048 .f32) (main_arg4 : IVec S2x1024 32) (main_arg5 : FVec F S2x3x1024 .f32) (main_arg6 : FVec F S64x4 .f32) (main_arg7 : FVec F S64x8 .f32) (main_arg8 : FVec F S128x64 .f32) (main_arg9 : FVec F S128x68 .f32) (main_arg10 : FVec F S256x128 .f32) (main_arg11 : FVec F S256x132 .f32) (main_arg12 : FVec F S128x384 .f32) (main_arg13 : FVec F S128 .f32) (main_arg14 : FVec F S128x128 .f32) (main_arg15 : FVec F S128x132 .f32) (main_arg16 : FVec F S64x192 .f32) (main_arg17 : FVec F S64 .f32) (main_arg18 : FVec F S64x64 .f32) (main_arg19 : FVec F S64x68 .f32) (main_arg20 : FVec F S128x64 .f32) (main_arg21 : FVec F S128 .f32) : IVec S_ 1 :=
  let main_v0 : FVec F S2x4096x4 .f32 := Host.absf main_arg0
  let main_cst : FVec F S_ .f32 := constant S_ .f32 0x7F800000#32
  let main_v1 : FVec F S2x4096x4 .f32 := broadcastInDim S2x4096x4 ![] bcast_S_S2x4096x4 main_cst
  let main_v2 : IVec S2x4096x4 1 := cmpf .olt main_v0 main_v1
  let main_c : IVec S_ 1 := constantI S_ 1 1#1
  let main_v3 : IVec S_ 1 := (fun x v => Host.reduce IntOp.andi x v reducesTo_S2x4096x4_S_d0_1_2 h_S_) main_v2 main_c
  let main_v4 : FVec F S2x4096x3 .f32 := Host.absf main_arg1
  let main_cst_0 : FVec F S_ .f32 := constant S_ .f32 0x7F800000#32
  let main_v5 : FVec F S2x4096x3 .f32 := broadcastInDim S2x4096x3 ![] bcast_S_S2x4096x3 main_cst_0
  let main_v6 : IVec S2x4096x3 1 := cmpf .olt main_v4 main_v5
  let main_c_1 : IVec S_ 1 := constantI S_ 1 1#1
  let main_v7 : IVec S_ 1 := (fun x v => Host.reduce IntOp.andi x v reducesTo_S2x4096x3_S_d0_1_2 h_S_) main_v6 main_c_1
  let main_v8 : IVec S_ 1 := andi main_v3 main_v7
  let main_v9 : FVec F S2x3x2048 .f32 := Host.absf main_arg3
  let main_cst_2 : FVec F S_ .f32 := constant S_ .f32 0x7F800000#32
  let main_v10 : FVec F S2x3x2048 .f32 := broadcastInDim S2x3x2048 ![] bcast_S_S2x3x2048 main_cst_2
  let main_v11 : IVec S2x3x2048 1 := cmpf .olt main_v9 main_v10
  let main_c_3 : IVec S_ 1 := constantI S_ 1 1#1
  let main_v12 : IVec S_ 1 := (fun x v => Host.reduce IntOp.andi x v reducesTo_S2x3x2048_S_d0_1_2 h_S_) main_v11 main_c_3
  let main_v13 : IVec S_ 1 := andi main_v8 main_v12
  let main_v14 : FVec F S2x3x1024 .f32 := Host.absf main_arg5
  let main_cst_4 : FVec F S_ .f32 := constant S_ .f32 0x7F800000#32
  let main_v15 : FVec F S2x3x1024 .f32 := broadcastInDim S2x3x1024 ![] bcast_S_S2x3x1024 main_cst_4
  let main_v16 : IVec S2x3x1024 1 := cmpf .olt main_v14 main_v15
  fn_part1 (F := F) main_arg6 main_arg7 main_arg8 main_arg9 main_arg10 main_arg11 main_arg12 main_arg13 main_arg14 main_arg15 main_arg16 main_arg17 main_arg19 main_v13 main_v16
-- ==== Kernel.lean ====
abbrev S2x4096x4 : Shape := ⟨3, ![2, 4096, 4]⟩
abbrev S2x4096x3 : Shape := ⟨3, ![2, 4096, 3]⟩
abbrev S2x2048 : Shape := ⟨2, ![2, 2048]⟩
abbrev S2x3x2048 : Shape := ⟨3, ![2, 3, 2048]⟩
abbrev S2x1024 : Shape := ⟨2, ![2, 1024]⟩
abbrev S2x3x1024 : Shape := ⟨3, ![2, 3, 1024]⟩
abbrev S64x4 : Shape := ⟨2, ![64, 4]⟩
abbrev S64x8 : Shape := ⟨2, ![64, 8]⟩
abbrev S128x64 : Shape := ⟨2, ![128, 64]⟩
abbrev S128x68 : Shape := ⟨2, ![128, 68]⟩
abbrev S256x128 : Shape := ⟨2, ![256, 128]⟩
abbrev S256x132 : Shape := ⟨2, ![256, 132]⟩
abbrev S128x384 : Shape := ⟨2, ![128, 384]⟩
abbrev S128 : Shape := ⟨1, ![128]⟩
abbrev S128x128 : Shape := ⟨2, ![128, 128]⟩
abbrev S128x132 : Shape := ⟨2, ![128, 132]⟩
abbrev S64x192 : Shape := ⟨2, ![64, 192]⟩
abbrev S64 : Shape := ⟨1, ![64]⟩
abbrev S64x64 : Shape := ⟨2, ![64, 64]⟩
abbrev S64x68 : Shape := ⟨2, ![64, 68]⟩
abbrev S_ : Shape := ⟨0, ![]⟩
abbrev S2x4096 : Shape := ⟨2, ![2, 4096]⟩
abbrev S2x4096x1 : Shape := ⟨3, ![2, 4096, 1]⟩
abbrev S2x4096x8 : Shape := ⟨3, ![2, 4096, 8]⟩
abbrev S2x4096x5 : Shape := ⟨3, ![2, 4096, 5]⟩
abbrev S2x8x4096 : Shape := ⟨3, ![2, 8, 4096]⟩
abbrev S2x1x4096 : Shape := ⟨3, ![2, 1, 4096]⟩
abbrev S4x64 : Shape := ⟨2, ![4, 64]⟩
abbrev S8x64 : Shape := ⟨2, ![8, 64]⟩
abbrev S2x4096x64 : Shape := ⟨3, ![2, 4096, 64]⟩
abbrev S2x4096x4096 : Shape := ⟨3, ![2, 4096, 4096]⟩
abbrev S1x256x8 : Shape := ⟨3, ![1, 256, 8]⟩
abbrev S1x8x4096 : Shape := ⟨3, ![1, 8, 4096]⟩
abbrev S1x1x4096 : Shape := ⟨3, ![1, 1, 4096]⟩
abbrev S1x4096x8 : Shape := ⟨3, ![1, 4096, 8]⟩
abbrev S1x256x64 : Shape := ⟨3, ![1, 256, 64]⟩
abbrev S1x256x4096 : Shape := ⟨3, ![1, 256, 4096]⟩
abbrev S256x8 : Shape := ⟨2, ![256, 8]⟩
abbrev S256x4 : Shape := ⟨2, ![256, 4]⟩
abbrev S256x3 : Shape := ⟨2, ![256, 3]⟩
abbrev S256x1 : Shape := ⟨2, ![256, 1]⟩
abbrev S8x4096 : Shape := ⟨2, ![8, 4096]⟩
abbrev S1x4096 : Shape := ⟨2, ![1, 4096]⟩
abbrev S256x4096 : Shape := ⟨2, ![256, 4096]⟩
abbrev S256 : Shape := ⟨1, ![256]⟩
abbrev S4096x8 : Shape := ⟨2, ![4096, 8]⟩
abbrev S256x64 : Shape := ⟨2, ![256, 64]⟩
abbrev S2x2048x3 : Shape := ⟨3, ![2, 2048, 3]⟩
abbrev S2x1024x3 : Shape := ⟨3, ![2, 1024, 3]⟩
abbrev S2x2048x1 : Shape := ⟨3, ![2, 2048, 1]⟩
abbrev S2x2048x64 : Shape := ⟨3, ![2, 2048, 64]⟩
abbrev S2x2048x68 : Shape := ⟨3, ![2, 2048, 68]⟩
abbrev S2x2048x5 : Shape := ⟨3, ![2, 2048, 5]⟩
abbrev S2x2048x8 : Shape := ⟨3, ![2, 2048, 8]⟩
abbrev S2x8x2048 : Shape := ⟨3, ![2, 8, 2048]⟩
abbrev S2x1x2048 : Shape := ⟨3, ![2, 1, 2048]⟩
abbrev S64x128 : Shape := ⟨2, ![64, 128]⟩
abbrev S68x128 : Shape := ⟨2, ![68, 128]⟩
abbrev S2x2048x128 : Shape := ⟨3, ![2, 2048, 128]⟩
abbrev S2x2048x2048 : Shape := ⟨3, ![2, 2048, 2048]⟩
abbrev S1x8x2048 : Shape := ⟨3, ![1, 8, 2048]⟩
abbrev S1x1x2048 : Shape := ⟨3, ![1, 1, 2048]⟩
abbrev S1x2048x68 : Shape := ⟨3, ![1, 2048, 68]⟩
abbrev S1x256x128 : Shape := ⟨3, ![1, 256, 128]⟩
abbrev S1x256x2048 : Shape := ⟨3, ![1, 256, 2048]⟩
abbrev S1x256x68 : Shape := ⟨3, ![1, 256, 68]⟩
abbrev S256x68 : Shape := ⟨2, ![256, 68]⟩
abbrev S8x2048 : Shape := ⟨2, ![8, 2048]⟩
abbrev S1x2048 : Shape := ⟨2, ![1, 2048]⟩
abbrev S256x2048 : Shape := ⟨2, ![256, 2048]⟩
abbrev S2048x68 : Shape := ⟨2, ![2048, 68]⟩
abbrev S2x1024x1 : Shape := ⟨3, ![2, 1024, 1]⟩
abbrev S2x1024x128 : Shape := ⟨3, ![2, 1024, 128]⟩
abbrev S2x1024x132 : Shape := ⟨3, ![2, 1024, 132]⟩
abbrev S2x1024x5 : Shape := ⟨3, ![2, 1024, 5]⟩
abbrev S2x1024x8 : Shape := ⟨3, ![2, 1024, 8]⟩
abbrev S2x8x1024 : Shape := ⟨3, ![2, 8, 1024]⟩
abbrev S2x1x1024 : Shape := ⟨3, ![2, 1, 1024]⟩
abbrev S128x256 : Shape := ⟨2, ![128, 256]⟩
abbrev S132x256 : Shape := ⟨2, ![132, 256]⟩
abbrev S2x1024x256 : Shape := ⟨3, ![2, 1024, 256]⟩
abbrev S1x8x1024 : Shape := ⟨3, ![1, 8, 1024]⟩
abbrev S1x1x1024 : Shape := ⟨3, ![1, 1, 1024]⟩
abbrev S1x1024x132 : Shape := ⟨3, ![1, 1024, 132]⟩
abbrev S1x256x256 : Shape := ⟨3, ![1, 256, 256]⟩
abbrev S1x256x132 : Shape := ⟨3, ![1, 256, 132]⟩
abbrev S8x1024 : Shape := ⟨2, ![8, 1024]⟩
abbrev S1x1024 : Shape := ⟨2, ![1, 1024]⟩
abbrev S256x1024 : Shape := ⟨2, ![256, 1024]⟩
abbrev S1024x132 : Shape := ⟨2, ![1024, 132]⟩
abbrev S256x256 : Shape := ⟨2, ![256, 256]⟩
abbrev S1x128 : Shape := ⟨2, ![1, 128]⟩
abbrev S1x512x8 : Shape := ⟨3, ![1, 512, 8]⟩
abbrev S1x1024x256 : Shape := ⟨3, ![1, 1024, 256]⟩
abbrev S1x512x128 : Shape := ⟨3, ![1, 512, 128]⟩
abbrev S512x8 : Shape := ⟨2, ![512, 8]⟩
abbrev S512x1 : Shape := ⟨2, ![512, 1]⟩
abbrev S512x1024 : Shape := ⟨2, ![512, 1024]⟩
abbrev S512 : Shape := ⟨1, ![512]⟩
abbrev S1024x256 : Shape := ⟨2, ![1024, 256]⟩
abbrev S512x256 : Shape := ⟨2, ![512, 256]⟩
abbrev S512x128 : Shape := ⟨2, ![512, 128]⟩
abbrev S2x2048x132 : Shape := ⟨3, ![2, 2048, 132]⟩
abbrev S132x128 : Shape := ⟨2, ![132, 128]⟩
abbrev S1x2048x132 : Shape := ⟨3, ![1, 2048, 132]⟩
abbrev S2048x132 : Shape := ⟨2, ![2048, 132]⟩
abbrev S1x64 : Shape := ⟨2, ![1, 64]⟩
abbrev S1x2048x128 : Shape := ⟨3, ![1, 2048, 128]⟩
abbrev S1x512x64 : Shape := ⟨3, ![1, 512, 64]⟩
abbrev S512x2048 : Shape := ⟨2, ![512, 2048]⟩
abbrev S2048x128 : Shape := ⟨2, ![2048, 128]⟩
abbrev S512x64 : Shape := ⟨2, ![512, 64]⟩
abbrev S2x4096x68 : Shape := ⟨3, ![2, 4096, 68]⟩
abbrev S68x64 : Shape := ⟨2, ![68, 64]⟩
abbrev S1x4096x68 : Shape := ⟨3, ![1, 4096, 68]⟩
abbrev S4096x68 : Shape := ⟨2, ![4096, 68]⟩
abbrev S8192x64 : Shape := ⟨2, ![8192, 64]⟩
abbrev S8192x128 : Shape := ⟨2, ![8192, 128]⟩
abbrev S2x4096x128 : Shape := ⟨3, ![2, 4096, 128]⟩

abbrev nBuf : Space → Nat
  | .hbm => 116
  | .vmem => 102
  | .smem => 0
  | _ => 0

abbrev bufTy : (tb : Table) → Fin (tcTables nBuf tb) → BufTy
  | .hbm, ⟨0, _⟩ => ⟨S2x4096x4, .f32⟩
  | .hbm, ⟨1, _⟩ => ⟨S2x4096x3, .f32⟩
  | .hbm, ⟨2, _⟩ => ⟨S2x2048, .i32⟩
  | .hbm, ⟨3, _⟩ => ⟨S2x3x2048, .f32⟩
  | .hbm, ⟨4, _⟩ => ⟨S2x1024, .i32⟩
  | .hbm, ⟨5, _⟩ => ⟨S2x3x1024, .f32⟩
  | .hbm, ⟨6, _⟩ => ⟨S64x4, .f32⟩
  | .hbm, ⟨7, _⟩ => ⟨S64x8, .f32⟩
  | .hbm, ⟨8, _⟩ => ⟨S128x64, .f32⟩
  | .hbm, ⟨9, _⟩ => ⟨S128x68, .f32⟩
  | .hbm, ⟨10, _⟩ => ⟨S256x128, .f32⟩
  | .hbm, ⟨11, _⟩ => ⟨S256x132, .f32⟩
  | .hbm, ⟨12, _⟩ => ⟨S128x384, .f32⟩
  | .hbm, ⟨13, _⟩ => ⟨S128, .f32⟩
  | .hbm, ⟨14, _⟩ => ⟨S128x128, .f32⟩
  | .hbm, ⟨15, _⟩ => ⟨S128x132, .f32⟩
  | .hbm, ⟨16, _⟩ => ⟨S64x192, .f32⟩
  | .hbm, ⟨17, _⟩ => ⟨S64, .f32⟩
  | .hbm, ⟨18, _⟩ => ⟨S64x64, .f32⟩
  | .hbm, ⟨19, _⟩ => ⟨S64x68, .f32⟩
  | .hbm, ⟨20, _⟩ => ⟨S128x64, .f32⟩
  | .hbm, ⟨21, _⟩ => ⟨S128, .f32⟩
  | .hbm, ⟨22, _⟩ => ⟨S2x4096x3, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x8, .f32⟩
  | .hbm, ⟨27, _⟩ => ⟨S_, .f32⟩
  | .hbm, ⟨28, _⟩ => ⟨S2x4096x5, .f32⟩
  | .hbm, ⟨29, _⟩ => ⟨S2x4096x8, .f32⟩
  | .hbm, ⟨30, _⟩ => ⟨S2x8x4096, .f32⟩
  | .hbm, ⟨31, _⟩ => ⟨S2x1x4096, .f32⟩
  | .hbm, ⟨32, _⟩ => ⟨S4x64, .f32⟩
  | .hbm, ⟨33, _⟩ => ⟨S8x64, .f32⟩
  | .hbm, ⟨34, _⟩ => ⟨S2x4096x64, .f32⟩
  | .hbm, ⟨35, _⟩ => ⟨S2x4096x4096, .bf16⟩
  | .hbm, ⟨36, _⟩ => ⟨S2x2048x3, .f32⟩
  | .hbm, ⟨37, _⟩ => ⟨S2x1024x3, .f32⟩
  | .hbm, ⟨38, _⟩ => ⟨S_, .i32⟩
  | .hbm, ⟨39, _⟩ => ⟨S2x2048, .i32⟩
  | .hbm, ⟨40, _⟩ => ⟨S2x2048, .i1⟩
  | .hbm, ⟨41, _⟩ => ⟨S_, .i32⟩
  | .hbm, ⟨42, _⟩ => ⟨S2x2048, .i32⟩
  | .hbm, ⟨43, _⟩ => ⟨S2x2048, .i32⟩
  | .hbm, ⟨44, _⟩ => ⟨S2x2048, .i32⟩
  | .hbm, ⟨45, _⟩ => ⟨S2x2048x1, .i32⟩
  | .hbm, ⟨46, _⟩ => ⟨S2x2048x64, .f32⟩
  | .hbm, ⟨47, _⟩ => ⟨S2x2048x3, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S2x2048x68, .f32⟩
  | .hbm, ⟨52, _⟩ => ⟨S_, .f32⟩
  | .hbm, ⟨53, _⟩ => ⟨S2x2048x5, .f32⟩
  | .hbm, ⟨54, _⟩ => ⟨S2x2048x8, .f32⟩
  | .hbm, ⟨55, _⟩ => ⟨S2x8x2048, .f32⟩
  | .hbm, ⟨56, _⟩ => ⟨S2x1x2048, .f32⟩
  | .hbm, ⟨57, _⟩ => ⟨S64x128, .f32⟩
  | .hbm, ⟨58, _⟩ => ⟨S68x128, .f32⟩
  | .hbm, ⟨59, _⟩ => ⟨S2x2048x128, .f32⟩
  | .hbm, ⟨60, _⟩ => ⟨S2x2048x2048, .bf16⟩
  | .hbm, ⟨61, _⟩ => ⟨S_, .i32⟩
  | .hbm, ⟨62, _⟩ => ⟨S2x1024, .i32⟩
  | .hbm, ⟨63, _⟩ => ⟨S2x1024, .i1⟩
  | .hbm, ⟨64, _⟩ => ⟨S_, .i32⟩
  | .hbm, ⟨65, _⟩ => ⟨S2x1024, .i32⟩
  | .hbm, ⟨66, _⟩ => ⟨S2x1024, .i32⟩
  | .hbm, ⟨67, _⟩ => ⟨S2x1024, .i32⟩
  | .hbm, ⟨68, _⟩ => ⟨S2x1024x1, .i32⟩
  | .hbm, ⟨69, _⟩ => ⟨S2x1024x128, .f32⟩
  | .hbm, ⟨70, _⟩ => ⟨S2x1024x3, .f32⟩
  | .hbm, ⟨71, _⟩ => ⟨S_, .f32⟩
  | .hbm, ⟨72, _⟩ => ⟨S2x1024, .f32⟩
  | .hbm, ⟨73, _⟩ => ⟨S2x1024x1, .f32⟩
  | .hbm, ⟨74, _⟩ => ⟨S2x1024x132, .f32⟩
  | .hbm, ⟨75, _⟩ => ⟨S_, .f32⟩
  | .hbm, ⟨76, _⟩ => ⟨S2x1024x5, .f32⟩
  | .hbm, ⟨77, _⟩ => ⟨S2x1024x8, .f32⟩
  | .hbm, ⟨78, _⟩ => ⟨S2x8x1024, .f32⟩
  | .hbm, ⟨79, _⟩ => ⟨S2x1x1024, .f32⟩
  | .hbm, ⟨80, _⟩ => ⟨S128x256, .f32⟩
  | .hbm, ⟨81, _⟩ => ⟨S132x256, .f32⟩
  | .hbm, ⟨82, _⟩ => ⟨S2x1024x256, .f32⟩
  | .hbm, ⟨83, _⟩ => ⟨S128x256, .f32⟩
  | .hbm, ⟨84, _⟩ => ⟨S256x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S2x2048x128, .f32⟩
  | .hbm, ⟨89, _⟩ => ⟨S2x2048x3, .f32⟩
  | .hbm, ⟨90, _⟩ => ⟨S_, .f32⟩
  | .hbm, ⟨91, _⟩ => ⟨S2x2048, .f32⟩
  | .hbm, ⟨92, _⟩ => ⟨S2x2048x1, .f32⟩
  | .hbm, ⟨93, _⟩ => ⟨S2x2048x132, .f32⟩
  | .hbm, ⟨94, _⟩ => ⟨S128x128, .f32⟩
  | .hbm, ⟨95, _⟩ => ⟨S132x128, .f32⟩
  | .hbm, ⟨96, _⟩ => ⟨S2x2048x128, .f32⟩
  | .hbm, ⟨97, _⟩ => ⟨S64x128, .f32⟩
  | .hbm, ⟨98, _⟩ => ⟨S128x64, .f32⟩
  | .hbm, ⟨99, _⟩ => ⟨S64x64, .f32⟩
  | .hbm, ⟨100, _⟩ => ⟨S64x64, .f32⟩
  | .hbm, ⟨101, _⟩ => ⟨S1x64, .f32⟩
  | .hbm, ⟨102, _⟩ => ⟨S2x4096x64, .f32⟩
  | .hbm, ⟨103, _⟩ => ⟨S2x4096x3, .f32⟩
  | .hbm, ⟨104, _⟩ => ⟨S_, .f32⟩
  | .hbm, ⟨105, _⟩ => ⟨S2x4096, .f32⟩
  | .hbm, ⟨106, _⟩ => ⟨S2x4096x1, .f32⟩
  | .hbm, ⟨107, _⟩ => ⟨S2x4096x68, .f32⟩
  | .hbm, ⟨108, _⟩ => ⟨S64x64, .f32⟩
  | .hbm, ⟨109, _⟩ => ⟨S68x64, .f32⟩
  | .hbm, ⟨110, _⟩ => ⟨S2x4096x64, .f32⟩
  | .hbm, ⟨111, _⟩ => ⟨S8192x64, .f32⟩
  | .hbm, ⟨112, _⟩ => ⟨S64x128, .f32⟩
  | .hbm, ⟨113, _⟩ => ⟨S1x128, .f32⟩
  | .hbm, ⟨114, _⟩ => ⟨S8192x128, .f32⟩
  | .hbm, ⟨115, _⟩ => ⟨S2x4096x128, .f32⟩
  | .local _ .vmem, ⟨0, _⟩ => ⟨S1x256x8, .f32⟩
  | .local _ .vmem, ⟨1, _⟩ => ⟨S1x256x8, .f32⟩
  | .local _ .vmem, ⟨2, _⟩ => ⟨S1x8x4096, .f32⟩
  | .local _ .vmem, ⟨3, _⟩ => ⟨S1x8x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096x8, .f32⟩
  | .local _ .vmem, ⟨7, _⟩ => ⟨S1x4096x8, .f32⟩
  | .local _ .vmem, ⟨8, _⟩ => ⟨S4x64, .f32⟩
  | .local _ .vmem, ⟨9, _⟩ => ⟨S8x64, .f32⟩
  | .local _ .vmem, ⟨10, _⟩ => ⟨S1x256x64, .f32⟩
  | .local _ .vmem, ⟨11, _⟩ => ⟨S1x256x64, .f32⟩
  | .local _ .vmem, ⟨12, _⟩ => ⟨S1x256x4096, .bf16⟩
  | .local _ .vmem, ⟨13, _⟩ => ⟨S1x256x4096, .bf16⟩
  | .local _ .vmem, ⟨14, _⟩ => ⟨S1x256x8, .f32⟩
  | .local _ .vmem, ⟨15, _⟩ => ⟨S1x256x8, .f32⟩
  | .local _ .vmem, ⟨16, _⟩ => ⟨S1x8x2048, .f32⟩
  | .local _ .vmem, ⟨17, _⟩ => ⟨S1x8x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x2048x68, .f32⟩
  | .local _ .vmem, ⟨21, _⟩ => ⟨S1x2048x68, .f32⟩
  | .local _ .vmem, ⟨22, _⟩ => ⟨S64x128, .f32⟩
  | .local _ .vmem, ⟨23, _⟩ => ⟨S68x128, .f32⟩
  | .local _ .vmem, ⟨24, _⟩ => ⟨S1x256x128, .f32⟩
  | .local _ .vmem, ⟨25, _⟩ => ⟨S1x256x128, .f32⟩
  | .local _ .vmem, ⟨26, _⟩ => ⟨S1x256x2048, .bf16⟩
  | .local _ .vmem, ⟨27, _⟩ => ⟨S1x256x2048, .bf16⟩
  | .local _ .vmem, ⟨28, _⟩ => ⟨S1x256x8, .f32⟩
  | .local _ .vmem, ⟨29, _⟩ => ⟨S1x256x8, .f32⟩
  | .local _ .vmem, ⟨30, _⟩ => ⟨S1x8x1024, .f32⟩
  | .local _ .vmem, ⟨31, _⟩ => ⟨S1x8x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x1024x132, .f32⟩
  | .local _ .vmem, ⟨35, _⟩ => ⟨S1x1024x132, .f32⟩
  | .local _ .vmem, ⟨36, _⟩ => ⟨S128x256, .f32⟩
  | .local _ .vmem, ⟨37, _⟩ => ⟨S132x256, .f32⟩
  | .local _ .vmem, ⟨38, _⟩ => ⟨S1x256x256, .f32⟩
  | .local _ .vmem, ⟨39, _⟩ => ⟨S1x256x256, .f32⟩
  | .local _ .vmem, ⟨40, _⟩ => ⟨S1x512x8, .f32⟩
  | .local _ .vmem, ⟨41, _⟩ => ⟨S1x512x8, .f32⟩
  | .local _ .vmem, ⟨42, _⟩ => ⟨S1x8x1024, .f32⟩
  | .local _ .vmem, ⟨43, _⟩ => ⟨S1x8x1024, .f32⟩
  | .local _ .vmem, ⟨44, _⟩ => ⟨S1x1x1024, .f32⟩
  | .local _ .vmem, ⟨45, _⟩ => ⟨S1x1x1024, .f32⟩
  | .local _ .vmem, ⟨46, _⟩ => ⟨S1x1024x256, .f32⟩
  | .local _ .vmem, ⟨47, _⟩ => ⟨S1x1024x256, .f32⟩
  | .local _ .vmem, ⟨48, _⟩ => ⟨S1x512x128, .f32⟩
  | .local _ .vmem, ⟨49, _⟩ => ⟨S1x512x128, .f32⟩
  | .local _ .vmem, ⟨50, _⟩ => ⟨S256x128, .f32⟩
  | .local _ .vmem, ⟨51, _⟩ => ⟨S128x128, .f32⟩
  | .local _ .vmem, ⟨52, _⟩ => ⟨S1x128, .f32⟩
  | .local _ .vmem, ⟨53, _⟩ => ⟨S1x512x128, .f32⟩
  | .local _ .vmem, ⟨54, _⟩ => ⟨S1x512x128, .f32⟩
  | .local _ .vmem, ⟨55, _⟩ => ⟨S1x256x8, .f32⟩
  | .local _ .vmem, ⟨56, _⟩ => ⟨S1x256x8, .f32⟩
  | .local _ .vmem, ⟨57, _⟩ => ⟨S1x8x2048, .f32⟩
  | .local _ .vmem, ⟨58, _⟩ => ⟨S1x8x2048, .f32⟩
  | .local _ .vmem, ⟨59, _⟩ => ⟨S1x1x2048, .f32⟩
  | .local _ .vmem, ⟨60, _⟩ => ⟨S1x1x2048, .f32⟩
  | .local _ .vmem, ⟨61, _⟩ => ⟨S1x2048x132, .f32⟩
  | .local _ .vmem, ⟨62, _⟩ => ⟨S1x2048x132, .f32⟩
  | .local _ .vmem, ⟨63, _⟩ => ⟨S128x128, .f32⟩
  | .local _ .vmem, ⟨64, _⟩ => ⟨S132x128, .f32⟩
  | .local _ .vmem, ⟨65, _⟩ => ⟨S1x256x2048, .bf16⟩
  | .local _ .vmem, ⟨66, _⟩ => ⟨S1x256x2048, .bf16⟩
  | .local _ .vmem, ⟨67, _⟩ => ⟨S1x256x128, .f32⟩
  | .local _ .vmem, ⟨68, _⟩ => ⟨S1x256x128, .f32⟩
  | .local _ .vmem, ⟨69, _⟩ => ⟨S1x512x8, .f32⟩
  | .local _ .vmem, ⟨70, _⟩ => ⟨S1x512x8, .f32⟩
  | .local _ .vmem, ⟨71, _⟩ => ⟨S1x8x2048, .f32⟩
  | .local _ .vmem, ⟨72, _⟩ => ⟨S1x8x2048, .f32⟩
  | .local _ .vmem, ⟨73, _⟩ => ⟨S1x1x2048, .f32⟩
  | .local _ .vmem, ⟨74, _⟩ => ⟨S1x1x2048, .f32⟩
  | .local _ .vmem, ⟨75, _⟩ => ⟨S1x2048x128, .f32⟩
  | .local _ .vmem, ⟨76, _⟩ => ⟨S1x2048x128, .f32⟩
  | .local _ .vmem, ⟨77, _⟩ => ⟨S1x512x64, .f32⟩
  | .local _ .vmem, ⟨78, _⟩ => ⟨S1x512x64, .f32⟩
  | .local _ .vmem, ⟨79, _⟩ => ⟨S128x64, .f32⟩
  | .local _ .vmem, ⟨80, _⟩ => ⟨S64x64, .f32⟩
  | .local _ .vmem, ⟨81, _⟩ => ⟨S1x64, .f32⟩
  | .local _ .vmem, ⟨82, _⟩ => ⟨S1x512x64, .f32⟩
  | .local _ .vmem, ⟨83, _⟩ => ⟨S1x512x64, .f32⟩
  | .local _ .vmem, ⟨84, _⟩ => ⟨S1x256x8, .f32⟩
  | .local _ .vmem, ⟨85, _⟩ => ⟨S1x256x8, .f32⟩
  | .local _ .vmem, ⟨86, _⟩ => ⟨S1x8x4096, .f32⟩
  | .local _ .vmem, ⟨87, _⟩ => ⟨S1x8x4096, .f32⟩
  | .local _ .vmem, ⟨88, _⟩ => ⟨S1x1x4096, .f32⟩
  | .local _ .vmem, ⟨89, _⟩ => ⟨S1x1x4096, .f32⟩
  | .local _ .vmem, ⟨90, _⟩ => ⟨S1x4096x68, .f32⟩
  | .local _ .vmem, ⟨91, _⟩ => ⟨S1x4096x68, .f32⟩
  | .local _ .vmem, ⟨92, _⟩ => ⟨S64x64, .f32⟩
  | .local _ .vmem, ⟨93, _⟩ => ⟨S68x64, .f32⟩
  | .local _ .vmem, ⟨94, _⟩ => ⟨S1x256x4096, .bf16⟩
  | .local _ .vmem, ⟨95, _⟩ => ⟨S1x256x4096, .bf16⟩
  | .local _ .vmem, ⟨96, _⟩ => ⟨S1x256x64, .f32⟩
  | .local _ .vmem, ⟨97, _⟩ => ⟨S1x256x64, .f32⟩
  | .local _ .vmem, ⟨98, _⟩ => ⟨S8192x64, .f32⟩
  | .local _ .vmem, ⟨99, _⟩ => ⟨S64x128, .f32⟩
  | .local _ .vmem, ⟨100, _⟩ => ⟨S1x128, .f32⟩
  | .local _ .vmem, ⟨101, _⟩ => ⟨S8192x128, .f32⟩
  | _, _ => ⟨S2x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30_0 : Ref sig .tc := ⟨.hbm, 59, rfl⟩
abbrev main_v30_1 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg8_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg2_1 : Ref sig .tc := ⟨.vmem, 60, rfl⟩
abbrev cc4_stg3_0 : Ref sig .tc := ⟨.vmem, 61, rfl⟩
abbrev cc4_stg3_1 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg6_1 : Ref sig .tc := ⟨.vmem, 66, rfl⟩
abbrev cc4_stg7_0 : Ref sig .tc := ⟨.vmem, 67, rfl⟩
abbrev cc4_stg7_1 : Ref sig .tc := ⟨.vmem, 68, rfl⟩
abbrev cc5_stg0_0 : Ref sig .tc := ⟨.vmem, 69, rfl⟩
abbrev cc5_stg0_1 : Ref sig .tc := ⟨.vmem, 70, rfl⟩
abbrev cc5_stg1_0 : Ref sig .tc := ⟨.vmem, 71, rfl⟩
abbrev cc5_stg1_1 : Ref sig .tc := ⟨.vmem, 72, rfl⟩
abbrev cc5_stg2_0 : Ref sig .tc := ⟨.vmem, 73, rfl⟩
abbrev cc5_stg2_1 : Ref sig .tc := ⟨.vmem, 74, rfl⟩
abbrev cc5_stg3_0 : Ref sig .tc := ⟨.vmem, 75, rfl⟩
abbrev cc5_stg3_1 : Ref sig .tc := ⟨.vmem, 76, rfl⟩
abbrev cc5_stg4_0 : Ref sig .tc := ⟨.vmem, 77, rfl⟩
abbrev cc5_stg4_1 : Ref sig .tc := ⟨.vmem, 78, rfl⟩
abbrev cc5_stg5_0 : Ref sig .tc := ⟨.vmem, 79, rfl⟩
abbrev cc5_stg6_0 : Ref sig .tc := ⟨.vmem, 80, rfl⟩
abbrev cc5_stg7_0 : Ref sig .tc := ⟨.vmem, 81, rfl⟩
abbrev cc5_stg8_0 : Ref sig .tc := ⟨.vmem, 82, rfl⟩
abbrev cc5_stg8_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg2_1 : Ref sig .tc := ⟨.vmem, 89, rfl⟩
abbrev cc6_stg3_0 : Ref sig .tc := ⟨.vmem, 90, rfl⟩
abbrev cc6_stg3_1 : Ref sig .tc := ⟨.vmem, 91, rfl⟩
abbrev cc6_stg4_0 : Ref sig .tc := ⟨.vmem, 92, rfl⟩
abbrev cc6_stg5_0 : Ref sig .tc := ⟨.vmem, 93, rfl⟩
abbrev cc6_stg6_0 : Ref sig .tc := ⟨.vmem, 94, rfl⟩
abbrev cc6_stg6_1 : Ref sig .tc := ⟨.vmem, 95, rfl⟩
abbrev cc6_stg7_0 : Ref sig .tc := ⟨.vmem, 96, rfl⟩
abbrev cc6_stg7_1 : Ref sig .tc := ⟨.vmem, 97, rfl⟩
abbrev cc7_stg0_0 : Ref sig .tc := ⟨.vmem, 98, rfl⟩
abbrev cc7_stg1_0 : Ref sig .tc := ⟨.vmem, 99, rfl⟩
abbrev cc7_stg2_0 : Ref sig .tc := ⟨.vmem, 100, rfl⟩
abbrev cc7_stg3_0 : Ref sig .tc := ⟨.vmem, 101, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc2_sem6_0 : DmaSem sig := 38
abbrev cc2_sem6_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem8_1 : DmaSem sig := 54
abbrev cc4_sem0_0 : DmaSem sig := 55
abbrev cc4_sem0_1 : DmaSem sig := 56
abbrev cc4_sem1_0 : DmaSem sig := 57
abbrev cc4_sem1_1 : DmaSem sig := 58
abbrev cc4_sem2_0 : DmaSem sig := 59
abbrev cc4_sem2_1 : DmaSem sig := 60
abbrev cc4_sem3_0 : DmaSem sig := 61
abbrev cc4_sem3_1 : DmaSem sig := 62
abbrev cc4_sem4_0 : DmaSem sig := 63
abbrev cc4_sem5_0 : DmaSem sig := 64
abbrev cc4_sem6_0 : DmaSem sig := 65
abbrev cc4_sem6_1 : DmaSem sig := 66
abbrev cc4_sem7_0 : DmaSem sig := 67
abbrev cc4_sem7_1 : DmaSem sig := 68
abbrev cc5_sem0_0 : DmaSem sig := 69
abbrev cc5_sem0_1 : DmaSem sig := 70
abbrev cc5_sem1_0 : DmaSem sig := 71
abbrev cc5_sem1_1 : DmaSem sig := 72
abbrev cc5_sem2_0 : DmaSem sig := 73
abbrev cc5_sem2_1 : DmaSem sig := 74
abbrev cc5_sem3_0 : DmaSem sig := 75
abbrev cc5_sem3_1 : DmaSem sig := 76
abbrev cc5_sem4_0 : DmaSem sig := 77
abbrev cc5_sem4_1 : DmaSem sig := 78
abbrev cc5_sem5_0 : DmaSem sig := 79
abbrev cc5_sem6_0 : DmaSem sig := 80
abbrev cc5_sem7_0 : DmaSem sig := 81
abbrev cc5_sem8_0 : DmaSem sig := 82
abbrev cc5_sem8_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem2_1 : DmaSem sig := 89
abbrev cc6_sem3_0 : DmaSem sig := 90
abbrev cc6_sem3_1 : DmaSem sig := 91
abbrev cc6_sem4_0 : DmaSem sig := 92
abbrev cc6_sem5_0 : DmaSem sig := 93
abbrev cc6_sem6_0 : DmaSem sig := 94
abbrev cc6_sem6_1 : DmaSem sig := 95
abbrev cc6_sem7_0 : DmaSem sig := 96
abbrev cc6_sem7_1 : DmaSem sig := 97
abbrev cc7_sem0_0 : DmaSem sig := 98
abbrev cc7_sem1_0 : DmaSem sig := 99
abbrev cc7_sem2_0 : DmaSem sig := 100
abbrev cc7_sem3_0 : DmaSem sig := 101

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  let c0_0 : Index := 0#32
  ![0, v1.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 8], ![false, false]⟩

def k1_off1 (i : grid1.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  let c0_0 : Index := 0#32
  ![0, v1.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x68 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S68x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 4], ![false, false]⟩

def k2_off1 (i : grid2.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  let c0_0 : Index := 0#32
  ![0, v1.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024x132 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S132x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1x512x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev grid4 : Pipeline.Grid := ⟨2, ![2, 8], ![false, false]⟩

def k4_off1 (i : grid4.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  let c0_0 : Index := 0#32
  ![0, v1.toNat, 0]
def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x8x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x2048x132 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S132x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x256x2048 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1x256x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![2, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x512x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x8x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x512x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 2 → Memref sig .tc .vmem S1x512x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev grid6 : Pipeline.Grid := ⟨2, ![2, 16], ![false, false]⟩

def k6_off1 (i : grid6.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  let c0_0 : Index := 0#32
  ![0, v1.toNat, 0]
def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_7 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x256x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x8x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x1x4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1x4096x68 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S68x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 2 → Memref sig .tc .vmem S1x256x4096 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S1x256x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev grid7 : Pipeline.Grid := .none

abbrev stage7_0 : Fin 1 → Memref sig .tc .vmem S8192x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S8192x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
-- ==== ReferenceIdeal.lean ====
abbrev S2x4096x4 : Shape := ⟨3, ![2, 4096, 4]⟩
abbrev S2x4096x3 : Shape := ⟨3, ![2, 4096, 3]⟩
abbrev S2x2048 : Shape := ⟨2, ![2, 2048]⟩
abbrev S2x3x2048 : Shape := ⟨3, ![2, 3, 2048]⟩
abbrev S2x1024 : Shape := ⟨2, ![2, 1024]⟩
abbrev S2x3x1024 : Shape := ⟨3, ![2, 3, 1024]⟩
abbrev S64x4 : Shape := ⟨2, ![64, 4]⟩
abbrev S64x8 : Shape := ⟨2, ![64, 8]⟩
abbrev S128x64 : Shape := ⟨2, ![128, 64]⟩
abbrev S128x68 : Shape := ⟨2, ![128, 68]⟩
abbrev S256x128 : Shape := ⟨2, ![256, 128]⟩
abbrev S256x132 : Shape := ⟨2, ![256, 132]⟩
abbrev S128x384 : Shape := ⟨2, ![128, 384]⟩
abbrev S128 : Shape := ⟨1, ![128]⟩
abbrev S128x128 : Shape := ⟨2, ![128, 128]⟩
abbrev S128x132 : Shape := ⟨2, ![128, 132]⟩
abbrev S64x192 : Shape := ⟨2, ![64, 192]⟩
abbrev S64 : Shape := ⟨1, ![64]⟩
abbrev S64x64 : Shape := ⟨2, ![64, 64]⟩
abbrev S64x68 : Shape := ⟨2, ![64, 68]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x16 : Shape := ⟨3, ![2, 4096, 16]⟩
abbrev S4x64 : Shape := ⟨2, ![4, 64]⟩
abbrev S2x4096x64 : Shape := ⟨3, ![2, 4096, 64]⟩
abbrev S2x4096x16x1 : Shape := ⟨4, ![2, 4096, 16, 1]⟩
abbrev S2x4096x16x4 : Shape := ⟨4, ![2, 4096, 16, 4]⟩
abbrev S2x4096x16x3 : Shape := ⟨4, ![2, 4096, 16, 3]⟩
abbrev S2x4096x1x3 : Shape := ⟨4, ![2, 4096, 1, 3]⟩
abbrev S2x4096x16x8 : Shape := ⟨4, ![2, 4096, 16, 8]⟩
abbrev S8x64 : Shape := ⟨2, ![8, 64]⟩
abbrev S2x4096x16x64 : Shape := ⟨4, ![2, 4096, 16, 64]⟩
abbrev S2x2048x3 : Shape := ⟨3, ![2, 2048, 3]⟩
abbrev S2x2048x1 : Shape := ⟨3, ![2, 2048, 1]⟩
abbrev S2x2048x64 : Shape := ⟨3, ![2, 2048, 64]⟩
abbrev S2x1x2048 : Shape := ⟨3, ![2, 1, 2048]⟩
abbrev S2x2048x2048 : Shape := ⟨3, ![2, 2048, 2048]⟩
abbrev S2x2048x16 : Shape := ⟨3, ![2, 2048, 16]⟩
abbrev S64x128 : Shape := ⟨2, ![64, 128]⟩
abbrev S2x2048x128 : Shape := ⟨3, ![2, 2048, 128]⟩
abbrev S2x2048x16x1 : Shape := ⟨4, ![2, 2048, 16, 1]⟩
abbrev S2x2048x16x64 : Shape := ⟨4, ![2, 2048, 16, 64]⟩
abbrev S2x2048x16x3 : Shape := ⟨4, ![2, 2048, 16, 3]⟩
abbrev S2x2048x1x3 : Shape := ⟨4, ![2, 2048, 1, 3]⟩
abbrev S2x2048x16x68 : Shape := ⟨4, ![2, 2048, 16, 68]⟩
abbrev S68x128 : Shape := ⟨2, ![68, 128]⟩
abbrev S2x2048x16x128 : Shape := ⟨4, ![2, 2048, 16, 128]⟩
abbrev S2x1024x3 : Shape := ⟨3, ![2, 1024, 3]⟩
abbrev S2x1024x1 : Shape := ⟨3, ![2, 1024, 1]⟩
abbrev S2x1024x128 : Shape := ⟨3, ![2, 1024, 128]⟩
abbrev S2x1x1024 : Shape := ⟨3, ![2, 1, 1024]⟩
abbrev S2x1024x1024 : Shape := ⟨3, ![2, 1024, 1024]⟩
abbrev S2x1024x16 : Shape := ⟨3, ![2, 1024, 16]⟩
abbrev S128x256 : Shape := ⟨2, ![128, 256]⟩
abbrev S2x1024x256 : Shape := ⟨3, ![2, 1024, 256]⟩
abbrev S2x1024x16x1 : Shape := ⟨4, ![2, 1024, 16, 1]⟩
abbrev S2x1024x16x128 : Shape := ⟨4, ![2, 1024, 16, 128]⟩
abbrev S2x1024x16x3 : Shape := ⟨4, ![2, 1024, 16, 3]⟩
abbrev S2x1024x1x3 : Shape := ⟨4, ![2, 1024, 1, 3]⟩
abbrev S2x1024x16x132 : Shape := ⟨4, ![2, 1024, 16, 132]⟩
abbrev S132x256 : Shape := ⟨2, ![132, 256]⟩
abbrev S2x1024x16x256 : Shape := ⟨4, ![2, 1024, 16, 256]⟩
abbrev S2x2048x1024 : Shape := ⟨3, ![2, 2048, 1024]⟩
abbrev S2x2048x3x1 : Shape := ⟨4, ![2, 2048, 3, 1]⟩
abbrev S2x2048x3x256 : Shape := ⟨4, ![2, 2048, 3, 256]⟩
abbrev S2x2048x256 : Shape := ⟨3, ![2, 2048, 256]⟩
abbrev S2x2048x384 : Shape := ⟨3, ![2, 2048, 384]⟩
abbrev S384x128 : Shape := ⟨2, ![384, 128]⟩
abbrev S1x1x128 : Shape := ⟨3, ![1, 1, 128]⟩
abbrev S2x2048x16x132 : Shape := ⟨4, ![2, 2048, 16, 132]⟩
abbrev S132x128 : Shape := ⟨2, ![132, 128]⟩
abbrev S2x4096x2048 : Shape := ⟨3, ![2, 4096, 2048]⟩
abbrev S2x4096x3x1 : Shape := ⟨4, ![2, 4096, 3, 1]⟩
abbrev S2x4096x3x128 : Shape := ⟨4, ![2, 4096, 3, 128]⟩
abbrev S2x4096x128 : Shape := ⟨3, ![2, 4096, 128]⟩
abbrev S2x4096x192 : Shape := ⟨3, ![2, 4096, 192]⟩
abbrev S192x64 : Shape := ⟨2, ![192, 64]⟩
abbrev S1x1x64 : Shape := ⟨3, ![1, 1, 64]⟩
abbrev S2x4096x16x68 : Shape := ⟨4, ![2, 4096, 16, 68]⟩
abbrev S68x64 : Shape := ⟨2, ![68, 64]⟩

abbrev nBuf : Space → Nat
  | .hbm => 501
  | .vmem => 0
  | .smem => 0
  | _ => 0

abbrev hbmTy0_0 (i : Nat) : BufTy := match i % 128 with
  | 0 => ⟨S2x4096x4, .f32⟩
  | 1 => ⟨S2x4096x3, .f32⟩
  | 2 => ⟨S2x2048, .i32⟩
  | 3 => ⟨S2x3x2048, .f32⟩
  | 4 => ⟨S2x1024, .i32⟩
  | 5 => ⟨S2x3x1024, .f32⟩
  | 6 => ⟨S64x4, .f32⟩
  | 7 => ⟨S64x8, .f32⟩
  | 8 => ⟨S128x64, .f32⟩
  | 9 => ⟨S128x68, .f32⟩
  | 10 => ⟨S256x128, .f32⟩
  | 11 => ⟨S256x132, .f32⟩
  | 12 => ⟨S128x384, .f32⟩
  | 13 => ⟨S128, .f32⟩
  | 14 => ⟨S128x128, .f32⟩
  | 15 => ⟨S128x132, .f32⟩
  | 16 => ⟨S64x192, .f32⟩
  | 17 => ⟨S64, .f32⟩
  | 18 => ⟨S64x64, .f32⟩
  | 19 => ⟨S64x68, .f32⟩
  | 20 => ⟨S128x64, .f32⟩
  | 21 => ⟨S128, .f32⟩
  | 22 => ⟨S2x4096x3, .f32⟩
  | 23 => ⟨S_, .f32⟩
  | 24 => ⟨S2x4096, .f32⟩
  | 25 => ⟨S2x4096x1, .f32⟩
  | 26 => ⟨S2x4096x3, .f32⟩
  | 27 => ⟨S_, .f32⟩
  | 28 => ⟨S2x4096, .f32⟩
  | 29 => ⟨S2x1x4096, .f32⟩
  | 30 => ⟨S2x4096x4096, .f32⟩
  | 31 => ⟨S2x4096x4096, .f32⟩
  | 32 => ⟨S2x4096x4096, .f32⟩
  | 33 => ⟨S2x4096x4096, .f32⟩
  | 34 => ⟨S_, .f32⟩
  | 35 => ⟨S2x4096x4096, .f32⟩
  | 36 => ⟨S2x4096x4096, .f32⟩
  | 37 => ⟨S2x4096x4096, .f32⟩
  | 38 => ⟨S_, .f32⟩
  | 39 => ⟨S2x4096x4096, .f32⟩
  | 40 => ⟨S2x4096x4096, .f32⟩
  | 41 => ⟨S2x4096x4096, .f32⟩
  | 42 => ⟨S2x4096x16, .f32⟩
  | 43 => ⟨S2x4096x16, .i32⟩
  | 44 => ⟨S4x64, .f32⟩
  | 45 => ⟨S2x4096x64, .f32⟩
  | 46 => ⟨S_, .i32⟩
  | 47 => ⟨S2x4096x16, .i32⟩
  | 48 => ⟨S2x4096x16, .i1⟩
  | 49 => ⟨S_, .i32⟩
  | 50 => ⟨S2x4096x16, .i32⟩
  | 51 => ⟨S2x4096x16, .i32⟩
  | 52 => ⟨S2x4096x16, .i32⟩
  | 53 => ⟨S2x4096x16x1, .i32⟩
  | 54 => ⟨S2x4096x16x4, .f32⟩
  | 55 => ⟨S_, .i32⟩
  | 56 => ⟨S2x4096x16, .i32⟩
  | 57 => ⟨S2x4096x16, .i1⟩
  | 58 => ⟨S_, .i32⟩
  | 59 => ⟨S2x4096x16, .i32⟩
  | 60 => ⟨S2x4096x16, .i32⟩
  | 61 => ⟨S2x4096x16, .i32⟩
  | 62 => ⟨S2x4096x16x1, .i32⟩
  | 63 => ⟨S2x4096x16x3, .f32⟩
  | 64 => ⟨S2x4096x1x3, .f32⟩
  | 65 => ⟨S2x4096x16x3, .f32⟩
  | 66 => ⟨S2x4096x16x3, .f32⟩
  | 67 => ⟨S2x4096x16x3, .f32⟩
  | 68 => ⟨S_, .f32⟩
  | 69 => ⟨S2x4096x16, .f32⟩
  | 70 => ⟨S2x4096x16x1, .f32⟩
  | 71 => ⟨S2x4096x16x8, .f32⟩
  | 72 => ⟨S8x64, .f32⟩
  | 73 => ⟨S2x4096x16x64, .f32⟩
  | 74 => ⟨S_, .f32⟩
  | 75 => ⟨S2x4096x64, .f32⟩
  | 76 => ⟨S_, .f32⟩
  | 77 => ⟨S2x4096x64, .f32⟩
  | 78 => ⟨S2x4096x64, .f32⟩
  | 79 => ⟨S2x4096x64, .f32⟩
  | 80 => ⟨S_, .f32⟩
  | 81 => ⟨S_, .f32⟩
  | 82 => ⟨S2x4096x64, .f32⟩
  | 83 => ⟨S2x4096x64, .i1⟩
  | 84 => ⟨S_, .f32⟩
  | 85 => ⟨S2x4096x64, .f32⟩
  | 86 => ⟨S2x4096x64, .f32⟩
  | 87 => ⟨S2x4096x64, .f32⟩
  | 88 => ⟨S2x2048x3, .f32⟩
  | 89 => ⟨S_, .i32⟩
  | 90 => ⟨S2x2048, .i32⟩
  | 91 => ⟨S2x2048, .i1⟩
  | 92 => ⟨S_, .i32⟩
  | 93 => ⟨S2x2048, .i32⟩
  | 94 => ⟨S2x2048, .i32⟩
  | 95 => ⟨S2x2048, .i32⟩
  | 96 => ⟨S2x2048x1, .i32⟩
  | 97 => ⟨S2x2048x64, .f32⟩
  | 98 => ⟨S2x2048x3, .f32⟩
  | 99 => ⟨S_, .f32⟩
  | 100 => ⟨S2x2048, .f32⟩
  | 101 => ⟨S2x2048x1, .f32⟩
  | 102 => ⟨S2x2048x3, .f32⟩
  | 103 => ⟨S_, .f32⟩
  | 104 => ⟨S2x2048, .f32⟩
  | 105 => ⟨S2x1x2048, .f32⟩
  | 106 => ⟨S2x2048x2048, .f32⟩
  | 107 => ⟨S2x2048x2048, .f32⟩
  | 108 => ⟨S2x2048x2048, .f32⟩
  | 109 => ⟨S2x2048x2048, .f32⟩
  | 110 => ⟨S_, .f32⟩
  | 111 => ⟨S2x2048x2048, .f32⟩
  | 112 => ⟨S2x2048x2048, .f32⟩
  | 113 => ⟨S2x2048x2048, .f32⟩
  | 114 => ⟨S_, .f32⟩
  | 115 => ⟨S2x2048x2048, .f32⟩
  | 116 => ⟨S2x2048x2048, .f32⟩
  | 117 => ⟨S2x2048x2048, .f32⟩
  | 118 => ⟨S2x2048x16, .f32⟩
  | 119 => ⟨S2x2048x16, .i32⟩
  | 120 => ⟨S64x128, .f32⟩
  | 121 => ⟨S2x2048x128, .f32⟩
  | 122 => ⟨S_, .i32⟩
  | 123 => ⟨S2x2048x16, .i32⟩
  | 124 => ⟨S2x2048x16, .i1⟩
  | 125 => ⟨S_, .i32⟩
  | 126 => ⟨S2x2048x16, .i32⟩
  | 127 => ⟨S2x2048x16, .i32⟩
  | _ => ⟨S2x4096x4, .f32⟩

abbrev hbmTy0_1 (i : Nat) : BufTy := match i % 128 with
  | 0 => ⟨S2x2048x16, .i32⟩
  | 1 => ⟨S2x2048x16x1, .i32⟩
  | 2 => ⟨S2x2048x16x64, .f32⟩
  | 3 => ⟨S_, .i32⟩
  | 4 => ⟨S2x2048x16, .i32⟩
  | 5 => ⟨S2x2048x16, .i1⟩
  | 6 => ⟨S_, .i32⟩
  | 7 => ⟨S2x2048x16, .i32⟩
  | 8 => ⟨S2x2048x16, .i32⟩
  | 9 => ⟨S2x2048x16, .i32⟩
  | 10 => ⟨S2x2048x16x1, .i32⟩
  | 11 => ⟨S2x2048x16x3, .f32⟩
  | 12 => ⟨S2x2048x1x3, .f32⟩
  | 13 => ⟨S2x2048x16x3, .f32⟩
  | 14 => ⟨S2x2048x16x3, .f32⟩
  | 15 => ⟨S2x2048x16x3, .f32⟩
  | 16 => ⟨S_, .f32⟩
  | 17 => ⟨S2x2048x16, .f32⟩
  | 18 => ⟨S2x2048x16x1, .f32⟩
  | 19 => ⟨S2x2048x16x68, .f32⟩
  | 20 => ⟨S68x128, .f32⟩
  | 21 => ⟨S2x2048x16x128, .f32⟩
  | 22 => ⟨S_, .f32⟩
  | 23 => ⟨S2x2048x128, .f32⟩
  | 24 => ⟨S_, .f32⟩
  | 25 => ⟨S2x2048x128, .f32⟩
  | 26 => ⟨S2x2048x128, .f32⟩
  | 27 => ⟨S2x2048x128, .f32⟩
  | 28 => ⟨S_, .f32⟩
  | 29 => ⟨S_, .f32⟩
  | 30 => ⟨S2x2048x128, .f32⟩
  | 31 => ⟨S2x2048x128, .i1⟩
  | 32 => ⟨S_, .f32⟩
  | 33 => ⟨S2x2048x128, .f32⟩
  | 34 => ⟨S2x2048x128, .f32⟩
  | 35 => ⟨S2x2048x128, .f32⟩
  | 36 => ⟨S2x1024x3, .f32⟩
  | 37 => ⟨S_, .i32⟩
  | 38 => ⟨S2x1024, .i32⟩
  | 39 => ⟨S2x1024, .i1⟩
  | 40 => ⟨S_, .i32⟩
  | 41 => ⟨S2x1024, .i32⟩
  | 42 => ⟨S2x1024, .i32⟩
  | 43 => ⟨S2x1024, .i32⟩
  | 44 => ⟨S2x1024x1, .i32⟩
  | 45 => ⟨S2x1024x128, .f32⟩
  | 46 => ⟨S2x1024x3, .f32⟩
  | 47 => ⟨S_, .f32⟩
  | 48 => ⟨S2x1024, .f32⟩
  | 49 => ⟨S2x1024x1, .f32⟩
  | 50 => ⟨S2x1024x3, .f32⟩
  | 51 => ⟨S_, .f32⟩
  | 52 => ⟨S2x1024, .f32⟩
  | 53 => ⟨S2x1x1024, .f32⟩
  | 54 => ⟨S2x1024x1024, .f32⟩
  | 55 => ⟨S2x1024x1024, .f32⟩
  | 56 => ⟨S2x1024x1024, .f32⟩
  | 57 => ⟨S2x1024x1024, .f32⟩
  | 58 => ⟨S_, .f32⟩
  | 59 => ⟨S2x1024x1024, .f32⟩
  | 60 => ⟨S2x1024x1024, .f32⟩
  | 61 => ⟨S2x1024x1024, .f32⟩
  | 62 => ⟨S_, .f32⟩
  | 63 => ⟨S2x1024x1024, .f32⟩
  | 64 => ⟨S2x1024x1024, .f32⟩
  | 65 => ⟨S2x1024x1024, .f32⟩
  | 66 => ⟨S2x1024x16, .f32⟩
  | 67 => ⟨S2x1024x16, .i32⟩
  | 68 => ⟨S128x256, .f32⟩
  | 69 => ⟨S2x1024x256, .f32⟩
  | 70 => ⟨S_, .i32⟩
  | 71 => ⟨S2x1024x16, .i32⟩
  | 72 => ⟨S2x1024x16, .i1⟩
  | 73 => ⟨S_, .i32⟩
  | 74 => ⟨S2x1024x16, .i32⟩
  | 75 => ⟨S2x1024x16, .i32⟩
  | 76 => ⟨S2x1024x16, .i32⟩
  | 77 => ⟨S2x1024x16x1, .i32⟩
  | 78 => ⟨S2x1024x16x128, .f32⟩
  | 79 => ⟨S_, .i32⟩
  | 80 => ⟨S2x1024x16, .i32⟩
  | 81 => ⟨S2x1024x16, .i1⟩
  | 82 => ⟨S_, .i32⟩
  | 83 => ⟨S2x1024x16, .i32⟩
  | 84 => ⟨S2x1024x16, .i32⟩
  | 85 => ⟨S2x1024x16, .i32⟩
  | 86 => ⟨S2x1024x16x1, .i32⟩
  | 87 => ⟨S2x1024x16x3, .f32⟩
  | 88 => ⟨S2x1024x1x3, .f32⟩
  | 89 => ⟨S2x1024x16x3, .f32⟩
  | 90 => ⟨S2x1024x16x3, .f32⟩
  | 91 => ⟨S2x1024x16x3, .f32⟩
  | 92 => ⟨S_, .f32⟩
  | 93 => ⟨S2x1024x16, .f32⟩
  | 94 => ⟨S2x1024x16x1, .f32⟩
  | 95 => ⟨S2x1024x16x132, .f32⟩
  | 96 => ⟨S132x256, .f32⟩
  | 97 => ⟨S2x1024x16x256, .f32⟩
  | 98 => ⟨S_, .f32⟩
  | 99 => ⟨S2x1024x256, .f32⟩
  | 100 => ⟨S_, .f32⟩
  | 101 => ⟨S2x1024x256, .f32⟩
  | 102 => ⟨S2x1024x256, .f32⟩
  | 103 => ⟨S2x1024x256, .f32⟩
  | 104 => ⟨S_, .f32⟩
  | 105 => ⟨S_, .f32⟩
  | 106 => ⟨S2x1024x256, .f32⟩
  | 107 => ⟨S2x1024x256, .i1⟩
  | 108 => ⟨S_, .f32⟩
  | 109 => ⟨S2x1024x256, .f32⟩
  | 110 => ⟨S2x1024x256, .f32⟩
  | 111 => ⟨S2x1024x256, .f32⟩
  | 112 => ⟨S2x2048x3, .f32⟩
  | 113 => ⟨S_, .f32⟩
  | 114 => ⟨S2x2048, .f32⟩
  | 115 => ⟨S2x2048x1, .f32⟩
  | 116 => ⟨S2x1024x3, .f32⟩
  | 117 => ⟨S_, .f32⟩
  | 118 => ⟨S2x1024, .f32⟩
  | 119 => ⟨S2x1x1024, .f32⟩
  | 120 => ⟨S2x2048x1024, .f32⟩
  | 121 => ⟨S2x2048x1024, .f32⟩
  | 122 => ⟨S2x2048x1024, .f32⟩
  | 123 => ⟨S2x2048x1024, .f32⟩
  | 124 => ⟨S_, .f32⟩
  | 125 => ⟨S2x2048x1024, .f32⟩
  | 126 => ⟨S2x2048x1024, .f32⟩
  | 127 => ⟨S2x2048x1024, .f32⟩
  | _ => ⟨S2x4096x4, .f32⟩

abbrev hbmTy0_2 (i : Nat) : BufTy := match i % 128 with
  | 0 => ⟨S_, .f32⟩
  | 1 => ⟨S2x2048x1024, .f32⟩
  | 2 => ⟨S2x2048x1024, .f32⟩
  | 3 => ⟨S2x2048x1024, .f32⟩
  | 4 => ⟨S2x2048x3, .f32⟩
  | 5 => ⟨S2x2048x3, .i32⟩
  | 6 => ⟨S2x2048x3, .f32⟩
  | 7 => ⟨S_, .f32⟩
  | 8 => ⟨S2x2048x3, .f32⟩
  | 9 => ⟨S2x2048x3, .f32⟩
  | 10 => ⟨S_, .f32⟩
  | 11 => ⟨S2x2048x3, .f32⟩
  | 12 => ⟨S2x2048x3, .f32⟩
  | 13 => ⟨S_, .f32⟩
  | 14 => ⟨S2x2048, .f32⟩
  | 15 => ⟨S2x2048x1, .f32⟩
  | 16 => ⟨S2x2048x3, .f32⟩
  | 17 => ⟨S2x2048x3, .f32⟩
  | 18 => ⟨S_, .i32⟩
  | 19 => ⟨S2x2048x3, .i32⟩
  | 20 => ⟨S2x2048x3, .i1⟩
  | 21 => ⟨S_, .i32⟩
  | 22 => ⟨S2x2048x3, .i32⟩
  | 23 => ⟨S2x2048x3, .i32⟩
  | 24 => ⟨S2x2048x3, .i32⟩
  | 25 => ⟨S2x2048x3x1, .i32⟩
  | 26 => ⟨S2x2048x3x256, .f32⟩
  | 27 => ⟨S2x2048x3x1, .f32⟩
  | 28 => ⟨S2x2048x3x256, .f32⟩
  | 29 => ⟨S2x2048x3x256, .f32⟩
  | 30 => ⟨S_, .f32⟩
  | 31 => ⟨S2x2048x256, .f32⟩
  | 32 => ⟨S2x2048x384, .f32⟩
  | 33 => ⟨S384x128, .f32⟩
  | 34 => ⟨S2x2048x128, .f32⟩
  | 35 => ⟨S1x1x128, .f32⟩
  | 36 => ⟨S2x2048x128, .f32⟩
  | 37 => ⟨S2x2048x128, .f32⟩
  | 38 => ⟨S_, .f32⟩
  | 39 => ⟨S_, .f32⟩
  | 40 => ⟨S2x2048x128, .f32⟩
  | 41 => ⟨S2x2048x128, .i1⟩
  | 42 => ⟨S_, .f32⟩
  | 43 => ⟨S2x2048x128, .f32⟩
  | 44 => ⟨S2x2048x128, .f32⟩
  | 45 => ⟨S2x2048x128, .f32⟩
  | 46 => ⟨S2x2048x3, .f32⟩
  | 47 => ⟨S_, .f32⟩
  | 48 => ⟨S2x2048, .f32⟩
  | 49 => ⟨S2x2048x1, .f32⟩
  | 50 => ⟨S2x2048x3, .f32⟩
  | 51 => ⟨S_, .f32⟩
  | 52 => ⟨S2x2048, .f32⟩
  | 53 => ⟨S2x1x2048, .f32⟩
  | 54 => ⟨S2x2048x2048, .f32⟩
  | 55 => ⟨S2x2048x2048, .f32⟩
  | 56 => ⟨S2x2048x2048, .f32⟩
  | 57 => ⟨S2x2048x2048, .f32⟩
  | 58 => ⟨S_, .f32⟩
  | 59 => ⟨S2x2048x2048, .f32⟩
  | 60 => ⟨S2x2048x2048, .f32⟩
  | 61 => ⟨S2x2048x2048, .f32⟩
  | 62 => ⟨S_, .f32⟩
  | 63 => ⟨S2x2048x2048, .f32⟩
  | 64 => ⟨S2x2048x2048, .f32⟩
  | 65 => ⟨S2x2048x2048, .f32⟩
  | 66 => ⟨S2x2048x16, .f32⟩
  | 67 => ⟨S2x2048x16, .i32⟩
  | 68 => ⟨S128x128, .f32⟩
  | 69 => ⟨S2x2048x128, .f32⟩
  | 70 => ⟨S_, .i32⟩
  | 71 => ⟨S2x2048x16, .i32⟩
  | 72 => ⟨S2x2048x16, .i1⟩
  | 73 => ⟨S_, .i32⟩
  | 74 => ⟨S2x2048x16, .i32⟩
  | 75 => ⟨S2x2048x16, .i32⟩
  | 76 => ⟨S2x2048x16, .i32⟩
  | 77 => ⟨S2x2048x16x1, .i32⟩
  | 78 => ⟨S2x2048x16x128, .f32⟩
  | 79 => ⟨S_, .i32⟩
  | 80 => ⟨S2x2048x16, .i32⟩
  | 81 => ⟨S2x2048x16, .i1⟩
  | 82 => ⟨S_, .i32⟩
  | 83 => ⟨S2x2048x16, .i32⟩
  | 84 => ⟨S2x2048x16, .i32⟩
  | 85 => ⟨S2x2048x16, .i32⟩
  | 86 => ⟨S2x2048x16x1, .i32⟩
  | 87 => ⟨S2x2048x16x3, .f32⟩
  | 88 => ⟨S2x2048x1x3, .f32⟩
  | 89 => ⟨S2x2048x16x3, .f32⟩
  | 90 => ⟨S2x2048x16x3, .f32⟩
  | 91 => ⟨S2x2048x16x3, .f32⟩
  | 92 => ⟨S_, .f32⟩
  | 93 => ⟨S2x2048x16, .f32⟩
  | 94 => ⟨S2x2048x16x1, .f32⟩
  | 95 => ⟨S2x2048x16x132, .f32⟩
  | 96 => ⟨S132x128, .f32⟩
  | 97 => ⟨S2x2048x16x128, .f32⟩
  | 98 => ⟨S_, .f32⟩
  | 99 => ⟨S2x2048x128, .f32⟩
  | 100 => ⟨S_, .f32⟩
  | 101 => ⟨S2x2048x128, .f32⟩
  | 102 => ⟨S2x2048x128, .f32⟩
  | 103 => ⟨S2x2048x128, .f32⟩
  | 104 => ⟨S_, .f32⟩
  | 105 => ⟨S_, .f32⟩
  | 106 => ⟨S2x2048x128, .f32⟩
  | 107 => ⟨S2x2048x128, .i1⟩
  | 108 => ⟨S_, .f32⟩
  | 109 => ⟨S2x2048x128, .f32⟩
  | 110 => ⟨S2x2048x128, .f32⟩
  | 111 => ⟨S2x2048x128, .f32⟩
  | 112 => ⟨S2x4096x3, .f32⟩
  | 113 => ⟨S_, .f32⟩
  | 114 => ⟨S2x4096, .f32⟩
  | 115 => ⟨S2x4096x1, .f32⟩
  | 116 => ⟨S2x2048x3, .f32⟩
  | 117 => ⟨S_, .f32⟩
  | 118 => ⟨S2x2048, .f32⟩
  | 119 => ⟨S2x1x2048, .f32⟩
  | 120 => ⟨S2x4096x2048, .f32⟩
  | 121 => ⟨S2x4096x2048, .f32⟩
  | 122 => ⟨S2x4096x2048, .f32⟩
  | 123 => ⟨S2x4096x2048, .f32⟩
  | 124 => ⟨S_, .f32⟩
  | 125 => ⟨S2x4096x2048, .f32⟩
  | 126 => ⟨S2x4096x2048, .f32⟩
  | 127 => ⟨S2x4096x2048, .f32⟩
  | _ => ⟨S2x4096x4, .f32⟩

abbrev hbmTy0_3 (i : Nat) : BufTy := match i % 128 with
  | 0 => ⟨S_, .f32⟩
  | 1 => ⟨S2x4096x2048, .f32⟩
  | 2 => ⟨S2x4096x2048, .f32⟩
  | 3 => ⟨S2x4096x2048, .f32⟩
  | 4 => ⟨S2x4096x3, .f32⟩
  | 5 => ⟨S2x4096x3, .i32⟩
  | 6 => ⟨S2x4096x3, .f32⟩
  | 7 => ⟨S_, .f32⟩
  | 8 => ⟨S2x4096x3, .f32⟩
  | 9 => ⟨S2x4096x3, .f32⟩
  | 10 => ⟨S_, .f32⟩
  | 11 => ⟨S2x4096x3, .f32⟩
  | 12 => ⟨S2x4096x3, .f32⟩
  | 13 => ⟨S_, .f32⟩
  | 14 => ⟨S2x4096, .f32⟩
  | 15 => ⟨S2x4096x1, .f32⟩
  | 16 => ⟨S2x4096x3, .f32⟩
  | 17 => ⟨S2x4096x3, .f32⟩
  | 18 => ⟨S_, .i32⟩
  | 19 => ⟨S2x4096x3, .i32⟩
  | 20 => ⟨S2x4096x3, .i1⟩
  | 21 => ⟨S_, .i32⟩
  | 22 => ⟨S2x4096x3, .i32⟩
  | 23 => ⟨S2x4096x3, .i32⟩
  | 24 => ⟨S2x4096x3, .i32⟩
  | 25 => ⟨S2x4096x3x1, .i32⟩
  | 26 => ⟨S2x4096x3x128, .f32⟩
  | 27 => ⟨S2x4096x3x1, .f32⟩
  | 28 => ⟨S2x4096x3x128, .f32⟩
  | 29 => ⟨S2x4096x3x128, .f32⟩
  | 30 => ⟨S_, .f32⟩
  | 31 => ⟨S2x4096x128, .f32⟩
  | 32 => ⟨S2x4096x192, .f32⟩
  | 33 => ⟨S192x64, .f32⟩
  | 34 => ⟨S2x4096x64, .f32⟩
  | 35 => ⟨S1x1x64, .f32⟩
  | 36 => ⟨S2x4096x64, .f32⟩
  | 37 => ⟨S2x4096x64, .f32⟩
  | 38 => ⟨S_, .f32⟩
  | 39 => ⟨S_, .f32⟩
  | 40 => ⟨S2x4096x64, .f32⟩
  | 41 => ⟨S2x4096x64, .i1⟩
  | 42 => ⟨S_, .f32⟩
  | 43 => ⟨S2x4096x64, .f32⟩
  | 44 => ⟨S2x4096x64, .f32⟩
  | 45 => ⟨S2x4096x64, .f32⟩
  | 46 => ⟨S2x4096x3, .f32⟩
  | 47 => ⟨S_, .f32⟩
  | 48 => ⟨S2x4096, .f32⟩
  | 49 => ⟨S2x4096x1, .f32⟩
  | 50 => ⟨S2x4096x3, .f32⟩
  | 51 => ⟨S_, .f32⟩
  | 52 => ⟨S2x4096, .f32⟩
  | 53 => ⟨S2x1x4096, .f32⟩
  | 54 => ⟨S2x4096x4096, .f32⟩
  | 55 => ⟨S2x4096x4096, .f32⟩
  | 56 => ⟨S2x4096x4096, .f32⟩
  | 57 => ⟨S2x4096x4096, .f32⟩
  | 58 => ⟨S_, .f32⟩
  | 59 => ⟨S2x4096x4096, .f32⟩
  | 60 => ⟨S2x4096x4096, .f32⟩
  | 61 => ⟨S2x4096x4096, .f32⟩
  | 62 => ⟨S_, .f32⟩
  | 63 => ⟨S2x4096x4096, .f32⟩
  | 64 => ⟨S2x4096x4096, .f32⟩
  | 65 => ⟨S2x4096x4096, .f32⟩
  | 66 => ⟨S2x4096x16, .f32⟩
  | 67 => ⟨S2x4096x16, .i32⟩
  | 68 => ⟨S64x64, .f32⟩
  | 69 => ⟨S2x4096x64, .f32⟩
  | 70 => ⟨S_, .i32⟩
  | 71 => ⟨S2x4096x16, .i32⟩
  | 72 => ⟨S2x4096x16, .i1⟩
  | 73 => ⟨S_, .i32⟩
  | 74 => ⟨S2x4096x16, .i32⟩
  | 75 => ⟨S2x4096x16, .i32⟩
  | 76 => ⟨S2x4096x16, .i32⟩
  | 77 => ⟨S2x4096x16x1, .i32⟩
  | 78 => ⟨S2x4096x16x64, .f32⟩
  | 79 => ⟨S_, .i32⟩
  | 80 => ⟨S2x4096x16, .i32⟩
  | 81 => ⟨S2x4096x16, .i1⟩
  | 82 => ⟨S_, .i32⟩
  | 83 => ⟨S2x4096x16, .i32⟩
  | 84 => ⟨S2x4096x16, .i32⟩
  | 85 => ⟨S2x4096x16, .i32⟩
  | 86 => ⟨S2x4096x16x1, .i32⟩
  | 87 => ⟨S2x4096x16x3, .f32⟩
  | 88 => ⟨S2x4096x1x3, .f32⟩
  | 89 => ⟨S2x4096x16x3, .f32⟩
  | 90 => ⟨S2x4096x16x3, .f32⟩
  | 91 => ⟨S2x4096x16x3, .f32⟩
  | 92 => ⟨S_, .f32⟩
  | 93 => ⟨S2x4096x16, .f32⟩
  | 94 => ⟨S2x4096x16x1, .f32⟩
  | 95 => ⟨S2x4096x16x68, .f32⟩
  | 96 => ⟨S68x64, .f32⟩
  | 97 => ⟨S2x4096x16x64, .f32⟩
  | 98 => ⟨S_, .f32⟩
  | 99 => ⟨S2x4096x64, .f32⟩
  | 100 => ⟨S_, .f32⟩
  | 101 => ⟨S2x4096x64, .f32⟩
  | 102 => ⟨S2x4096x64, .f32⟩
  | 103 => ⟨S2x4096x64, .f32⟩
  | 104 => ⟨S_, .f32⟩
  | 105 => ⟨S_, .f32⟩
  | 106 => ⟨S2x4096x64, .f32⟩
  | 107 => ⟨S2x4096x64, .i1⟩
  | 108 => ⟨S_, .f32⟩
  | 109 => ⟨S2x4096x64, .f32⟩
  | 110 => ⟨S2x4096x64, .f32⟩
  | 111 => ⟨S2x4096x64, .f32⟩
  | 112 => ⟨S64x128, .f32⟩
  | 113 => ⟨S2x4096x128, .f32⟩
  | 114 => ⟨S1x1x128, .f32⟩
  | 115 => ⟨S2x4096x128, .f32⟩
  | 116 => ⟨S2x4096x128, .f32⟩
  | _ => ⟨S2x4096x4, .f32⟩

abbrev hbmTy (i : Nat) : BufTy := match i / 128 with
  | 0 => hbmTy0_0 i
  | 1 => hbmTy0_1 i
  | 2 => hbmTy0_2 i
  | 3 => hbmTy0_3 i
  | _ => ⟨S2x4096x4, .f32⟩

abbrev bufTy : (tb : Table) → Fin (tcTables nBuf tb) → BufTy
  | .hbm, ⟨i, _⟩ => hbmTy i
  | _, _ => ⟨S2x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_values : Ref sig .tc := ⟨.hbm, 42, rfl⟩
abbrev main_indices : Ref sig .tc := ⟨.hbm, 43, rfl⟩
abbrev main_v16 : Ref sig .tc := ⟨.hbm, 44, rfl⟩
abbrev main_v17 : Ref sig .tc := ⟨.hbm, 45, rfl⟩
abbrev main_c : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_cst_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v45 : Ref sig .tc := ⟨.hbm, 87, rfl⟩
abbrev main_v46 : Ref sig .tc := ⟨.hbm, 88, rfl⟩
abbrev main_c_10 : Ref sig .tc := ⟨.hbm, 89, rfl⟩
abbrev main_v47 : Ref sig .tc := ⟨.hbm, 90, rfl⟩
abbrev main_v48 : Ref sig .tc := ⟨.hbm, 91, rfl⟩
abbrev main_c_11 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_12 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_13 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_14 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_15 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_values_16 : Ref sig .tc := ⟨.hbm, 118, rfl⟩
abbrev main_indices_17 : Ref sig .tc := ⟨.hbm, 119, rfl⟩
abbrev main_v70 : Ref sig .tc := ⟨.hbm, 120, rfl⟩
abbrev main_v71 : Ref sig .tc := ⟨.hbm, 121, rfl⟩
abbrev main_c_18 : Ref sig .tc := ⟨.hbm, 122, rfl⟩
abbrev main_v72 : Ref sig .tc := ⟨.hbm, 123, rfl⟩
abbrev main_v73 : Ref sig .tc := ⟨.hbm, 124, rfl⟩
abbrev main_c_19 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_20 : Ref sig .tc := ⟨.hbm, 131, rfl⟩
abbrev main_v79 : Ref sig .tc := ⟨.hbm, 132, rfl⟩
abbrev main_v80 : Ref sig .tc := ⟨.hbm, 133, rfl⟩
abbrev main_c_21 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_22 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_23 : Ref sig .tc := ⟨.hbm, 150, rfl⟩
abbrev main_v95 : Ref sig .tc := ⟨.hbm, 151, rfl⟩
abbrev main_cst_24 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_25 : Ref sig .tc := ⟨.hbm, 156, rfl⟩
abbrev main_call1_cst : Ref sig .tc := ⟨.hbm, 157, rfl⟩
abbrev main_call1_v0 : Ref sig .tc := ⟨.hbm, 158, rfl⟩
abbrev main_call1_v1 : Ref sig .tc := ⟨.hbm, 159, rfl⟩
abbrev main_call1_v2 : Ref sig .tc := ⟨.hbm, 160, rfl⟩
abbrev main_call1_v3 : Ref sig .tc := ⟨.hbm, 161, rfl⟩
abbrev main_call1_v4 : Ref sig .tc := ⟨.hbm, 162, rfl⟩
abbrev main_v99 : Ref sig .tc := ⟨.hbm, 163, rfl⟩
abbrev main_v100 : Ref sig .tc := ⟨.hbm, 164, rfl⟩
abbrev main_c_26 : Ref sig .tc := ⟨.hbm, 165, rfl⟩
abbrev main_v101 : Ref sig .tc := ⟨.hbm, 166, rfl⟩
abbrev main_v102 : Ref sig .tc := ⟨.hbm, 167, rfl⟩
abbrev main_c_27 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_28 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_cst_29 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_30 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_31 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_values_32 : Ref sig .tc := ⟨.hbm, 194, rfl⟩
abbrev main_indices_33 : Ref sig .tc := ⟨.hbm, 195, rfl⟩
abbrev main_v124 : Ref sig .tc := ⟨.hbm, 196, rfl⟩
abbrev main_v125 : Ref sig .tc := ⟨.hbm, 197, rfl⟩
abbrev main_c_34 : Ref sig .tc := ⟨.hbm, 198, rfl⟩
abbrev main_v126 : Ref sig .tc := ⟨.hbm, 199, rfl⟩
abbrev main_v127 : Ref sig .tc := ⟨.hbm, 200, rfl⟩
abbrev main_c_35 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_c_36 : Ref sig .tc := ⟨.hbm, 207, rfl⟩
abbrev main_v133 : Ref sig .tc := ⟨.hbm, 208, rfl⟩
abbrev main_v134 : Ref sig .tc := ⟨.hbm, 209, rfl⟩
abbrev main_c_37 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_cst_38 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_39 : Ref sig .tc := ⟨.hbm, 226, rfl⟩
abbrev main_v149 : Ref sig .tc := ⟨.hbm, 227, rfl⟩
abbrev main_cst_40 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_41 : Ref sig .tc := ⟨.hbm, 232, rfl⟩
abbrev main_call2_cst : Ref sig .tc := ⟨.hbm, 233, rfl⟩
abbrev main_call2_v0 : Ref sig .tc := ⟨.hbm, 234, rfl⟩
abbrev main_call2_v1 : Ref sig .tc := ⟨.hbm, 235, rfl⟩
abbrev main_call2_v2 : Ref sig .tc := ⟨.hbm, 236, rfl⟩
abbrev main_call2_v3 : Ref sig .tc := ⟨.hbm, 237, rfl⟩
abbrev main_call2_v4 : Ref sig .tc := ⟨.hbm, 238, rfl⟩
abbrev main_v153 : Ref sig .tc := ⟨.hbm, 239, rfl⟩
abbrev main_v154 : Ref sig .tc := ⟨.hbm, 240, rfl⟩
abbrev main_cst_42 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_cst_43 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_cst_44 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_cst_45 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_values_46 : Ref sig .tc := ⟨.hbm, 260, rfl⟩
abbrev main_indices_47 : Ref sig .tc := ⟨.hbm, 261, rfl⟩
abbrev main_v170 : Ref sig .tc := ⟨.hbm, 262, rfl⟩
abbrev main_cst_48 : Ref sig .tc := ⟨.hbm, 263, rfl⟩
abbrev main_v171 : Ref sig .tc := ⟨.hbm, 264, rfl⟩
abbrev main_v172 : Ref sig .tc := ⟨.hbm, 265, rfl⟩
abbrev main_cst_49 : Ref sig .tc := ⟨.hbm, 266, rfl⟩
abbrev main_v173 : Ref sig .tc := ⟨.hbm, 267, rfl⟩
abbrev main_v174 : Ref sig .tc := ⟨.hbm, 268, rfl⟩
abbrev main_cst_50 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_c_51 : Ref sig .tc := ⟨.hbm, 274, rfl⟩
abbrev main_v179 : Ref sig .tc := ⟨.hbm, 275, rfl⟩
abbrev main_v180 : Ref sig .tc := ⟨.hbm, 276, rfl⟩
abbrev main_c_52 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_cst_53 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_cst_54 : Ref sig .tc := ⟨.hbm, 294, rfl⟩
abbrev main_call3_cst : Ref sig .tc := ⟨.hbm, 295, rfl⟩
abbrev main_call3_v0 : Ref sig .tc := ⟨.hbm, 296, rfl⟩
abbrev main_call3_v1 : Ref sig .tc := ⟨.hbm, 297, rfl⟩
abbrev main_call3_v2 : Ref sig .tc := ⟨.hbm, 298, rfl⟩
abbrev main_call3_v3 : Ref sig .tc := ⟨.hbm, 299, rfl⟩
abbrev main_call3_v4 : Ref sig .tc := ⟨.hbm, 300, rfl⟩
abbrev main_v196 : Ref sig .tc := ⟨.hbm, 301, rfl⟩
abbrev main_v197 : Ref sig .tc := ⟨.hbm, 302, rfl⟩
abbrev main_cst_55 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_cst_56 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_cst_57 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_cst_58 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_values_59 : Ref sig .tc := ⟨.hbm, 322, rfl⟩
abbrev main_indices_60 : Ref sig .tc := ⟨.hbm, 323, rfl⟩
abbrev main_v213 : Ref sig .tc := ⟨.hbm, 324, rfl⟩
abbrev main_v214 : Ref sig .tc := ⟨.hbm, 325, rfl⟩
abbrev main_c_61 : Ref sig .tc := ⟨.hbm, 326, rfl⟩
abbrev main_v215 : Ref sig .tc := ⟨.hbm, 327, rfl⟩
abbrev main_v216 : Ref sig .tc := ⟨.hbm, 328, rfl⟩
abbrev main_c_62 : Ref sig .tc := ⟨.hbm, 329, rfl⟩
abbrev main_v217 : Ref sig .tc := ⟨.hbm, 330, rfl⟩
abbrev main_v218 : Ref sig .tc := ⟨.hbm, 331, rfl⟩
abbrev main_v219 : Ref sig .tc := ⟨.hbm, 332, rfl⟩
abbrev main_v220 : Ref sig .tc := ⟨.hbm, 333, rfl⟩
abbrev main_v221 : Ref sig .tc := ⟨.hbm, 334, rfl⟩
abbrev main_c_63 : Ref sig .tc := ⟨.hbm, 335, rfl⟩
abbrev main_v222 : Ref sig .tc := ⟨.hbm, 336, rfl⟩
abbrev main_v223 : Ref sig .tc := ⟨.hbm, 337, rfl⟩
abbrev main_c_64 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_cst_65 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_cst_66 : Ref sig .tc := ⟨.hbm, 354, rfl⟩
abbrev main_v238 : Ref sig .tc := ⟨.hbm, 355, rfl⟩
abbrev main_cst_67 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_cst_68 : Ref sig .tc := ⟨.hbm, 360, rfl⟩
abbrev main_call4_cst : Ref sig .tc := ⟨.hbm, 361, rfl⟩
abbrev main_call4_v0 : Ref sig .tc := ⟨.hbm, 362, rfl⟩
abbrev main_call4_v1 : Ref sig .tc := ⟨.hbm, 363, rfl⟩
abbrev main_call4_v2 : Ref sig .tc := ⟨.hbm, 364, rfl⟩
abbrev main_call4_v3 : Ref sig .tc := ⟨.hbm, 365, rfl⟩
abbrev main_call4_v4 : Ref sig .tc := ⟨.hbm, 366, rfl⟩
abbrev main_v242 : Ref sig .tc := ⟨.hbm, 367, rfl⟩
abbrev main_v243 : Ref sig .tc := ⟨.hbm, 368, rfl⟩
abbrev main_cst_69 : Ref sig .tc := ⟨.hbm, 369, rfl⟩
abbrev main_v244 : Ref sig .tc := ⟨.hbm, 370, rfl⟩
abbrev main_v245 : Ref sig .tc := ⟨.hbm, 371, rfl⟩
abbrev main_v246 : Ref sig .tc := ⟨.hbm, 372, rfl⟩
abbrev main_cst_70 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_cst_71 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_cst_72 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_values_73 : Ref sig .tc := ⟨.hbm, 388, rfl⟩
abbrev main_indices_74 : Ref sig .tc := ⟨.hbm, 389, rfl⟩
abbrev main_v259 : Ref sig .tc := ⟨.hbm, 390, rfl⟩
abbrev main_cst_75 : Ref sig .tc := ⟨.hbm, 391, rfl⟩
abbrev main_v260 : Ref sig .tc := ⟨.hbm, 392, rfl⟩
abbrev main_v261 : Ref sig .tc := ⟨.hbm, 393, rfl⟩
abbrev main_cst_76 : Ref sig .tc := ⟨.hbm, 394, rfl⟩
abbrev main_v262 : Ref sig .tc := ⟨.hbm, 395, rfl⟩
abbrev main_v263 : Ref sig .tc := ⟨.hbm, 396, rfl⟩
abbrev main_cst_77 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_c_78 : Ref sig .tc := ⟨.hbm, 402, rfl⟩
abbrev main_v268 : Ref sig .tc := ⟨.hbm, 403, rfl⟩
abbrev main_v269 : Ref sig .tc := ⟨.hbm, 404, rfl⟩
abbrev main_c_79 : Ref sig .tc := ⟨.hbm, 405, rfl⟩
abbrev main_v270 : Ref sig .tc := ⟨.hbm, 406, rfl⟩
abbrev main_v271 : Ref sig .tc := ⟨.hbm, 407, rfl⟩
abbrev main_v272 : Ref sig .tc := ⟨.hbm, 408, rfl⟩
abbrev main_v273 : Ref sig .tc := ⟨.hbm, 409, rfl⟩
abbrev main_v274 : Ref sig .tc := ⟨.hbm, 410, rfl⟩
abbrev main_v275 : Ref sig .tc := ⟨.hbm, 411, rfl⟩
abbrev main_v276 : Ref sig .tc := ⟨.hbm, 412, rfl⟩
abbrev main_v277 : Ref sig .tc := ⟨.hbm, 413, rfl⟩
abbrev main_cst_80 : Ref sig .tc := ⟨.hbm, 414, rfl⟩
abbrev main_v278 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_v282 : Ref sig .tc := ⟨.hbm, 419, rfl⟩
abbrev main_v283 : Ref sig .tc := ⟨.hbm, 420, rfl⟩
abbrev main_v284 : Ref sig .tc := ⟨.hbm, 421, rfl⟩
abbrev main_cst_81 : Ref sig .tc := ⟨.hbm, 422, rfl⟩
abbrev main_call5_cst : Ref sig .tc := ⟨.hbm, 423, rfl⟩
abbrev main_call5_v0 : Ref sig .tc := ⟨.hbm, 424, rfl⟩
abbrev main_call5_v1 : Ref sig .tc := ⟨.hbm, 425, rfl⟩
abbrev main_call5_v2 : Ref sig .tc := ⟨.hbm, 426, rfl⟩
abbrev main_call5_v3 : Ref sig .tc := ⟨.hbm, 427, rfl⟩
abbrev main_call5_v4 : Ref sig .tc := ⟨.hbm, 428, rfl⟩
abbrev main_v285 : Ref sig .tc := ⟨.hbm, 429, rfl⟩
abbrev main_v286 : Ref sig .tc := ⟨.hbm, 430, rfl⟩
abbrev main_cst_82 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_cst_83 : Ref sig .tc := ⟨.hbm, 435, rfl⟩
abbrev main_v290 : Ref sig .tc := ⟨.hbm, 436, rfl⟩
abbrev main_v291 : Ref sig .tc := ⟨.hbm, 437, rfl⟩
abbrev main_v292 : Ref sig .tc := ⟨.hbm, 438, rfl⟩
abbrev main_v293 : Ref sig .tc := ⟨.hbm, 439, rfl⟩
abbrev main_v294 : Ref sig .tc := ⟨.hbm, 440, rfl⟩
abbrev main_v295 : Ref sig .tc := ⟨.hbm, 441, rfl⟩
abbrev main_cst_84 : Ref sig .tc := ⟨.hbm, 442, rfl⟩
abbrev main_v296 : Ref sig .tc := ⟨.hbm, 443, rfl⟩
abbrev main_v297 : Ref sig .tc := ⟨.hbm, 444, rfl⟩
abbrev main_v298 : Ref sig .tc := ⟨.hbm, 445, rfl⟩
abbrev main_cst_85 : Ref sig .tc := ⟨.hbm, 446, rfl⟩
abbrev main_v299 : Ref sig .tc := ⟨.hbm, 447, rfl⟩
abbrev main_v300 : Ref sig .tc := ⟨.hbm, 448, rfl⟩
abbrev main_v301 : Ref sig .tc := ⟨.hbm, 449, rfl⟩
abbrev main_values_86 : Ref sig .tc := ⟨.hbm, 450, rfl⟩
abbrev main_indices_87 : Ref sig .tc := ⟨.hbm, 451, rfl⟩
abbrev main_v302 : Ref sig .tc := ⟨.hbm, 452, rfl⟩
abbrev main_v303 : Ref sig .tc := ⟨.hbm, 453, rfl⟩
abbrev main_c_88 : Ref sig .tc := ⟨.hbm, 454, rfl⟩
abbrev main_v304 : Ref sig .tc := ⟨.hbm, 455, rfl⟩
abbrev main_v305 : Ref sig .tc := ⟨.hbm, 456, rfl⟩
abbrev main_c_89 : Ref sig .tc := ⟨.hbm, 457, rfl⟩
abbrev main_v306 : Ref sig .tc := ⟨.hbm, 458, rfl⟩
abbrev main_v307 : Ref sig .tc := ⟨.hbm, 459, rfl⟩
abbrev main_v308 : Ref sig .tc := ⟨.hbm, 460, rfl⟩
abbrev main_v309 : Ref sig .tc := ⟨.hbm, 461, rfl⟩
abbrev main_v310 : Ref sig .tc := ⟨.hbm, 462, rfl⟩
abbrev main_c_90 : Ref sig .tc := ⟨.hbm, 463, rfl⟩
abbrev main_v311 : Ref sig .tc := ⟨.hbm, 464, rfl⟩
abbrev main_v312 : Ref sig .tc := ⟨.hbm, 465, rfl⟩
abbrev main_c_91 : Ref sig .tc := ⟨.hbm, 466, rfl⟩
abbrev main_v313 : Ref sig .tc := ⟨.hbm, 467, rfl⟩
abbrev main_v314 : Ref sig .tc := ⟨.hbm, 468, rfl⟩
abbrev main_v315 : Ref sig .tc := ⟨.hbm, 469, rfl⟩
abbrev main_v316 : Ref sig .tc := ⟨.hbm, 470, rfl⟩
abbrev main_v317 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_cst_92 : Ref sig .tc := ⟨.hbm, 476, rfl⟩
abbrev main_v322 : Ref sig .tc := ⟨.hbm, 477, rfl⟩
abbrev main_v323 : Ref sig .tc := ⟨.hbm, 478, rfl⟩
abbrev main_v324 : Ref sig .tc := ⟨.hbm, 479, rfl⟩
abbrev main_v325 : Ref sig .tc := ⟨.hbm, 480, rfl⟩
abbrev main_v326 : Ref sig .tc := ⟨.hbm, 481, rfl⟩
abbrev main_cst_93 : Ref sig .tc := ⟨.hbm, 482, rfl⟩
abbrev main_v327 : Ref sig .tc := ⟨.hbm, 483, rfl⟩
abbrev main_cst_94 : Ref sig .tc := ⟨.hbm, 484, rfl⟩
abbrev main_v328 : Ref sig .tc := ⟨.hbm, 485, rfl⟩
abbrev main_v329 : Ref sig .tc := ⟨.hbm, 486, rfl⟩
abbrev main_v330 : Ref sig .tc := ⟨.hbm, 487, rfl⟩
abbrev main_cst_95 : Ref sig .tc := ⟨.hbm, 488, rfl⟩
abbrev main_call6_cst : Ref sig .tc := ⟨.hbm, 489, rfl⟩
abbrev main_call6_v0 : Ref sig .tc := ⟨.hbm, 490, rfl⟩
abbrev main_call6_v1 : Ref sig .tc := ⟨.hbm, 491, rfl⟩
abbrev main_call6_v2 : Ref sig .tc := ⟨.hbm, 492, rfl⟩
abbrev main_call6_v3 : Ref sig .tc := ⟨.hbm, 493, rfl⟩
abbrev main_call6_v4 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_v335 : Ref sig .tc := ⟨.hbm, 499, rfl⟩
abbrev main_v336 : Ref sig .tc := ⟨.hbm, 500, rfl⟩

abbrev nD : Nat := 1
abbrev τ : Topo := Topo.v7x

variable {F : FTy → Type} [FloatOps F]
-- ==== Kernel2.lean ====
abbrev S2x4096x3 : Shape := ⟨3, ![2, 4096, 3]⟩
abbrev S2x3x4096 : Shape := ⟨3, ![2, 3, 4096]⟩
abbrev S2x3x8x512 : Shape := ⟨4, ![2, 3, 8, 512]⟩
abbrev S2x8x256 : Shape := ⟨3, ![2, 8, 256]⟩
abbrev S2x3x8x256 : Shape := ⟨4, ![2, 3, 8, 256]⟩
abbrev S2x8x128 : Shape := ⟨3, ![2, 8, 128]⟩
abbrev S2x3x8x128 : Shape := ⟨4, ![2, 3, 8, 128]⟩
abbrev S2x1x8x512 : Shape := ⟨4, ![2, 1, 8, 512]⟩
abbrev S2x8x512 : Shape := ⟨3, ![2, 8, 512]⟩
abbrev S2x1x1 : Shape := ⟨3, ![2, 1, 1]⟩
abbrev S2x8 : Shape := ⟨2, ![2, 8]⟩
abbrev S2x8x1 : Shape := ⟨3, ![2, 8, 1]⟩
abbrev S2x1 : Shape := ⟨2, ![2, 1]⟩
abbrev S2x1x8x256 : Shape := ⟨4, ![2, 1, 8, 256]⟩
abbrev S2x1x8x128 : Shape := ⟨4, ![2, 1, 8, 128]⟩
abbrev S2x2048 : Shape := ⟨2, ![2, 2048]⟩
abbrev S2x3x2048 : Shape := ⟨3, ![2, 3, 2048]⟩
abbrev S2x1024 : Shape := ⟨2, ![2, 1024]⟩
abbrev S2x3x1024 : Shape := ⟨3, ![2, 3, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2x4096x3, .f32⟩
  | .hbm, ⟨1, _⟩ => ⟨S2x3x4096, .f32⟩
  | .hbm, ⟨2, _⟩ => ⟨S2x3x8x512, .f32⟩
  | .hbm, ⟨3, _⟩ => ⟨S2x8x256, .i32⟩
  | .hbm, ⟨4, _⟩ => ⟨S2x3x8x256, .f32⟩
  | .hbm, ⟨5, _⟩ => ⟨S2x8x128, .i32⟩
  | .hbm, ⟨6, _⟩ => ⟨S2x3x8x128, .f32⟩
  | .hbm, ⟨7, _⟩ => ⟨S2x2048, .i32⟩
  | .hbm, ⟨8, _⟩ => ⟨S2x3x2048, .f32⟩
  | .hbm, ⟨9, _⟩ => ⟨S2x1024, .i32⟩
  | .hbm, ⟨10, _⟩ => ⟨S2x3x1024, .f32⟩
  | .local _ .vmem, ⟨0, _⟩ => ⟨S2x3x8x512, .f32⟩
  | .local _ .vmem, ⟨1, _⟩ => ⟨S2x8x256, .i32⟩
  | .local _ .vmem, ⟨2, _⟩ => ⟨S2x3x8x256, .f32⟩
  | .local _ .vmem, ⟨3, _⟩ => ⟨S2x8x128, .i32⟩
  | .local _ .vmem, ⟨4, _⟩ => ⟨S2x3x8x128, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c2047_i32 : BitVec 32 := 2047#32
  let v35 : BitVec 32 := Scalar.addi c1_i32 c2047_i32
  let c1_i32_13 : BitVec 32 := 1#32
  ⟨c1_i32, v35, c1_i32_13⟩
@[reducible] def k0_t2_loop : Scf.Loop 32 :=
  let c1_i32_37 : BitVec 32 := 1#32
  let c1023_i32 : BitVec 32 := 1023#32
  let v76 : BitVec 32 := Scalar.addi c1_i32_37 c1023_i32
  let c1_i32_38 : BitVec 32 := 1#32
  ⟨c1_i32_37, v76, c1_i32_38⟩
abbrev stage0_0 : Fin 1 → Memref sig .tc .vmem S2x3x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference2Ideal.lean ====
abbrev S2x4096x3 : Shape := ⟨3, ![2, 4096, 3]⟩
abbrev S_ : Shape := ⟨0, ![]⟩
abbrev S2x2048 : Shape := ⟨2, ![2, 2048]⟩
abbrev S2x4096 : Shape := ⟨2, ![2, 4096]⟩
abbrev S2x1 : Shape := ⟨2, ![2, 1]⟩
abbrev S2x1x1 : Shape := ⟨3, ![2, 1, 1]⟩
abbrev S2x1x3 : Shape := ⟨3, ![2, 1, 3]⟩
abbrev S2 : Shape := ⟨1, ![2]⟩
abbrev S2x2048x1 : Shape := ⟨3, ![2, 2048, 1]⟩
abbrev S2x2048x3 : Shape := ⟨3, ![2, 2048, 3]⟩
abbrev S2x1024 : Shape := ⟨2, ![2, 1024]⟩
abbrev S2x1024x1 : Shape := ⟨3, ![2, 1024, 1]⟩
abbrev S2x1024x3 : Shape := ⟨3, ![2, 1024, 3]⟩
abbrev S2x3x2048 : Shape := ⟨3, ![2, 3, 2048]⟩
abbrev S2x3x1024 : Shape := ⟨3, ![2, 3, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S_, .i32⟩
  | .hbm, ⟨2, _⟩ => ⟨S2x2048, .i32⟩
  | .hbm, ⟨3, _⟩ => ⟨S_, .f32⟩
  | .hbm, ⟨4, _⟩ => ⟨S2x4096, .f32⟩
  | .hbm, ⟨5, _⟩ => ⟨S_, .i32⟩
  | .hbm, ⟨6, _⟩ => ⟨S2x1, .i32⟩
  | .hbm, ⟨7, _⟩ => ⟨S_, .i32⟩
  | .hbm, ⟨8, _⟩ => ⟨S_, .i32⟩
  | .hbm, ⟨9, _⟩ => ⟨S2x4096x3, .f32⟩
  | .hbm, ⟨10, _⟩ => ⟨S_, .i32⟩
  | .hbm, ⟨11, _⟩ => ⟨S_, .i32⟩
  | .hbm, ⟨12, _⟩ => ⟨S2x2048, .i32⟩
  | .hbm, ⟨13, _⟩ => ⟨S2x4096, .f32⟩
  | .hbm, ⟨14, _⟩ => ⟨S2x1, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2x1, .i32⟩
  | .hbm, ⟨21, _⟩ => ⟨S2x1, .i1⟩
  | .hbm, ⟨22, _⟩ => ⟨S_, .i32⟩
  | .hbm, ⟨23, _⟩ => ⟨S2x1, .i32⟩
  | .hbm, ⟨24, _⟩ => ⟨S2x1, .i32⟩
  | .hbm, ⟨25, _⟩ => ⟨S2x1, .i32⟩
  | .hbm, ⟨26, _⟩ => ⟨S2x1x1, .i32⟩
  | .hbm, ⟨27, _⟩ => ⟨S2x1x3, .f32⟩
  | .hbm, ⟨28, _⟩ => ⟨S2x4096x3, .f32⟩
  | .hbm, ⟨29, _⟩ => ⟨S2x4096x3, .f32⟩
  | .hbm, ⟨30, _⟩ => ⟨S2x4096x3, .f32⟩
  | .hbm, ⟨31, _⟩ => ⟨S_, .f32⟩
  | .hbm, ⟨32, _⟩ => ⟨S2x4096, .f32⟩
  | .hbm, ⟨33, _⟩ => ⟨S2x4096, .f32⟩
  | .hbm, ⟨34, _⟩ => ⟨S2x4096, .i32⟩
  | .hbm, ⟨35, _⟩ => ⟨S_, .f32⟩
  | .hbm, ⟨36, _⟩ => ⟨S_, .i32⟩
  | .hbm, ⟨37, _⟩ => ⟨S2, .f32⟩
  | .hbm, ⟨38, _⟩ => ⟨S2, .i32⟩
  | .hbm, ⟨39, _⟩ => ⟨S2x1, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S2x2048, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S2x2048, .i32⟩
  | .hbm, ⟨52, _⟩ => ⟨S2x2048, .i1⟩
  | .hbm, ⟨53, _⟩ => ⟨S_, .i32⟩
  | .hbm, ⟨54, _⟩ => ⟨S2x2048, .i32⟩
  | .hbm, ⟨55, _⟩ => ⟨S2x2048, .i32⟩
  | .hbm, ⟨56, _⟩ => ⟨S2x2048, .i32⟩
  | .hbm, ⟨57, _⟩ => ⟨S2x2048x1, .i32⟩
  | .hbm, ⟨58, _⟩ => ⟨S2x2048x3, .f32⟩
  | .hbm, ⟨59, _⟩ => ⟨S_, .i32⟩
  | .hbm, ⟨60, _⟩ => ⟨S2x1024, .i32⟩
  | .hbm, ⟨61, _⟩ => ⟨S_, .f32⟩
  | .hbm, ⟨62, _⟩ => ⟨S2x2048, .f32⟩
  | .hbm, ⟨63, _⟩ => ⟨S_, .i32⟩
  | .hbm, ⟨64, _⟩ => ⟨S2x1, .i32⟩
  | .hbm, ⟨65, _⟩ => ⟨S_, .i32⟩
  | .hbm, ⟨66, _⟩ => ⟨S_, .i32⟩
  | .hbm, ⟨67, _⟩ => ⟨S2x2048x3, .f32⟩
  | .hbm, ⟨68, _⟩ => ⟨S_, .i32⟩
  | .hbm, ⟨69, _⟩ => ⟨S_, .i32⟩
  | .hbm, ⟨70, _⟩ => ⟨S2x1024, .i32⟩
  | .hbm, ⟨71, _⟩ => ⟨S2x2048, .f32⟩
  | .hbm, ⟨72, _⟩ => ⟨S2x1, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S2x1, .i32⟩
  | .hbm, ⟨79, _⟩ => ⟨S2x1, .i1⟩
  | .hbm, ⟨80, _⟩ => ⟨S_, .i32⟩
  | .hbm, ⟨81, _⟩ => ⟨S2x1, .i32⟩
  | .hbm, ⟨82, _⟩ => ⟨S2x1, .i32⟩
  | .hbm, ⟨83, _⟩ => ⟨S2x1, .i32⟩
  | .hbm, ⟨84, _⟩ => ⟨S2x1x1, .i32⟩
  | .hbm, ⟨85, _⟩ => ⟨S2x1x3, .f32⟩
  | .hbm, ⟨86, _⟩ => ⟨S2x2048x3, .f32⟩
  | .hbm, ⟨87, _⟩ => ⟨S2x2048x3, .f32⟩
  | .hbm, ⟨88, _⟩ => ⟨S2x2048x3, .f32⟩
  | .hbm, ⟨89, _⟩ => ⟨S_, .f32⟩
  | .hbm, ⟨90, _⟩ => ⟨S2x2048, .f32⟩
  | .hbm, ⟨91, _⟩ => ⟨S2x2048, .f32⟩
  | .hbm, ⟨92, _⟩ => ⟨S2x2048, .i32⟩
  | .hbm, ⟨93, _⟩ => ⟨S_, .f32⟩
  | .hbm, ⟨94, _⟩ => ⟨S_, .i32⟩
  | .hbm, ⟨95, _⟩ => ⟨S2, .f32⟩
  | .hbm, ⟨96, _⟩ => ⟨S2, .i32⟩
  | .hbm, ⟨97, _⟩ => ⟨S2x1, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S2x1024, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S2x1024, .i32⟩
  | .hbm, ⟨110, _⟩ => ⟨S2x1024, .i1⟩
  | .hbm, ⟨111, _⟩ => ⟨S_, .i32⟩
  | .hbm, ⟨112, _⟩ => ⟨S2x1024, .i32⟩
  | .hbm, ⟨113, _⟩ => ⟨S2x1024, .i32⟩
  | .hbm, ⟨114, _⟩ => ⟨S2x1024, .i32⟩
  | .hbm, ⟨115, _⟩ => ⟨S2x1024x1, .i32⟩
  | .hbm, ⟨116, _⟩ => ⟨S2x1024x3, .f32⟩
  | .hbm, ⟨117, _⟩ => ⟨S2x3x2048, .f32⟩
  | .hbm, ⟨118, _⟩ => ⟨S2x3x1024, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_17 : Ref sig .tc := ⟨.hbm, 15, rfl⟩
abbrev main_while0c_v24 : Ref sig .tc := ⟨.hbm, 16, rfl⟩
abbrev main_while0b_c_17 : Ref sig .tc := ⟨.hbm, 17, rfl⟩
abbrev main_while0b_v24 : Ref sig .tc := ⟨.hbm, 18, rfl⟩
abbrev main_while0b_c_18 : Ref sig .tc := ⟨.hbm, 19, rfl⟩
abbrev main_while0b_v25 : Ref sig .tc := ⟨.hbm, 20, rfl⟩
abbrev main_while0b_v26 : Ref sig .tc := ⟨.hbm, 21, rfl⟩
abbrev main_while0b_c_19 : Ref sig .tc := ⟨.hbm, 22, rfl⟩
abbrev main_while0b_v27 : Ref sig .tc := ⟨.hbm, 23, rfl⟩
abbrev main_while0b_v28 : Ref sig .tc := ⟨.hbm, 24, rfl⟩
abbrev main_while0b_v29 : Ref sig .tc := ⟨.hbm, 25, rfl⟩
abbrev main_while0b_v30 : Ref sig .tc := ⟨.hbm, 26, rfl⟩
abbrev main_while0b_v31 : Ref sig .tc := ⟨.hbm, 27, rfl⟩
abbrev main_while0b_v32 : Ref sig .tc := ⟨.hbm, 28, rfl⟩
abbrev main_while0b_v33 : Ref sig .tc := ⟨.hbm, 29, rfl⟩
abbrev main_while0b_v34 : Ref sig .tc := ⟨.hbm, 30, rfl⟩
abbrev main_while0b_cst_20 : Ref sig .tc := ⟨.hbm, 31, rfl⟩
abbrev main_while0b_v35 : Ref sig .tc := ⟨.hbm, 32, rfl⟩
abbrev main_while0b_v36 : Ref sig .tc := ⟨.hbm, 33, rfl⟩
abbrev main_while0b_call0_v0 : Ref sig .tc := ⟨.hbm, 34, rfl⟩
abbrev main_while0b_call0_cst : Ref sig .tc := ⟨.hbm, 35, rfl⟩
abbrev main_while0b_call0_c : Ref sig .tc := ⟨.hbm, 36, rfl⟩
abbrev main_while0b_call0_v1_0 : Ref sig .tc := ⟨.hbm, 37, rfl⟩
abbrev main_while0b_v37 : Ref sig .tc := ⟨.hbm, 38, rfl⟩
abbrev main_while0b_v38 : Ref sig .tc := ⟨.hbm, 39, rfl⟩
abbrev main_while0b_c_21 : Ref sig .tc := ⟨.hbm, 40, rfl⟩
abbrev main_while0b_v39 : Ref sig .tc := ⟨.hbm, 41, rfl⟩
abbrev main_while0b_v40 : Ref sig .tc := ⟨.hbm, 42, rfl⟩
abbrev main_while0b_c_22 : Ref sig .tc := ⟨.hbm, 43, rfl⟩
abbrev main_while0b_v41 : Ref sig .tc := ⟨.hbm, 44, rfl⟩
abbrev main_while0b_v42 : Ref sig .tc := ⟨.hbm, 45, rfl⟩
abbrev main_while0b_c_23 : Ref sig .tc := ⟨.hbm, 46, rfl⟩
abbrev main_while0b_v43 : Ref sig .tc := ⟨.hbm, 47, rfl⟩
abbrev main_while0b_c_24 : Ref sig .tc := ⟨.hbm, 48, rfl⟩
abbrev main_while0b_v44 : Ref sig .tc := ⟨.hbm, 49, rfl⟩
abbrev main_c_3 : Ref sig .tc := ⟨.hbm, 50, rfl⟩
abbrev main_v4 : Ref sig .tc := ⟨.hbm, 51, rfl⟩
abbrev main_v5 : Ref sig .tc := ⟨.hbm, 52, rfl⟩
abbrev main_c_4 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_c_5 : Ref sig .tc := ⟨.hbm, 59, rfl⟩
abbrev main_v11 : Ref sig .tc := ⟨.hbm, 60, rfl⟩
abbrev main_cst_6 : Ref sig .tc := ⟨.hbm, 61, rfl⟩
abbrev main_v12 : Ref sig .tc := ⟨.hbm, 62, rfl⟩
abbrev main_c_7 : Ref sig .tc := ⟨.hbm, 63, rfl⟩
abbrev main_v13 : Ref sig .tc := ⟨.hbm, 64, rfl⟩
abbrev main_c_8 : Ref sig .tc := ⟨.hbm, 65, rfl⟩
abbrev main_c_9 : Ref sig .tc := ⟨.hbm, 66, rfl⟩
abbrev main_v14_0 : Ref sig .tc := ⟨.hbm, 67, rfl⟩
abbrev main_v14_1 : Ref sig .tc := ⟨.hbm, 68, rfl⟩
abbrev main_v14_2 : Ref sig .tc := ⟨.hbm, 69, rfl⟩
abbrev main_v14_3 : Ref sig .tc := ⟨.hbm, 70, rfl⟩
abbrev main_v14_4 : Ref sig .tc := ⟨.hbm, 71, rfl⟩
abbrev main_v14_5 : Ref sig .tc := ⟨.hbm, 72, rfl⟩
abbrev main_while1c_c_17 : Ref sig .tc := ⟨.hbm, 73, rfl⟩
abbrev main_while1c_v24 : Ref sig .tc := ⟨.hbm, 74, rfl⟩
abbrev main_while1b_c_17 : Ref sig .tc := ⟨.hbm, 75, rfl⟩
abbrev main_while1b_v24 : Ref sig .tc := ⟨.hbm, 76, rfl⟩
abbrev main_while1b_c_18 : Ref sig .tc := ⟨.hbm, 77, rfl⟩
abbrev main_while1b_v25 : Ref sig .tc := ⟨.hbm, 78, rfl⟩
abbrev main_while1b_v26 : Ref sig .tc := ⟨.hbm, 79, rfl⟩
abbrev main_while1b_c_19 : Ref sig .tc := ⟨.hbm, 80, rfl⟩
abbrev main_while1b_v27 : Ref sig .tc := ⟨.hbm, 81, rfl⟩
abbrev main_while1b_v28 : Ref sig .tc := ⟨.hbm, 82, rfl⟩
abbrev main_while1b_v29 : Ref sig .tc := ⟨.hbm, 83, rfl⟩
abbrev main_while1b_v30 : Ref sig .tc := ⟨.hbm, 84, rfl⟩
abbrev main_while1b_v31 : Ref sig .tc := ⟨.hbm, 85, rfl⟩
abbrev main_while1b_v32 : Ref sig .tc := ⟨.hbm, 86, rfl⟩
abbrev main_while1b_v33 : Ref sig .tc := ⟨.hbm, 87, rfl⟩
abbrev main_while1b_v34 : Ref sig .tc := ⟨.hbm, 88, rfl⟩
abbrev main_while1b_cst_20 : Ref sig .tc := ⟨.hbm, 89, rfl⟩
abbrev main_while1b_v35 : Ref sig .tc := ⟨.hbm, 90, rfl⟩
abbrev main_while1b_v36 : Ref sig .tc := ⟨.hbm, 91, rfl⟩
abbrev main_while1b_call1_v0 : Ref sig .tc := ⟨.hbm, 92, rfl⟩
abbrev main_while1b_call1_cst : Ref sig .tc := ⟨.hbm, 93, rfl⟩
abbrev main_while1b_call1_c : Ref sig .tc := ⟨.hbm, 94, rfl⟩
abbrev main_while1b_call1_v1_0 : Ref sig .tc := ⟨.hbm, 95, rfl⟩
abbrev main_while1b_v37 : Ref sig .tc := ⟨.hbm, 96, rfl⟩
abbrev main_while1b_v38 : Ref sig .tc := ⟨.hbm, 97, rfl⟩
abbrev main_while1b_c_21 : Ref sig .tc := ⟨.hbm, 98, rfl⟩
abbrev main_while1b_v39 : Ref sig .tc := ⟨.hbm, 99, rfl⟩
abbrev main_while1b_v40 : Ref sig .tc := ⟨.hbm, 100, rfl⟩
abbrev main_while1b_c_22 : Ref sig .tc := ⟨.hbm, 101, rfl⟩
abbrev main_while1b_v41 : Ref sig .tc := ⟨.hbm, 102, rfl⟩
abbrev main_while1b_v42 : Ref sig .tc := ⟨.hbm, 103, rfl⟩
abbrev main_while1b_c_23 : Ref sig .tc := ⟨.hbm, 104, rfl⟩
abbrev main_while1b_v43 : Ref sig .tc := ⟨.hbm, 105, rfl⟩
abbrev main_while1b_c_24 : Ref sig .tc := ⟨.hbm, 106, rfl⟩
abbrev main_while1b_v44 : Ref sig .tc := ⟨.hbm, 107, rfl⟩
abbrev main_c_10 : Ref sig .tc := ⟨.hbm, 108, rfl⟩
abbrev main_v15 : Ref sig .tc := ⟨.hbm, 109, rfl⟩
abbrev main_v16 : Ref sig .tc := ⟨.hbm, 110, rfl⟩
abbrev main_c_11 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩

abbrev nD : Nat := 1
abbrev τ : Topo := Topo.v7x

variable {F : FTy → Type} [FloatOps F]

abbrev main_while0_count : Scf.Loop 32 := ⟨0#32, 2047#32, 1#32⟩

abbrev main_while1_count : Scf.Loop 32 := ⟨0#32, 1023#32, 1#32⟩
-- ==== Proof.Select.lean ====
/-
  The k entries of least key of a row, taken one at a time: the least key, its first position, that entry struck out
  with +infinity, and again. Taken k at a time by a stable sort, they are the same entries in the same order.
-/
module

public import Idealize.ShloMosaic.Lib.SortPrefix
public import Idealize.ShloMosaic.Lib.SortNet.Extract
public import Mathlib.Data.EReal.Operations

@[expose] public section

noncomputable section

namespace Cert.Select

open Idealize.ShloMosaic

variable {n : ℕ}

/-- `s` is the first of the positions whose entry is least. -/
def IsFirstMin (d : Fin n → EReal) (s : Fin n) : Prop := (∀ m, d s ≤ d m) ∧ ∀ m, m < s → d s < d m

theorem exists_isFirstMin [NeZero n] (d : Fin n → EReal) : ∃ s, IsFirstMin d s := by
  classical
  obtain ⟨s0, -, h0'⟩ := Finset.exists_min_image Finset.univ d ⟨0, Finset.mem_univ _⟩
  have h0 : ∀ m, d s0 ≤ d m := fun m => h0' m (Finset.mem_univ _)
  let S : Finset (Fin n) := Finset.univ.filter fun m => d m = d s0
  have hS : S.Nonempty := ⟨s0, by simp [S]⟩
  have hm : d (S.min' hS) = d s0 := (Finset.mem_filter.mp (S.min'_mem hS)).2
  refine ⟨S.min' hS, fun m => hm ▸ h0 m, fun m hlt => ?_⟩
  rw [hm]
  refine lt_of_le_of_ne (h0 m) fun e => ?_
  have := S.min'_le m (by simp [S, e])
  exact absurd hlt (not_lt.mpr this)

/-- There is only one first least position. -/
theorem IsFirstMin.unique {d : Fin n → EReal} {s s' : Fin n} (h : IsFirstMin d s) (h' : IsFirstMin d s') : s = s' := by
  rcases lt_trichotomy s s' with hlt | e | hlt
  · exact absurd (h'.2 _ hlt) (not_lt.mpr (h.1 _))
  · exact e
  · exact absurd (h.2 _ hlt) (not_lt.mpr (h'.1 _))

/-- The first position whose entry is least. -/
def firstMin [NeZero n] (d : Fin n → EReal) : Fin n := Classical.choose (exists_isFirstMin d)

theorem firstMin_spec [NeZero n] (d : Fin n → EReal) : IsFirstMin d (firstMin d) := Classical.choose_spec (exists_isFirstMin d)

variable [NeZero n]

/-- The row with the entries of the first `t` rounds struck out. -/
def left (d : Fin n → EReal) : ℕ → Fin n → EReal
  | 0 => d
  | t + 1 => fun m => if m = firstMin (left d t) then ⊤ else left d t m

/-- The position taken in round `t`. -/
def pick (d : Fin n → EReal) (t : ℕ) : Fin n := firstMin (left d t)

/-- One for the positions taken in the first `t` rounds, zero elsewhere. -/
def taken (d : Fin n → EReal) : ℕ → Fin n → EReal
  | 0 => fun _ => 0
  | t + 1 => fun m => max (taken d t m) (if m = firstMin (left d t) then 1 else 0)

theorem left_of_not_picked (d : Fin n → EReal) (t : ℕ) (m : Fin n) (h : ∀ j, j < t → pick d j ≠ m) : left d t m = d m := by
  induction t with
  | zero => rfl
  | succ t ih =>
    have hne : m ≠ firstMin (left d t) := fun e => h t (Nat.lt_succ_self t) e.symm
    simp only [left, if_neg hne]
    exact ih fun j hj => h j (Nat.lt_succ_of_lt hj)

theorem left_of_picked (d : Fin n → EReal) (t j : ℕ) (hj : j < t) : left d t (pick d j) = ⊤ := by
  induction t with
  | zero => exact absurd hj (Nat.not_lt_zero _)
  | succ t ih =>
    simp only [left]
    split
    · rfl
    · rename_i hne
      rcases Nat.lt_succ_iff_lt_or_eq.mp hj with h | h
      · exact ih h
      · subst h; exact absurd rfl hne

theorem taken_eq (d : Fin n → EReal) (t : ℕ) (m : Fin n) : taken d t m = if ∃ j, j < t ∧ pick d j = m then 1 else 0 := by
  classical
  induction t with
  | zero => simp [taken]
  | succ t ih =>
    simp only [taken, ih]
    by_cases h : ∃ j, j < t ∧ pick d j = m
    · have h' : ∃ j, j < t + 1 ∧ pick d j = m := by obtain ⟨j, hj, e⟩ := h; exact ⟨j, by omega, e⟩
      rw [if_pos h, if_pos h']; split <;> simp
    · rw [if_neg h]
      by_cases e : m = firstMin (left d t)
      · rw [if_pos e, if_pos ⟨t, by omega, e.symm⟩]; simp
      · rw [if_neg e, if_neg]
        · simp
        · rintro ⟨j, hj, ej⟩
          rcases Nat.lt_succ_iff_lt_or_eq.mp hj with hl | hl
          · exact h ⟨j, hl, ej⟩
          · subst hl; exact e ej.symm

/-- In a row without +infinity a position is never taken twice. -/
theorem pick_ne (d : Fin n → EReal) (hd : ∀ m, d m < ⊤) (t : ℕ) (ht : t < n) (j : ℕ) (hj : j < t) : pick d j ≠ pick d t := by
  classical
  intro e
  have htop : left d t (pick d t) = ⊤ := e ▸ left_of_picked d t j hj
  obtain ⟨m, hm⟩ : ∃ m : Fin n, ∀ j, j < t → pick d j ≠ m := by
    by_contra hcon
    push Not at hcon
    have hsub : (Finset.univ : Finset (Fin n)) ⊆ (Finset.range t).image (pick d) := fun m _ => by
      obtain ⟨j, hj, e⟩ := hcon m
      exact Finset.mem_image.mpr ⟨j, Finset.mem_range.mpr hj, e⟩
    have := (Finset.card_le_card hsub).trans Finset.card_image_le
    simp at this; omega
  have hle := (firstMin_spec (left d t)).1 m
  rw [left_of_not_picked d t m hm] at hle
  have : left d t (firstMin (left d t)) = ⊤ := htop
  rw [this] at hle
  exact absurd (hd m) (not_lt.mpr hle)

theorem pick_injective (d : Fin n → EReal) (hd : ∀ m, d m < ⊤) (k : ℕ) (hk : k ≤ n) :
    Function.Injective fun t : Fin k => pick d t := by
  intro a b e
  rcases lt_trichotomy a b with h | h | h
  · exact absurd e (pick_ne d hd b (by omega) a h)
  · exact h
  · exact absurd e.symm (pick_ne d hd a (by omega) b h)

/-- Before: a smaller key, or the same key at a smaller position. -/
def before (d : Fin n → EReal) (a b : Fin n) : Bool := decide (d a < d b) || (decide (d a = d b) && decide (a < b))

omit [NeZero n] in
theorem strict_before (d : Fin n → EReal) : StrictTotalBefore (before d) :=
  StrictTotalBefore.of_key_then_position (fun a b : EReal => decide (a < b)) d (by simp)
    (fun a b c h h' => by simp only [decide_eq_true_eq] at h h' ⊢; exact lt_trans h h')
    (fun a b => by simpa using lt_trichotomy a b)

/-- No position left at round `t` is before the one taken then. -/
theorem not_before_pick (d : Fin n → EReal) (t : ℕ) (m : Fin n) (hm : ∀ j, j < t → pick d j ≠ m)
    (hp : ∀ j, j < t → pick d j ≠ pick d t) : before d m (pick d t) = false := by
  have hs := firstMin_spec (left d t)
  have e1 : left d t m = d m := left_of_not_picked d t m hm
  have e2 : left d t (firstMin (left d t)) = d (pick d t) := left_of_not_picked d t _ hp
  have h1 := hs.1 m
  have h2 := hs.2 m
  rw [e1, e2] at h1 h2
  simp only [before, Bool.or_eq_false_iff, Bool.and_eq_false_iff, decide_eq_false_iff_not]
  refine ⟨not_lt.mpr h1, ?_⟩
  by_cases hlt : m < pick d t
  · exact Or.inl fun e => absurd (h2 hlt) (by rw [e]; exact lt_irrefl _)
  · exact Or.inr hlt

omit [NeZero n] in
/-- A stable sort of positions in order by the keys alone breaks its ties by position. -/
theorem stableSort_key (d : Fin n → EReal) (l : List (Fin n)) (hl : l.Pairwise (· < ·)) :
    stableSort (fun a b => decide (d a < d b)) l = stableSort (before d) l := by
  induction l with
  | nil => rfl
  | cons a l ih =>
    rw [List.pairwise_cons] at hl
    unfold stableSort
    rw [ih hl.2]
    refine insertBefore_congr _ _ a _ fun b hb => ?_
    have hab : a < b := hl.1 b ((perm_stableSort (before d) l).mem_iff.mp hb)
    simp [before, not_lt.mpr hab.le]

omit [NeZero n] in
theorem sortedFrom_key (d : Fin n → EReal) (i : Fin n) :
    sortedFrom (fun a b => decide (d a < d b)) i = sortedFrom (before d) i := by
  have h : sortPositions n (fun a b => decide (d a < d b)) = sortPositions n (before d) :=
    stableSort_key d _ (List.pairwise_lt_finRange n)
  unfold sortedFrom
  simp only [h, List.get_eq_getElem, Fin.val_cast]

/-- The `t`-th position of the stable sort by key is the one taken in round `t`. -/
theorem sortedFrom_eq_pick (d : Fin n → EReal) (hd : ∀ m, d m < ⊤) (k : ℕ) (hk : k ≤ n) (t : Fin k) :
    sortedFrom (fun a b => decide (d a < d b)) (t.castLE hk) = pick d t := by
  rw [sortedFrom_key]
  have hne : ∀ (a b : Fin k), a < b → pick d a ≠ pick d b := fun a b h => pick_ne d hd b (by omega) a h
  refine (strict_before d).sortedFrom_eq_of_prefix hk (fun t : Fin k => pick d t) (pick_injective d hd k hk) ?_ ?_ t
  · intro i j hij
    exact not_before_pick d i _ (fun a ha e => pick_ne d hd j (by omega) a (lt_trans ha hij) e)
      fun a ha => pick_ne d hd i (by omega) a ha
  · intro i p hp
    exact not_before_pick d i p (fun a ha e => hp ⟨a, lt_trans ha i.isLt⟩ e) fun a ha => pick_ne d hd i (by omega) a ha

/-- A sum weighted by the positions taken is the sum over the rounds. -/
theorem sum_taken (d : Fin n → EReal) (hd : ∀ m, d m < ⊤) (k : ℕ) (hk : k ≤ n) (f : Fin n → EReal) (g : EReal → Fin n → EReal)
    (h0 : ∀ m, g 0 m = 0) (h1 : ∀ m, g 1 m = f m) :
    ∑ m, g (taken d k m) m = ∑ t : Fin k, f (pick d t) := by
  classical
  have hinj := pick_injective d hd k hk
  rw [← Finset.sum_image (s := Finset.univ) (g := fun t : Fin k => pick d t) (f := f) (fun a _ b _ e => hinj e)]
  rw [← Finset.sum_subset (Finset.subset_univ (Finset.univ.image fun t : Fin k => pick d t))]
  · refine Finset.sum_congr rfl fun m hm => ?_
    obtain ⟨t, -, e⟩ := Finset.mem_image.mp hm
    rw [taken_eq, if_pos ⟨t, t.isLt, e⟩, h1]
  · intro m _ hm
    rw [taken_eq, if_neg, h0]
    rintro ⟨j, hj, e⟩
    exact hm (Finset.mem_image.mpr ⟨⟨j, hj⟩, Finset.mem_univ _, e⟩)

/-! ## One round in the kernel's words -/

/-- The least entry, as a fold from +infinity. -/
theorem fold_min_eq (d : Fin n → EReal) : Finset.fold min ⊤ d Finset.univ = d (firstMin d) := by
  refine le_antisymm ?_ ?_
  · exact Finset.fold_min_le _ |>.mpr (Or.inr ⟨firstMin d, Finset.mem_univ _, le_refl _⟩)
  · exact Finset.le_fold_min _ |>.mpr ⟨le_top, fun m _ => (firstMin_spec d).1 m⟩

theorem toInt_ofNat (x : ℕ) (hx : x < 2147483648) : (BitVec.ofNat 32 x).toInt = (x : ℤ) := by
  rw [BitVec.toInt_eq_toNat_cond, BitVec.toNat_ofNat]
  split <;> omega

/-- The word of the first position of the least entry: the least of the words of the positions that hold it. -/
theorem fold_minsi_eq (d : Fin n → EReal) (hn : n < 2147483647) :
    Finset.fold IntOp.minsi (2147483647#32 : BitVec 32)
      (fun x => if d x = d (firstMin d) then BitVec.ofNat 32 (x : ℕ) else BitVec.ofNat 32 n) Finset.univ
      = BitVec.ofNat 32 (firstMin d : ℕ) := by
  apply BitVec.eq_of_toInt_eq
  have hom := Finset.fold_hom (op := IntOp.minsi (w := 32)) (op' := (min : ℤ → ℤ → ℤ)) (s := (Finset.univ : Finset (Fin n)))
    (f := fun x => if d x = d (firstMin d) then BitVec.ofNat 32 (x : ℕ) else BitVec.ofNat 32 n)
    (b := 2147483647#32) (m := BitVec.toInt) (fun a b => SortNet.toInt_minsi a b)
  have hs : (BitVec.ofNat 32 (firstMin d : ℕ)).toInt = (firstMin d : ℕ) := toInt_ofNat _ (by omega)
  have hN : (BitVec.ofNat 32 n).toInt = n := toInt_ofNat _ (by omega)
  rw [← hom, hs]
  refine le_antisymm ?_ ?_
  · refine Finset.fold_min_le _ |>.mpr (Or.inr ⟨firstMin d, Finset.mem_univ _, ?_⟩)
    rw [if_pos rfl, hs]
  · refine Finset.le_fold_min _ |>.mpr ⟨?_, fun m _ => ?_⟩
    · have : (2147483647#32 : BitVec 32).toInt = 2147483647 := by decide
      refine le_trans ?_ this.ge
      omega
    · split
      · rename_i e
        have hm : (BitVec.ofNat 32 (m : ℕ)).toInt = (m : ℕ) := toInt_ofNat _ (by omega)
        rw [hm]
        have : firstMin d ≤ m := by
          by_contra hlt
          exact absurd ((firstMin_spec d).2 m (not_le.mp hlt)) (by rw [e]; exact lt_irrefl _)
        exact_mod_cast this
      · rw [hN]; omega

/-- The compare of a position's word with the word of the position taken. -/
theorem cmpi_eq_firstMin (hn : n < 2147483647) (m s : Fin n) :
    IntOp.cmpi CmpIPredicate.eq (BitVec.ofNat 32 (m : ℕ)) (BitVec.ofNat 32 (s : ℕ)) = if m = s then 1#1 else 0#1 := by
  have h : (BitVec.ofNat 32 (m : ℕ) = BitVec.ofNat 32 (s : ℕ)) ↔ m = s := by
    constructor
    · intro e
      have := congrArg BitVec.toNat e
      simp only [BitVec.toNat_ofNat] at this
      exact Fin.ext (by omega)
    · rintro rfl; rfl
  have hc : IntOp.cmpi CmpIPredicate.eq (BitVec.ofNat 32 (m : ℕ)) (BitVec.ofNat 32 (s : ℕ))
      = BitVec.ofBool (BitVec.ofNat 32 (m : ℕ) == BitVec.ofNat 32 (s : ℕ)) := rfl
  rw [hc]
  by_cases e : m = s
  · subst e; simp
  · rw [if_neg e, beq_eq_false_iff_ne.mpr (mt h.mp e)]; rfl

end Cert.Select

end
-- ==== Proof.Layers.lean ====
/-
  The layers of the network on rows of extended reals: the mean over the nearest neighbours of the edge terms, as the
  reference takes it edge by edge and as the kernel takes it from one weighted sum, and the interpolation from the three
  nearest. The two forms of each are equal where the entries are real numbers.
-/
module

public import proofs.«01_k».proof.Proof.Select
public import Idealize.ShloMosaic.PureOps.Ideal.Laws
public import Mathlib.Data.EReal.Inv

@[expose] public section

noncomputable section

namespace Cert.Layers

open Idealize.ShloMosaic Cert.Select

/-! ## The constants' words -/

/-- The word of the constant two. -/
abbrev two : EReal := Ideal.ofBits .f32 0x40000000#32
/-- The word of the constant one sixteenth. -/
abbrev sixteenth : EReal := Ideal.ofBits .f32 0x3D800000#32
/-- The word of the constant sixteen. -/
abbrev sixteen : EReal := Ideal.ofBits .f32 0x41800000#32
/-- The word of the slope below zero. -/
abbrev slope : EReal := Ideal.ofBits .f32 0x3E4CCCCD#32
/-- The word of the small number added to a distance. -/
abbrev eps : EReal := Ideal.ofBits .f32 0x322BCC77#32

theorem two_eq : two = ((2 : ℝ) : EReal) := by
  simp [two, Ideal.ofBits, Ideal.ieee]; norm_num [← EReal.coe_mul]
theorem sixteenth_eq : sixteenth = ((1 / 16 : ℝ) : EReal) := by
  simp [sixteenth, Ideal.ofBits, Ideal.ieee]; norm_num [← EReal.coe_mul]
theorem sixteen_eq : sixteen = ((16 : ℝ) : EReal) := by
  simp [sixteen, Ideal.ofBits, Ideal.ieee]; norm_num [← EReal.coe_mul]
theorem one_eq : Ideal.ofBits .f32 0x3F800000#32 = ((1 : ℝ) : EReal) := by
  simp [Ideal.ofBits, Ideal.ieee]; norm_num [← EReal.coe_mul]
theorem slope_real : ∃ r : ℝ, slope = (r : EReal) := by
  simp [slope, Ideal.ofBits, Ideal.ieee]; exact ⟨_, by rw [← EReal.coe_mul]⟩
theorem eps_real : ∃ r : ℝ, 0 < r ∧ eps = (r : EReal) := by
  simp [eps, Ideal.ofBits, Ideal.ieee]; refine ⟨_, ?_, by rw [← EReal.coe_mul]⟩; norm_num

/-! ## Real numbers among the extended ones -/

/-- The value is a real number. -/
def IsReal (a : EReal) : Prop := ∃ r : ℝ, a = (r : EReal)

theorem isReal_coe (r : ℝ) : IsReal (r : EReal) := ⟨r, rfl⟩
theorem isReal_zero : IsReal 0 := ⟨0, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.max {a b : EReal} (ha : IsReal a) (hb : IsReal b) : IsReal (max a b) := by
  rcases max_choice a b with h | h <;> rw [h] <;> assumption
theorem IsReal.sum {ι : Type} (s : Finset ι) {f : ι → EReal} (hf : ∀ i ∈ s, IsReal (f i)) : IsReal (∑ i ∈ s, f i) := by
  classical
  induction s using Finset.induction_on with
  | empty => exact isReal_zero
  | insert a s ha ih =>
    rw [Finset.sum_insert ha]
    exact (hf a (Finset.mem_insert_self a s)).add (ih fun i hi => hf i (Finset.mem_insert_of_mem hi))
theorem IsReal.ite {p : Prop} [Decidable p] {a b : EReal} (ha : IsReal a) (hb : IsReal b) : IsReal (if p then a else b) := by
  split <;> assumption
theorem IsReal.lt_top {a : EReal} (ha : IsReal a) : a < ⊤ := by obtain ⟨r, rfl⟩ := ha; exact EReal.coe_lt_top r

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem isReal_div {a b : EReal} (ha : IsReal a) (hb : IsReal b) (h0 : b ≠ 0) : IsReal (Ideal.div a b) := by
  obtain ⟨r, rfl⟩ := ha; obtain ⟨s, rfl⟩ := hb
  exact ⟨r / s, div_coe r s (by exact_mod_cast h0)⟩

theorem div_zero_left (b : EReal) (h0 : b ≠ 0) : Ideal.div 0 b = 0 := by
  unfold Ideal.div; rw [if_neg h0, zero_mul]

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum over `a + b` terms in two parts. -/
theorem sum_split {M : Type} [AddCommMonoid M] (a b N : ℕ) (h : N = a + b) (f : Fin N → M) :
    ∑ k, f k = (∑ k : Fin a, f ⟨k, by omega⟩) + ∑ k : Fin b, f ⟨a + k, by omega⟩ := by
  subst h
  rw [Fin.sum_univ_add]
  rfl

/-! ## The pieces -/

/-- The leaky linear unit. -/
def leaky (v : EReal) : EReal := if 0 ≤ v then v else slope * v

theorem IsReal.leaky {v : EReal} (h : IsReal v) : IsReal (leaky v) := h.ite (IsReal.mul slope_real h)

/-- The squared distance of two points, by the square of the difference opened, not below zero. -/
def sqd (a b : Fin 3 → EReal) : EReal := max ((∑ i, a i * a i) + (∑ i, b i * b i) - two * ∑ i, a i * b i) 0

theorem isReal_two : IsReal two := ⟨2, two_eq⟩

theorem isReal_sqd {a b : Fin 3 → EReal} (ha : ∀ i, IsReal (a i)) (hb : ∀ i, IsReal (b i)) : IsReal (sqd a b) := by
  unfold sqd
  exact (((IsReal.sum _ fun i _ => (ha i).mul (ha i)).add (IsReal.sum _ fun i _ => (hb i).mul (hb i))).sub
    (isReal_two.mul (IsReal.sum _ fun i _ => (ha i).mul (hb i)))).max isReal_zero

variable {n c ca o : ℕ}

/-- The features of the edge from point `m` to point `q`: those of `m`, the difference of the points, its square. -/
def edge (x : Fin n → Fin c → EReal) (p : Fin n → Fin 3 → EReal) (q m : Fin n) (k : Fin ca) : EReal :=
  if h : k.val < c then x m ⟨k, h⟩
  else if h' : k.val - c < 3 then p q ⟨k.val - c, h'⟩ - p m ⟨k.val - c, h'⟩
  else ∑ i, (p q i - p m i) * (p q i - p m i)

/-- A convolution's value at point `q`: its own linear term and the mean of the linear terms of the edges from its
    sixteen nearest points. -/
def conv [NeZero n] (x : Fin n → Fin c → EReal) (p : Fin n → Fin 3 → EReal) (ws : Fin o → Fin c → EReal) (we : Fin o → Fin ca → EReal)
    (q : Fin n) (j : Fin o) : EReal :=
  leaky ((∑ k, x q k * ws j k)
    + Ideal.div (∑ t : Fin 16, ∑ k : Fin ca, edge x p q (pick (fun m => sqd (p q) (p m)) t) k * we j k) sixteen)

/-- A point's features, coordinates and squared norm in one row. -/
def aug (x : Fin n → Fin c → EReal) (p : Fin n → Fin 3 → EReal) (m : Fin n) (k : Fin ca) : EReal :=
  if h : k.val < c then x m ⟨k, h⟩
  else if h' : k.val - c < 3 then p m ⟨k.val - c, h'⟩
  else ∑ i, p m i * p m i

/-- The mean edge features from the weighted sum `s` of the rows. -/
def meanF (hca : ca = c + 4) (s : Fin ca → EReal) (pq : Fin 3 → EReal) (psq : EReal) (k : Fin ca) : EReal :=
  if h : k.val < c then s k
  else if h' : k.val - c < 3 then pq ⟨k.val - c, h'⟩ - s k
  else psq - two * (∑ i : Fin 3, pq i * s ⟨c + i, by omega⟩) + s ⟨c + 3, by omega⟩

/-- The convolution as the kernel takes it: the linear terms of the weighted sum. -/
def convK (hca : ca = c + 4) (w : Fin n → EReal) (A : Fin n → Fin ca → EReal) (q : Fin n) (ws : Fin o → Fin c → EReal)
    (we : Fin o → Fin ca → EReal) (j : Fin o) : EReal :=
  leaky ((∑ k : Fin c, A q ⟨k, by omega⟩ * ws j k)
    + ∑ k : Fin ca, meanF hca (fun k => ∑ m, w m * A m k) (fun i => A q ⟨c + i, by omega⟩) (A q ⟨c + 3, by omega⟩) k * we j k)

/-- The convolution with the places in a row counted within their own group. -/
theorem convK_read (hca : ca = c + 4) (w : Fin n → EReal) (A : Fin n → Fin ca → EReal) (q : Fin n) (ws : Fin o → Fin c → EReal)
    (we : Fin o → Fin ca → EReal) (j : Fin o) :
    convK hca w A q ws we j
      = leaky ((∑ k : Fin c, A q ⟨k, by omega⟩ * ws j k)
        + ∑ k : Fin ca, (if h : k.val < c then ∑ m, w m * A m k
            else if h' : k.val - c < 3 then
              A q ⟨c + (k.val - c), by omega⟩ - ∑ m, w m * A m ⟨c + (k.val - c), by omega⟩
            else A q ⟨c + 3 + (k.val - c - 3), by omega⟩
              - two * (∑ i : Fin 3, A q ⟨c + i, by omega⟩ * ∑ m, w m * A m ⟨c + i, by omega⟩)
              + ∑ m, w m * A m ⟨c + 3 + (k.val - c - 3), by omega⟩) * we j k) := by
  unfold convK meanF
  congr 2
  refine Finset.sum_congr rfl fun k _ => ?_
  congr 1
  split
  · rfl
  · split
    · have e : (⟨c + (k.val - c), by omega⟩ : Fin ca) = k := Fin.ext (by simp; omega)
      show A q ⟨c + (k.val - c), by omega⟩ - _ = _
      rw [e]
    · have e : (⟨c + 3 + (k.val - c - 3), by omega⟩ : Fin ca) = ⟨c + 3, by omega⟩ := Fin.ext (by simp; omega)
      rw [e]

/-- The weight of each point in a row: one sixteenth for the sixteen nearest. -/
def weight [NeZero n] (d : Fin n → EReal) (m : Fin n) : EReal := taken d 16 m * sixteenth

theorem isReal_edge {x : Fin n → Fin c → EReal} {p : Fin n → Fin 3 → EReal} (hx : ∀ m k, IsReal (x m k)) (hp : ∀ m i, IsReal (p m i))
    (q m : Fin n) (k : Fin ca) : IsReal (edge x p q m k) := by
  unfold edge
  split
  · exact hx _ _
  · split
    · exact (hp _ _).sub (hp _ _)
    · exact IsReal.sum _ fun i _ => ((hp _ _).sub (hp _ _)).mul ((hp _ _).sub (hp _ _))

theorem isReal_conv [NeZero n] {x : Fin n → Fin c → EReal} {p : Fin n → Fin 3 → EReal} {ws : Fin o → Fin c → EReal} {we : Fin o → Fin ca → EReal}
    (hx : ∀ m k, IsReal (x m k)) (hp : ∀ m i, IsReal (p m i)) (hs : ∀ j k, IsReal (ws j k)) (he : ∀ j k, IsReal (we j k))
    (q : Fin n) (j : Fin o) : IsReal (conv x p ws we q j) := by
  unfold conv
  refine IsReal.leaky (IsReal.add (IsReal.sum _ fun k _ => (hx _ _).mul (hs _ _)) (isReal_div ?_ ⟨16, sixteen_eq⟩ ?_))
  · exact IsReal.sum _ fun t _ => IsReal.sum _ fun k _ => (isReal_edge hx hp _ _ _).mul (he _ _)
  · rw [sixteen_eq]; norm_num

/-- The weighted sum of the rows' entries is the sum over the nearest points of a sixteenth of each. -/
theorem sum_weight [NeZero n] (hn : 16 ≤ n) (d : Fin n → EReal) (hd : ∀ m, d m < ⊤) (f : Fin n → EReal) :
    ∑ m, weight d m * f m = ∑ t : Fin 16, sixteenth * f (pick d t) := by
  unfold weight
  exact sum_taken d hd 16 hn (fun m => sixteenth * f m) (fun a m => a * sixteenth * f m) (fun m => by simp) (fun m => by simp)

/-- The mean edge features from the weighted sum are the mean of the edges' features. -/
theorem meanF_eq [NeZero n] (hn : 16 ≤ n) (hca : ca = c + 4) (x : Fin n → Fin c → EReal) (p : Fin n → Fin 3 → EReal)
    (hx : ∀ m k, IsReal (x m k)) (hp : ∀ m i, IsReal (p m i)) (d : Fin n → EReal) (hd : ∀ m, d m < ⊤) (q : Fin n) (k : Fin ca) :
    meanF hca (fun k => ∑ m, weight d m * aug x p m k) (p q) (∑ i, p q i * p q i) k
      = ∑ t : Fin 16, sixteenth * edge x p q (pick d t) k := by
  simp only [sum_weight hn d hd]
  choose xr hxr using hx
  choose pr hpr using hp
  obtain rfl : x = fun m k => (xr m k : EReal) := funext fun m => funext fun k => hxr m k
  obtain rfl : p = fun m i => (pr m i : EReal) := funext fun m => funext fun i => hpr m i
  unfold meanF edge
  by_cases h : k.val < c
  · simp only [dif_pos h, aug]
  · by_cases h' : k.val - c < 3
    · simp only [dif_neg h, dif_pos h', aug, sixteenth_eq, ← EReal.coe_sub, ← EReal.coe_mul, ← coe_sum]
      congr 1
      simp only [mul_sub, Finset.sum_sub_distrib, Finset.sum_const, Finset.card_univ, Fintype.card_fin]
      simp
    · have e1 : ∀ (i : Fin 3) (m : Fin n), aug (ca := ca) (fun m k => (xr m k : EReal)) (fun m i => (pr m i : EReal)) m ⟨c + i, by omega⟩
          = (pr m i : EReal) := fun i m => by
        simp [aug]
      have e2 : ∀ (m : Fin n), aug (ca := ca) (fun m k => (xr m k : EReal)) (fun m i => (pr m i : EReal)) m ⟨c + 3, by omega⟩
          = ∑ i, (pr m i : EReal) * (pr m i : EReal) := fun m => by
        simp [aug]
      simp only [dif_neg h, dif_neg h', e1, e2, sixteenth_eq, two_eq, ← EReal.coe_sub, ← EReal.coe_mul, ← coe_sum, ← EReal.coe_add]
      congr 1
      simp only [Fin.sum_univ_three]
      simp only [mul_add, mul_sub, Finset.mul_sum, Finset.sum_add_distrib, Finset.sum_sub_distrib]
      have hc : ∀ r : ℝ, r = ∑ t : Fin 16, (1 / 16 : ℝ) * r := fun r => by simp
      rw [hc (pr q 0 * pr q 0), hc (pr q 1 * pr q 1), hc (pr q 2 * pr q 2)]
      simp only [← Finset.sum_add_distrib, ← Finset.sum_sub_distrib]
      refine Finset.sum_congr rfl fun t _ => ?_
      ring

/-- The kernel's convolution is the reference's, where features, points and edge weights are real. -/
theorem convK_eq [NeZero n] (hn : 16 ≤ n) (hca : ca = c + 4) (x : Fin n → Fin c → EReal) (p : Fin n → Fin 3 → EReal)
    (ws : Fin o → Fin c → EReal) (we : Fin o → Fin ca → EReal)
    (hx : ∀ m k, IsReal (x m k)) (hp : ∀ m i, IsReal (p m i)) (he : ∀ j k, IsReal (we j k)) (q : Fin n) (j : Fin o) :
    convK hca (weight fun m => sqd (p q) (p m)) (aug x p) q ws we j = conv x p ws we q j := by
  unfold convK conv
  have hd : ∀ m, sqd (p q) (p m) < ⊤ := fun m => (isReal_sqd (hp q) (hp m)).lt_top
  have e1 : ∀ k : Fin c, aug (ca := ca) x p q ⟨k, by omega⟩ = x q k := fun k => by simp [aug]
  have e2 : ∀ i : Fin 3, aug (ca := ca) x p q ⟨c + i, by omega⟩ = p q i := fun i => by simp [aug]
  have e3 : aug (ca := ca) x p q ⟨c + 3, by omega⟩ = ∑ i, p q i * p q i := by simp [aug]
  simp only [e1, e2, e3]
  congr 2
  simp only [meanF_eq hn hca x p hx hp _ hd q]
  choose er her using isReal_edge (ca := ca) hx hp q
  choose wr hwr using he
  simp only [her, hwr, sixteenth_eq, sixteen_eq, ← EReal.coe_mul, ← coe_sum]
  rw [div_coe _ _ (by norm_num)]
  congr 1
  simp only [Finset.sum_mul, Finset.sum_div]
  rw [Finset.sum_comm]
  refine Finset.sum_congr rfl fun t _ => Finset.sum_congr rfl fun k _ => ?_
  ring

/-! ## The interpolation from the three nearest -/

variable {nk ck cs : ℕ} {cf : ℕ}

/-- One over the distance made positive. -/
def inv (D : EReal) : EReal := Ideal.div 1 (D + eps)

/-- The interpolated feature `k` from the three nearest. -/
def interp [NeZero nk] (D : Fin nk → EReal) (fk : Fin nk → Fin ck → EReal) (k : Fin ck) : EReal :=
  ∑ t : Fin 3, fk (pick D t) k * Ideal.div (inv (D (pick D t))) (∑ t : Fin 3, inv (D (pick D t)))

/-- An upsampling's value: the linear term of the interpolated features and the point's own. -/
def up [NeZero nk] (D : Fin nk → EReal) (fk : Fin nk → Fin ck → EReal) (fs : Fin cs → EReal) (w : Fin o → Fin cf → EReal)
    (b : Fin o → EReal) (hcf : cf = ck + cs) (j : Fin o) : EReal :=
  leaky ((∑ k : Fin cf, (if h : k.val < ck then interp D fk ⟨k, h⟩ else fs ⟨k.val - ck, by omega⟩) * w j k) + b j)

/-- The kernel's weight of a known point: the inverse distance of the three nearest over their sum. -/
def upW [NeZero nk] (D : Fin nk → EReal) (m : Fin nk) : EReal :=
  Ideal.div (Ideal.div (taken D 3 m) (D m + eps)) (∑ m, Ideal.div (taken D 3 m) (D m + eps))

/-- The upsampling as the kernel takes it. -/
def upK (wt : Fin nk → EReal) (fk : Fin nk → Fin ck → EReal) (fs : Fin cs → EReal) (wa : Fin ck → EReal)
    (wb : Fin cs → EReal) (b : EReal) : EReal :=
  leaky ((∑ k, (∑ m, wt m * fk m k) * wa k) + (∑ k, fs k * wb k) + b)

/-- An upsampling's linear term in its two parts. -/
theorem up_split [NeZero nk] (D : Fin nk → EReal) (fk : Fin nk → Fin ck → EReal) (fs : Fin cs → EReal) (w : Fin o → Fin cf → EReal)
    (b : Fin o → EReal) (hcf : cf = ck + cs) (j : Fin o) :
    up D fk fs w b hcf j
      = leaky ((∑ k : Fin ck, interp D fk k * w j ⟨k, by omega⟩) + (∑ k : Fin cs, fs k * w j ⟨ck + k, by omega⟩) + b j) := by
  unfold up
  rw [sum_split ck cs cf hcf]
  congr 2
  congr 1
  · refine Finset.sum_congr rfl fun k _ => ?_
    rw [dif_pos (show (⟨k.val, by omega⟩ : Fin cf).val < ck from k.isLt)]
  · refine Finset.sum_congr rfl fun k _ => ?_
    rw [dif_neg (by simp)]
    congr 2
    exact Fin.ext (by simp)

theorem den_real {D : EReal} (h : IsReal D) (h0 : 0 ≤ D) : ∃ r : ℝ, 0 < r ∧ D + eps = (r : EReal) := by
  obtain ⟨d, rfl⟩ := h
  obtain ⟨e, he, hee⟩ := eps_real
  exact ⟨d + e, by have : (0 : ℝ) ≤ d := by exact_mod_cast h0
                   linarith, by rw [hee, EReal.coe_add]⟩

theorem inv_real {D : EReal} (h : IsReal D) (h0 : 0 ≤ D) : ∃ r : ℝ, 0 < r ∧ inv D = (r : EReal) := by
  obtain ⟨r, hr, e⟩ := den_real h h0
  refine ⟨1 / r, by positivity, ?_⟩
  unfold inv
  rw [e, show (1 : EReal) = ((1 : ℝ) : EReal) from rfl, div_coe _ _ hr.ne']

theorem sum_inv_real [NeZero nk] {D : Fin nk → EReal} (h : ∀ m, IsReal (D m)) (h0 : ∀ m, 0 ≤ D m) :
    ∃ r : ℝ, 0 < r ∧ ∑ t : Fin 3, inv (D (pick D t)) = (r : EReal) := by
  choose r hr e using fun t : Fin 3 => inv_real (h (pick D t)) (h0 (pick D t))
  refine ⟨∑ t, r t, Finset.sum_pos (fun t _ => hr t) ⟨0, Finset.mem_univ _⟩, ?_⟩
  rw [coe_sum]
  exact Finset.sum_congr rfl fun t _ => e t

theorem isReal_interp [NeZero nk] {D : Fin nk → EReal} {fk : Fin nk → Fin ck → EReal} (h : ∀ m, IsReal (D m)) (h0 : ∀ m, 0 ≤ D m)
    (hf : ∀ m k, IsReal (fk m k)) (k : Fin ck) : IsReal (interp D fk k) := by
  unfold interp
  obtain ⟨s, hs, es⟩ := sum_inv_real h h0
  refine IsReal.sum _ fun t _ => (hf _ _).mul ?_
  obtain ⟨r, -, er⟩ := inv_real (h (pick D t)) (h0 (pick D t))
  rw [er, es, div_coe _ _ hs.ne']
  exact isReal_coe _

theorem isReal_up [NeZero nk] {D : Fin nk → EReal} {fk : Fin nk → Fin ck → EReal} {fs : Fin cs → EReal} {w : Fin o → Fin cf → EReal}
    {b : Fin o → EReal} (hcf : cf = ck + cs) (h : ∀ m, IsReal (D m)) (h0 : ∀ m, 0 ≤ D m) (hf : ∀ m k, IsReal (fk m k))
    (hs : ∀ k, IsReal (fs k)) (hw : ∀ j k, IsReal (w j k)) (hb : ∀ j, IsReal (b j)) (j : Fin o) : IsReal (up D fk fs w b hcf j) := by
  unfold up
  refine IsReal.leaky (IsReal.add (IsReal.sum _ fun k _ => IsReal.mul ?_ (hw _ _)) (hb _))
  split
  · exact isReal_interp h h0 hf _
  · exact hs _

/-- The kernel's upsampling is the reference's, where the distances are real and not negative. -/
theorem upK_eq [NeZero nk] (hn : 3 ≤ nk) (D : Fin nk → EReal) (fk : Fin nk → Fin ck → EReal) (fs : Fin cs → EReal) (w : Fin o → Fin cf → EReal)
    (b : Fin o → EReal) (hcf : cf = ck + cs) (h : ∀ m, IsReal (D m)) (h0 : ∀ m, 0 ≤ D m) (j : Fin o) :
    upK (upW D) fk fs (fun k => w j ⟨k, by omega⟩) (fun k => w j ⟨ck + k, by omega⟩) (b j) = up D fk fs w b hcf j := by
  have hd : ∀ m, D m < ⊤ := fun m => (h m).lt_top
  have hden : ∀ m, D m + eps ≠ 0 := fun m => by
    obtain ⟨r, hr, e⟩ := den_real (h m) (h0 m)
    rw [e]; exact_mod_cast hr.ne'
  have hS : ∑ m, Ideal.div (taken D 3 m) (D m + eps) = ∑ t : Fin 3, inv (D (pick D t)) :=
    sum_taken D hd 3 hn (fun m => inv (D m)) (fun a m => Ideal.div a (D m + eps)) (fun m => div_zero_left _ (hden m)) fun m => rfl
  have hS0 : ∑ t : Fin 3, inv (D (pick D t)) ≠ 0 := by
    obtain ⟨s, hs, es⟩ := sum_inv_real h h0
    rw [es]; exact_mod_cast hs.ne'
  have hI : ∀ k, ∑ m, upW D m * fk m k = interp D fk k := fun k => by
    unfold upW interp
    rw [hS]
    simp only [mul_comm (fk _ k)]
    exact sum_taken D hd 3 hn (fun m => Ideal.div (inv (D m)) (∑ t : Fin 3, inv (D (pick D t))) * fk m k)
      (fun a m => Ideal.div (Ideal.div a (D m + eps)) (∑ t : Fin 3, inv (D (pick D t))) * fk m k)
      (fun m => by rw [div_zero_left _ (hden m), div_zero_left _ hS0, zero_mul]) fun m => rfl
  rw [up_split]
  unfold upK
  simp only [hI]

end Cert.Layers

end
-- ==== Proof.Stretch.lean ====
/-
  The host operations between the regions, read at an index: rows of a point's features, coordinates and squared norm,
  coordinates padded with zeros, and these by rows.
-/
module

public import proofs.«01_k».proof.Proof.Layers
public import Idealize.ShloMosaic.Lib.Pointwise

@[expose] public section

set_option maxRecDepth 16384

noncomputable section

namespace Cert.Stretch

open Idealize.ShloMosaic Cert.Select Cert.Layers

variable {n c ca : ℕ}

/-- The squared norms, one to a point. -/
abbrev norms (hr : (⟨3, ![2, n, 3]⟩ : Shape).ReducesTo [2] ⟨2, ![2, n]⟩) (h0 : 0 < (⟨0, ![]⟩ : Shape).numel)
    (hb : (⟨2, ![2, n]⟩ : Shape).BroadcastsInDim (⟨3, ![2, n, 1]⟩ : Shape) ![0, 1]) (p : FVec Ideal ⟨3, ![2, n, 3]⟩ .f32) :
    FVec Ideal ⟨3, ![2, n, 1]⟩ .f32 :=
  broadcastInDim ⟨3, ![2, n, 1]⟩ ![0, 1] hb
    (Host.reduceAdd (mulf p p) (constant (⟨0, ![]⟩ : Shape) .f32 0x00000000#32) hr h0 : FVec Ideal ⟨2, ![2, n]⟩ .f32)

theorem norms_at (hn : n ≠ 1) (hr : (⟨3, ![2, n, 3]⟩ : Shape).ReducesTo [2] ⟨2, ![2, n]⟩) (h0 : 0 < (⟨0, ![]⟩ : Shape).numel)
    (hb : (⟨2, ![2, n]⟩ : Shape).BroadcastsInDim (⟨3, ![2, n, 1]⟩ : Shape) ![0, 1]) (p : FVec Ideal ⟨3, ![2, n, 3]⟩ .f32)
    (b : Fin 2) (m : Fin n) (z : Fin 1) : norms hr h0 hb p (ix3 b m z) = ∑ i, p (ix3 b m i) * p (ix3 b m i) := by
  refine Eq.trans (congrArg (Host.reduceAdd (mulf p p) (constant (F := Ideal) (⟨0, ![]⟩ : Shape) .f32 0x00000000#32) hr h0)
    (show _ = ix2 b m from ?_)) ?_
  · funext a
    match a with
    | ⟨0, _⟩ => rfl
    | ⟨1, _⟩ => exact dif_neg hn
  · pointwise

/-- Features, coordinates and squared norms in one array. -/
theorem aug_at (hca : ca = c + 4) (x : Vec Ideal ⟨3, ![2, n, c]⟩ .f32) (p : Vec Ideal ⟨3, ![2, n, 3]⟩ .f32) (s : Vec Ideal ⟨3, ![2, n, 1]⟩ .f32)
    (h : Shape.Concatenates [⟨3, ![2, n, c]⟩, ⟨3, ![2, n, 3]⟩, ⟨3, ![2, n, 1]⟩] ⟨3, ![2, n, ca]⟩ 2)
    (hs : ∀ b m z, s (ix3 b m z) = ∑ i, p (ix3 b m i) * p (ix3 b m i)) (b : Fin 2) (m : Fin n) (k : Fin ca) :
    concatenate ⟨3, ![2, n, ca]⟩ 2 [⟨⟨3, ![2, n, c]⟩, x⟩, ⟨⟨3, ![2, n, 3]⟩, p⟩, ⟨⟨3, ![2, n, 1]⟩, s⟩] h (ix3 b m k)
      = aug (fun m k => x (ix3 b m k)) (fun m i => p (ix3 b m i)) m k := by
  pointwise
  unfold aug
  by_cases h1 : k.val < c
  · rw [dif_pos h1, dif_pos h1]
    exact congrArg x (funext fun a => match a with | ⟨0, _⟩ => rfl | ⟨1, _⟩ => rfl | ⟨2, _⟩ => rfl)
  · rw [dif_neg h1, dif_neg h1]
    by_cases h2 : k.val - c < 3
    · rw [dif_pos h2, dif_pos h2]
      exact congrArg p (funext fun a => match a with | ⟨0, _⟩ => rfl | ⟨1, _⟩ => rfl | ⟨2, _⟩ => rfl)
    · rw [dif_neg h2, dif_neg h2, ← hs b m ⟨k.val - c - 3, by omega⟩]
      exact congrArg s (funext fun a => match a with | ⟨0, _⟩ => rfl | ⟨1, _⟩ => rfl | ⟨2, _⟩ => rfl)

/-- Coordinates with zeros behind. -/
theorem pad_at (p : Vec Ideal ⟨3, ![2, n, 3]⟩ .f32) (z : Vec Ideal ⟨3, ![2, n, 5]⟩ .f32)
    (h : Shape.Concatenates [⟨3, ![2, n, 3]⟩, ⟨3, ![2, n, 5]⟩] ⟨3, ![2, n, 8]⟩ 2) (b : Fin 2) (m : Fin n) (i : Fin 3) :
    concatenate ⟨3, ![2, n, 8]⟩ 2 [⟨⟨3, ![2, n, 3]⟩, p⟩, ⟨⟨3, ![2, n, 5]⟩, z⟩] h (ix3 b m ⟨i.val, by omega⟩) = p (ix3 b m i) := by
  pointwise
  exact congrArg p (funext fun a => match a with | ⟨0, _⟩ => rfl | ⟨1, _⟩ => rfl | ⟨2, _⟩ => rfl)

variable {α : Type} {B N : ℕ}

/-- The first two axes joined. -/
theorem merge_at (x : (⟨3, ![B, n, c]⟩ : Shape).Idx → α) (h : (⟨3, ![B, n, c]⟩ : Shape).ShapeCasts ⟨2, ![N, c]⟩) (b : Fin B) (q : Fin n)
    (k : Fin c) (hN : b.val * n + q.val < N) : shapeCast ⟨2, ![N, c]⟩ x h (ix2 ⟨b.val * n + q.val, hN⟩ k) = x (ix3 b q k) :=
  shapeCast_apply x h _ _ (by
    rw [Shape.rowMajor_val_three, Shape.rowMajor_val_two]
    show (b.val * n + q.val) * c + k.val = (b.val * n + q.val) * c + k.val
    rfl)

/-- The first axis split in two. -/
theorem split_at (x : (⟨2, ![N, c]⟩ : Shape).Idx → α) (h : (⟨2, ![N, c]⟩ : Shape).ShapeCasts ⟨3, ![B, n, c]⟩) (b : Fin B) (q : Fin n)
    (k : Fin c) (hN : b.val * n + q.val < N) : shapeCast ⟨3, ![B, n, c]⟩ x h (ix3 b q k) = x (ix2 ⟨b.val * n + q.val, hN⟩ k) :=
  shapeCast_apply x h _ _ (by
    rw [Shape.rowMajor_val_three, Shape.rowMajor_val_two]
    show (b.val * n + q.val) * c + k.val = (b.val * n + q.val) * c + k.val
    rfl)

end Cert.Stretch

end
-- ==== Proof.Host0.lean ====
/-
  The arrays that the host operations before the first region leave, read at an index.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host0

open Idealize.ShloMosaic Idealize.ShloMosaic.TcCoe Idealize.SL.Sem Cert.Select Cert.Layers Cert.Stretch
open Cert.KernelIdeal Cert.KernelIdeal.Gen

variable (U : Valuation τ sig (Elt Ideal))

/-- The points' coordinates. -/
abbrev pts (b : Fin 2) (m : Fin 4096) (i : Fin 3) : EReal := (U (Proc.devRef .tc main_arg1) : Vec Ideal S2x4096x3 .f32) (ix3 b m i)

theorem v2_at (b : Fin 2) (m : Fin 4096) (z : Fin 1) :
    (StableHlo.after hostOps0 U (Proc.devRef .tc main_v2) : Vec Ideal S2x4096x1 .f32) (ix3 b m z) = ∑ i, pts U b m i * pts U b m i := by
  after_reads_simp
  exact norms_at (by decide) _ _ _ _ b m z

theorem v3_at (b : Fin 2) (m : Fin 4096) (k : Fin 8) :
    (StableHlo.after hostOps0 U (Proc.devRef .tc main_v3) : Vec Ideal S2x4096x8 .f32) (ix3 b m k)
      = aug (fun m k => (U (Proc.devRef .tc main_arg0) : Vec Ideal S2x4096x4 .f32) (ix3 b m k)) (pts U b) m k := by
  after_reads_simp
  exact aug_at rfl _ _ (StableHlo.after hostOps0 U (Proc.devRef .tc main_v2)) _ (v2_at U) b m k

theorem v5_at (b : Fin 2) (m : Fin 4096) (i : Fin 3) :
    (StableHlo.after hostOps0 U (Proc.devRef .tc main_v5) : Vec Ideal S2x4096x8 .f32) (ix3 b m ⟨i, by omega⟩) = pts U b m i := by
  after_reads_simp
  exact pad_at _ _ _ b m i

theorem v6_at (b : Fin 2) (m : Fin 4096) (i : Fin 3) :
    (StableHlo.after hostOps0 U (Proc.devRef .tc main_v6) : Vec Ideal S2x8x4096 .f32) (ix3 b ⟨i, by omega⟩ m) = pts U b m i := by
  after_reads_simp
  exact (ValueIdx.transpose_ix3_021_apply _ _ b _ m).trans (pad_at _ _ _ b m i)

theorem v7_at (b : Fin 2) (m : Fin 4096) (z : Fin 1) :
    (StableHlo.after hostOps0 U (Proc.devRef .tc main_v7) : Vec Ideal S2x1x4096 .f32) (ix3 b z m) = ∑ i, pts U b m i * pts U b m i := by
  after_reads_simp
  exact (ValueIdx.transpose_ix3_021_apply _ _ b _ m).trans (norms_at (by decide) _ _ _ _ b m _)

theorem v8_at (k : Fin 4) (j : Fin 64) :
    (StableHlo.after hostOps0 U (Proc.devRef .tc main_v8) : Vec Ideal S4x64 .f32) (ix2 k j)
      = (U (Proc.devRef .tc main_arg6) : Vec Ideal S64x4 .f32) (ix2 j k) := by
  after_reads_simp
  exact ValueIdx.transpose_ix2_apply _ _ k j

theorem v9_at (k : Fin 8) (j : Fin 64) :
    (StableHlo.after hostOps0 U (Proc.devRef .tc main_v9) : Vec Ideal S8x64 .f32) (ix2 k j)
      = (U (Proc.devRef .tc main_arg7) : Vec Ideal S64x8 .f32) (ix2 j k) := by
  after_reads_simp
  exact ValueIdx.transpose_ix2_apply _ _ k j

end Cert.Host0

end
-- ==== Proof.Rounds.lean ====
/-
  The kernel's rounds of taking the first least entry of each row of a block, as array functions: the hit of a round,
  the row with the hit struck out, the mask with the hit marked; and what `t` rounds of them hold at an entry.
-/
module

public import proofs.«01_k».proof.Proof.Select
public import Idealize.ShloMosaic.Lib.Pointwise

@[expose] public section

set_option maxRecDepth 16384

noncomputable section

namespace Cert.Rounds

open Idealize.ShloMosaic Cert.Select

/-- The shape facts a round uses. -/
structure Facts (R n : ℕ) : Prop where
  red : (⟨2, ![R, n]⟩ : Shape).Reduces [1] ⟨1, ![R]⟩
  cast : (⟨1, ![R]⟩ : Shape).ShapeCasts ⟨2, ![R, 1]⟩
  bc : (⟨2, ![R, 1]⟩ : Shape).Broadcasts ⟨2, ![R, n]⟩

variable {R n : ℕ} (H : Facts R n)

/-- The least entry of each row. -/
def rowMin (d : FVec Ideal ⟨2, ![R, n]⟩ .f32) : FVec Ideal ⟨1, ![R]⟩ .f32 :=
  multiReduction .minimumf [1] ⟨1, ![R]⟩ d 0x7F800000#32 H.red (.inl rfl) rfl

/-- The entries that are the least of their row, from the least entries. -/
def eqMin (d : FVec Ideal ⟨2, ![R, n]⟩ .f32) (mn : FVec Ideal ⟨1, ![R]⟩ .f32) : IVec ⟨2, ![R, n]⟩ 1 :=
  cmpf .oeq d (broadcastTo ⟨2, ![R, n]⟩ (shapeCast ⟨2, ![R, 1]⟩ mn H.cast) H.bc)

/-- The positions of those entries, the row's length elsewhere. -/
def candOf (v : IVec ⟨2, ![R, n]⟩ 32) (c : BitVec 32) (e : IVec ⟨2, ![R, n]⟩ 1) : IVec ⟨2, ![R, n]⟩ 32 :=
  select e v (broadcast ⟨2, ![R, n]⟩ c)

/-- The first of those positions. -/
def posOf (cand : IVec ⟨2, ![R, n]⟩ 32) : IVec ⟨2, ![R, 1]⟩ 32 :=
  shapeCast ⟨2, ![R, 1]⟩ (multiReductionI .minsi [1] ⟨1, ![R]⟩ cand 2147483647#32 H.red rfl) H.cast

/-- The mark of the first position in each row. -/
def hitAt (v : IVec ⟨2, ![R, n]⟩ 32) (pos : IVec ⟨2, ![R, 1]⟩ 32) : IVec ⟨2, ![R, n]⟩ 1 :=
  cmpi .eq v (broadcastTo ⟨2, ![R, n]⟩ pos H.bc)

/-- The mark of the first least entry of each row. -/
def hit (v : IVec ⟨2, ![R, n]⟩ 32) (c : BitVec 32) (d : FVec Ideal ⟨2, ![R, n]⟩ .f32) : IVec ⟨2, ![R, n]⟩ 1 :=
  hitAt H v (posOf H (candOf v c (eqMin H d (rowMin H d))))

/-- The block with the hits struck out. -/
def strike (h : IVec ⟨2, ![R, n]⟩ 1) (d : FVec Ideal ⟨2, ![R, n]⟩ .f32) : FVec Ideal ⟨2, ![R, n]⟩ .f32 :=
  select h (broadcast ⟨2, ![R, n]⟩ (Scalar.ofBits .f32 0x7F800000#32 : Ideal .f32)) d

/-- The mask with the hits marked. -/
def mark (h : IVec ⟨2, ![R, n]⟩ 1) (a : FVec Ideal ⟨2, ![R, n]⟩ .f32) : FVec Ideal ⟨2, ![R, n]⟩ .f32 :=
  maximumf a (sitofp .f32 (extui 32 h (by norm_num)))

/-- The block after `t` rounds. -/
def leftA (v : IVec ⟨2, ![R, n]⟩ 32) (c : BitVec 32) (d : FVec Ideal ⟨2, ![R, n]⟩ .f32) : ℕ → FVec Ideal ⟨2, ![R, n]⟩ .f32
  | 0 => d
  | t + 1 => strike (hit H v c (leftA v c d t)) (leftA v c d t)

/-- The mask after `t` rounds. -/
def takenA (v : IVec ⟨2, ![R, n]⟩ 32) (c : BitVec 32) (d : FVec Ideal ⟨2, ![R, n]⟩ .f32) : ℕ → FVec Ideal ⟨2, ![R, n]⟩ .f32
  | 0 => broadcast ⟨2, ![R, n]⟩ (Scalar.ofBits .f32 0x00000000#32 : Ideal .f32)
  | t + 1 => mark (hit H v c (leftA H v c d t)) (takenA v c d t)

theorem inf_eq : (Ideal.ofBits .f32 0x7F800000#32 : EReal) = ⊤ := by
  simp [Ideal.ofBits, Ideal.ieee]

/-- A vector as a column, spread over the columns of a block, holds the row's entry. -/
theorem col_apply {α : Type} (x : (⟨1, ![R]⟩ : Shape).Idx → α) (r : Fin R) (m : Fin n) :
    broadcastTo ⟨2, ![R, n]⟩ (shapeCast ⟨2, ![R, 1]⟩ x H.cast) H.bc (ix2 r m) = x (ix1 r) := by
  refine (broadcastTo_apply _ H.bc (ix2 r m) (ix2 r (0 : Fin 1)) fun ax => ?_).trans
    (shapeCast_apply x H.cast _ _ ?_)
  · match ax with
    | ⟨0, _⟩ =>
      show r.val = if R = 1 then 0 else r.val
      split
      · have := r.isLt; omega
      · rfl
    | ⟨1, _⟩ => rfl
  · rw [Shape.rowMajor_val_two, Shape.rowMajor_val_one]
    show r.val = r.val * 1 + 0
    omega

variable [NeZero n]

theorem rowMin_apply (d : FVec Ideal ⟨2, ![R, n]⟩ .f32) (r : Fin R) :
    rowMin H d (ix1 r) = d (ix2 r (firstMin fun m => d (ix2 r m))) := by
  pointwise [rowMin]
  rw [inf_eq]
  exact fold_min_eq fun m => d (ix2 r m)

theorem eqMin_apply (d : FVec Ideal ⟨2, ![R, n]⟩ .f32) (r : Fin R) (m : Fin n) :
    eqMin H d (rowMin H d) (ix2 r m)
      = if d (ix2 r m) = d (ix2 r (firstMin fun m => d (ix2 r m))) then 1#1 else 0#1 := by
  show FloatOps.cmpf (F := Ideal) .oeq (d (ix2 r m)) _ = _
  rw [col_apply H, rowMin_apply]
  show BitVec.ofBool (decide (_ = _)) = _
  by_cases h : d (ix2 r m) = d (ix2 r (firstMin fun m => d (ix2 r m))) <;> simp [h]

theorem pos_apply (hn : n < 2147483647) (v : IVec ⟨2, ![R, n]⟩ 32) (hv : ∀ r m, v (ix2 r m) = BitVec.ofNat 32 m.val)
    (d : FVec Ideal ⟨2, ![R, n]⟩ .f32) (r : Fin R) :
    multiReductionI .minsi [1] ⟨1, ![R]⟩ (candOf v (BitVec.ofNat 32 n) (eqMin H d (rowMin H d))) 2147483647#32 H.red rfl (ix1 r)
      = BitVec.ofNat 32 (firstMin fun m => d (ix2 r m)).val := by
  rw [← fold_minsi_eq (fun m => d (ix2 r m)) hn]
  pointwise [candOf]
  refine congrArg (fun f => Finset.fold IntOp.minsi (2147483647#32) f Finset.univ) (funext fun x => ?_)
  rw [eqMin_apply, hv]
  split <;> rfl

theorem hit_apply (hn : n < 2147483647) (v : IVec ⟨2, ![R, n]⟩ 32) (hv : ∀ r m, v (ix2 r m) = BitVec.ofNat 32 m.val)
    (d : FVec Ideal ⟨2, ![R, n]⟩ .f32) (r : Fin R) (m : Fin n) :
    hit H v (BitVec.ofNat 32 n) d (ix2 r m) = if m = firstMin (fun m => d (ix2 r m)) then 1#1 else 0#1 := by
  rw [← cmpi_eq_firstMin hn, ← pos_apply H hn v hv, ← hv r m]
  show IntOp.cmpi .eq _ _ = _
  unfold posOf
  rw [col_apply H]

theorem left_apply (hn : n < 2147483647) (v : IVec ⟨2, ![R, n]⟩ 32) (hv : ∀ r m, v (ix2 r m) = BitVec.ofNat 32 m.val)
    (d : FVec Ideal ⟨2, ![R, n]⟩ .f32) (t : ℕ) (r : Fin R) (m : Fin n) :
    leftA H v (BitVec.ofNat 32 n) d t (ix2 r m) = left (fun m => d (ix2 r m)) t m := by
  induction t generalizing m with
  | zero => rfl
  | succ t ih =>
    show Scalar.select (hit H v (BitVec.ofNat 32 n) (leftA H v (BitVec.ofNat 32 n) d t) (ix2 r m)) (Ideal.ofBits .f32 0x7F800000#32)
      (leftA H v (BitVec.ofNat 32 n) d t (ix2 r m)) = _
    rw [hit_apply H hn v hv, inf_eq]
    simp only [ih, left]
    split <;> rfl

theorem taken_apply (hn : n < 2147483647) (v : IVec ⟨2, ![R, n]⟩ 32) (hv : ∀ r m, v (ix2 r m) = BitVec.ofNat 32 m.val)
    (d : FVec Ideal ⟨2, ![R, n]⟩ .f32) (t : ℕ) (r : Fin R) (m : Fin n) :
    takenA H v (BitVec.ofNat 32 n) d t (ix2 r m) = taken (fun m => d (ix2 r m)) t m := by
  induction t with
  | zero => exact Ideal.ofBits_zero_f32
  | succ t ih =>
    have h : ∀ (g : IVec ⟨2, ![R, n]⟩ 1) (a : FVec Ideal ⟨2, ![R, n]⟩ .f32), mark g a (ix2 r m)
        = max (a (ix2 r m)) (FloatOps.sitofp (F := Ideal) .f32 (BitVec.setWidth 32 (g (ix2 r m)))) := fun g a => by
      pointwise [mark]
    show mark _ _ _ = _
    rw [h, hit_apply H hn v hv, ih]
    simp only [left_apply H hn v hv, taken]
    congr 1
    split
    · show (((BitVec.setWidth 32 1#1).toInt : ℝ) : EReal) = 1
      norm_num
    · show (((BitVec.setWidth 32 0#1).toInt : ℝ) : EReal) = 0
      norm_num

end Cert.Rounds

end
-- ==== Proof.Conv0.lean ====
/-
  The first convolution's body: its rounds, its mask, its value at an entry of a block.
-/
module

public import proofs.«01_k».proof.Proof.Gen.KernelIdeal.Skeleton
public import proofs.«01_k».proof.Proof.Rounds
public import proofs.«01_k».proof.Proof.Layers
public import Idealize.ShloMosaic.Lib.Pointwise

@[expose] public section

set_option maxRecDepth 16384

noncomputable section

namespace Cert.Conv0

open Idealize.ShloMosaic Cert.Select Cert.Layers Cert.Rounds
open Cert.KernelIdeal Cert.KernelIdeal.Gen

theorem H : Rounds.Facts 256 4096 := ⟨reduces_S256x4096_S256, shapeCasts_S256_S256x1, broadcasts_S256x1_S256x4096⟩

section
variable (v : IVec S256x4096 32) (d : FVec Ideal S256x4096 .f32)

/-- The block, its least entries and the mask between the parts of the body: after 3, 6, 9, 12 rounds. -/
abbrev d3 := k0_pay12 (F := Ideal) d v
abbrev d6 := k0_pay20 (F := Ideal) v (d3 v d) (k0_pay13 (F := Ideal) d v)
abbrev e6 := k0_pay21 (F := Ideal) v (d3 v d) (k0_pay13 (F := Ideal) d v)
abbrev a6 := k0_pay19 (F := Ideal) v (k0_pay11 (F := Ideal) d v (Scalar.ofBits .f32 0x00000000#32)) (d3 v d) (k0_pay13 (F := Ideal) d v)
abbrev d9 := k0_pay28 (F := Ideal) v (d6 v d) (e6 v d)
abbrev c9 := k0_pay29 (F := Ideal) v (d6 v d) (e6 v d)
abbrev a9 := k0_pay27 (F := Ideal) v (a6 v d) (d6 v d) (e6 v d)
abbrev d12 := k0_pay36 (F := Ideal) v (d9 v d) (c9 v d)
abbrev q12 := k0_pay37 (F := Ideal) v (d9 v d) (c9 v d)
abbrev a12 := k0_pay35 (F := Ideal) v (a9 v d) (d9 v d) (c9 v d)
/-- The mask after fifteen rounds and the sixteenth hit. -/
abbrev a15 := k0_pay43 (F := Ideal) v (a12 v d) (d12 v d) (q12 v d)
abbrev h15 := k0_pay44 (F := Ideal) v (d12 v d) (q12 v d)

theorem mask : maximumf (a15 v d) (sitofp .f32 (h15 v d)) = takenA H v 4096#32 d 16 := rfl
end

/-- The positions along a row. -/
abbrev pos : IVec S256x4096 32 := iota .tc S256x4096 32 [1] iota_S256x4096_d1_w32

theorem pos_eq (r : Fin 256) (m : Fin 4096) : pos (ix2 r m) = BitVec.ofNat 32 m.val := by
  pointwise [pos]

/-- The body's weights are a sixteenth at the sixteen nearest. -/
theorem weights (d : FVec Ideal S256x4096 .f32) (r : Fin 256) (m : Fin 4096) :
    k0_pay45 (F := Ideal) (a15 pos d) (h15 pos d) (ix2 r m) = weight (fun m => d (ix2 r m)) m := by
  show (maximumf (a15 pos d) (sitofp .f32 (h15 pos d))) (ix2 r m) * _ = _
  rw [mask, show (4096#32 : BitVec 32) = BitVec.ofNat 32 4096 from rfl, taken_apply H (by norm_num) _ pos_eq]
  rfl

theorem weights_out (d : FVec Ideal S256x4096 .f32) (r : Fin 256) (m : Fin 4096) :
    k0_pay46 (F := Ideal) (a15 pos d) (h15 pos d) (ix3 0 r m) = weight (fun m => d (ix2 r m)) m := by
  rw [← weights]
  pointwise [k0_pay46]

/-- The main output's value: the convolution's linear terms under the weights. -/
theorem value (v2 : Vec Ideal S1x256x8 .f32) (d : FVec Ideal S256x4096 .f32) (x3 : Vec Ideal S1x4096x8 .f32)
    (x4 : Vec Ideal S4x64 .f32) (x5 : Vec Ideal S8x64 .f32) (q : Fin 4096) (r : Fin 256) (hq : ∀ k, v2 (ix3 0 r k) = x3 (ix3 0 q k))
    (j : Fin 64) :
    k0_pay47 (k0_pay2 v2) (k0_pay3 v2) (k0_pay4 v2) (a15 pos d) (h15 pos d) x3 x4 x5 (ix3 0 r j)
      = convK (c := 4) rfl (weight fun m => d (ix2 r m)) (fun m k => x3 (ix3 0 m k)) q (fun j k => x4 (ix2 k j)) (fun j k => x5 (ix2 k j)) j := by
  have hw := weights d
  generalize a15 pos d = a at hw ⊢
  generalize h15 pos d = g at hw ⊢
  pointwise [k0_pay47, k0_pay2, k0_pay3, k0_pay4, k0_pay1]
  simp only [hw, hq]
  rw [convK_read]
  rfl

end Cert.Conv0

end
-- ==== Proof.Blocks.lean ====
/-
  The arrays the convolutions' regions leave, as functions of the arrays they read, and what these are when the arrays
  read hold points, their features, coordinates and squared norms.
-/
module

public import proofs.«01_k».proof.Proof.Layers
public import Idealize.ShloMosaic.Lib.Pointwise

@[expose] public section

noncomputable section

namespace Cert.Blocks

open Idealize.ShloMosaic Cert.Select Cert.Layers

variable {n c ca o : ℕ}

/-- The distance of point `m` from point `q`: `A` holds in its last column the squared norm, `P` the coordinates, `PT` the
    coordinates by rows, `SQ` the squared norms by rows. -/
def dK (hca : ca = c + 4) (A : Vec Ideal ⟨3, ![2, n, ca]⟩ .f32) (P : Vec Ideal ⟨3, ![2, n, 8]⟩ .f32) (PT : Vec Ideal ⟨3, ![2, 8, n]⟩ .f32)
    (SQ : Vec Ideal ⟨3, ![2, 1, n]⟩ .f32) (b : Fin 2) (q m : Fin n) : EReal :=
  max (A (ix3 b q ⟨c + 3, by omega⟩) + SQ (ix3 b 0 m)
    - two * (P (ix3 b q 0) * PT (ix3 b 0 m) + P (ix3 b q 1) * PT (ix3 b 1 m) + P (ix3 b q 2) * PT (ix3 b 2 m))) 0

/-- The array of weights: one sixteenth at the sixteen nearest of each point. -/
def maskOf [NeZero n] (hca : ca = c + 4) (A : Vec Ideal ⟨3, ![2, n, ca]⟩ .f32) (P : Vec Ideal ⟨3, ![2, n, 8]⟩ .f32)
    (PT : Vec Ideal ⟨3, ![2, 8, n]⟩ .f32) (SQ : Vec Ideal ⟨3, ![2, 1, n]⟩ .f32) : Vec Ideal ⟨3, ![2, n, n]⟩ .bf16 :=
  fun i => weight (dK hca A P PT SQ (i 0) (i 1)) (i 2)

/-- The convolution's array from the array of weights. -/
def convOf (hca : ca = c + 4) (M : Vec Ideal ⟨3, ![2, n, n]⟩ .bf16) (A : Vec Ideal ⟨3, ![2, n, ca]⟩ .f32) (ws : Vec Ideal ⟨2, ![c, o]⟩ .f32)
    (we : Vec Ideal ⟨2, ![ca, o]⟩ .f32) : Vec Ideal ⟨3, ![2, n, o]⟩ .f32 :=
  fun i => convK hca (fun m => M (ix3 (i 0) (i 1) m)) (fun m k => A (ix3 (i 0) m k)) (i 1) (fun j k => ws (ix2 k j))
    (fun j k => we (ix2 k j)) (i 2)

section
variable [NeZero n] (hca : ca = c + 4) (A : Vec Ideal ⟨3, ![2, n, ca]⟩ .f32) (P : Vec Ideal ⟨3, ![2, n, 8]⟩ .f32)
  (PT : Vec Ideal ⟨3, ![2, 8, n]⟩ .f32) (SQ : Vec Ideal ⟨3, ![2, 1, n]⟩ .f32) (ws : Vec Ideal ⟨2, ![c, o]⟩ .f32)
  (we : Vec Ideal ⟨2, ![ca, o]⟩ .f32) (x : Fin 2 → Fin n → Fin c → EReal) (p : Fin 2 → Fin n → Fin 3 → EReal)

theorem dK_eq (hA : ∀ b m k, A (ix3 b m k) = aug (x b) (p b) m k) (hP : ∀ b m (i : Fin 3), P (ix3 b m ⟨i, by omega⟩) = p b m i)
    (hPT : ∀ b m (i : Fin 3), PT (ix3 b ⟨i, by omega⟩ m) = p b m i) (hSQ : ∀ b m, SQ (ix3 b 0 m) = ∑ i, p b m i * p b m i) (b : Fin 2) (q m : Fin n) :
    dK hca A P PT SQ b q m = sqd (p b q) (p b m) := by
  have e3 : aug (ca := ca) (x b) (p b) q ⟨c + 3, by omega⟩ = ∑ i, p b q i * p b q i := by simp [aug]
  unfold dK sqd
  rw [hA, e3, hSQ, Fin.sum_univ_three (fun i => p b q i * p b m i), ← hP b q 0, ← hP b q 1, ← hP b q 2, ← hPT b m 0, ← hPT b m 1, ← hPT b m 2]
  rfl

theorem maskOf_eq (hA : ∀ b m k, A (ix3 b m k) = aug (x b) (p b) m k) (hP : ∀ b m (i : Fin 3), P (ix3 b m ⟨i, by omega⟩) = p b m i)
    (hPT : ∀ b m (i : Fin 3), PT (ix3 b ⟨i, by omega⟩ m) = p b m i) (hSQ : ∀ b m, SQ (ix3 b 0 m) = ∑ i, p b m i * p b m i) (b : Fin 2) (q m : Fin n) :
    maskOf hca A P PT SQ (ix3 b q m) = weight (fun m => sqd (p b q) (p b m)) m := by
  show weight (dK hca A P PT SQ b q) m = _
  rw [show dK hca A P PT SQ b q = _ from funext fun m => dK_eq hca A P PT SQ x p hA hP hPT hSQ b q m]

/-- A convolution's array under the weights of the points' distances holds the convolution. -/
theorem convOf_eq (hn : 16 ≤ n) (M : Vec Ideal ⟨3, ![2, n, n]⟩ .bf16) (hM : ∀ b q m, M (ix3 b q m) = weight (fun m => sqd (p b q) (p b m)) m)
    (hA : ∀ b m k, A (ix3 b m k) = aug (x b) (p b) m k)
    (hx : ∀ b m k, IsReal (x b m k)) (hp : ∀ b m i, IsReal (p b m i)) (he : ∀ k j, IsReal (we (ix2 k j))) (b : Fin 2) (q : Fin n) (j : Fin o) :
    convOf hca M A ws we (ix3 b q j) = conv (x b) (p b) (fun j k => ws (ix2 k j)) (fun j k => we (ix2 k j)) q j := by
  rw [← convK_eq hn hca (x b) (p b) _ _ (hx b) (hp b) (fun j k => he k j) q j]
  show convK hca (fun m => M (ix3 b q m)) (fun m k => A (ix3 b m k)) q _ _ j = _
  simp only [hM, hA]

end

section
variable {nq nk ck cs cf : ℕ}

/-- The distance of known point `m` from point `q`: `P` holds the points' coordinates, `PT` the known points' by rows, `SQ` the
    known points' squared norms. -/
def dU (P : Vec Ideal ⟨3, ![2, nq, 8]⟩ .f32) (PT : Vec Ideal ⟨3, ![2, 8, nk]⟩ .f32) (SQ : Vec Ideal ⟨3, ![2, 1, nk]⟩ .f32)
    (b : Fin 2) (q : Fin nq) (m : Fin nk) : EReal :=
  max (P (ix3 b q 0) * P (ix3 b q 0) + P (ix3 b q 1) * P (ix3 b q 1) + P (ix3 b q 2) * P (ix3 b q 2) + SQ (ix3 b 0 m)
    - two * (P (ix3 b q 0) * PT (ix3 b 0 m) + P (ix3 b q 1) * PT (ix3 b 1 m) + P (ix3 b q 2) * PT (ix3 b 2 m))) 0

/-- The upsampling's array. -/
def upOf [NeZero nk] (P : Vec Ideal ⟨3, ![2, nq, 8]⟩ .f32) (PT : Vec Ideal ⟨3, ![2, 8, nk]⟩ .f32) (SQ : Vec Ideal ⟨3, ![2, 1, nk]⟩ .f32)
    (FK : Vec Ideal ⟨3, ![2, nk, ck]⟩ .f32) (FS : Vec Ideal ⟨3, ![2, nq, cs]⟩ .f32) (wa : Vec Ideal ⟨2, ![ck, o]⟩ .f32)
    (wb : Vec Ideal ⟨2, ![cs, o]⟩ .f32) (bi : Vec Ideal ⟨2, ![1, o]⟩ .f32) : Vec Ideal ⟨3, ![2, nq, o]⟩ .f32 :=
  fun i => upK (upW (dU P PT SQ (i 0) (i 1))) (fun m k => FK (ix3 (i 0) m k)) (fun k => FS (ix3 (i 0) (i 1) k))
    (fun k => wa (ix2 k (i 2))) (fun k => wb (ix2 k (i 2))) (bi (ix2 0 (i 2)))

variable [NeZero nk] (P : Vec Ideal ⟨3, ![2, nq, 8]⟩ .f32) (PT : Vec Ideal ⟨3, ![2, 8, nk]⟩ .f32) (SQ : Vec Ideal ⟨3, ![2, 1, nk]⟩ .f32)
    (FK : Vec Ideal ⟨3, ![2, nk, ck]⟩ .f32) (FS : Vec Ideal ⟨3, ![2, nq, cs]⟩ .f32) (wa : Vec Ideal ⟨2, ![ck, o]⟩ .f32)
    (wb : Vec Ideal ⟨2, ![cs, o]⟩ .f32) (bi : Vec Ideal ⟨2, ![1, o]⟩ .f32)
    (pq : Fin 2 → Fin nq → Fin 3 → EReal) (pk : Fin 2 → Fin nk → Fin 3 → EReal) (w : Fin o → Fin cf → EReal) (β : Fin o → EReal)

theorem dU_eq (hP : ∀ b m (i : Fin 3), P (ix3 b m ⟨i, by omega⟩) = pq b m i)
    (hPT : ∀ b m (i : Fin 3), PT (ix3 b ⟨i, by omega⟩ m) = pk b m i) (hSQ : ∀ b m, SQ (ix3 b 0 m) = ∑ i, pk b m i * pk b m i)
    (b : Fin 2) (q : Fin nq) (m : Fin nk) : dU P PT SQ b q m = sqd (pq b q) (pk b m) := by
  unfold dU sqd
  rw [hSQ, Fin.sum_univ_three (fun i => pq b q i * pk b m i), Fin.sum_univ_three (fun i => pq b q i * pq b q i),
    ← hP b q 0, ← hP b q 1, ← hP b q 2, ← hPT b m 0, ← hPT b m 1, ← hPT b m 2]
  rfl

/-- An upsampling's array holds the upsampling. -/
theorem upOf_eq (hn : 3 ≤ nk) (hcf : cf = ck + cs) (hP : ∀ b m (i : Fin 3), P (ix3 b m ⟨i, by omega⟩) = pq b m i)
    (hPT : ∀ b m (i : Fin 3), PT (ix3 b ⟨i, by omega⟩ m) = pk b m i) (hSQ : ∀ b m, SQ (ix3 b 0 m) = ∑ i, pk b m i * pk b m i)
    (hwa : ∀ (k : Fin ck) j, wa (ix2 k j) = w j ⟨k, by omega⟩) (hwb : ∀ (k : Fin cs) j, wb (ix2 k j) = w j ⟨ck + k, by omega⟩)
    (hbi : ∀ j, bi (ix2 0 j) = β j) (hpq : ∀ b m i, IsReal (pq b m i)) (hpk : ∀ b m i, IsReal (pk b m i))
    (b : Fin 2) (q : Fin nq) (j : Fin o) :
    upOf P PT SQ FK FS wa wb bi (ix3 b q j)
      = up (fun m => sqd (pq b q) (pk b m)) (fun m k => FK (ix3 b m k)) (fun k => FS (ix3 b q k)) w β hcf j := by
  rw [← upK_eq hn _ _ _ w β hcf (fun m => isReal_sqd (hpq b q) (hpk b m)) (fun m => le_max_right _ _) j]
  show upK (upW (dU P PT SQ b q)) (fun m k => FK (ix3 b m k)) (fun k => FS (ix3 b q k)) (fun k => wa (ix2 k j)) (fun k => wb (ix2 k j))
    (bi (ix2 0 j)) = _
  rw [show dU P PT SQ b q = _ from funext fun m => dU_eq P PT SQ pq pk hP hPT hSQ b q m]
  simp only [hwa, hwb, hbi]

end

end Cert.Blocks

end
-- ==== Proof.Out0.lean ====
/-
  What the first convolution's region leaves in its two result arrays.
-/
module

public import proofs.«01_k».proof.Proof.Gen.KernelIdeal.Frame.Region0
public import proofs.«01_k».proof.Proof.Conv0
public import proofs.«01_k».proof.Proof.Blocks
public import Idealize.ShloMosaic.Lib.Pipeline.ValueKit

@[expose] public section

set_option maxRecDepth 16384

noncomputable section

namespace Cert.Conv0

open Idealize.ShloMosaic Idealize.ShloMosaic.TcCoe Idealize.SL.Sem Cert.Select Cert.Layers Cert.Rounds Cert.Blocks
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The queries' rows of the point array. -/
abbrev qrows (i : grid0.Coords) (x3 : Vec Ideal S1x4096x8 .f32) : Vec Ideal S1x256x8 .f32 :=
  View.ld x3 (Rect.unit (s := S1x4096x8) (k0_off1 i) S1x256x8.size (k0_off1_inb i))

/-- The block's distances. -/
abbrev dist (i : grid0.Coords) (x0 : Vec Ideal S1x256x8 .f32) (x1 : Vec Ideal S1x8x4096 .f32) (x2 : Vec Ideal S1x1x4096 .f32)
    (x3 : Vec Ideal S1x4096x8 .f32) : FVec Ideal S256x4096 .f32 := k0_pay5 (F := Ideal) (qrows i x3) x0 x1 x2

theorem out6 (c : Dev nD) (i : grid0.Coords) (a2 : Memref sig .tc .vmem S1x256x8 .f32) (h2 : a2.IsWhole)
    (a3 : Memref sig .tc .vmem S1x8x4096 .f32) (h3 : a3.IsWhole) (a4 : Memref sig .tc .vmem S1x1x4096 .f32) (h4 : a4.IsWhole)
    (a5 : Memref sig .tc .vmem S1x4096x8 .f32) (h5 : a5.IsWhole) (a6 : Memref sig .tc .vmem S4x64 .f32) (h6 : a6.IsWhole)
    (a7 : Memref sig .tc .vmem S8x64 .f32) (h7 : a7.IsWhole) (a8 : Memref sig .tc .vmem S1x256x64 .f32) (h8 : a8.IsWhole)
    (a9 : Memref sig .tc .vmem S1x256x4096 .bf16) (h9 : a9.IsWhole)
    (x0 : Vec Ideal S1x256x8 .f32) (x1 : Vec Ideal S1x8x4096 .f32) (x2 : Vec Ideal S1x1x4096 .f32)
    (x3 : Vec Ideal S1x4096x8 .f32) (x4 : Vec Ideal S4x64 .f32) (x5 : Vec Ideal S8x64 .f32) :
    out0_A_6 c i a2 h2 a3 h3 a4 h4 a5 h5 a6 h6 a7 h7 a8 h8 a9 h9 x0 x1 x2 x3 x4 x5
      = k0_pay47 (k0_pay2 (qrows i x3)) (k0_pay3 (qrows i x3)) (k0_pay4 (qrows i x3))
          (a15 pos (dist i x0 x1 x2 x3)) (h15 pos (dist i x0 x1 x2 x3)) x3 x4 x5 := by
  unfold out0_A_6
  rw [View.read_writes_junk_eq_canon]
  unfold kernelRun0_A
  dsimp only
  sl_unfold_words
  rw [View.canon_unit_zero hz3]
  simp only [View.readAt_eq_ld, h2.read_unread, h3.read_unread, h4.read_unread, h5.read_unread, h6.read_unread, h7.read_unread,
    View.ld_unit_zero (S := S1x256x8) hz3, View.ld_unit_zero (S := S1x8x4096) hz3, View.ld_unit_zero (S := S1x1x4096) hz3,
    View.ld_unit_zero (S := S1x4096x8) hz3, View.ld_unit_zero (S := S4x64) hz2, View.ld_unit_zero (S := S8x64) hz2]
  rfl

theorem out7 (c : Dev nD) (i : grid0.Coords) (a2 : Memref sig .tc .vmem S1x256x8 .f32) (h2 : a2.IsWhole)
    (a3 : Memref sig .tc .vmem S1x8x4096 .f32) (h3 : a3.IsWhole) (a4 : Memref sig .tc .vmem S1x1x4096 .f32) (h4 : a4.IsWhole)
    (a5 : Memref sig .tc .vmem S1x4096x8 .f32) (h5 : a5.IsWhole) (a6 : Memref sig .tc .vmem S4x64 .f32) (h6 : a6.IsWhole)
    (a7 : Memref sig .tc .vmem S8x64 .f32) (h7 : a7.IsWhole) (a8 : Memref sig .tc .vmem S1x256x64 .f32) (h8 : a8.IsWhole)
    (a9 : Memref sig .tc .vmem S1x256x4096 .bf16) (h9 : a9.IsWhole)
    (x0 : Vec Ideal S1x256x8 .f32) (x1 : Vec Ideal S1x8x4096 .f32) (x2 : Vec Ideal S1x1x4096 .f32)
    (x3 : Vec Ideal S1x4096x8 .f32) (x4 : Vec Ideal S4x64 .f32) (x5 : Vec Ideal S8x64 .f32) :
    out0_A_7 c i a2 h2 a3 h3 a4 h4 a5 h5 a6 h6 a7 h7 a8 h8 a9 h9 x0 x1 x2 x3 x4 x5
      = k0_pay46 (a15 pos (dist i x0 x1 x2 x3)) (h15 pos (dist i x0 x1 x2 x3)) := by
  unfold out0_A_7
  rw [View.read_writes_junk_eq_canon]
  unfold kernelRun0_A
  dsimp only
  sl_unfold_words
  rw [View.canon_unit_zero hz3]
  simp only [View.readAt_eq_ld, h2.read_unread, h3.read_unread, h4.read_unread, h5.read_unread,
    View.ld_unit_zero (S := S1x256x8) hz3, View.ld_unit_zero (S := S1x8x4096) hz3, View.ld_unit_zero (S := S1x1x4096) hz3]
  rfl

variable (V : (c : Dev nD) → (b : Ref sig .tc) → Buf (Elt Ideal) ((c : Thread nD τ).loc b)) (c : Dev nD)

/-- The batch of a grid point. -/
def bT (t : Fin cfg0.N) : Fin 2 := (grid0.coords t) 0
/-- The query of a row at a grid point. -/
def qT (t : Fin cfg0.N) (r : Fin 256) : Fin 4096 := ⟨((grid0.coords t) 1).val * 256 + r.val, by
  have h : ((grid0.coords t) 1).val < 16 := ((grid0.coords t) 1).isLt
  omega⟩

theorem idx0 : ∀ t : Fin cfg0.N, win0_0.index t (0 : Fin 3) = ((grid0.coords t) 0).val ∧ win0_0.index t (1 : Fin 3) = ((grid0.coords t) 1).val
    ∧ win0_0.index t (2 : Fin 3) = 0 := (by decide +kernel : ∀ t : Fin grid0.N, _)
theorem idx1 : ∀ t : Fin cfg0.N, win0_1.index t (0 : Fin 3) = ((grid0.coords t) 0).val ∧ win0_1.index t (1 : Fin 3) = 0
    ∧ win0_1.index t (2 : Fin 3) = 0 := (by decide +kernel : ∀ t : Fin grid0.N, _)
theorem idx2 : ∀ t : Fin cfg0.N, win0_2.index t (0 : Fin 3) = ((grid0.coords t) 0).val ∧ win0_2.index t (1 : Fin 3) = 0
    ∧ win0_2.index t (2 : Fin 3) = 0 := (by decide +kernel : ∀ t : Fin grid0.N, _)
theorem idx3 : ∀ t : Fin cfg0.N, win0_3.index t (0 : Fin 3) = ((grid0.coords t) 0).val ∧ win0_3.index t (1 : Fin 3) = 0
    ∧ win0_3.index t (2 : Fin 3) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = ((grid0.coords t) 0).val ∧ win0_6.index t (1 : Fin 3) = ((grid0.coords t) 1).val
    ∧ win0_6.index t (2 : Fin 3) = 0 := (by decide +kernel : ∀ t : Fin grid0.N, _)
theorem idx7 : ∀ t : Fin cfg0.N, win0_7.index t (0 : Fin 3) = ((grid0.coords t) 0).val ∧ win0_7.index t (1 : Fin 3) = ((grid0.coords t) 1).val
    ∧ win0_7.index t (2 : Fin 3) = 0 := (by decide +kernel : ∀ t : Fin grid0.N, _)

theorem blk0 (t : Fin cfg0.N) (r : Fin 256) (k : Fin 8) : iblk0 V c 0 t (ix3 0 r k) = V c main_v5 (ix3 (bT t) (qT t r) k) := by
  obtain ⟨e0, e1, e2⟩ := idx0 t
  refine congrArg (V c main_v5) (funext fun a => Fin.ext ?_)
  match a with
  | ⟨0, _⟩ => show win0_0.index t (0 : Fin 3) * 1 + 1 * 0 = ((grid0.coords t) 0).val; omega
  | ⟨1, _⟩ => show win0_0.index t (1 : Fin 3) * 256 + 1 * r.val = ((grid0.coords t) 1).val * 256 + r.val; omega
  | ⟨2, _⟩ => show win0_0.index t (2 : Fin 3) * 8 + 1 * k.val = k.val; omega

theorem blk1 (t : Fin cfg0.N) (k : Fin 8) (m : Fin 4096) : iblk0 V c 1 t (ix3 0 k m) = V c main_v6 (ix3 (bT t) k m) := by
  obtain ⟨e0, e1, e2⟩ := idx1 t
  refine congrArg (V c main_v6) (funext fun a => Fin.ext ?_)
  match a with
  | ⟨0, _⟩ => show win0_1.index t (0 : Fin 3) * 1 + 1 * 0 = ((grid0.coords t) 0).val; omega
  | ⟨1, _⟩ => show win0_1.index t (1 : Fin 3) * 8 + 1 * k.val = k.val; omega
  | ⟨2, _⟩ => show win0_1.index t (2 : Fin 3) * 4096 + 1 * m.val = m.val; omega

theorem blk2 (t : Fin cfg0.N) (m : Fin 4096) : iblk0 V c 2 t (ix3 0 0 m) = V c main_v7 (ix3 (bT t) 0 m) := by
  obtain ⟨e0, e1, e2⟩ := idx2 t
  refine congrArg (V c main_v7) (funext fun a => Fin.ext ?_)
  match a with
  | ⟨0, _⟩ => show win0_2.index t (0 : Fin 3) * 1 + 1 * 0 = ((grid0.coords t) 0).val; omega
  | ⟨1, _⟩ => show win0_2.index t (1 : Fin 3) * 1 + 1 * 0 = 0; omega
  | ⟨2, _⟩ => show win0_2.index t (2 : Fin 3) * 4096 + 1 * m.val = m.val; omega

theorem blk3 (t : Fin cfg0.N) (m : Fin 4096) (k : Fin 8) : iblk0 V c 3 t (ix3 0 m k) = V c main_v3 (ix3 (bT t) m k) := by
  obtain ⟨e0, e1, e2⟩ := idx3 t
  refine congrArg (V c main_v3) (funext fun a => Fin.ext ?_)
  match a with
  | ⟨0, _⟩ => show win0_3.index t (0 : Fin 3) * 1 + 1 * 0 = ((grid0.coords t) 0).val; omega
  | ⟨1, _⟩ => show win0_3.index t (1 : Fin 3) * 4096 + 1 * m.val = m.val; omega
  | ⟨2, _⟩ => show win0_3.index t (2 : Fin 3) * 8 + 1 * k.val = k.val; omega

theorem blk4 (t : Fin cfg0.N) : iblk0 V c 4 t = V c main_v8 := by
  obtain ⟨e0, e1⟩ := idx4 t
  funext y
  refine congrArg (V c main_v8) (funext fun a => Fin.ext ?_)
  match a with
  | ⟨0, _⟩ => show win0_4.index t (0 : Fin 2) * 4 + 1 * (y 0).val = (y 0).val; omega
  | ⟨1, _⟩ => show win0_4.index t (1 : Fin 2) * 64 + 1 * (y 1).val = (y 1).val; omega

theorem blk5 (t : Fin cfg0.N) : iblk0 V c 5 t = V c main_v9 := by
  obtain ⟨e0, e1⟩ := idx5 t
  funext y
  refine congrArg (V c main_v9) (funext fun a => Fin.ext ?_)
  match a with
  | ⟨0, _⟩ => show win0_5.index t (0 : Fin 2) * 8 + 1 * (y 0).val = (y 0).val; omega
  | ⟨1, _⟩ => show win0_5.index t (1 : Fin 2) * 64 + 1 * (y 1).val = (y 1).val; omega

theorem emb6 (t : Fin cfg0.N) (r : Fin 256) (j : Fin 64) : ((View.whole main_v10_0).slice (win0_6.rect t)).emb (ix3 0 r j) = ix3 (bT t) (qT t r) j := by
  obtain ⟨e0, e1, e2⟩ := idx6 t
  funext a; apply Fin.ext
  match a with
  | ⟨0, _⟩ => show win0_6.index t (0 : Fin 3) * 1 + 1 * 0 = ((grid0.coords t) 0).val; omega
  | ⟨1, _⟩ => show win0_6.index t (1 : Fin 3) * 256 + 1 * r.val = ((grid0.coords t) 1).val * 256 + r.val; omega
  | ⟨2, _⟩ => show win0_6.index t (2 : Fin 3) * 64 + 1 * j.val = j.val; omega

theorem emb7 (t : Fin cfg0.N) (r : Fin 256) (j : Fin 4096) : ((View.whole main_v10_1).slice (win0_7.rect t)).emb (ix3 0 r j) = ix3 (bT t) (qT t r) j := by
  obtain ⟨e0, e1, e2⟩ := idx7 t
  funext a; apply Fin.ext
  match a with
  | ⟨0, _⟩ => show win0_7.index t (0 : Fin 3) * 1 + 1 * 0 = ((grid0.coords t) 0).val; omega
  | ⟨1, _⟩ => show win0_7.index t (1 : Fin 3) * 256 + 1 * r.val = ((grid0.coords t) 1).val * 256 + r.val; omega
  | ⟨2, _⟩ => show win0_7.index t (2 : Fin 3) * 4096 + 1 * j.val = j.val; omega

/-- The queries' rows are the rows of the point array. -/
theorem qrows_eq (t : Fin cfg0.N) (x3 : Vec Ideal S1x4096x8 .f32) (r : Fin 256) (k : Fin 8) :
    qrows (grid0.coords t) x3 (ix3 0 r k) = x3 (ix3 0 (qT t r) k) := by
  have h : ∀ t : Fin grid0.N, k0_off1 (grid0.coords t) 1 = ((grid0.coords t) 1).val * 256 := by decide +kernel
  have e := h t
  refine congrArg x3 (funext fun a => Fin.ext ?_)
  match a with
  | ⟨0, _⟩ => rfl
  | ⟨1, _⟩ => show k0_off1 (grid0.coords t) 1 + 1 * r.val = ((grid0.coords t) 1).val * 256 + r.val; omega
  | ⟨2, _⟩ => show 0 + 1 * k.val = k.val; omega

theorem dist_eq (t : Fin cfg0.N) (r : Fin 256) (m : Fin 4096) :
    dist (grid0.coords t) (iblk0 V c 0 t) (iblk0 V c 1 t) (iblk0 V c 2 t) (iblk0 V c 3 t) (ix2 r m)
      = dK (c := 4) rfl (V c main_v3) (V c main_v5) (V c main_v6) (V c main_v7) (bT t) (qT t r) m := by
  unfold dK
  rw [← blk0 V c t r 0, ← blk0 V c t r 1, ← blk0 V c t r 2, ← blk1 V c t 0 m, ← blk1 V c t 1 m, ← blk1 V c t 2 m, ← blk2 V c t m,
    ← blk3 V c t (qT t r) ⟨4 + 3, by omega⟩, ← qrows_eq t (iblk0 V c 3 t) r ⟨4 + 3, by omega⟩]
  pointwise [k0_pay5, k0_pay4, k0_pay1]

theorem final7 : (dat0 V c).arrAt 7 cfg0.N = maskOf (c := 4) rfl (V c main_v3) (V c main_v5) (V c main_v6) (V c main_v7) := by
  refine (dat0 V c).arrAt_eq_of_covers 7 _ (by decide +kernel) fun t hf y => ?_
  blk_simp
  rw [after0_7]
  unfold outsAt0
  dsimp only
  rw [out7]
  idx_vars y
  obtain rfl : y0 = 0 := Subsingleton.elim _ _
  rw [emb7]
  refine (weights_out _ y1 y2).trans ?_
  simp only [dist_eq]
  rfl

theorem final6 : (dat0 V c).arrAt 6 cfg0.N
    = convOf (c := 4) rfl (maskOf (c := 4) rfl (V c main_v3) (V c main_v5) (V c main_v6) (V c main_v7)) (V c main_v3) (V c main_v8) (V c main_v9) := by
  refine (dat0 V c).arrAt_eq_of_covers 6 _ (by decide +kernel) fun t hf y => ?_
  blk_simp
  rw [after0_6]
  unfold outsAt0
  dsimp only
  rw [out6]
  idx_vars y
  obtain rfl : y0 = 0 := Subsingleton.elim _ _
  rw [emb6]
  refine (value _ _ _ _ _ (qT t y1) y1 (fun k => qrows_eq t _ y1 k) y2).trans ?_
  simp only [dist_eq, blk3, blk4, blk5]
  rfl

end Cert.Conv0

end
-- ==== Proof.Reads.lean ====
/-
  The stable top-k of negated distances, and the gathers of rows, read at an index.
-/
module

public import proofs.«01_k».proof.Proof.Select
public import Idealize.ShloMosaic.Lib.Pointwise

@[expose] public section

noncomputable section

namespace Cert.Reads

open Idealize.ShloMosaic Cert.Select

/-! ## Top-k of negated distances along the last axis -/

section TopK
variable {B Q N k : ℕ}

theorem before_neg (a b : EReal) :
    (FloatOps.cmpfTotal (F := Ideal) (φ := .f32) .gt (-a) (-b) == 1#1) = decide (a < b) := by
  show (Ideal.cmp .ogt (-a) (-b) == 1#1) = _
  unfold Ideal.cmp
  simp only [EReal.neg_lt_neg_iff]
  by_cases h : a < b <;> simp [h]

/-- The positions and values of the `k` greatest of the negated distances: those of the rounds. -/
theorem topK_neg [NeZero N] (x : (⟨3, ![B, Q, N]⟩ : Shape).Idx → Ideal .f32)
    (h : (⟨3, ![B, Q, N]⟩ : Shape).Slices (fun _ => 0) ⟨3, ![B, Q, k]⟩) (hk : k ≤ N) (b : Fin B) (q : Fin Q) (t : Fin k)
    (d : Fin N → EReal) (hd : ∀ m, d m < ⊤) (hx : ∀ m, x (ix3 b q m) = -(d m)) :
    (Host.topK ⟨3, ![B, Q, k]⟩ 2 (FloatOps.cmpfTotal .gt) x h).1 (ix3 b q t) = -(d (pick d t))
      ∧ (Host.topK ⟨3, ![B, Q, k]⟩ 2 (FloatOps.cmpfTotal .gt) x h).2 (ix3 b q t) = BitVec.ofNat 32 (pick d t).val := by
  have hal : ∀ m : Fin N, (ix3 b q (t.castLE hk) : (⟨3, ![B, Q, N]⟩ : Shape).Idx).along 2 m = ix3 b q m := fun m => by
    funext a
    match a with
    | ⟨0, _⟩ => rfl
    | ⟨1, _⟩ => rfl
    | ⟨2, _⟩ => rfl
  have hsort : sortedFrom (fun m m' : Fin N => FloatOps.cmpfTotal (F := Ideal) (φ := .f32) .gt
      (x ((ix3 b q (t.castLE hk) : (⟨3, ![B, Q, N]⟩ : Shape).Idx).along 2 m))
      (x ((ix3 b q (t.castLE hk) : (⟨3, ![B, Q, N]⟩ : Shape).Idx).along 2 m')) == 1#1) (t.castLE hk) = pick d t := by
    rw [← sortedFrom_eq_pick d hd k hk t]
    congr 1
    funext m m'
    rw [hal, hal, hx, hx, before_neg]
  have hix : (fun a => ⟨0 + ((ix3 b q t : (⟨3, ![B, Q, k]⟩ : Shape).Idx) a).val, by
      have := ((ix3 b q t : (⟨3, ![B, Q, k]⟩ : Shape).Idx) a).isLt
      match a with
      | ⟨0, _⟩ => simpa using (b.isLt)
      | ⟨1, _⟩ => simpa using (q.isLt)
      | ⟨2, _⟩ => simpa using (lt_of_lt_of_le t.isLt hk)⟩ : (⟨3, ![B, Q, N]⟩ : Shape).Idx) = ix3 b q (t.castLE hk) := by
    funext a
    match a with
    | ⟨0, _⟩ => exact Fin.ext (Nat.zero_add _)
    | ⟨1, _⟩ => exact Fin.ext (Nat.zero_add _)
    | ⟨2, _⟩ => exact Fin.ext (Nat.zero_add _)
  have key : ∀ j : (⟨3, ![B, Q, N]⟩ : Shape).Idx, j = ix3 b q (t.castLE hk) →
      (Host.sort2 ⟨3, ![B, Q, N]⟩ 2 (fun l r => FloatOps.cmpfTotal (F := Ideal) (φ := .f32) .gt l.1 r.1) x
          (fun i => if hd : 2 < (⟨3, ![B, Q, N]⟩ : Shape).rank then iotaInDim ⟨3, ![B, Q, N]⟩ 32 ⟨2, hd⟩ i else 0#32)).1 j = -(d (pick d t))
      ∧ (Host.sort2 ⟨3, ![B, Q, N]⟩ 2 (fun l r => FloatOps.cmpfTotal (F := Ideal) (φ := .f32) .gt l.1 r.1) x
          (fun i => if hd : 2 < (⟨3, ![B, Q, N]⟩ : Shape).rank then iotaInDim ⟨3, ![B, Q, N]⟩ 32 ⟨2, hd⟩ i else 0#32)).2 j
        = BitVec.ofNat 32 (pick d t).val := by
    rintro j rfl
    unfold Host.sort2
    rw [dif_pos (show 2 < (⟨3, ![B, Q, N]⟩ : Shape).rank from Nat.lt_succ_self 2)]
    constructor
    · refine Eq.trans (congrArg x ?_) (hx (pick d t))
      exact (congrArg ((ix3 b q (t.castLE hk) : (⟨3, ![B, Q, N]⟩ : Shape).Idx).along 2) hsort).trans (hal _)
    · show (if hd : 2 < (⟨3, ![B, Q, N]⟩ : Shape).rank then iotaInDim ⟨3, ![B, Q, N]⟩ 32 ⟨2, hd⟩ _ else 0#32) = _
      rw [dif_pos (show 2 < (⟨3, ![B, Q, N]⟩ : Shape).rank from Nat.lt_succ_self 2)]
      refine Eq.trans (congrArg _ (show _ = ix3 b q (pick d t) from ?_)) rfl
      exact (congrArg ((ix3 b q (t.castLE hk) : (⟨3, ![B, Q, N]⟩ : Shape).Idx).along 2) hsort).trans (hal _)
  exact key _ hix

end TopK

/-! ## Gathers of rows -/

section Gather
variable {α : Type} {B N Q K C w : ℕ}

/-- The start index at a place, clamped to the rows there are. -/
def row (hN : 0 < N) (v : BitVec w) : Fin N := ⟨min v.toInt.toNat (N - 1), by omega⟩

theorem row_ofNat (hN : 0 < N) (h : N < 2147483648) (m : Fin N) : row hN (BitVec.ofNat 32 m.val) = m := by
  refine Fin.ext ?_
  have := toInt_ofNat m.val (by omega)
  unfold row
  simp only [this]
  omega

/-- A wrapped index that is a position is that position. -/
theorem wrap_ofNat (n : BitVec 32) (h : N < 2147483648) (m : Fin N) :
    Scalar.select (IntOp.cmpi .slt (BitVec.ofNat 32 m.val) 0#32) (IntOp.addi (BitVec.ofNat 32 m.val) n) (BitVec.ofNat 32 m.val)
      = BitVec.ofNat 32 m.val := by
  have := toInt_ofNat m.val (by omega)
  have h0 : IntOp.cmpi .slt (BitVec.ofNat 32 m.val) 0#32 = 0#1 := by
    unfold IntOp.cmpi
    simp only [BitVec.slt, this]
    have : ¬((m.val : ℤ) < 0) := by omega
    simp [this]
  rw [h0]
  rfl

/-- The dimension numbers of `x[b, idx[b, q, t], :]`. -/
abbrev rows4 (B N Q K C : ℕ) (wf : GatherDims.WF ⟨3, ![B, N, C]⟩ ⟨4, ![B, Q, K, 1]⟩ ⟨4, ![B, Q, K, C]⟩ [3] [1] [0] [1] [0] 3 ![1, 1, C]) :
    GatherDims ⟨3, ![B, N, C]⟩ ⟨4, ![B, Q, K, 1]⟩ ⟨4, ![B, Q, K, C]⟩ where
  offsetDims := [3]
  collapsedSliceDims := [1]
  operandBatchingDims := [0]
  startIndicesBatchingDims := [0]
  startIndexMap := [1]
  indexVectorDim := 3
  sliceSizes := ![1, 1, C]
  wf := wf

theorem gather_rows4 (hN : 0 < N) (wf : GatherDims.WF ⟨3, ![B, N, C]⟩ ⟨4, ![B, Q, K, 1]⟩ ⟨4, ![B, Q, K, C]⟩ [3] [1] [0] [1] [0] 3 ![1, 1, C])
    (x : (⟨3, ![B, N, C]⟩ : Shape).Idx → α) (idx : IVec ⟨4, ![B, Q, K, 1]⟩ w) (b : Fin B) (q : Fin Q) (t : Fin K) (c : Fin C) :
    Host.gather (rows4 B N Q K C wf) x idx (ix4 b q t c) = x (ix3 b (row hN (idx (ix4 b q t 0))) c) := by
  unfold Host.gather
  congr 1
  funext a
  refine Fin.ext ?_
  show (rows4 B N Q K C wf).start (ix4 b q t c) idx a + (rows4 B N Q K C wf).batchCoord (ix4 b q t c) a
      + (rows4 B N Q K C wf).offCoord (ix4 b q t c) a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rows4 B N Q K C wf).startIndexMap from List.mem_singleton.mpr rfl)]
    have hsi : (rows4 B N Q K C wf).siIdx (ix4 b q t c) ⟨List.idxOf (1 : Fin 3) (rows4 B N Q K C wf).startIndexMap,
        List.idxOf_lt_length_iff.2 (List.mem_singleton.mpr rfl)⟩ = ix4 b q t 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (fun h => by simp at h)]
    have : (rows4 B N Q K C wf).start (ix4 b q t c) idx 2 = 0 := by
      unfold GatherDims.start
      rw [dif_neg (show ¬(2 : Fin 3) ∈ (rows4 B N Q K C wf).startIndexMap by simp)]
    rw [this]
    simp only [Nat.zero_add]
    unfold GatherDims.offCoord
    rw [dif_pos (show (2 : Fin 3) ∈ (rows4 B N Q K C wf).sKept from (GatherDims.mem_sKept _ _).mpr ⟨by simp, by simp⟩)]
    rfl

/-- The dimension numbers of `x[b, idx[b, q], :]`. -/
abbrev rows3 (B N Q C : ℕ) (wf : GatherDims.WF ⟨3, ![B, N, C]⟩ ⟨3, ![B, Q, 1]⟩ ⟨3, ![B, Q, C]⟩ [2] [1] [0] [1] [0] 2 ![1, 1, C]) :
    GatherDims ⟨3, ![B, N, C]⟩ ⟨3, ![B, Q, 1]⟩ ⟨3, ![B, Q, C]⟩ where
  offsetDims := [2]
  collapsedSliceDims := [1]
  operandBatchingDims := [0]
  startIndicesBatchingDims := [0]
  startIndexMap := [1]
  indexVectorDim := 2
  sliceSizes := ![1, 1, C]
  wf := wf

theorem gather_rows3 (hN : 0 < N) (wf : GatherDims.WF ⟨3, ![B, N, C]⟩ ⟨3, ![B, Q, 1]⟩ ⟨3, ![B, Q, C]⟩ [2] [1] [0] [1] [0] 2 ![1, 1, C])
    (x : (⟨3, ![B, N, C]⟩ : Shape).Idx → α) (idx : IVec ⟨3, ![B, Q, 1]⟩ w) (b : Fin B) (q : Fin Q) (c : Fin C) :
    Host.gather (rows3 B N Q C wf) x idx (ix3 b q c) = x (ix3 b (row hN (idx (ix3 b q 0))) c) := by
  unfold Host.gather
  congr 1
  funext a
  refine Fin.ext ?_
  show (rows3 B N Q C wf).start (ix3 b q c) idx a + (rows3 B N Q C wf).batchCoord (ix3 b q c) a
      + (rows3 B N Q C wf).offCoord (ix3 b q c) a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rows3 B N Q C wf).startIndexMap from List.mem_singleton.mpr rfl)]
    have hsi : (rows3 B N Q C wf).siIdx (ix3 b q c) ⟨List.idxOf (1 : Fin 3) (rows3 B N Q C wf).startIndexMap,
        List.idxOf_lt_length_iff.2 (List.mem_singleton.mpr rfl)⟩ = ix3 b q 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp at h)]
    have : (rows3 B N Q C wf).start (ix3 b q c) idx 2 = 0 := by
      unfold GatherDims.start
      rw [dif_neg (show ¬(2 : Fin 3) ∈ (rows3 B N Q C wf).startIndexMap by simp)]
    rw [this]
    simp only [Nat.zero_add]
    unfold GatherDims.offCoord
    rw [dif_pos (show (2 : Fin 3) ∈ (rows3 B N Q C wf).sKept from (GatherDims.mem_sKept _ _).mpr ⟨by simp, by simp⟩)]
    rfl

end Gather

end Cert.Reads

end
-- ==== Proof.RefConv.lean ====
/-
  The reference's layers read at an index: distances, neighbours, gathered rows, the layer's value.
-/
module

public import proofs.«01_k».proof.Proof.Gen.ReferenceIdeal.Read
public import proofs.«01_k».proof.Proof.Layers
public import proofs.«01_k».proof.Proof.Reads
public import Idealize.ShloMosaic.Lib.Pointwise

@[expose] public section

set_option maxRecDepth 16384

noncomputable section

namespace Cert.RefConv

open Idealize.ShloMosaic Cert.Select Cert.Layers Cert.Reads
open Cert.ReferenceIdeal Cert.ReferenceIdeal.Gen Cert.ReferenceIdeal.Read

/-- A gathered row at a wrapped position of the top-k is the row of the pick. -/
theorem gathered {B N Q K C : ℕ} [NeZero N] (hN : N < 2147483648)
    (wf : GatherDims.WF ⟨3, ![B, N, C]⟩ ⟨4, ![B, Q, K, 1]⟩ ⟨4, ![B, Q, K, C]⟩ [3] [1] [0] [1] [0] 3 ![1, 1, C])
    (x : (⟨3, ![B, N, C]⟩ : Shape).Idx → EReal) (idx : IVec ⟨4, ![B, Q, K, 1]⟩ 32) (b : Fin B) (q : Fin Q) (t : Fin K) (c : Fin C)
    (m : Fin N) (h : idx (ix4 b q t 0) = BitVec.ofNat 32 m.val) :
    Host.gather (rows4 B N Q K C wf) x idx (ix4 b q t c) = x (ix3 b m c) :=
  (gather_rows4 (NeZero.pos N) wf x idx b q t c).trans (by rw [h, row_ofNat _ hN])

variable (x0 : (⟨S2x4096x4, .f32⟩ : BufTy).Contents (Elt Ideal)) (x1 : (⟨S2x4096x3, .f32⟩ : BufTy).Contents (Elt Ideal))
  (x2 : (⟨S2x2048, .i32⟩ : BufTy).Contents (Elt Ideal)) (x3 : (⟨S2x3x2048, .f32⟩ : BufTy).Contents (Elt Ideal))
  (x4 : (⟨S2x1024, .i32⟩ : BufTy).Contents (Elt Ideal)) (x5 : (⟨S2x3x1024, .f32⟩ : BufTy).Contents (Elt Ideal))
  (x6 : (⟨S64x4, .f32⟩ : BufTy).Contents (Elt Ideal)) (x7 : (⟨S64x8, .f32⟩ : BufTy).Contents (Elt Ideal))
  (x8 : (⟨S128x64, .f32⟩ : BufTy).Contents (Elt Ideal)) (x9 : (⟨S128x68, .f32⟩ : BufTy).Contents (Elt Ideal))
  (x10 : (⟨S256x128, .f32⟩ : BufTy).Contents (Elt Ideal)) (x11 : (⟨S256x132, .f32⟩ : BufTy).Contents (Elt Ideal))
  (x12 : (⟨S128x384, .f32⟩ : BufTy).Contents (Elt Ideal)) (x13 : (⟨S128, .f32⟩ : BufTy).Contents (Elt Ideal))
  (x14 : (⟨S128x128, .f32⟩ : BufTy).Contents (Elt Ideal)) (x15 : (⟨S128x132, .f32⟩ : BufTy).Contents (Elt Ideal))
  (x16 : (⟨S64x192, .f32⟩ : BufTy).Contents (Elt Ideal)) (x17 : (⟨S64, .f32⟩ : BufTy).Contents (Elt Ideal))
  (x18 : (⟨S64x64, .f32⟩ : BufTy).Contents (Elt Ideal)) (x19 : (⟨S64x68, .f32⟩ : BufTy).Contents (Elt Ideal))
  (x20 : (⟨S128x64, .f32⟩ : BufTy).Contents (Elt Ideal)) (x21 : (⟨S128, .f32⟩ : BufTy).Contents (Elt Ideal))

/-- The positions of the input points of a batch. -/
abbrev p0 (b : Fin 2) (m : Fin 4096) (i : Fin 3) : EReal := x1 (ix3 b m i)

theorem dist0 (b : Fin 2) (q m : Fin 4096) :
    val_main_v15 (F := Ideal) x1 (ix3 b q m) = -(sqd (p0 x1 b q) (p0 x1 b m)) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, sqd, p0]

theorem nbr0 (hp : ∀ b m i, IsReal (p0 x1 b m i)) (b : Fin 2) (q : Fin 4096) (t : Fin 16) :
    val_main_v23 (F := Ideal) x1 (ix4 b q t 0) = BitVec.ofNat 32 (pick (fun m => sqd (p0 x1 b q) (p0 x1 b m)) t).val := by
  have h : val_main_indices (F := Ideal) x1 (ix3 b q t) = _ :=
    (topK_neg (val_main_v15 (F := Ideal) x1) sliceFits_S2x4096x4096_S2x4096x16 (by norm_num) b q t (fun m => sqd (p0 x1 b q) (p0 x1 b m))
      (fun m => (isReal_sqd (hp b q) (hp b m)).lt_top) (dist0 x1 b q)).2
  pointwise [val_main_v23, val_main_v22, val_main_v21, val_main_v20, val_main_c_3, val_main_v19, val_main_v18, val_main_c]
  rw [h]
  exact wrap_ofNat _ (by norm_num) _

theorem conv0 (hp : ∀ b m i, IsReal (p0 x1 b m i)) (b : Fin 2) (q : Fin 4096) (j : Fin 64) :
    val_main_v45 (F := Ideal) x0 x1 x6 x7 (ix3 b q j)
      = conv (fun m k => x0 (ix3 b m k)) (p0 x1 b) (fun j k => x6 (ix2 j k)) (fun j k => x7 (ix2 j k)) q j := by
  have hx : ∀ t k, val_main_v24 (F := Ideal) x0 x1 (ix4 b q t k) = _ := fun t k =>
    gathered (by norm_num) _ x0 _ b q t k _ (nbr0 x1 hp b q t)
  have hq : ∀ t k, val_main_v31 (F := Ideal) x1 (ix4 b q t k) = _ := fun t k =>
    gathered (by norm_num) _ x1 _ b q t k _ (nbr0 x1 hp b q t)
  pointwise [val_main_v45, val_main_call0_v4, val_main_call0_v3, val_main_call0_v2, val_main_call0_v1, val_main_call0_v0, val_main_call0_cst, val_main_cst_9, val_main_v44, val_main_v43, val_main_v42, val_main_cst_8, val_main_v41, val_main_cst_7, val_main_v40, val_main_v39, val_main_v17, val_main_v16, val_main_v38, val_main_v37, val_main_v36, val_main_cst_6, val_main_v35, val_main_v34, val_main_v33, val_main_v32]
  simp only [hx, hq]
  rfl

/-- The positions of the first sample. -/
abbrev p1 (b : Fin 2) (m : Fin 2048) (i : Fin 3) : EReal := x3 (ix3 b i m)

/-- The positions of the second sample. -/
abbrev p2 (b : Fin 2) (m : Fin 1024) (i : Fin 3) : EReal := x5 (ix3 b i m)

theorem dist1 (b : Fin 2) (q m : Fin 2048) :
    val_main_v69 (F := Ideal) x3 (ix3 b q m) = -(sqd (p1 x3 b q) (p1 x3 b m)) := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v46, val_main_cst_12, val_main_cst_13, val_main_cst_14, val_main_cst_15, sqd, p1]

theorem dist2 (b : Fin 2) (q m : Fin 1024) :
    val_main_v123 (F := Ideal) x5 (ix3 b q m) = -(sqd (p2 x5 b q) (p2 x5 b m)) := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_v100, val_main_cst_28, val_main_cst_29, val_main_cst_30, val_main_cst_31, sqd, p2]

theorem distU1 (b : Fin 2) (q : Fin 2048) (m : Fin 1024) :
    val_main_v169 (F := Ideal) x3 x5 (ix3 b q m) = -(sqd (p1 x3 b q) (p2 x5 b m)) := by
  pointwise [val_main_v169, val_main_v168, val_main_v167, val_main_v166, val_main_v165, val_main_v164, val_main_v163, val_main_v162, val_main_v161, val_main_v160, val_main_v159, val_main_v158, val_main_v157, val_main_v156, val_main_v155, val_main_v154, val_main_v46, val_main_v100, val_main_cst_42, val_main_cst_43, val_main_cst_44, val_main_cst_45, sqd, p1, p2]

theorem distU0 (b : Fin 2) (q : Fin 4096) (m : Fin 2048) :
    val_main_v258 (F := Ideal) x1 x3 (ix3 b q m) = -(sqd (p0 x1 b q) (p1 x3 b m)) := by
  pointwise [val_main_v258, val_main_v257, val_main_v256, val_main_v255, val_main_v254, val_main_v253, val_main_v252, val_main_v251, val_main_v250, val_main_v249, val_main_v248, val_main_v247, val_main_v246, val_main_v245, val_main_v244, val_main_v243, val_main_v46, val_main_cst_69, val_main_cst_70, val_main_cst_71, val_main_cst_72, sqd, p0, p1]

theorem nbr1 (hp : ∀ b m i, IsReal (p1 x3 b m i)) (b : Fin 2) (q : Fin 2048) (t : Fin 16) :
    val_main_v77 (F := Ideal) x3 (ix4 b q t 0) = BitVec.ofNat 32 (pick (fun m => sqd (p1 x3 b q) (p1 x3 b m)) t).val := by
  have h : val_main_indices_17 (F := Ideal) x3 (ix3 b q t) = _ :=
    (topK_neg (val_main_v69 (F := Ideal) x3) sliceFits_S2x2048x2048_S2x2048x16 (by norm_num) b q t (fun m => sqd (p1 x3 b q) (p1 x3 b m))
      (fun m => (isReal_sqd (hp b q) (hp b m)).lt_top) (dist1 x3 b q)).2
  pointwise [val_main_v77, val_main_v76, val_main_v75, val_main_v74, val_main_c_19, val_main_v73, val_main_v72, val_main_c_18]
  rw [h]
  exact wrap_ofNat _ (by norm_num) _

theorem nbr2 (hp : ∀ b m i, IsReal (p2 x5 b m i)) (b : Fin 2) (q : Fin 1024) (t : Fin 16) :
    val_main_v131 (F := Ideal) x5 (ix4 b q t 0) = BitVec.ofNat 32 (pick (fun m => sqd (p2 x5 b q) (p2 x5 b m)) t).val := by
  have h : val_main_indices_33 (F := Ideal) x5 (ix3 b q t) = _ :=
    (topK_neg (val_main_v123 (F := Ideal) x5) sliceFits_S2x1024x1024_S2x1024x16 (by norm_num) b q t (fun m => sqd (p2 x5 b q) (p2 x5 b m))
      (fun m => (isReal_sqd (hp b q) (hp b m)).lt_top) (dist2 x5 b q)).2
  pointwise [val_main_v131, val_main_v130, val_main_v129, val_main_v128, val_main_c_35, val_main_v127, val_main_v126, val_main_c_34]
  rw [h]
  exact wrap_ofNat _ (by norm_num) _

theorem conv1 (hp : ∀ b m i, IsReal (p1 x3 b m i)) (b : Fin 2) (q : Fin 2048) (j : Fin 128) :
    val_main_v99 (F := Ideal) x0 x1 x2 x3 x6 x7 x8 x9 (ix3 b q j)
      = conv (fun m k => val_main_v53 (F := Ideal) x0 x1 x2 x6 x7 (ix3 b m k)) (p1 x3 b) (fun j k => x8 (ix2 j k)) (fun j k => x9 (ix2 j k)) q j := by
  have hx : ∀ t k, val_main_v78 (F := Ideal) x0 x1 x2 x3 x6 x7 (ix4 b q t k) = _ := fun t k =>
    gathered (by norm_num) _ (val_main_v53 (F := Ideal) x0 x1 x2 x6 x7) _ b q t k _ (nbr1 x3 hp b q t)
  have hq : ∀ t k, val_main_v85 (F := Ideal) x3 (ix4 b q t k) = p1 x3 b (pick (fun m => sqd (p1 x3 b q) (p1 x3 b m)) t) k := fun t k =>
    (gathered (by norm_num) _ (val_main_v46 (F := Ideal) x3) _ b q t k _ (nbr1 x3 hp b q t)).trans (by pointwise [val_main_v46, p1])
  pointwise [val_main_v99, val_main_call1_v4, val_main_call1_v3, val_main_call1_v2, val_main_call1_v1, val_main_call1_v0, val_main_call1_cst, val_main_cst_25, val_main_v98, val_main_v97, val_main_v96, val_main_v95, val_main_v94, val_main_v93, val_main_v92, val_main_v91, val_main_v90, val_main_v89, val_main_v88, val_main_v87, val_main_v86, val_main_v71, val_main_v70, val_main_cst_22, val_main_cst_23, val_main_cst_24, val_main_v46]
  simp only [hx, hq]
  rfl

theorem conv2 (hp : ∀ b m i, IsReal (p2 x5 b m i)) (b : Fin 2) (q : Fin 1024) (j : Fin 256) :
    val_main_v153 (F := Ideal) x0 x1 x2 x3 x4 x5 x6 x7 x8 x9 x10 x11 (ix3 b q j)
      = conv (fun m k => val_main_v107 (F := Ideal) x0 x1 x2 x3 x4 x6 x7 x8 x9 (ix3 b m k)) (p2 x5 b) (fun j k => x10 (ix2 j k)) (fun j k => x11 (ix2 j k)) q j := by
  have hx : ∀ t k, val_main_v132 (F := Ideal) x0 x1 x2 x3 x4 x5 x6 x7 x8 x9 (ix4 b q t k) = _ := fun t k =>
    gathered (by norm_num) _ (val_main_v107 (F := Ideal) x0 x1 x2 x3 x4 x6 x7 x8 x9) _ b q t k _ (nbr2 x5 hp b q t)
  have hq : ∀ t k, val_main_v139 (F := Ideal) x5 (ix4 b q t k) = p2 x5 b (pick (fun m => sqd (p2 x5 b q) (p2 x5 b m)) t) k := fun t k =>
    (gathered (by norm_num) _ (val_main_v100 (F := Ideal) x5) _ b q t k _ (nbr2 x5 hp b q t)).trans (by pointwise [val_main_v100, p2])
  pointwise [val_main_v153, val_main_call2_v4, val_main_call2_v3, val_main_call2_v2, val_main_call2_v1, val_main_call2_v0, val_main_call2_cst, val_main_cst_41, val_main_v152, val_main_v151, val_main_v150, val_main_v149, val_main_v148, val_main_v147, val_main_v146, val_main_v145, val_main_v144, val_main_v143, val_main_v142, val_main_v141, val_main_v140, val_main_v125, val_main_v124, val_main_cst_38, val_main_cst_39, val_main_cst_40, val_main_v100]
  simp only [hx, hq]
  rfl

theorem convU1 (hp : ∀ b m i, IsReal (p1 x3 b m i)) (b : Fin 2) (q : Fin 2048) (j : Fin 128) :
    val_main_v242 (F := Ideal) x0 x1 x2 x3 x4 x5 x6 x7 x8 x9 x10 x11 x12 x13 x14 x15 (ix3 b q j)
      = conv (fun m k => val_main_v196 (F := Ideal) x0 x1 x2 x3 x4 x5 x6 x7 x8 x9 x10 x11 x12 x13 (ix3 b m k)) (p1 x3 b) (fun j k => x14 (ix2 j k)) (fun j k => x15 (ix2 j k)) q j := by
  have hx : ∀ t k, val_main_v221 (F := Ideal) x0 x1 x2 x3 x4 x5 x6 x7 x8 x9 x10 x11 x12 x13 (ix4 b q t k) = _ := fun t k =>
    gathered (by norm_num) _ (val_main_v196 (F := Ideal) x0 x1 x2 x3 x4 x5 x6 x7 x8 x9 x10 x11 x12 x13) _ b q t k _ (nbr1 x3 hp b q t)
  have hq : ∀ t k, val_main_v228 (F := Ideal) x3 (ix4 b q t k) = p1 x3 b (pick (fun m => sqd (p1 x3 b q) (p1 x3 b m)) t) k := fun t k =>
    (gathered (by norm_num) _ (val_main_v46 (F := Ideal) x3) _ b q t k _ (nbr1 x3 hp b q t)).trans (by pointwise [val_main_v46, p1])
  pointwise [val_main_v242, val_main_call4_v4, val_main_call4_v3, val_main_call4_v2, val_main_call4_v1, val_main_call4_v0, val_main_call4_cst, val_main_cst_68, val_main_v241, val_main_v240, val_main_v239, val_main_v238, val_main_v237, val_main_v236, val_main_v235, val_main_v234, val_main_v233, val_main_v232, val_main_v231, val_main_v230, val_main_v229, val_main_v214, val_main_v213, val_main_cst_65, val_main_cst_66, val_main_cst_67, val_main_v46]
  simp only [hx, hq]
  rfl

theorem convU0 (hp : ∀ b m i, IsReal (p0 x1 b m i)) (b : Fin 2) (q : Fin 4096) (j : Fin 64) :
    val_main_v331 (F := Ideal) x0 x1 x2 x3 x4 x5 x6 x7 x8 x9 x10 x11 x12 x13 x14 x15 x16 x17 x18 x19 (ix3 b q j)
      = conv (fun m k => val_main_v285 (F := Ideal) x0 x1 x2 x3 x4 x5 x6 x7 x8 x9 x10 x11 x12 x13 x14 x15 x16 x17 (ix3 b m k)) (p0 x1 b) (fun j k => x18 (ix2 j k)) (fun j k => x19 (ix2 j k)) q j := by
  have hx : ∀ t k, val_main_v310 (F := Ideal) x0 x1 x2 x3 x4 x5 x6 x7 x8 x9 x10 x11 x12 x13 x14 x15 x16 x17 (ix4 b q t k) = _ := fun t k =>
    gathered (by norm_num) _ (val_main_v285 (F := Ideal) x0 x1 x2 x3 x4 x5 x6 x7 x8 x9 x10 x11 x12 x13 x14 x15 x16 x17) _ b q t k _ (nbr0 x1 hp b q t)
  have hq : ∀ t k, val_main_v317 (F := Ideal) x1 (ix4 b q t k) = p0 x1 b (pick (fun m => sqd (p0 x1 b q) (p0 x1 b m)) t) k := fun t k =>
    (gathered (by norm_num) _ x1 _ b q t k _ (nbr0 x1 hp b q t)).trans (by pointwise [p0])
  pointwise [val_main_v331, val_main_call6_v4, val_main_call6_v3, val_main_call6_v2, val_main_call6_v1, val_main_call6_v0, val_main_call6_cst, val_main_cst_95, val_main_v330, val_main_v329, val_main_v328, val_main_v327, val_main_v326, val_main_v325, val_main_v324, val_main_v323, val_main_v322, val_main_v321, val_main_v320, val_main_v319, val_main_v318, val_main_v303, val_main_v302, val_main_cst_92, val_main_cst_93, val_main_cst_94]
  simp only [hx, hq]
  rfl

theorem nbrU1 (hp : ∀ b m i, IsReal (p1 x3 b m i)) (hp' : ∀ b m i, IsReal (p2 x5 b m i)) (b : Fin 2) (q : Fin 2048) (t : Fin 3) :
    val_main_v184 (F := Ideal) x3 x5 (ix4 b q t 0) = BitVec.ofNat 32 (pick (fun m => sqd (p1 x3 b q) (p2 x5 b m)) t).val := by
  have h : val_main_indices_47 (F := Ideal) x3 x5 (ix3 b q t) = _ :=
    (topK_neg (val_main_v169 (F := Ideal) x3 x5) sliceFits_S2x2048x1024_S2x2048x3 (by norm_num) b q t (fun m => sqd (p1 x3 b q) (p2 x5 b m))
      (fun m => (isReal_sqd (hp b q) (hp' b m)).lt_top) (distU1 x3 x5 b q)).2
  pointwise [val_main_v184, val_main_v183, val_main_v182, val_main_v181, val_main_v180, val_main_v179, val_main_c_51, val_main_c_52]
  rw [h]
  exact wrap_ofNat _ (by norm_num) _

theorem invU1 (hp : ∀ b m i, IsReal (p1 x3 b m i)) (hp' : ∀ b m i, IsReal (p2 x5 b m i)) (b : Fin 2) (q : Fin 2048) (t : Fin 3) :
    val_main_v174 (F := Ideal) x3 x5 (ix3 b q t) = Layers.inv (sqd (p1 x3 b q) (p2 x5 b (pick (fun m => sqd (p1 x3 b q) (p2 x5 b m)) t))) := by
  have h : val_main_values_46 (F := Ideal) x3 x5 (ix3 b q t) = _ :=
    (topK_neg (val_main_v169 (F := Ideal) x3 x5) sliceFits_S2x2048x1024_S2x2048x3 (by norm_num) b q t (fun m => sqd (p1 x3 b q) (p2 x5 b m))
      (fun m => (isReal_sqd (hp b q) (hp' b m)).lt_top) (distU1 x3 x5 b q)).1
  pointwise [val_main_v174, val_main_v173, val_main_v172, val_main_v171, val_main_v170, val_main_cst_48, val_main_cst_49]
  rw [h, neg_neg]
  unfold Layers.inv
  rfl

theorem interpU1 (hp : ∀ b m i, IsReal (p1 x3 b m i)) (hp' : ∀ b m i, IsReal (p2 x5 b m i)) (b : Fin 2) (q : Fin 2048) (k : Fin 256) :
    val_main_v189 (F := Ideal) x0 x1 x2 x3 x4 x5 x6 x7 x8 x9 x10 x11 (ix3 b q k)
      = interp (fun m => sqd (p1 x3 b q) (p2 x5 b m)) (fun m k => val_main_v153 (F := Ideal) x0 x1 x2 x3 x4 x5 x6 x7 x8 x9 x10 x11 (ix3 b m k)) k := by
  have hg : ∀ t k, val_main_v185 (F := Ideal) x0 x1 x2 x3 x4 x5 x6 x7 x8 x9 x10 x11 (ix4 b q t k) = _ := fun t k =>
    gathered (by norm_num) _ (val_main_v153 (F := Ideal) x0 x1 x2 x3 x4 x5 x6 x7 x8 x9 x10 x11) _ b q t k _ (nbrU1 x3 x5 hp hp' b q t)
  pointwise [val_main_v189, val_main_v188, val_main_v187, val_main_v186, val_main_v178, val_main_v177, val_main_v176, val_main_v175, val_main_cst_50, val_main_cst_53]
  simp only [hg, invU1 x3 x5 hp hp' b q]
  rfl

theorem upU1 (hp : ∀ b m i, IsReal (p1 x3 b m i)) (hp' : ∀ b m i, IsReal (p2 x5 b m i)) (b : Fin 2) (q : Fin 2048) (j : Fin 128) :
    val_main_v196 (F := Ideal) x0 x1 x2 x3 x4 x5 x6 x7 x8 x9 x10 x11 x12 x13 (ix3 b q j)
      = up (fun m => sqd (p1 x3 b q) (p2 x5 b m)) (fun m k => val_main_v153 (F := Ideal) x0 x1 x2 x3 x4 x5 x6 x7 x8 x9 x10 x11 (ix3 b m k)) (fun k => val_main_v99 (F := Ideal) x0 x1 x2 x3 x6 x7 x8 x9 (ix3 b q k))
          (fun j k => x12 (ix2 j k)) (fun j => x13 (ix1 j)) (show 384 = 256 + 128 from rfl) j := by
  have hi := interpU1 x0 x1 x2 x3 x4 x5 x6 x7 x8 x9 x10 x11 hp hp' b q
  pointwise [val_main_v196, val_main_call3_v4, val_main_call3_v3, val_main_call3_v2, val_main_call3_v1, val_main_call3_v0, val_main_call3_cst, val_main_cst_54, val_main_v195, val_main_v194, val_main_v193, val_main_v192, val_main_v191, val_main_v190]
  rw [up_split]
  simp only [hi]
  rfl

theorem nbrU0 (hp : ∀ b m i, IsReal (p0 x1 b m i)) (hp' : ∀ b m i, IsReal (p1 x3 b m i)) (b : Fin 2) (q : Fin 4096) (t : Fin 3) :
    val_main_v273 (F := Ideal) x1 x3 (ix4 b q t 0) = BitVec.ofNat 32 (pick (fun m => sqd (p0 x1 b q) (p1 x3 b m)) t).val := by
  have h : val_main_indices_74 (F := Ideal) x1 x3 (ix3 b q t) = _ :=
    (topK_neg (val_main_v258 (F := Ideal) x1 x3) sliceFits_S2x4096x2048_S2x4096x3 (by norm_num) b q t (fun m => sqd (p0 x1 b q) (p1 x3 b m))
      (fun m => (isReal_sqd (hp b q) (hp' b m)).lt_top) (distU0 x1 x3 b q)).2
  pointwise [val_main_v273, val_main_v272, val_main_v271, val_main_v270, val_main_v269, val_main_v268, val_main_c_78, val_main_c_79]
  rw [h]
  exact wrap_ofNat _ (by norm_num) _

theorem invU0 (hp : ∀ b m i, IsReal (p0 x1 b m i)) (hp' : ∀ b m i, IsReal (p1 x3 b m i)) (b : Fin 2) (q : Fin 4096) (t : Fin 3) :
    val_main_v263 (F := Ideal) x1 x3 (ix3 b q t) = Layers.inv (sqd (p0 x1 b q) (p1 x3 b (pick (fun m => sqd (p0 x1 b q) (p1 x3 b m)) t))) := by
  have h : val_main_values_73 (F := Ideal) x1 x3 (ix3 b q t) = _ :=
    (topK_neg (val_main_v258 (F := Ideal) x1 x3) sliceFits_S2x4096x2048_S2x4096x3 (by norm_num) b q t (fun m => sqd (p0 x1 b q) (p1 x3 b m))
      (fun m => (isReal_sqd (hp b q) (hp' b m)).lt_top) (distU0 x1 x3 b q)).1
  pointwise [val_main_v263, val_main_v262, val_main_v261, val_main_v260, val_main_v259, val_main_cst_75, val_main_cst_76]
  rw [h, neg_neg]
  unfold Layers.inv
  rfl

theorem interpU0 (hp : ∀ b m i, IsReal (p0 x1 b m i)) (hp' : ∀ b m i, IsReal (p1 x3 b m i)) (b : Fin 2) (q : Fin 4096) (k : Fin 128) :
    val_main_v278 (F := Ideal) x0 x1 x2 x3 x4 x5 x6 x7 x8 x9 x10 x11 x12 x13 x14 x15 (ix3 b q k)
      = interp (fun m => sqd (p0 x1 b q) (p1 x3 b m)) (fun m k => val_main_v242 (F := Ideal) x0 x1 x2 x3 x4 x5 x6 x7 x8 x9 x10 x11 x12 x13 x14 x15 (ix3 b m k)) k := by
  have hg : ∀ t k, val_main_v274 (F := Ideal) x0 x1 x2 x3 x4 x5 x6 x7 x8 x9 x10 x11 x12 x13 x14 x15 (ix4 b q t k) = _ := fun t k =>
    gathered (by norm_num) _ (val_main_v242 (F := Ideal) x0 x1 x2 x3 x4 x5 x6 x7 x8 x9 x10 x11 x12 x13 x14 x15) _ b q t k _ (nbrU0 x1 x3 hp hp' b q t)
  pointwise [val_main_v278, val_main_v277, val_main_v276, val_main_v275, val_main_v267, val_main_v266, val_main_v265, val_main_v264, val_main_cst_77, val_main_cst_80]
  simp only [hg, invU0 x1 x3 hp hp' b q]
  rfl

theorem upU0 (hp : ∀ b m i, IsReal (p0 x1 b m i)) (hp' : ∀ b m i, IsReal (p1 x3 b m i)) (b : Fin 2) (q : Fin 4096) (j : Fin 64) :
    val_main_v285 (F := Ideal) x0 x1 x2 x3 x4 x5 x6 x7 x8 x9 x10 x11 x12 x13 x14 x15 x16 x17 (ix3 b q j)
      = up (fun m => sqd (p0 x1 b q) (p1 x3 b m)) (fun m k => val_main_v242 (F := Ideal) x0 x1 x2 x3 x4 x5 x6 x7 x8 x9 x10 x11 x12 x13 x14 x15 (ix3 b m k)) (fun k => val_main_v45 (F := Ideal) x0 x1 x6 x7 (ix3 b q k))
          (fun j k => x16 (ix2 j k)) (fun j => x17 (ix1 j)) (show 192 = 128 + 64 from rfl) j := by
  have hi := interpU0 x0 x1 x2 x3 x4 x5 x6 x7 x8 x9 x10 x11 x12 x13 x14 x15 hp hp' b q
  pointwise [val_main_v285, val_main_call5_v4, val_main_call5_v3, val_main_call5_v2, val_main_call5_v1, val_main_call5_v0, val_main_call5_cst, val_main_cst_81, val_main_v284, val_main_v283, val_main_v282, val_main_v281, val_main_v280, val_main_v279]
  rw [up_split]
  simp only [hi]
  rfl

theorem result (b : Fin 2) (q : Fin 4096) (j : Fin 128) :
    val_main_v336 (F := Ideal) x0 x1 x2 x3 x4 x5 x6 x7 x8 x9 x10 x11 x12 x13 x14 x15 x16 x17 x18 x19 x20 x21 (ix3 b q j)
      = (∑ k, val_main_v331 (F := Ideal) x0 x1 x2 x3 x4 x5 x6 x7 x8 x9 x10 x11 x12 x13 x14 x15 x16 x17 x18 x19 (ix3 b q k) * x20 (ix2 j k)) + x21 (ix1 j) := by
  pointwise [val_main_v336, val_main_v335, val_main_v334, val_main_v333, val_main_v332]

end Cert.RefConv

end
-- ==== Proof.Stage0.lean ====
/-
  The launch, and what the first region leaves: the first convolution's features and weights.
-/
module

public import proofs.«01_k».proof.Proof.Gen.KernelIdeal.Frame.Fold0
public import proofs.«01_k».proof.Proof.Host0
public import proofs.«01_k».proof.Proof.Out0
public import proofs.«01_k».proof.Proof.RefConv

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v45)
open Cert.RefConv (p0 p1 p2)

theorem aug_congr {n c ca : ℕ} {x x' : Fin n → Fin c → EReal} {p p' : Fin n → Fin 3 → EReal} (hx : ∀ m k, x m k = x' m k) (hp : ∀ m i, p m i = p' m i)
    (m : Fin n) (k : Fin ca) : aug x p m k = aug x' p' m k := by
  rw [show x = x' from funext fun m => funext fun k => hx m k, show p = p' from funext fun m => funext fun i => hp m i]

theorem squares_congr {p p' : Fin 3 → EReal} (hp : ∀ i, p i = p' i) : ∑ i, p i * p i = ∑ i, p' i * p' i :=
  Finset.sum_congr rfl fun i _ => by rw [hp i]

theorem conv_congr {n c ca o : ℕ} [NeZero n] {x : Fin n → Fin c → EReal} {p : Fin n → Fin 3 → EReal} {ws ws' : Fin o → Fin c → EReal} {we we' : Fin o → Fin ca → EReal}
    (hs : ∀ j k, ws j k = ws' j k) (he : ∀ j k, we j k = we' j k) (q : Fin n) (j : Fin o) : conv x p ws we q j = conv x p ws' we' q j := by
  rw [show ws = ws' from funext fun j => funext fun k => hs j k, show we = we' from funext fun j => funext fun k => he j k]

theorem isReal_of {a b : EReal} (h : a = b) (hb : IsReal b) : IsReal a := by rw [h]; exact hb

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

/-- The program is launched with the arrays `x0` to `x21`, and those that must be are real. -/
structure Given : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5
  e6 : m ((c : Thread nD τ).loc main_arg6) = x6
  e7 : m ((c : Thread nD τ).loc main_arg7) = x7
  e8 : m ((c : Thread nD τ).loc main_arg8) = x8
  e9 : m ((c : Thread nD τ).loc main_arg9) = x9
  e10 : m ((c : Thread nD τ).loc main_arg10) = x10
  e11 : m ((c : Thread nD τ).loc main_arg11) = x11
  e12 : m ((c : Thread nD τ).loc main_arg12) = x12
  e13 : m ((c : Thread nD τ).loc main_arg13) = x13
  e14 : m ((c : Thread nD τ).loc main_arg14) = x14
  e15 : m ((c : Thread nD τ).loc main_arg15) = x15
  e16 : m ((c : Thread nD τ).loc main_arg16) = x16
  e17 : m ((c : Thread nD τ).loc main_arg17) = x17
  e18 : m ((c : Thread nD τ).loc main_arg18) = x18
  e19 : m ((c : Thread nD τ).loc main_arg19) = x19
  e20 : m ((c : Thread nD τ).loc main_arg20) = x20
  e21 : m ((c : Thread nD τ).loc main_arg21) = x21
  r0 : ∀ i, IsReal (x0 i)
  r1 : ∀ i, IsReal (x1 i)
  r3 : ∀ i, IsReal (x3 i)
  r5 : ∀ i, IsReal (x5 i)
  r6 : ∀ i, IsReal (x6 i)
  r7 : ∀ i, IsReal (x7 i)
  r8 : ∀ i, IsReal (x8 i)
  r9 : ∀ i, IsReal (x9 i)
  r10 : ∀ i, IsReal (x10 i)
  r11 : ∀ i, IsReal (x11 i)
  r12 : ∀ i, IsReal (x12 i)
  r13 : ∀ i, IsReal (x13 i)
  r14 : ∀ i, IsReal (x14 i)
  r15 : ∀ i, IsReal (x15 i)
  r16 : ∀ i, IsReal (x16 i)
  r17 : ∀ i, IsReal (x17 i)
  r19 : ∀ i, IsReal (x19 i)

variable (H : Given m c x0 x1 x2 x3 x4 x5 x6 x7 x8 x9 x10 x11 x12 x13 x14 x15 x16 x17 x18 x19 x20 x21)
include H

theorem pts0 (b : Fin 2) (m' : Fin 4096) (i : Fin 3) : Host0.pts (W0 m ρ c) b m' i = p0 x1 b m' i := congrFun ((W0_args m ρ c main_arg1 (by decide)).trans H.e1) (ix3 b m' i)

theorem aug0 (b : Fin 2) (m' : Fin 4096) (k : Fin 8) :
    (W1 m ρ c (Proc.devRef .tc main_v3) : Vec Ideal S2x4096x8 .f32) (ix3 b m' k) = aug (fun m' k => x0 (ix3 b m' k)) (p0 x1 b) m' k :=
  (Host0.v3_at (W0 m ρ c) b m' k).trans (aug_congr (fun m' k => congrFun ((W0_args m ρ c main_arg0 (by decide)).trans H.e0) (ix3 b m' k)) (pts0 m ρ c x0 x1 x2 x3 x4 x5 x6 x7 x8 x9 x10 x11 x12 x13 x14 x15 x16 x17 x18 x19 x20 x21 H b) m' k)

theorem pad0 (b : Fin 2) (m' : Fin 4096) (i : Fin 3) : (W1 m ρ c (Proc.devRef .tc main_v5) : Vec Ideal S2x4096x8 .f32) (ix3 b m' ⟨i, by omega⟩) = p0 x1 b m' i :=
  (Host0.v5_at (W0 m ρ c) b m' i).trans (pts0 m ρ c x0 x1 x2 x3 x4 x5 x6 x7 x8 x9 x10 x11 x12 x13 x14 x15 x16 x17 x18 x19 x20 x21 H b m' i)

theorem padT0 (b : Fin 2) (m' : Fin 4096) (i : Fin 3) : (W1 m ρ c (Proc.devRef .tc main_v6) : Vec Ideal S2x8x4096 .f32) (ix3 b ⟨i, by omega⟩ m') = p0 x1 b m' i :=
  (Host0.v6_at (W0 m ρ c) b m' i).trans (pts0 m ρ c x0 x1 x2 x3 x4 x5 x6 x7 x8 x9 x10 x11 x12 x13 x14 x15 x16 x17 x18 x19 x20 x21 H b m' i)

theorem sq0 (b : Fin 2) (m' : Fin 4096) : (W1 m ρ c (Proc.devRef .tc main_v7) : Vec Ideal S2x1x4096 .f32) (ix3 b 0 m') = ∑ i, p0 x1 b m' i * p0 x1 b m' i :=
  (Host0.v7_at (W0 m ρ c) b m' 0).trans (squares_congr (pts0 m ρ c x0 x1 x2 x3 x4 x5 x6 x7 x8 x9 x10 x11 x12 x13 x14 x15 x16 x17 x18 x19 x20 x21 H b m'))

/-- The weights of the first convolution. -/
theorem mask0 (b : Fin 2) (q m' : Fin 4096) :
    (W2 m ρ c (Proc.devRef .tc main_v10_1) : Vec Ideal S2x4096x4096 .bf16) (ix3 b q m') = weight (fun m' => sqd (p0 x1 b q) (p0 x1 b m')) m' := by
  refine (congrFun ((W2_arr m ρ c 7).trans (Conv0.final7 (V1 m ρ) c)) (ix3 b q m')).trans ?_
  exact maskOf_eq rfl _ _ _ _ (fun b m' k => x0 (ix3 b m' k)) (p0 x1) (aug0 m ρ c x0 x1 x2 x3 x4 x5 x6 x7 x8 x9 x10 x11 x12 x13 x14 x15 x16 x17 x18 x19 x20 x21 H) (pad0 m ρ c x0 x1 x2 x3 x4 x5 x6 x7 x8 x9 x10 x11 x12 x13 x14 x15 x16 x17 x18 x19 x20 x21 H) (padT0 m ρ c x0 x1 x2 x3 x4 x5 x6 x7 x8 x9 x10 x11 x12 x13 x14 x15 x16 x17 x18 x19 x20 x21 H) (sq0 m ρ c x0 x1 x2 x3 x4 x5 x6 x7 x8 x9 x10 x11 x12 x13 x14 x15 x16 x17 x18 x19 x20 x21 H) b q m'

/-- The features of the first convolution. -/
theorem feat0 : (W2 m ρ c (Proc.devRef .tc main_v10_0) : Vec Ideal S2x4096x64 .f32) = (val_main_v45 (F := Ideal) x0 x1 x6 x7) := by
  refine ((W2_arr m ρ c 6).trans (Conv0.final6 (V1 m ρ) c)).trans ?_
  funext y
  idx_vars y
  have es : ∀ k j, (W1 m ρ c (Proc.devRef .tc main_v8) : Vec Ideal S4x64 .f32) (ix2 k j) = x6 (ix2 j k) := fun k j => (Host0.v8_at (W0 m ρ c) k j).trans (congrFun ((W0_args m ρ c main_arg6 (by decide)).trans H.e6) (ix2 j k))
  have ee : ∀ k j, (W1 m ρ c (Proc.devRef .tc main_v9) : Vec Ideal S8x64 .f32) (ix2 k j) = x7 (ix2 j k) := fun k j => (Host0.v9_at (W0 m ρ c) k j).trans (congrFun ((W0_args m ρ c main_arg7 (by decide)).trans H.e7) (ix2 j k))
  refine (convOf_eq rfl _ _ _ (fun b m' k => x0 (ix3 b m' k)) (p0 x1) (by norm_num) _
    (maskOf_eq rfl _ _ _ _ (fun b m' k => x0 (ix3 b m' k)) (p0 x1) (aug0 m ρ c x0 x1 x2 x3 x4 x5 x6 x7 x8 x9 x10 x11 x12 x13 x14 x15 x16 x17 x18 x19 x20 x21 H) (pad0 m ρ c x0 x1 x2 x3 x4 x5 x6 x7 x8 x9 x10 x11 x12 x13 x14 x15 x16 x17 x18 x19 x20 x21 H) (padT0 m ρ c x0 x1 x2 x3 x4 x5 x6 x7 x8 x9 x10 x11 x12 x13 x14 x15 x16 x17 x18 x19 x20 x21 H) (sq0 m ρ c x0 x1 x2 x3 x4 x5 x6 x7 x8 x9 x10 x11 x12 x13 x14 x15 x16 x17 x18 x19 x20 x21 H))
    (aug0 m ρ c x0 x1 x2 x3 x4 x5 x6 x7 x8 x9 x10 x11 x12 x13 x14 x15 x16 x17 x18 x19 x20 x21 H) (fun b m' k => H.r0 _) (fun b m' i => H.r1 _) (fun k j => isReal_of (ee k j) (H.r7 _)) y0 y1 y2).trans ?_
  rw [RefConv.conv0 x0 x1 x6 x7 (fun b m' i => H.r1 _) y0 y1 y2]
  exact conv_congr (fun j k => es k j) (fun j k => ee k j) y1 y2

theorem real45 (i : S2x4096x64.Idx) : IsReal ((val_main_v45 (F := Ideal) x0 x1 x6 x7) i) := by
  idx_vars i
  rw [RefConv.conv0 x0 x1 x6 x7 (fun b m' i => H.r1 _) i0 i1 i2]
  exact isReal_conv (fun m' k => H.r0 _) (fun m' i => H.r1 _) (fun j k => H.r6 _) (fun j k => H.r7 _) i1 i2

end Cert.Stages

end
-- ==== Proof.Host1.lean ====
/-
  The arrays that the host operations before the second region leave, read at an index.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host1

open Idealize.ShloMosaic Idealize.ShloMosaic.TcCoe Idealize.SL.Sem Cert.Select Cert.Layers Cert.Stretch
open Cert.KernelIdeal Cert.KernelIdeal.Gen

variable (U : Valuation τ sig (Elt Ideal))

/-- The points' coordinates. -/
abbrev pts (b : Fin 2) (m : Fin 2048) (i : Fin 3) : EReal := (U (Proc.devRef .tc main_arg3) : Vec Ideal S2x3x2048 .f32) (ix3 b i m)

theorem v11_at (b : Fin 2) (m : Fin 2048) (i : Fin 3) :
    (StableHlo.after hostOps1 U (Proc.devRef .tc main_v11) : Vec Ideal S2x2048x3 .f32) (ix3 b m i)
      = (U (Proc.devRef .tc main_arg3) : Vec Ideal S2x3x2048 .f32) (ix3 b i m) := by
  after_reads_simp
  exact ValueIdx.transpose_ix3_021_apply _ _ b m i

theorem v12_at (b : Fin 2) (m : Fin 1024) (i : Fin 3) :
    (StableHlo.after hostOps1 U (Proc.devRef .tc main_v12) : Vec Ideal S2x1024x3 .f32) (ix3 b m i)
      = (U (Proc.devRef .tc main_arg5) : Vec Ideal S2x3x1024 .f32) (ix3 b i m) := by
  after_reads_simp
  exact ValueIdx.transpose_ix3_021_apply _ _ b m i

/-- The places gathered: a negative one counts from the end. -/
abbrev places (x : IVec S2x2048 32) : IVec S2x2048x1 32 :=
  broadcastInDim S2x2048x1 ![0, 1] bcast_S2x2048_S2x2048x1_0_1
    (select (cmpi .slt x (broadcastInDim S2x2048 ![] bcast_S_S2x2048 (constantI S_ 32 0#32)))
      (addi x (broadcastInDim S2x2048 ![] bcast_S_S2x2048 (constantI S_ 32 4096#32))) x)

/-- The features gathered. -/
theorem v19_eq : (StableHlo.after hostOps1 U (Proc.devRef .tc main_v19) : Vec Ideal S2x2048x64 .f32)
    = Host.gather gather_S2x4096x64_S2x2048x1_S2x2048x64_2_1_0_0_1_2_1164 (U (Proc.devRef .tc main_v10_0) : Vec Ideal S2x4096x64 .f32) (places (U (Proc.devRef .tc main_arg2))) := by
  after_reads_simp

theorem v22_at (b : Fin 2) (m : Fin 2048) (z : Fin 1) :
    (StableHlo.after hostOps1 U (Proc.devRef .tc main_v22) : Vec Ideal S2x2048x1 .f32) (ix3 b m z) = ∑ i, pts U b m i * pts U b m i := by
  after_reads_simp
  refine (norms_at (by decide) _ _ _ _ b m z).trans (Finset.sum_congr rfl fun i _ => ?_)
  exact congrArg (fun y => y * y) (ValueIdx.transpose_ix3_021_apply _ _ b m i)

theorem v23_at (b : Fin 2) (m : Fin 2048) (k : Fin 68) :
    (StableHlo.after hostOps1 U (Proc.devRef .tc main_v23) : Vec Ideal S2x2048x68 .f32) (ix3 b m k)
      = aug (fun m k => (StableHlo.after hostOps1 U (Proc.devRef .tc main_v19) : Vec Ideal S2x2048x64 .f32) (ix3 b m k)) (pts U b) m k := by
  obtain ⟨p, hp⟩ : ∃ p : Vec Ideal S2x2048x3 .f32, p = StableHlo.after hostOps1 U (Proc.devRef .tc main_v11) := ⟨_, rfl⟩
  obtain ⟨s, hs⟩ : ∃ s : Vec Ideal S2x2048x1 .f32, s = StableHlo.after hostOps1 U (Proc.devRef .tc main_v22) := ⟨_, rfl⟩
  have ep : ∀ b m i, p (ix3 b m i) = pts U b m i := fun b m i => (congrFun hp _).trans (v11_at U b m i)
  have es : ∀ b m z, s (ix3 b m z) = ∑ i, p (ix3 b m i) * p (ix3 b m i) := fun b m z => by
    simp only [ep]
    exact (congrFun hs _).trans (v22_at U b m z)
  have e := aug_at (ca := 68) rfl (StableHlo.after hostOps1 U (Proc.devRef .tc main_v19) : Vec Ideal S2x2048x64 .f32) p s
    concatenates_S2x2048x64_S2x2048x3_S2x2048x1_S2x2048x68_d2 es b m k
  rw [show (fun (m : Fin 2048) (i : Fin 3) => p (ix3 b m i)) = pts U b from funext fun m => funext fun i => ep b m i] at e
  refine Eq.trans ?_ e
  subst hp hs
  after_reads_simp
  rfl

theorem v25_at (b : Fin 2) (m : Fin 2048) (i : Fin 3) :
    (StableHlo.after hostOps1 U (Proc.devRef .tc main_v25) : Vec Ideal S2x2048x8 .f32) (ix3 b m ⟨i, by omega⟩) = pts U b m i := by
  after_reads_simp
  exact (pad_at _ _ _ b m i).trans (ValueIdx.transpose_ix3_021_apply _ _ b m i)

theorem v26_at (b : Fin 2) (m : Fin 2048) (i : Fin 3) :
    (StableHlo.after hostOps1 U (Proc.devRef .tc main_v26) : Vec Ideal S2x8x2048 .f32) (ix3 b ⟨i, by omega⟩ m) = pts U b m i := by
  after_reads_simp
  exact ((ValueIdx.transpose_ix3_021_apply _ _ b _ m).trans (pad_at _ _ _ b m i)).trans (ValueIdx.transpose_ix3_021_apply _ _ b m i)

theorem v27_at (b : Fin 2) (m : Fin 2048) (z : Fin 1) :
    (StableHlo.after hostOps1 U (Proc.devRef .tc main_v27) : Vec Ideal S2x1x2048 .f32) (ix3 b z m) = ∑ i, pts U b m i * pts U b m i := by
  after_reads_simp
  refine ((ValueIdx.transpose_ix3_021_apply _ _ b z m).trans (norms_at (by decide) _ _ _ _ b m z)).trans (Finset.sum_congr rfl fun i _ => ?_)
  exact congrArg (fun y => y * y) (ValueIdx.transpose_ix3_021_apply _ _ b m i)

theorem v28_at (k : Fin 64) (j : Fin 128) :
    (StableHlo.after hostOps1 U (Proc.devRef .tc main_v28) : Vec Ideal S64x128 .f32) (ix2 k j)
      = (U (Proc.devRef .tc main_arg8) : Vec Ideal S128x64 .f32) (ix2 j k) := by
  after_reads_simp
  exact ValueIdx.transpose_ix2_apply _ _ k j

theorem v29_at (k : Fin 68) (j : Fin 128) :
    (StableHlo.after hostOps1 U (Proc.devRef .tc main_v29) : Vec Ideal S68x128 .f32) (ix2 k j)
      = (U (Proc.devRef .tc main_arg9) : Vec Ideal S128x68 .f32) (ix2 j k) := by
  after_reads_simp
  exact ValueIdx.transpose_ix2_apply _ _ k j

end Cert.Host1

end
-- ==== Proof.Conv1.lean ====
/-
  The second convolution's body: its rounds, its mask, its value at an entry of a block.
-/
module

public import proofs.«01_k».proof.Proof.Gen.KernelIdeal.Skeleton
public import proofs.«01_k».proof.Proof.Rounds
public import proofs.«01_k».proof.Proof.Layers
public import Idealize.ShloMosaic.Lib.Pointwise

@[expose] public section

set_option maxRecDepth 16384

noncomputable section

namespace Cert.Conv1

open Idealize.ShloMosaic Cert.Select Cert.Layers Cert.Rounds
open Cert.KernelIdeal Cert.KernelIdeal.Gen

theorem H : Rounds.Facts 256 2048 := ⟨reduces_S256x2048_S256, shapeCasts_S256_S256x1, broadcasts_S256x1_S256x2048⟩

section
variable (v : IVec S256x2048 32) (d : FVec Ideal S256x2048 .f32)

/-- The block, its least entries and the mask between the parts of the body: after 3, 6, 9, 12 rounds. -/
abbrev d3 := k1_pay12 (F := Ideal) d v
abbrev d6 := k1_pay20 (F := Ideal) v (d3 v d) (k1_pay13 (F := Ideal) d v)
abbrev e6 := k1_pay21 (F := Ideal) v (d3 v d) (k1_pay13 (F := Ideal) d v)
abbrev a6 := k1_pay19 (F := Ideal) v (k1_pay11 (F := Ideal) d v (Scalar.ofBits .f32 0x00000000#32)) (d3 v d) (k1_pay13 (F := Ideal) d v)
abbrev d9 := k1_pay28 (F := Ideal) v (d6 v d) (e6 v d)
abbrev c9 := k1_pay29 (F := Ideal) v (d6 v d) (e6 v d)
abbrev a9 := k1_pay27 (F := Ideal) v (a6 v d) (d6 v d) (e6 v d)
abbrev d12 := k1_pay36 (F := Ideal) v (d9 v d) (c9 v d)
abbrev q12 := k1_pay37 (F := Ideal) v (d9 v d) (c9 v d)
abbrev a12 := k1_pay35 (F := Ideal) v (a9 v d) (d9 v d) (c9 v d)
/-- The mask after fifteen rounds and the sixteenth hit. -/
abbrev a15 := k1_pay43 (F := Ideal) v (a12 v d) (d12 v d) (q12 v d)
abbrev h15 := k1_pay44 (F := Ideal) v (d12 v d) (q12 v d)

theorem mask : maximumf (a15 v d) (sitofp .f32 (h15 v d)) = takenA H v 2048#32 d 16 := rfl
end

/-- The positions along a row. -/
abbrev pos : IVec S256x2048 32 := iota .tc S256x2048 32 [1] iota_S256x2048_d1_w32

theorem pos_eq (r : Fin 256) (m : Fin 2048) : pos (ix2 r m) = BitVec.ofNat 32 m.val := by
  pointwise [pos]

/-- The body's weights are a sixteenth at the sixteen nearest. -/
theorem weights (d : FVec Ideal S256x2048 .f32) (r : Fin 256) (m : Fin 2048) :
    k1_pay45 (F := Ideal) (a15 pos d) (h15 pos d) (ix2 r m) = weight (fun m => d (ix2 r m)) m := by
  show (maximumf (a15 pos d) (sitofp .f32 (h15 pos d))) (ix2 r m) * _ = _
  rw [mask, show (2048#32 : BitVec 32) = BitVec.ofNat 32 2048 from rfl, taken_apply H (by norm_num) _ pos_eq]
  rfl

theorem weights_out (d : FVec Ideal S256x2048 .f32) (r : Fin 256) (m : Fin 2048) :
    k1_pay46 (F := Ideal) (a15 pos d) (h15 pos d) (ix3 0 r m) = weight (fun m => d (ix2 r m)) m := by
  rw [← weights]
  pointwise [k1_pay46]

/-- The main output's value: the convolution's linear terms under the weights. -/
theorem value (v2 : Vec Ideal S1x256x68 .f32) (d : FVec Ideal S256x2048 .f32) (x3 : Vec Ideal S1x2048x68 .f32)
    (x4 : Vec Ideal S64x128 .f32) (x5 : Vec Ideal S68x128 .f32) (q : Fin 2048) (r : Fin 256) (hq : ∀ k, v2 (ix3 0 r k) = x3 (ix3 0 q k))
    (j : Fin 128) :
    k1_pay47 (k1_pay2 v2) (k1_pay3 v2) (k1_pay4 v2) (a15 pos d) (h15 pos d) x3 x4 x5 (ix3 0 r j)
      = convK (c := 64) rfl (weight fun m => d (ix2 r m)) (fun m k => x3 (ix3 0 m k)) q (fun j k => x4 (ix2 k j)) (fun j k => x5 (ix2 k j)) j := by
  have hw := weights d
  generalize a15 pos d = a at hw ⊢
  generalize h15 pos d = g at hw ⊢
  pointwise [k1_pay47, k1_pay2, k1_pay3, k1_pay4, k1_pay1]
  simp only [hw, hq]
  rw [convK_read]
  rfl

end Cert.Conv1

end
-- ==== Proof.Out1.lean ====
/-
  What the second convolution's region leaves in its two result arrays.
-/
module

public import proofs.«01_k».proof.Proof.Gen.KernelIdeal.Frame.Region1
public import proofs.«01_k».proof.Proof.Conv1
public import proofs.«01_k».proof.Proof.Blocks
public import Idealize.ShloMosaic.Lib.Pipeline.ValueKit

@[expose] public section

set_option maxRecDepth 16384

noncomputable section

namespace Cert.Conv1

open Idealize.ShloMosaic Idealize.ShloMosaic.TcCoe Idealize.SL.Sem Cert.Select Cert.Layers Cert.Rounds Cert.Blocks
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The queries' rows of the point array. -/
abbrev qrows (i : grid1.Coords) (x3 : Vec Ideal S1x2048x68 .f32) : Vec Ideal S1x256x68 .f32 :=
  View.ld x3 (Rect.unit (s := S1x2048x68) (k1_off1 i) S1x256x68.size (k1_off1_inb i))

/-- The block's distances. -/
abbrev dist (i : grid1.Coords) (x0 : Vec Ideal S1x256x8 .f32) (x1 : Vec Ideal S1x8x2048 .f32) (x2 : Vec Ideal S1x1x2048 .f32)
    (x3 : Vec Ideal S1x2048x68 .f32) : FVec Ideal S256x2048 .f32 := k1_pay5 (F := Ideal) (qrows i x3) x0 x1 x2

theorem out6 (c : Dev nD) (i : grid1.Coords) (a2 : Memref sig .tc .vmem S1x256x8 .f32) (h2 : a2.IsWhole)
    (a3 : Memref sig .tc .vmem S1x8x2048 .f32) (h3 : a3.IsWhole) (a4 : Memref sig .tc .vmem S1x1x2048 .f32) (h4 : a4.IsWhole)
    (a5 : Memref sig .tc .vmem S1x2048x68 .f32) (h5 : a5.IsWhole) (a6 : Memref sig .tc .vmem S64x128 .f32) (h6 : a6.IsWhole)
    (a7 : Memref sig .tc .vmem S68x128 .f32) (h7 : a7.IsWhole) (a8 : Memref sig .tc .vmem S1x256x128 .f32) (h8 : a8.IsWhole)
    (a9 : Memref sig .tc .vmem S1x256x2048 .bf16) (h9 : a9.IsWhole)
    (x0 : Vec Ideal S1x256x8 .f32) (x1 : Vec Ideal S1x8x2048 .f32) (x2 : Vec Ideal S1x1x2048 .f32)
    (x3 : Vec Ideal S1x2048x68 .f32) (x4 : Vec Ideal S64x128 .f32) (x5 : Vec Ideal S68x128 .f32) :
    out1_A_6 c i a2 h2 a3 h3 a4 h4 a5 h5 a6 h6 a7 h7 a8 h8 a9 h9 x0 x1 x2 x3 x4 x5
      = k1_pay47 (k1_pay2 (qrows i x3)) (k1_pay3 (qrows i x3)) (k1_pay4 (qrows i x3))
          (a15 pos (dist i x0 x1 x2 x3)) (h15 pos (dist i x0 x1 x2 x3)) x3 x4 x5 := by
  unfold out1_A_6
  rw [View.read_writes_junk_eq_canon]
  unfold kernelRun1_A
  dsimp only
  sl_unfold_words
  rw [View.canon_unit_zero hz3]
  simp only [View.readAt_eq_ld, h2.read_unread, h3.read_unread, h4.read_unread, h5.read_unread, h6.read_unread, h7.read_unread,
    View.ld_unit_zero (S := S1x256x8) hz3, View.ld_unit_zero (S := S1x8x2048) hz3, View.ld_unit_zero (S := S1x1x2048) hz3,
    View.ld_unit_zero (S := S1x2048x68) hz3, View.ld_unit_zero (S := S64x128) hz2, View.ld_unit_zero (S := S68x128) hz2]
  rfl

theorem out7 (c : Dev nD) (i : grid1.Coords) (a2 : Memref sig .tc .vmem S1x256x8 .f32) (h2 : a2.IsWhole)
    (a3 : Memref sig .tc .vmem S1x8x2048 .f32) (h3 : a3.IsWhole) (a4 : Memref sig .tc .vmem S1x1x2048 .f32) (h4 : a4.IsWhole)
    (a5 : Memref sig .tc .vmem S1x2048x68 .f32) (h5 : a5.IsWhole) (a6 : Memref sig .tc .vmem S64x128 .f32) (h6 : a6.IsWhole)
    (a7 : Memref sig .tc .vmem S68x128 .f32) (h7 : a7.IsWhole) (a8 : Memref sig .tc .vmem S1x256x128 .f32) (h8 : a8.IsWhole)
    (a9 : Memref sig .tc .vmem S1x256x2048 .bf16) (h9 : a9.IsWhole)
    (x0 : Vec Ideal S1x256x8 .f32) (x1 : Vec Ideal S1x8x2048 .f32) (x2 : Vec Ideal S1x1x2048 .f32)
    (x3 : Vec Ideal S1x2048x68 .f32) (x4 : Vec Ideal S64x128 .f32) (x5 : Vec Ideal S68x128 .f32) :
    out1_A_7 c i a2 h2 a3 h3 a4 h4 a5 h5 a6 h6 a7 h7 a8 h8 a9 h9 x0 x1 x2 x3 x4 x5
      = k1_pay46 (a15 pos (dist i x0 x1 x2 x3)) (h15 pos (dist i x0 x1 x2 x3)) := by
  unfold out1_A_7
  rw [View.read_writes_junk_eq_canon]
  unfold kernelRun1_A
  dsimp only
  sl_unfold_words
  rw [View.canon_unit_zero hz3]
  simp only [View.readAt_eq_ld, h2.read_unread, h3.read_unread, h4.read_unread, h5.read_unread,
    View.ld_unit_zero (S := S1x256x8) hz3, View.ld_unit_zero (S := S1x8x2048) hz3, View.ld_unit_zero (S := S1x1x2048) hz3]
  rfl

variable (V : (c : Dev nD) → (b : Ref sig .tc) → Buf (Elt Ideal) ((c : Thread nD τ).loc b)) (c : Dev nD)

/-- The batch of a grid point. -/
def bT (t : Fin cfg1.N) : Fin 2 := (grid1.coords t) 0
/-- The query of a row at a grid point. -/
def qT (t : Fin cfg1.N) (r : Fin 256) : Fin 2048 := ⟨((grid1.coords t) 1).val * 256 + r.val, by
  have h : ((grid1.coords t) 1).val < 8 := ((grid1.coords t) 1).isLt
  omega⟩

theorem idx0 : ∀ t : Fin cfg1.N, win1_0.index t (0 : Fin 3) = ((grid1.coords t) 0).val ∧ win1_0.index t (1 : Fin 3) = ((grid1.coords t) 1).val
    ∧ win1_0.index t (2 : Fin 3) = 0 := (by decide +kernel : ∀ t : Fin grid1.N, _)
theorem idx1 : ∀ t : Fin cfg1.N, win1_1.index t (0 : Fin 3) = ((grid1.coords t) 0).val ∧ win1_1.index t (1 : Fin 3) = 0
    ∧ win1_1.index t (2 : Fin 3) = 0 := (by decide +kernel : ∀ t : Fin grid1.N, _)
theorem idx2 : ∀ t : Fin cfg1.N, win1_2.index t (0 : Fin 3) = ((grid1.coords t) 0).val ∧ win1_2.index t (1 : Fin 3) = 0
    ∧ win1_2.index t (2 : Fin 3) = 0 := (by decide +kernel : ∀ t : Fin grid1.N, _)
theorem idx3 : ∀ t : Fin cfg1.N, win1_3.index t (0 : Fin 3) = ((grid1.coords t) 0).val ∧ win1_3.index t (1 : Fin 3) = 0
    ∧ win1_3.index t (2 : Fin 3) = 0 := (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 3) = ((grid1.coords t) 0).val ∧ win1_6.index t (1 : Fin 3) = ((grid1.coords t) 1).val
    ∧ win1_6.index t (2 : Fin 3) = 0 := (by decide +kernel : ∀ t : Fin grid1.N, _)
theorem idx7 : ∀ t : Fin cfg1.N, win1_7.index t (0 : Fin 3) = ((grid1.coords t) 0).val ∧ win1_7.index t (1 : Fin 3) = ((grid1.coords t) 1).val
    ∧ win1_7.index t (2 : Fin 3) = 0 := (by decide +kernel : ∀ t : Fin grid1.N, _)

theorem blk0 (t : Fin cfg1.N) (r : Fin 256) (k : Fin 8) : iblk1 V c 0 t (ix3 0 r k) = V c main_v25 (ix3 (bT t) (qT t r) k) := by
  obtain ⟨e0, e1, e2⟩ := idx0 t
  refine congrArg (V c main_v25) (funext fun a => Fin.ext ?_)
  match a with
  | ⟨0, _⟩ => show win1_0.index t (0 : Fin 3) * 1 + 1 * 0 = ((grid1.coords t) 0).val; omega
  | ⟨1, _⟩ => show win1_0.index t (1 : Fin 3) * 256 + 1 * r.val = ((grid1.coords t) 1).val * 256 + r.val; omega
  | ⟨2, _⟩ => show win1_0.index t (2 : Fin 3) * 8 + 1 * k.val = k.val; omega

theorem blk1 (t : Fin cfg1.N) (k : Fin 8) (m : Fin 2048) : iblk1 V c 1 t (ix3 0 k m) = V c main_v26 (ix3 (bT t) k m) := by
  obtain ⟨e0, e1, e2⟩ := idx1 t
  refine congrArg (V c main_v26) (funext fun a => Fin.ext ?_)
  match a with
  | ⟨0, _⟩ => show win1_1.index t (0 : Fin 3) * 1 + 1 * 0 = ((grid1.coords t) 0).val; omega
  | ⟨1, _⟩ => show win1_1.index t (1 : Fin 3) * 8 + 1 * k.val = k.val; omega
  | ⟨2, _⟩ => show win1_1.index t (2 : Fin 3) * 2048 + 1 * m.val = m.val; omega

theorem blk2 (t : Fin cfg1.N) (m : Fin 2048) : iblk1 V c 2 t (ix3 0 0 m) = V c main_v27 (ix3 (bT t) 0 m) := by
  obtain ⟨e0, e1, e2⟩ := idx2 t
  refine congrArg (V c main_v27) (funext fun a => Fin.ext ?_)
  match a with
  | ⟨0, _⟩ => show win1_2.index t (0 : Fin 3) * 1 + 1 * 0 = ((grid1.coords t) 0).val; omega
  | ⟨1, _⟩ => show win1_2.index t (1 : Fin 3) * 1 + 1 * 0 = 0; omega
  | ⟨2, _⟩ => show win1_2.index t (2 : Fin 3) * 2048 + 1 * m.val = m.val; omega

theorem blk3 (t : Fin cfg1.N) (m : Fin 2048) (k : Fin 68) : iblk1 V c 3 t (ix3 0 m k) = V c main_v23 (ix3 (bT t) m k) := by
  obtain ⟨e0, e1, e2⟩ := idx3 t
  refine congrArg (V c main_v23) (funext fun a => Fin.ext ?_)
  match a with
  | ⟨0, _⟩ => show win1_3.index t (0 : Fin 3) * 1 + 1 * 0 = ((grid1.coords t) 0).val; omega
  | ⟨1, _⟩ => show win1_3.index t (1 : Fin 3) * 2048 + 1 * m.val = m.val; omega
  | ⟨2, _⟩ => show win1_3.index t (2 : Fin 3) * 68 + 1 * k.val = k.val; omega

theorem blk4 (t : Fin cfg1.N) : iblk1 V c 4 t = V c main_v28 := by
  obtain ⟨e0, e1⟩ := idx4 t
  funext y
  refine congrArg (V c main_v28) (funext fun a => Fin.ext ?_)
  match a with
  | ⟨0, _⟩ => show win1_4.index t (0 : Fin 2) * 64 + 1 * (y 0).val = (y 0).val; omega
  | ⟨1, _⟩ => show win1_4.index t (1 : Fin 2) * 128 + 1 * (y 1).val = (y 1).val; omega

theorem blk5 (t : Fin cfg1.N) : iblk1 V c 5 t = V c main_v29 := by
  obtain ⟨e0, e1⟩ := idx5 t
  funext y
  refine congrArg (V c main_v29) (funext fun a => Fin.ext ?_)
  match a with
  | ⟨0, _⟩ => show win1_5.index t (0 : Fin 2) * 68 + 1 * (y 0).val = (y 0).val; omega
  | ⟨1, _⟩ => show win1_5.index t (1 : Fin 2) * 128 + 1 * (y 1).val = (y 1).val; omega

theorem emb6 (t : Fin cfg1.N) (r : Fin 256) (j : Fin 128) : ((View.whole main_v30_0).slice (win1_6.rect t)).emb (ix3 0 r j) = ix3 (bT t) (qT t r) j := by
  obtain ⟨e0, e1, e2⟩ := idx6 t
  funext a; apply Fin.ext
  match a with
  | ⟨0, _⟩ => show win1_6.index t (0 : Fin 3) * 1 + 1 * 0 = ((grid1.coords t) 0).val; omega
  | ⟨1, _⟩ => show win1_6.index t (1 : Fin 3) * 256 + 1 * r.val = ((grid1.coords t) 1).val * 256 + r.val; omega
  | ⟨2, _⟩ => show win1_6.index t (2 : Fin 3) * 128 + 1 * j.val = j.val; omega

theorem emb7 (t : Fin cfg1.N) (r : Fin 256) (j : Fin 2048) : ((View.whole main_v30_1).slice (win1_7.rect t)).emb (ix3 0 r j) = ix3 (bT t) (qT t r) j := by
  obtain ⟨e0, e1, e2⟩ := idx7 t
  funext a; apply Fin.ext
  match a with
  | ⟨0, _⟩ => show win1_7.index t (0 : Fin 3) * 1 + 1 * 0 = ((grid1.coords t) 0).val; omega
  | ⟨1, _⟩ => show win1_7.index t (1 : Fin 3) * 256 + 1 * r.val = ((grid1.coords t) 1).val * 256 + r.val; omega
  | ⟨2, _⟩ => show win1_7.index t (2 : Fin 3) * 2048 + 1 * j.val = j.val; omega

/-- The queries' rows are the rows of the point array. -/
theorem qrows_eq (t : Fin cfg1.N) (x3 : Vec Ideal S1x2048x68 .f32) (r : Fin 256) (k : Fin 68) :
    qrows (grid1.coords t) x3 (ix3 0 r k) = x3 (ix3 0 (qT t r) k) := by
  have h : ∀ t : Fin grid1.N, k1_off1 (grid1.coords t) 1 = ((grid1.coords t) 1).val * 256 := by decide +kernel
  have e := h t
  refine congrArg x3 (funext fun a => Fin.ext ?_)
  match a with
  | ⟨0, _⟩ => rfl
  | ⟨1, _⟩ => show k1_off1 (grid1.coords t) 1 + 1 * r.val = ((grid1.coords t) 1).val * 256 + r.val; omega
  | ⟨2, _⟩ => show 0 + 1 * k.val = k.val; omega

theorem dist_eq (t : Fin cfg1.N) (r : Fin 256) (m : Fin 2048) :
    dist (grid1.coords t) (iblk1 V c 0 t) (iblk1 V c 1 t) (iblk1 V c 2 t) (iblk1 V c 3 t) (ix2 r m)
      = dK (c := 64) rfl (V c main_v23) (V c main_v25) (V c main_v26) (V c main_v27) (bT t) (qT t r) m := by
  unfold dK
  rw [← blk0 V c t r 0, ← blk0 V c t r 1, ← blk0 V c t r 2, ← blk1 V c t 0 m, ← blk1 V c t 1 m, ← blk1 V c t 2 m, ← blk2 V c t m,
    ← blk3 V c t (qT t r) ⟨64 + 3, by omega⟩, ← qrows_eq t (iblk1 V c 3 t) r ⟨64 + 3, by omega⟩]
  pointwise [k1_pay5, k1_pay4, k1_pay1]

theorem final7 : (dat1 V c).arrAt 7 cfg1.N = maskOf (c := 64) rfl (V c main_v23) (V c main_v25) (V c main_v26) (V c main_v27) := by
  refine (dat1 V c).arrAt_eq_of_covers 7 _ (by decide +kernel) fun t hf y => ?_
  blk_simp
  rw [after1_7]
  unfold outsAt1
  dsimp only
  rw [out7]
  idx_vars y
  obtain rfl : y0 = 0 := Subsingleton.elim _ _
  rw [emb7]
  refine (weights_out _ y1 y2).trans ?_
  simp only [dist_eq]
  rfl

theorem final6 : (dat1 V c).arrAt 6 cfg1.N
    = convOf (c := 64) rfl (maskOf (c := 64) rfl (V c main_v23) (V c main_v25) (V c main_v26) (V c main_v27)) (V c main_v23) (V c main_v28) (V c main_v29) := by
  refine (dat1 V c).arrAt_eq_of_covers 6 _ (by decide +kernel) fun t hf y => ?_
  blk_simp
  rw [after1_6]
  unfold outsAt1
  dsimp only
  rw [out6]
  idx_vars y
  obtain rfl : y0 = 0 := Subsingleton.elim _ _
  rw [emb6]
  refine (value _ _ _ _ _ (qT t y1) y1 (fun k => qrows_eq t _ y1 k) y2).trans ?_
  simp only [dist_eq, blk3, blk4, blk5]
  rfl

end Cert.Conv1

end
-- ==== Proof.Stage1.lean ====
/-
  What the second region leaves: the second convolution's features and weights.
-/
module

public import proofs.«01_k».proof.Proof.Stage0
public import proofs.«01_k».proof.Proof.Host1
public import proofs.«01_k».proof.Proof.Out1
public import proofs.«01_k».proof.Proof.Reads

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v45 val_main_v53 val_main_v99)
open Cert.RefConv (p0 p1 p2)

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

variable (H : Given m c x0 x1 x2 x3 x4 x5 x6 x7 x8 x9 x10 x11 x12 x13 x14 x15 x16 x17 x18 x19 x20 x21)
include H

theorem pts1 (b : Fin 2) (m' : Fin 2048) (i : Fin 3) : Host1.pts (W2 m ρ c) b m' i = p1 x3 b m' i := congrFun ((W2_args m ρ c main_arg3 (by decide)).trans H.e3) (ix3 b i m')

theorem feat53 : (W3 m ρ c (Proc.devRef .tc main_v19) : Vec Ideal S2x2048x64 .f32) = (val_main_v53 (F := Ideal) x0 x1 x2 x6 x7) := by
  refine (Host1.v19_eq (W2 m ρ c)).trans ?_
  rw [show (W2 m ρ c (Proc.devRef .tc main_v10_0) : Vec Ideal S2x4096x64 .f32) = _ from feat0 m ρ c x0 x1 x2 x3 x4 x5 x6 x7 x8 x9 x10 x11 x12 x13 x14 x15 x16 x17 x18 x19 x20 x21 H, show (W2 m ρ c (Proc.devRef .tc main_arg2) : IVec S2x2048 32) = x2 from ((W2_args m ρ c main_arg2 (by decide)).trans H.e2)]
  rfl

theorem real53 (i : S2x2048x64.Idx) : IsReal ((val_main_v53 (F := Ideal) x0 x1 x2 x6 x7) i) := by
  idx_vars i
  exact isReal_of (Reads.gather_rows3 (by norm_num) _ _ _ i0 i1 i2) (real45 m c x0 x1 x2 x3 x4 x5 x6 x7 x8 x9 x10 x11 x12 x13 x14 x15 x16 x17 x18 x19 x20 x21 H _)

theorem aug1 (b : Fin 2) (m' : Fin 2048) (k : Fin 68) :
    (W3 m ρ c (Proc.devRef .tc main_v23) : Vec Ideal S2x2048x68 .f32) (ix3 b m' k) = aug (fun m' k => (val_main_v53 (F := Ideal) x0 x1 x2 x6 x7) (ix3 b m' k)) (p1 x3 b) m' k :=
  (Host1.v23_at (W2 m ρ c) b m' k).trans (aug_congr (fun m' k => congrFun (feat53 m ρ c x0 x1 x2 x3 x4 x5 x6 x7 x8 x9 x10 x11 x12 x13 x14 x15 x16 x17 x18 x19 x20 x21 H) (ix3 b m' k)) (pts1 m ρ c x0 x1 x2 x3 x4 x5 x6 x7 x8 x9 x10 x11 x12 x13 x14 x15 x16 x17 x18 x19 x20 x21 H b) m' k)

theorem pad1 (b : Fin 2) (m' : Fin 2048) (i : Fin 3) : (W3 m ρ c (Proc.devRef .tc main_v25) : Vec Ideal S2x2048x8 .f32) (ix3 b m' ⟨i, by omega⟩) = p1 x3 b m' i :=
  (Host1.v25_at (W2 m ρ c) b m' i).trans (pts1 m ρ c x0 x1 x2 x3 x4 x5 x6 x7 x8 x9 x10 x11 x12 x13 x14 x15 x16 x17 x18 x19 x20 x21 H b m' i)

theorem padT1 (b : Fin 2) (m' : Fin 2048) (i : Fin 3) : (W3 m ρ c (Proc.devRef .tc main_v26) : Vec Ideal S2x8x2048 .f32) (ix3 b ⟨i, by omega⟩ m') = p1 x3 b m' i :=
  (Host1.v26_at (W2 m ρ c) b m' i).trans (pts1 m ρ c x0 x1 x2 x3 x4 x5 x6 x7 x8 x9 x10 x11 x12 x13 x14 x15 x16 x17 x18 x19 x20 x21 H b m' i)

theorem sq1 (b : Fin 2) (m' : Fin 2048) : (W3 m ρ c (Proc.devRef .tc main_v27) : Vec Ideal S2x1x2048 .f32) (ix3 b 0 m') = ∑ i, p1 x3 b m' i * p1 x3 b m' i :=
  (Host1.v27_at (W2 m ρ c) b m' 0).trans (squares_congr (pts1 m ρ c x0 x1 x2 x3 x4 x5 x6 x7 x8 x9 x10 x11 x12 x13 x14 x15 x16 x17 x18 x19 x20 x21 H b m'))

theorem pos1 (b : Fin 2) (m' : Fin 2048) (i : Fin 3) : (W3 m ρ c (Proc.devRef .tc main_v11) : Vec Ideal S2x2048x3 .f32) (ix3 b m' i) = p1 x3 b m' i :=
  (Host1.v11_at (W2 m ρ c) b m' i).trans (congrFun ((W2_args m ρ c main_arg3 (by decide)).trans H.e3) (ix3 b i m'))

theorem pos2 (b : Fin 2) (m' : Fin 1024) (i : Fin 3) : (W3 m ρ c (Proc.devRef .tc main_v12) : Vec Ideal S2x1024x3 .f32) (ix3 b m' i) = p2 x5 b m' i :=
  (Host1.v12_at (W2 m ρ c) b m' i).trans (congrFun ((W2_args m ρ c main_arg5 (by decide)).trans H.e5) (ix3 b i m'))

/-- The weights of the second convolution. -/
theorem mask1 (b : Fin 2) (q m' : Fin 2048) :
    (W4 m ρ c (Proc.devRef .tc main_v30_1) : Vec Ideal S2x2048x2048 .bf16) (ix3 b q m') = weight (fun m' => sqd (p1 x3 b q) (p1 x3 b m')) m' := by
  refine (congrFun ((W4_arr m ρ c 7).trans (Conv1.final7 (V3 m ρ) c)) (ix3 b q m')).trans ?_
  exact maskOf_eq rfl _ _ _ _ (fun b m' k => (val_main_v53 (F := Ideal) x0 x1 x2 x6 x7) (ix3 b m' k)) (p1 x3) (aug1 m ρ c x0 x1 x2 x3 x4 x5 x6 x7 x8 x9 x10 x11 x12 x13 x14 x15 x16 x17 x18 x19 x20 x21 H) (pad1 m ρ c x0 x1 x2 x3 x4 x5 x6 x7 x8 x9 x10 x11 x12 x13 x14 x15 x16 x17 x18 x19 x20 x21 H) (padT1 m ρ c x0 x1 x2 x3 x4 x5 x6 x7 x8 x9 x10 x11 x12 x13 x14 x15 x16 x17 x18 x19 x20 x21 H) (sq1 m ρ c x0 x1 x2 x3 x4 x5 x6 x7 x8 x9 x10 x11 x12 x13 x14 x15 x16 x17 x18 x19 x20 x21 H) b q m'

/-- The features of the second convolution. -/
theorem feat1 : (W4 m ρ c (Proc.devRef .tc main_v30_0) : Vec Ideal S2x2048x128 .f32) = (val_main_v99 (F := Ideal) x0 x1 x2 x3 x6 x7 x8 x9) := by
  refine ((W4_arr m ρ c 6).trans (Conv1.final6 (V3 m ρ) c)).trans ?_
  funext y
  idx_vars y
  have es : ∀ k j, (W3 m ρ c (Proc.devRef .tc main_v28) : Vec Ideal S64x128 .f32) (ix2 k j) = x8 (ix2 j k) := fun k j => (Host1.v28_at (W2 m ρ c) k j).trans (congrFun ((W2_args m ρ c main_arg8 (by decide)).trans H.e8) (ix2 j k))
  have ee : ∀ k j, (W3 m ρ c (Proc.devRef .tc main_v29) : Vec Ideal S68x128 .f32) (ix2 k j) = x9 (ix2 j k) := fun k j => (Host1.v29_at (W2 m ρ c) k j).trans (congrFun ((W2_args m ρ c main_arg9 (by decide)).trans H.e9) (ix2 j k))
  refine (convOf_eq rfl _ _ _ (fun b m' k => (val_main_v53 (F := Ideal) x0 x1 x2 x6 x7) (ix3 b m' k)) (p1 x3) (by norm_num) _
    (maskOf_eq rfl _ _ _ _ (fun b m' k => (val_main_v53 (F := Ideal) x0 x1 x2 x6 x7) (ix3 b m' k)) (p1 x3) (aug1 m ρ c x0 x1 x2 x3 x4 x5 x6 x7 x8 x9 x10 x11 x12 x13 x14 x15 x16 x17 x18 x19 x20 x21 H) (pad1 m ρ c x0 x1 x2 x3 x4 x5 x6 x7 x8 x9 x10 x11 x12 x13 x14 x15 x16 x17 x18 x19 x20 x21 H) (padT1 m ρ c x0 x1 x2 x3 x4 x5 x6 x7 x8 x9 x10 x11 x12 x13 x14 x15 x16 x17 x18 x19 x20 x21 H) (sq1 m ρ c x0 x1 x2 x3 x4 x5 x6 x7 x8 x9 x10 x11 x12 x13 x14 x15 x16 x17 x18 x19 x20 x21 H))
    (aug1 m ρ c x0 x1 x2 x3 x4 x5 x6 x7 x8 x9 x10 x11 x12 x13 x14 x15 x16 x17 x18 x19 x20 x21 H) (fun b m' k => real53 m c x0 x1 x2 x3 x4 x5 x6 x7 x8 x9 x10 x11 x12 x13 x14 x15 x16 x17 x18 x19 x20 x21 H _) (fun b m' i => H.r3 _) (fun k j => isReal_of (ee k j) (H.r9 _)) y0 y1 y2).trans ?_
  rw [RefConv.conv1 x0 x1 x2 x3 x6 x7 x8 x9 (fun b m' i => H.r3 _) y0 y1 y2]
  exact conv_congr (fun j k => es k j) (fun j k => ee k j) y1 y2

theorem real99 (i : S2x2048x128.Idx) : IsReal ((val_main_v99 (F := Ideal) x0 x1 x2 x3 x6 x7 x8 x9) i) := by
  idx_vars i
  rw [RefConv.conv1 x0 x1 x2 x3 x6 x7 x8 x9 (fun b m' i => H.r3 _) i0 i1 i2]
  exact isReal_conv (fun m' k => real53 m c x0 x1 x2 x3 x4 x5 x6 x7 x8 x9 x10 x11 x12 x13 x14 x15 x16 x17 x18 x19 x20 x21 H _) (fun m' i => H.r3 _) (fun j k => H.r8 _) (fun j k => H.r9 _) i1 i2

end Cert.Stages

end
-- ==== Proof.Host2.lean ====
/-
  The arrays that the host operations before the third region leave, read at an index.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host2

open Idealize.ShloMosaic Idealize.ShloMosaic.TcCoe Idealize.SL.Sem Cert.Select Cert.Layers Cert.Stretch
open Cert.KernelIdeal Cert.KernelIdeal.Gen

variable (U : Valuation τ sig (Elt Ideal))

/-- The points' coordinates. -/
abbrev pts (b : Fin 2) (m : Fin 1024) (i : Fin 3) : EReal := (U (Proc.devRef .tc main_v12) : Vec Ideal S2x1024x3 .f32) (ix3 b m i)

theorem v40_at (b : Fin 2) (m : Fin 1024) (z : Fin 1) :
    (StableHlo.after hostOps2 U (Proc.devRef .tc main_v40) : Vec Ideal S2x1024x1 .f32) (ix3 b m z) = ∑ i, pts U b m i * pts U b m i := by
  after_reads_simp
  exact norms_at (by decide) _ _ _ _ b m z

/-- The places gathered: a negative one counts from the end. -/
abbrev places (x : IVec S2x1024 32) : IVec S2x1024x1 32 :=
  broadcastInDim S2x1024x1 ![0, 1] bcast_S2x1024_S2x1024x1_0_1
    (select (cmpi .slt x (broadcastInDim S2x1024 ![] bcast_S_S2x1024 (constantI S_ 32 0#32)))
      (addi x (broadcastInDim S2x1024 ![] bcast_S_S2x1024 (constantI S_ 32 2048#32))) x)

/-- The features gathered. -/
theorem v37_eq : (StableHlo.after hostOps2 U (Proc.devRef .tc main_v37) : Vec Ideal S2x1024x128 .f32)
    = Host.gather gather_S2x2048x128_S2x1024x1_S2x1024x128_2_1_0_0_1_2_11128 (U (Proc.devRef .tc main_v30_0) : Vec Ideal S2x2048x128 .f32) (places (U (Proc.devRef .tc main_arg4))) := by
  after_reads_simp

theorem v41_at (b : Fin 2) (m : Fin 1024) (k : Fin 132) :
    (StableHlo.after hostOps2 U (Proc.devRef .tc main_v41) : Vec Ideal S2x1024x132 .f32) (ix3 b m k)
      = aug (fun m k => (StableHlo.after hostOps2 U (Proc.devRef .tc main_v37) : Vec Ideal S2x1024x128 .f32) (ix3 b m k)) (pts U b) m k := by
  after_reads_simp
  exact aug_at rfl _ _ (StableHlo.after hostOps2 U (Proc.devRef .tc main_v40)) _ (v40_at U) b m k

theorem v43_at (b : Fin 2) (m : Fin 1024) (i : Fin 3) :
    (StableHlo.after hostOps2 U (Proc.devRef .tc main_v43) : Vec Ideal S2x1024x8 .f32) (ix3 b m ⟨i, by omega⟩) = pts U b m i := by
  after_reads_simp
  exact pad_at _ _ _ b m i

theorem v44_at (b : Fin 2) (m : Fin 1024) (i : Fin 3) :
    (StableHlo.after hostOps2 U (Proc.devRef .tc main_v44) : Vec Ideal S2x8x1024 .f32) (ix3 b ⟨i, by omega⟩ m) = pts U b m i := by
  after_reads_simp
  exact (ValueIdx.transpose_ix3_021_apply _ _ b _ m).trans (pad_at _ _ _ b m i)

theorem v45_at (b : Fin 2) (m : Fin 1024) (z : Fin 1) :
    (StableHlo.after hostOps2 U (Proc.devRef .tc main_v45) : Vec Ideal S2x1x1024 .f32) (ix3 b z m) = ∑ i, pts U b m i * pts U b m i := by
  after_reads_simp
  exact (ValueIdx.transpose_ix3_021_apply _ _ b _ m).trans (norms_at (by decide) _ _ _ _ b m _)

theorem v46_at (k : Fin 128) (j : Fin 256) :
    (StableHlo.after hostOps2 U (Proc.devRef .tc main_v46) : Vec Ideal S128x256 .f32) (ix2 k j)
      = (U (Proc.devRef .tc main_arg10) : Vec Ideal S256x128 .f32) (ix2 j k) := by
  after_reads_simp
  exact ValueIdx.transpose_ix2_apply _ _ k j

theorem v47_at (k : Fin 132) (j : Fin 256) :
    (StableHlo.after hostOps2 U (Proc.devRef .tc main_v47) : Vec Ideal S132x256 .f32) (ix2 k j)
      = (U (Proc.devRef .tc main_arg11) : Vec Ideal S256x132 .f32) (ix2 j k) := by
  after_reads_simp
  exact ValueIdx.transpose_ix2_apply _ _ k j

end Cert.Host2

end
-- ==== Proof.Conv2.lean ====
/-
  The third convolution's body: its rounds, its mask, its value at an entry of a block.
-/
module

public import proofs.«01_k».proof.Proof.Gen.KernelIdeal.Skeleton
public import proofs.«01_k».proof.Proof.Rounds
public import proofs.«01_k».proof.Proof.Layers
public import Idealize.ShloMosaic.Lib.Pointwise

@[expose] public section

set_option maxRecDepth 16384

noncomputable section

namespace Cert.Conv2

open Idealize.ShloMosaic Cert.Select Cert.Layers Cert.Rounds
open Cert.KernelIdeal Cert.KernelIdeal.Gen

theorem H : Rounds.Facts 256 1024 := ⟨reduces_S256x1024_S256, shapeCasts_S256_S256x1, broadcasts_S256x1_S256x1024⟩

section
variable (v : IVec S256x1024 32) (d : FVec Ideal S256x1024 .f32)

/-- The block, its least entries and the mask between the parts of the body: after 3, 6, 9, 12 rounds. -/
abbrev d3 := k2_pay13 (F := Ideal) d v
abbrev d6 := k2_pay21 (F := Ideal) v (d3 v d) (k2_pay14 (F := Ideal) d v)
abbrev e6 := k2_pay22 (F := Ideal) v (d3 v d) (k2_pay14 (F := Ideal) d v)
abbrev a6 := k2_pay20 (F := Ideal) v (k2_pay12 (F := Ideal) d v (Scalar.ofBits .f32 0x00000000#32)) (d3 v d) (k2_pay14 (F := Ideal) d v)
abbrev d9 := k2_pay29 (F := Ideal) v (d6 v d) (e6 v d)
abbrev c9 := k2_pay30 (F := Ideal) v (d6 v d) (e6 v d)
abbrev a9 := k2_pay28 (F := Ideal) v (a6 v d) (d6 v d) (e6 v d)
abbrev d12 := k2_pay37 (F := Ideal) v (d9 v d) (c9 v d)
abbrev q12 := k2_pay38 (F := Ideal) v (d9 v d) (c9 v d)
abbrev a12 := k2_pay36 (F := Ideal) v (a9 v d) (d9 v d) (c9 v d)
/-- The mask after fifteen rounds and the sixteenth hit. -/
abbrev a15 := k2_pay44 (F := Ideal) v (a12 v d) (d12 v d) (q12 v d)
abbrev h15 := k2_pay45 (F := Ideal) v (d12 v d) (q12 v d)

theorem mask : maximumf (a15 v d) (sitofp .f32 (h15 v d)) = takenA H v 1024#32 d 16 := rfl
end

/-- The positions along a row. -/
abbrev pos : IVec S256x1024 32 := iota .tc S256x1024 32 [1] iota_S256x1024_d1_w32

theorem pos_eq (r : Fin 256) (m : Fin 1024) : pos (ix2 r m) = BitVec.ofNat 32 m.val := by
  pointwise [pos]

/-- The body's weights are a sixteenth at the sixteen nearest. -/
theorem weights (d : FVec Ideal S256x1024 .f32) (r : Fin 256) (m : Fin 1024) :
    max (a15 pos d (ix2 r m)) (FloatOps.sitofp (F := Ideal) .f32 (h15 pos d (ix2 r m))) * sixteenth = weight (fun m => d (ix2 r m)) m := by
  show (maximumf (a15 pos d) (sitofp .f32 (h15 pos d))) (ix2 r m) * _ = _
  rw [mask, show (1024#32 : BitVec 32) = BitVec.ofNat 32 1024 from rfl, taken_apply H (by norm_num) _ pos_eq]
  rfl

/-- The main output's value: the convolution's linear terms under the weights. -/
theorem value (v2 : Vec Ideal S1x256x132 .f32) (d : FVec Ideal S256x1024 .f32) (x3 : Vec Ideal S1x1024x132 .f32)
    (x4 : Vec Ideal S128x256 .f32) (x5 : Vec Ideal S132x256 .f32) (q : Fin 1024) (r : Fin 256) (hq : ∀ k, v2 (ix3 0 r k) = x3 (ix3 0 q k))
    (j : Fin 256) :
    k2_pay1 (k2_pay3 v2) (k2_pay4 v2) (k2_pay5 v2) (a15 pos d) (h15 pos d) x3 x4 x5 (ix3 0 r j)
      = convK (c := 128) rfl (weight fun m => d (ix2 r m)) (fun m k => x3 (ix3 0 m k)) q (fun j k => x4 (ix2 k j)) (fun j k => x5 (ix2 k j)) j := by
  have hw := weights d
  generalize a15 pos d = a at hw ⊢
  generalize h15 pos d = g at hw ⊢
  pointwise [k2_pay1, k2_pay3, k2_pay4, k2_pay5, k2_pay2]
  simp only [hw, hq]
  rw [convK_read]
  rfl

end Cert.Conv2

end
-- ==== Proof.Out2.lean ====
/-
  What the third convolution's region leaves in its result array.
-/
module

public import proofs.«01_k».proof.Proof.Gen.KernelIdeal.Frame.Region2
public import proofs.«01_k».proof.Proof.Conv2
public import proofs.«01_k».proof.Proof.Blocks
public import Idealize.ShloMosaic.Lib.Pipeline.ValueKit

@[expose] public section

set_option maxRecDepth 16384

noncomputable section

namespace Cert.Conv2

open Idealize.ShloMosaic Idealize.ShloMosaic.TcCoe Idealize.SL.Sem Cert.Select Cert.Layers Cert.Rounds Cert.Blocks
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The queries' rows of the point array. -/
abbrev qrows (i : grid2.Coords) (x3 : Vec Ideal S1x1024x132 .f32) : Vec Ideal S1x256x132 .f32 :=
  View.ld x3 (Rect.unit (s := S1x1024x132) (k2_off1 i) S1x256x132.size (k2_off1_inb i))

/-- The block's distances. -/
abbrev dist (i : grid2.Coords) (x0 : Vec Ideal S1x256x8 .f32) (x1 : Vec Ideal S1x8x1024 .f32) (x2 : Vec Ideal S1x1x1024 .f32)
    (x3 : Vec Ideal S1x1024x132 .f32) : FVec Ideal S256x1024 .f32 := k2_pay6 (F := Ideal) (qrows i x3) x0 x1 x2

theorem out6 (c : Dev nD) (i : grid2.Coords) (a2 : Memref sig .tc .vmem S1x256x8 .f32) (h2 : a2.IsWhole)
    (a3 : Memref sig .tc .vmem S1x8x1024 .f32) (h3 : a3.IsWhole) (a4 : Memref sig .tc .vmem S1x1x1024 .f32) (h4 : a4.IsWhole)
    (a5 : Memref sig .tc .vmem S1x1024x132 .f32) (h5 : a5.IsWhole) (a6 : Memref sig .tc .vmem S128x256 .f32) (h6 : a6.IsWhole)
    (a7 : Memref sig .tc .vmem S132x256 .f32) (h7 : a7.IsWhole) (a8 : Memref sig .tc .vmem S1x256x256 .f32) (h8 : a8.IsWhole)
    (x0 : Vec Ideal S1x256x8 .f32) (x1 : Vec Ideal S1x8x1024 .f32) (x2 : Vec Ideal S1x1x1024 .f32)
    (x3 : Vec Ideal S1x1024x132 .f32) (x4 : Vec Ideal S128x256 .f32) (x5 : Vec Ideal S132x256 .f32) :
    out2_A_6 c i a2 h2 a3 h3 a4 h4 a5 h5 a6 h6 a7 h7 a8 h8 x0 x1 x2 x3 x4 x5
      = k2_pay1 (k2_pay3 (qrows i x3)) (k2_pay4 (qrows i x3)) (k2_pay5 (qrows i x3))
          (a15 pos (dist i x0 x1 x2 x3)) (h15 pos (dist i x0 x1 x2 x3)) x3 x4 x5 := by
  unfold out2_A_6
  rw [View.read_writes_junk_eq_canon]
  unfold kernelRun2_A
  dsimp only
  sl_unfold_words
  rw [View.canon_unit_zero hz3]
  simp only [View.readAt_eq_ld, h2.read_unread, h3.read_unread, h4.read_unread, h5.read_unread, h6.read_unread, h7.read_unread,
    View.ld_unit_zero (S := S1x256x8) hz3, View.ld_unit_zero (S := S1x8x1024) hz3, View.ld_unit_zero (S := S1x1x1024) hz3,
    View.ld_unit_zero (S := S1x1024x132) hz3, View.ld_unit_zero (S := S128x256) hz2, View.ld_unit_zero (S := S132x256) hz2]
  rfl

variable (V : (c : Dev nD) → (b : Ref sig .tc) → Buf (Elt Ideal) ((c : Thread nD τ).loc b)) (c : Dev nD)

/-- The batch of a grid point. -/
def bT (t : Fin cfg2.N) : Fin 2 := (grid2.coords t) 0
/-- The query of a row at a grid point. -/
def qT (t : Fin cfg2.N) (r : Fin 256) : Fin 1024 := ⟨((grid2.coords t) 1).val * 256 + r.val, by
  have h : ((grid2.coords t) 1).val < 4 := ((grid2.coords t) 1).isLt
  omega⟩

theorem idx0 : ∀ t : Fin cfg2.N, win2_0.index t (0 : Fin 3) = ((grid2.coords t) 0).val ∧ win2_0.index t (1 : Fin 3) = ((grid2.coords t) 1).val
    ∧ win2_0.index t (2 : Fin 3) = 0 := (by decide +kernel : ∀ t : Fin grid2.N, _)
theorem idx1 : ∀ t : Fin cfg2.N, win2_1.index t (0 : Fin 3) = ((grid2.coords t) 0).val ∧ win2_1.index t (1 : Fin 3) = 0
    ∧ win2_1.index t (2 : Fin 3) = 0 := (by decide +kernel : ∀ t : Fin grid2.N, _)
theorem idx2 : ∀ t : Fin cfg2.N, win2_2.index t (0 : Fin 3) = ((grid2.coords t) 0).val ∧ win2_2.index t (1 : Fin 3) = 0
    ∧ win2_2.index t (2 : Fin 3) = 0 := (by decide +kernel : ∀ t : Fin grid2.N, _)
theorem idx3 : ∀ t : Fin cfg2.N, win2_3.index t (0 : Fin 3) = ((grid2.coords t) 0).val ∧ win2_3.index t (1 : Fin 3) = 0
    ∧ win2_3.index t (2 : Fin 3) = 0 := (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 3) = ((grid2.coords t) 0).val ∧ win2_6.index t (1 : Fin 3) = ((grid2.coords t) 1).val
    ∧ win2_6.index t (2 : Fin 3) = 0 := (by decide +kernel : ∀ t : Fin grid2.N, _)
theorem blk0 (t : Fin cfg2.N) (r : Fin 256) (k : Fin 8) : iblk2 V c 0 t (ix3 0 r k) = V c main_v43 (ix3 (bT t) (qT t r) k) := by
  obtain ⟨e0, e1, e2⟩ := idx0 t
  refine congrArg (V c main_v43) (funext fun a => Fin.ext ?_)
  match a with
  | ⟨0, _⟩ => show win2_0.index t (0 : Fin 3) * 1 + 1 * 0 = ((grid2.coords t) 0).val; omega
  | ⟨1, _⟩ => show win2_0.index t (1 : Fin 3) * 256 + 1 * r.val = ((grid2.coords t) 1).val * 256 + r.val; omega
  | ⟨2, _⟩ => show win2_0.index t (2 : Fin 3) * 8 + 1 * k.val = k.val; omega

theorem blk1 (t : Fin cfg2.N) (k : Fin 8) (m : Fin 1024) : iblk2 V c 1 t (ix3 0 k m) = V c main_v44 (ix3 (bT t) k m) := by
  obtain ⟨e0, e1, e2⟩ := idx1 t
  refine congrArg (V c main_v44) (funext fun a => Fin.ext ?_)
  match a with
  | ⟨0, _⟩ => show win2_1.index t (0 : Fin 3) * 1 + 1 * 0 = ((grid2.coords t) 0).val; omega
  | ⟨1, _⟩ => show win2_1.index t (1 : Fin 3) * 8 + 1 * k.val = k.val; omega
  | ⟨2, _⟩ => show win2_1.index t (2 : Fin 3) * 1024 + 1 * m.val = m.val; omega

theorem blk2 (t : Fin cfg2.N) (m : Fin 1024) : iblk2 V c 2 t (ix3 0 0 m) = V c main_v45 (ix3 (bT t) 0 m) := by
  obtain ⟨e0, e1, e2⟩ := idx2 t
  refine congrArg (V c main_v45) (funext fun a => Fin.ext ?_)
  match a with
  | ⟨0, _⟩ => show win2_2.index t (0 : Fin 3) * 1 + 1 * 0 = ((grid2.coords t) 0).val; omega
  | ⟨1, _⟩ => show win2_2.index t (1 : Fin 3) * 1 + 1 * 0 = 0; omega
  | ⟨2, _⟩ => show win2_2.index t (2 : Fin 3) * 1024 + 1 * m.val = m.val; omega

theorem blk3 (t : Fin cfg2.N) (m : Fin 1024) (k : Fin 132) : iblk2 V c 3 t (ix3 0 m k) = V c main_v41 (ix3 (bT t) m k) := by
  obtain ⟨e0, e1, e2⟩ := idx3 t
  refine congrArg (V c main_v41) (funext fun a => Fin.ext ?_)
  match a with
  | ⟨0, _⟩ => show win2_3.index t (0 : Fin 3) * 1 + 1 * 0 = ((grid2.coords t) 0).val; omega
  | ⟨1, _⟩ => show win2_3.index t (1 : Fin 3) * 1024 + 1 * m.val = m.val; omega
  | ⟨2, _⟩ => show win2_3.index t (2 : Fin 3) * 132 + 1 * k.val = k.val; omega

theorem blk4 (t : Fin cfg2.N) : iblk2 V c 4 t = V c main_v46 := by
  obtain ⟨e0, e1⟩ := idx4 t
  funext y
  refine congrArg (V c main_v46) (funext fun a => Fin.ext ?_)
  match a with
  | ⟨0, _⟩ => show win2_4.index t (0 : Fin 2) * 128 + 1 * (y 0).val = (y 0).val; omega
  | ⟨1, _⟩ => show win2_4.index t (1 : Fin 2) * 256 + 1 * (y 1).val = (y 1).val; omega

theorem blk5 (t : Fin cfg2.N) : iblk2 V c 5 t = V c main_v47 := by
  obtain ⟨e0, e1⟩ := idx5 t
  funext y
  refine congrArg (V c main_v47) (funext fun a => Fin.ext ?_)
  match a with
  | ⟨0, _⟩ => show win2_5.index t (0 : Fin 2) * 132 + 1 * (y 0).val = (y 0).val; omega
  | ⟨1, _⟩ => show win2_5.index t (1 : Fin 2) * 256 + 1 * (y 1).val = (y 1).val; omega

theorem emb6 (t : Fin cfg2.N) (r : Fin 256) (j : Fin 256) : ((View.whole main_v48).slice (win2_6.rect t)).emb (ix3 0 r j) = ix3 (bT t) (qT t r) j := by
  obtain ⟨e0, e1, e2⟩ := idx6 t
  funext a; apply Fin.ext
  match a with
  | ⟨0, _⟩ => show win2_6.index t (0 : Fin 3) * 1 + 1 * 0 = ((grid2.coords t) 0).val; omega
  | ⟨1, _⟩ => show win2_6.index t (1 : Fin 3) * 256 + 1 * r.val = ((grid2.coords t) 1).val * 256 + r.val; omega
  | ⟨2, _⟩ => show win2_6.index t (2 : Fin 3) * 256 + 1 * j.val = j.val; omega

/-- The queries' rows are the rows of the point array. -/
theorem qrows_eq (t : Fin cfg2.N) (x3 : Vec Ideal S1x1024x132 .f32) (r : Fin 256) (k : Fin 132) :
    qrows (grid2.coords t) x3 (ix3 0 r k) = x3 (ix3 0 (qT t r) k) := by
  have h : ∀ t : Fin grid2.N, k2_off1 (grid2.coords t) 1 = ((grid2.coords t) 1).val * 256 := by decide +kernel
  have e := h t
  refine congrArg x3 (funext fun a => Fin.ext ?_)
  match a with
  | ⟨0, _⟩ => rfl
  | ⟨1, _⟩ => show k2_off1 (grid2.coords t) 1 + 1 * r.val = ((grid2.coords t) 1).val * 256 + r.val; omega
  | ⟨2, _⟩ => show 0 + 1 * k.val = k.val; omega

theorem dist_eq (t : Fin cfg2.N) (r : Fin 256) (m : Fin 1024) :
    dist (grid2.coords t) (iblk2 V c 0 t) (iblk2 V c 1 t) (iblk2 V c 2 t) (iblk2 V c 3 t) (ix2 r m)
      = dK (c := 128) rfl (V c main_v41) (V c main_v43) (V c main_v44) (V c main_v45) (bT t) (qT t r) m := by
  unfold dK
  rw [← blk0 V c t r 0, ← blk0 V c t r 1, ← blk0 V c t r 2, ← blk1 V c t 0 m, ← blk1 V c t 1 m, ← blk1 V c t 2 m, ← blk2 V c t m,
    ← blk3 V c t (qT t r) ⟨128 + 3, by omega⟩, ← qrows_eq t (iblk2 V c 3 t) r ⟨128 + 3, by omega⟩]
  pointwise [k2_pay6, k2_pay5, k2_pay2]

theorem final6 : (dat2 V c).arrAt 6 cfg2.N
    = convOf (c := 128) rfl (maskOf (c := 128) rfl (V c main_v41) (V c main_v43) (V c main_v44) (V c main_v45)) (V c main_v41) (V c main_v46) (V c main_v47) := by
  refine (dat2 V c).arrAt_eq_of_covers 6 _ (by decide +kernel) fun t hf y => ?_
  blk_simp
  rw [after2_6]
  unfold outsAt2
  rw [out6]
  idx_vars y
  obtain rfl : y0 = 0 := Subsingleton.elim _ _
  rw [emb6]
  refine (value _ _ _ _ _ (qT t y1) y1 (fun k => qrows_eq t _ y1 k) y2).trans ?_
  simp only [dist_eq, blk3, blk4, blk5]
  rfl

end Cert.Conv2

end
-- ==== Proof.Stage2.lean ====
/-
  What the third region leaves: the third convolution's features.
-/
module

public import proofs.«01_k».proof.Proof.Stage1
public import proofs.«01_k».proof.Proof.Host2
public import proofs.«01_k».proof.Proof.Out2

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v45 val_main_v53 val_main_v99 val_main_v107 val_main_v153)
open Cert.RefConv (p0 p1 p2)

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

variable (H : Given m c x0 x1 x2 x3 x4 x5 x6 x7 x8 x9 x10 x11 x12 x13 x14 x15 x16 x17 x18 x19 x20 x21)
include H

theorem pts2 (b : Fin 2) (m' : Fin 1024) (i : Fin 3) : Host2.pts (W4 m ρ c) b m' i = p2 x5 b m' i :=
  (congrFun (W4_of m ρ c main_v12 (by decide +kernel)) (ix3 b m' i)).trans (pos2 m ρ c x0 x1 x2 x3 x4 x5 x6 x7 x8 x9 x10 x11 x12 x13 x14 x15 x16 x17 x18 x19 x20 x21 H b m' i)

theorem feat107 : (W5 m ρ c (Proc.devRef .tc main_v37) : Vec Ideal S2x1024x128 .f32) = (val_main_v107 (F := Ideal) x0 x1 x2 x3 x4 x6 x7 x8 x9) := by
  refine (Host2.v37_eq (W4 m ρ c)).trans ?_
  rw [show (W4 m ρ c (Proc.devRef .tc main_v30_0) : Vec Ideal S2x2048x128 .f32) = _ from feat1 m ρ c x0 x1 x2 x3 x4 x5 x6 x7 x8 x9 x10 x11 x12 x13 x14 x15 x16 x17 x18 x19 x20 x21 H, show (W4 m ρ c (Proc.devRef .tc main_arg4) : IVec S2x1024 32) = x4 from ((W4_args m ρ c main_arg4 (by decide)).trans H.e4)]
  rfl

theorem real107 (i : S2x1024x128.Idx) : IsReal ((val_main_v107 (F := Ideal) x0 x1 x2 x3 x4 x6 x7 x8 x9) i) := by
  idx_vars i
  exact isReal_of (Reads.gather_rows3 (by norm_num) _ _ _ i0 i1 i2) (real99 m c x0 x1 x2 x3 x4 x5 x6 x7 x8 x9 x10 x11 x12 x13 x14 x15 x16 x17 x18 x19 x20 x21 H _)

theorem aug2 (b : Fin 2) (m' : Fin 1024) (k : Fin 132) :
    (W5 m ρ c (Proc.devRef .tc main_v41) : Vec Ideal S2x1024x132 .f32) (ix3 b m' k) = aug (fun m' k => (val_main_v107 (F := Ideal) x0 x1 x2 x3 x4 x6 x7 x8 x9) (ix3 b m' k)) (p2 x5 b) m' k :=
  (Host2.v41_at (W4 m ρ c) b m' k).trans (aug_congr (fun m' k => congrFun (feat107 m ρ c x0 x1 x2 x3 x4 x5 x6 x7 x8 x9 x10 x11 x12 x13 x14 x15 x16 x17 x18 x19 x20 x21 H) (ix3 b m' k)) (pts2 m ρ c x0 x1 x2 x3 x4 x5 x6 x7 x8 x9 x10 x11 x12 x13 x14 x15 x16 x17 x18 x19 x20 x21 H b) m' k)

theorem pad2 (b : Fin 2) (m' : Fin 1024) (i : Fin 3) : (W5 m ρ c (Proc.devRef .tc main_v43) : Vec Ideal S2x1024x8 .f32) (ix3 b m' ⟨i, by omega⟩) = p2 x5 b m' i :=
  (Host2.v43_at (W4 m ρ c) b m' i).trans (pts2 m ρ c x0 x1 x2 x3 x4 x5 x6 x7 x8 x9 x10 x11 x12 x13 x14 x15 x16 x17 x18 x19 x20 x21 H b m' i)

theorem padT2 (b : Fin 2) (m' : Fin 1024) (i : Fin 3) : (W5 m ρ c (Proc.devRef .tc main_v44) : Vec Ideal S2x8x1024 .f32) (ix3 b ⟨i, by omega⟩ m') = p2 x5 b m' i :=
  (Host2.v44_at (W4 m ρ c) b m' i).trans (pts2 m ρ c x0 x1 x2 x3 x4 x5 x6 x7 x8 x9 x10 x11 x12 x13 x14 x15 x16 x17 x18 x19 x20 x21 H b m' i)

theorem sq2 (b : Fin 2) (m' : Fin 1024) : (W5 m ρ c (Proc.devRef .tc main_v45) : Vec Ideal S2x1x1024 .f32) (ix3 b 0 m') = ∑ i, p2 x5 b m' i * p2 x5 b m' i :=
  (Host2.v45_at (W4 m ρ c) b m' 0).trans (squares_congr (pts2 m ρ c x0 x1 x2 x3 x4 x5 x6 x7 x8 x9 x10 x11 x12 x13 x14 x15 x16 x17 x18 x19 x20 x21 H b m'))

/-- The features of the third convolution. -/
theorem feat2 : (W6 m ρ c (Proc.devRef .tc main_v48) : Vec Ideal S2x1024x256 .f32) = (val_main_v153 (F := Ideal) x0 x1 x2 x3 x4 x5 x6 x7 x8 x9 x10 x11) := by
  refine ((W6_arr m ρ c 6).trans (Conv2.final6 (V5 m ρ) c)).trans ?_
  funext y
  idx_vars y
  have es : ∀ k j, (W5 m ρ c (Proc.devRef .tc main_v46) : Vec Ideal S128x256 .f32) (ix2 k j) = x10 (ix2 j k) := fun k j => (Host2.v46_at (W4 m ρ c) k j).trans (congrFun ((W4_args m ρ c main_arg10 (by decide)).trans H.e10) (ix2 j k))
  have ee : ∀ k j, (W5 m ρ c (Proc.devRef .tc main_v47) : Vec Ideal S132x256 .f32) (ix2 k j) = x11 (ix2 j k) := fun k j => (Host2.v47_at (W4 m ρ c) k j).trans (congrFun ((W4_args m ρ c main_arg11 (by decide)).trans H.e11) (ix2 j k))
  refine (convOf_eq rfl _ _ _ (fun b m' k => (val_main_v107 (F := Ideal) x0 x1 x2 x3 x4 x6 x7 x8 x9) (ix3 b m' k)) (p2 x5) (by norm_num) _
    (maskOf_eq rfl _ _ _ _ (fun b m' k => (val_main_v107 (F := Ideal) x0 x1 x2 x3 x4 x6 x7 x8 x9) (ix3 b m' k)) (p2 x5) (aug2 m ρ c x0 x1 x2 x3 x4 x5 x6 x7 x8 x9 x10 x11 x12 x13 x14 x15 x16 x17 x18 x19 x20 x21 H) (pad2 m ρ c x0 x1 x2 x3 x4 x5 x6 x7 x8 x9 x10 x11 x12 x13 x14 x15 x16 x17 x18 x19 x20 x21 H) (padT2 m ρ c x0 x1 x2 x3 x4 x5 x6 x7 x8 x9 x10 x11 x12 x13 x14 x15 x16 x17 x18 x19 x20 x21 H) (sq2 m ρ c x0 x1 x2 x3 x4 x5 x6 x7 x8 x9 x10 x11 x12 x13 x14 x15 x16 x17 x18 x19 x20 x21 H))
    (aug2 m ρ c x0 x1 x2 x3 x4 x5 x6 x7 x8 x9 x10 x11 x12 x13 x14 x15 x16 x17 x18 x19 x20 x21 H) (fun b m' k => real107 m c x0 x1 x2 x3 x4 x5 x6 x7 x8 x9 x10 x11 x12 x13 x14 x15 x16 x17 x18 x19 x20 x21 H _) (fun b m' i => H.r5 _) (fun k j => isReal_of (ee k j) (H.r11 _)) y0 y1 y2).trans ?_
  rw [RefConv.conv2 x0 x1 x2 x3 x4 x5 x6 x7 x8 x9 x10 x11 (fun b m' i => H.r5 _) y0 y1 y2]
  exact conv_congr (fun j k => es k j) (fun j k => ee k j) y1 y2

theorem real153 (i : S2x1024x256.Idx) : IsReal ((val_main_v153 (F := Ideal) x0 x1 x2 x3 x4 x5 x6 x7 x8 x9 x10 x11) i) := by
  idx_vars i
  rw [RefConv.conv2 x0 x1 x2 x3 x4 x5 x6 x7 x8 x9 x10 x11 (fun b m' i => H.r5 _) i0 i1 i2]
  exact isReal_conv (fun m' k => real107 m c x0 x1 x2 x3 x4 x5 x6 x7 x8 x9 x10 x11 x12 x13 x14 x15 x16 x17 x18 x19 x20 x21 H _) (fun m' i => H.r5 _) (fun j k => H.r10 _) (fun j k => H.r11 _) i1 i2

end Cert.Stages

end
-- ==== Proof.Host3.lean ====
/-
  The weights that the host operations before the first upsampling lay out.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host3

open Idealize.ShloMosaic Idealize.ShloMosaic.TcCoe Idealize.SL.Sem Cert.Select Cert.Layers Cert.Stretch
open Cert.KernelIdeal Cert.KernelIdeal.Gen

variable (U : Valuation τ sig (Elt Ideal))

theorem v50_at (k : Fin 256) (j : Fin 128) :
    (StableHlo.after hostOps3 U (Proc.devRef .tc main_v50) : Vec Ideal S256x128 .f32) (ix2 k j)
      = (U (Proc.devRef .tc main_arg12) : Vec Ideal S128x384 .f32) (ix2 j ⟨k, by omega⟩) := by
  after_reads_simp
  refine (ValueIdx.transpose_ix2_apply _ _ k j).trans ?_
  refine congrArg (U (Proc.devRef .tc main_arg12) : Vec Ideal S128x384 .f32) (funext fun x => Fin.ext ?_)
  match x with
  | ⟨0, _⟩ => exact Nat.zero_add _
  | ⟨1, _⟩ => exact Nat.zero_add _

theorem v52_at (k : Fin 128) (j : Fin 128) :
    (StableHlo.after hostOps3 U (Proc.devRef .tc main_v52) : Vec Ideal S128x128 .f32) (ix2 k j)
      = (U (Proc.devRef .tc main_arg12) : Vec Ideal S128x384 .f32) (ix2 j ⟨256 + k, by omega⟩) := by
  after_reads_simp
  refine (ValueIdx.transpose_ix2_apply _ _ k j).trans ?_
  refine congrArg (U (Proc.devRef .tc main_arg12) : Vec Ideal S128x384 .f32) (funext fun x => Fin.ext ?_)
  match x with
  | ⟨0, _⟩ => exact Nat.zero_add _
  | ⟨1, _⟩ => rfl

theorem v53_at (j : Fin 128) :
    (StableHlo.after hostOps3 U (Proc.devRef .tc main_v53) : Vec Ideal S1x128 .f32) (ix2 0 j)
      = (U (Proc.devRef .tc main_arg13) : Vec Ideal S128 .f32) (ix1 j) := by
  after_reads_simp
  exact congrArg (U (Proc.devRef .tc main_arg13) : Vec Ideal S128 .f32) (funext fun x => match x with | ⟨0, _⟩ => rfl)

end Cert.Host3

end
-- ==== Proof.Up3.lean ====
/-
  The first upsampling: its body's value at an entry and what its region leaves in its result array.
-/
module

public import proofs.«01_k».proof.Proof.Gen.KernelIdeal.Frame.Region3
public import proofs.«01_k».proof.Proof.Rounds
public import proofs.«01_k».proof.Proof.Blocks
public import Idealize.ShloMosaic.Lib.Pipeline.ValueKit

@[expose] public section

set_option maxRecDepth 16384

noncomputable section

namespace Cert.Up3

open Idealize.ShloMosaic Idealize.ShloMosaic.TcCoe Idealize.SL.Sem Cert.Select Cert.Layers Cert.Rounds Cert.Blocks
open Cert.KernelIdeal Cert.KernelIdeal.Gen

theorem H : Rounds.Facts 512 1024 := ⟨reduces_S512x1024_S512, shapeCasts_S512_S512x1, broadcasts_S512x1_S512x1024⟩

theorem inverse (v : IVec S512x1024 32) (d : FVec Ideal S512x1024 .f32) :
    k3_pay3 (F := Ideal) d v = divf (takenA H v 1024#32 d 3) (addf d (broadcast S512x1024 (Scalar.ofBits .f32 0x322BCC77#32 : Ideal .f32))) := rfl

/-- The positions along a row. -/
abbrev pos : IVec S512x1024 32 := iota .tc S512x1024 32 [1] iota_S512x1024_d1_w32

theorem pos_eq (r : Fin 512) (m : Fin 1024) : pos (ix2 r m) = BitVec.ofNat 32 m.val := by
  pointwise [pos]

/-- The inverse distances of the three nearest. -/
theorem inverse_apply (d : FVec Ideal S512x1024 .f32) (r : Fin 512) (m : Fin 1024) :
    k3_pay3 (F := Ideal) d pos (ix2 r m) = Ideal.div (taken (fun m => d (ix2 r m)) 3 m) (d (ix2 r m) + eps) := by
  rw [inverse, ← taken_apply H (by norm_num) _ pos_eq]
  rfl

theorem value (d : FVec Ideal S512x1024 .f32) (x3 : Vec Ideal S1x1024x256 .f32) (x5 : Vec Ideal S256x128 .f32) (x4 : Vec Ideal S1x512x128 .f32)
    (x6 : Vec Ideal S128x128 .f32) (x7 : Vec Ideal S1x128 .f32) (r : Fin 512) (j : Fin 128) :
    k3_pay1 (k3_pay3 d pos) x3 x5 x4 x6 x7 (ix3 0 r j)
      = upK (upW fun m => d (ix2 r m)) (fun m k => x3 (ix3 0 m k)) (fun k => x4 (ix3 0 r k)) (fun k => x5 (ix2 k j)) (fun k => x6 (ix2 k j))
          (x7 (ix2 0 j)) := by
  have hw := inverse_apply d
  generalize k3_pay3 d pos = a at hw ⊢
  pointwise [k3_pay1]
  simp only [hw]
  rfl

theorem hz3 : (![0, 0, 0] : Fin 3 → Nat) = fun _ => 0 := funext fun a => by fin_cases a <;> rfl
theorem hz2 : (![0, 0] : Fin 2 → Nat) = fun _ => 0 := funext fun a => by fin_cases a <;> rfl

theorem out8 (x0 : Vec Ideal S1x512x8 .f32) (x1 : Vec Ideal S1x8x1024 .f32) (x2 : Vec Ideal S1x1x1024 .f32) (x3 : Vec Ideal S1x1024x256 .f32)
    (x4 : Vec Ideal S1x512x128 .f32) (x5 : Vec Ideal S256x128 .f32) (x6 : Vec Ideal S128x128 .f32) (x7 : Vec Ideal S1x128 .f32) :
    out3_8 x0 x1 x2 x3 x4 x5 x6 x7 = k3_pay1 (k3_pay3 (k3_pay2 x0 x1 x2) pos) x3 x5 x4 x6 x7 := by
  unfold out3_8
  rw [View.canon_unit_zero hz3, View.ld_unit_zero (S := S1x512x8) hz3, View.ld_unit_zero (S := S1x8x1024) hz3,
    View.ld_unit_zero (S := S1x1x1024) hz3, View.ld_unit_zero (S := S1x1024x256) hz3, View.ld_unit_zero (S := S1x512x128) hz3,
    View.ld_unit_zero (S := S256x128) hz2, View.ld_unit_zero (S := S128x128) hz2, View.ld_unit_zero (S := S1x128) hz2]

variable (V : (c : Dev nD) → (b : Ref sig .tc) → Buf (Elt Ideal) ((c : Thread nD τ).loc b)) (c : Dev nD)

/-- The batch of a grid point. -/
def bT (t : Fin cfg3.N) : Fin 2 := (grid3.coords t) 0
/-- The point of a row at a grid point. -/
def qT (t : Fin cfg3.N) (r : Fin 512) : Fin 2048 := ⟨((grid3.coords t) 1).val * 512 + r.val, by
  have h : ((grid3.coords t) 1).val < 4 := ((grid3.coords t) 1).isLt
  omega⟩

theorem idx0 : ∀ t : Fin cfg3.N, win3_0.index t (0 : Fin 3) = ((grid3.coords t) 0).val ∧ win3_0.index t (1 : Fin 3) = ((grid3.coords t) 1).val
    ∧ win3_0.index t (2 : Fin 3) = 0 := (by decide +kernel : ∀ t : Fin grid3.N, _)
theorem idx1 : ∀ t : Fin cfg3.N, win3_1.index t (0 : Fin 3) = ((grid3.coords t) 0).val ∧ win3_1.index t (1 : Fin 3) = 0
    ∧ win3_1.index t (2 : Fin 3) = 0 := (by decide +kernel : ∀ t : Fin grid3.N, _)
theorem idx2 : ∀ t : Fin cfg3.N, win3_2.index t (0 : Fin 3) = ((grid3.coords t) 0).val ∧ win3_2.index t (1 : Fin 3) = 0
    ∧ win3_2.index t (2 : Fin 3) = 0 := (by decide +kernel : ∀ t : Fin grid3.N, _)
theorem idx3 : ∀ t : Fin cfg3.N, win3_3.index t (0 : Fin 3) = ((grid3.coords t) 0).val ∧ win3_3.index t (1 : Fin 3) = 0
    ∧ win3_3.index t (2 : Fin 3) = 0 := (by decide +kernel : ∀ t : Fin grid3.N, _)
theorem idx4 : ∀ t : Fin cfg3.N, win3_4.index t (0 : Fin 3) = ((grid3.coords t) 0).val ∧ win3_4.index t (1 : Fin 3) = ((grid3.coords t) 1).val
    ∧ win3_4.index t (2 : Fin 3) = 0 := (by decide +kernel : ∀ t : Fin grid3.N, _)
theorem idx5 : ∀ t : Fin cfg3.N, win3_5.index t (0 : Fin 2) = 0 ∧ win3_5.index t (1 : Fin 2) = 0 :=
  (by decide +kernel : ∀ t : Fin grid3.N, _)
theorem idx6 : ∀ t : Fin cfg3.N, win3_6.index t (0 : Fin 2) = 0 ∧ win3_6.index t (1 : Fin 2) = 0 :=
  (by decide +kernel : ∀ t : Fin grid3.N, _)
theorem idx7 : ∀ t : Fin cfg3.N, win3_7.index t (0 : Fin 2) = 0 ∧ win3_7.index t (1 : Fin 2) = 0 :=
  (by decide +kernel : ∀ t : Fin grid3.N, _)
theorem idx8 : ∀ t : Fin cfg3.N, win3_8.index t (0 : Fin 3) = ((grid3.coords t) 0).val ∧ win3_8.index t (1 : Fin 3) = ((grid3.coords t) 1).val
    ∧ win3_8.index t (2 : Fin 3) = 0 := (by decide +kernel : ∀ t : Fin grid3.N, _)

theorem blk0 (t : Fin cfg3.N) (r : Fin 512) (k : Fin 8) : iblk3 V c 0 t (ix3 0 r k) = V c main_v25 (ix3 (bT t) (qT t r) k) := by
  obtain ⟨e0, e1, e2⟩ := idx0 t
  refine congrArg (V c main_v25) (funext fun a => Fin.ext ?_)
  match a with
  | ⟨0, _⟩ => show win3_0.index t (0 : Fin 3) * 1 + 1 * 0 = ((grid3.coords t) 0).val; omega
  | ⟨1, _⟩ => show win3_0.index t (1 : Fin 3) * 512 + 1 * r.val = ((grid3.coords t) 1).val * 512 + r.val; omega
  | ⟨2, _⟩ => show win3_0.index t (2 : Fin 3) * 8 + 1 * k.val = k.val; omega

theorem blk1 (t : Fin cfg3.N) (k : Fin 8) (m : Fin 1024) : iblk3 V c 1 t (ix3 0 k m) = V c main_v44 (ix3 (bT t) k m) := by
  obtain ⟨e0, e1, e2⟩ := idx1 t
  refine congrArg (V c main_v44) (funext fun a => Fin.ext ?_)
  match a with
  | ⟨0, _⟩ => show win3_1.index t (0 : Fin 3) * 1 + 1 * 0 = ((grid3.coords t) 0).val; omega
  | ⟨1, _⟩ => show win3_1.index t (1 : Fin 3) * 8 + 1 * k.val = k.val; omega
  | ⟨2, _⟩ => show win3_1.index t (2 : Fin 3) * 1024 + 1 * m.val = m.val; omega

theorem blk2 (t : Fin cfg3.N) (m : Fin 1024) : iblk3 V c 2 t (ix3 0 0 m) = V c main_v45 (ix3 (bT t) 0 m) := by
  obtain ⟨e0, e1, e2⟩ := idx2 t
  refine congrArg (V c main_v45) (funext fun a => Fin.ext ?_)
  match a with
  | ⟨0, _⟩ => show win3_2.index t (0 : Fin 3) * 1 + 1 * 0 = ((grid3.coords t) 0).val; omega
  | ⟨1, _⟩ => show win3_2.index t (1 : Fin 3) * 1 + 1 * 0 = 0; omega
  | ⟨2, _⟩ => show win3_2.index t (2 : Fin 3) * 1024 + 1 * m.val = m.val; omega

theorem blk3 (t : Fin cfg3.N) (m : Fin 1024) (k : Fin 256) : iblk3 V c 3 t (ix3 0 m k) = V c main_v48 (ix3 (bT t) m k) := by
  obtain ⟨e0, e1, e2⟩ := idx3 t
  refine congrArg (V c main_v48) (funext fun a => Fin.ext ?_)
  match a with
  | ⟨0, _⟩ => show win3_3.index t (0 : Fin 3) * 1 + 1 * 0 = ((grid3.coords t) 0).val; omega
  | ⟨1, _⟩ => show win3_3.index t (1 : Fin 3) * 1024 + 1 * m.val = m.val; omega
  | ⟨2, _⟩ => show win3_3.index t (2 : Fin 3) * 256 + 1 * k.val = k.val; omega

theorem blk4 (t : Fin cfg3.N) (r : Fin 512) (k : Fin 128) : iblk3 V c 4 t (ix3 0 r k) = V c main_v30_0 (ix3 (bT t) (qT t r) k) := by
  obtain ⟨e0, e1, e2⟩ := idx4 t
  refine congrArg (V c main_v30_0) (funext fun a => Fin.ext ?_)
  match a with
  | ⟨0, _⟩ => show win3_4.index t (0 : Fin 3) * 1 + 1 * 0 = ((grid3.coords t) 0).val; omega
  | ⟨1, _⟩ => show win3_4.index t (1 : Fin 3) * 512 + 1 * r.val = ((grid3.coords t) 1).val * 512 + r.val; omega
  | ⟨2, _⟩ => show win3_4.index t (2 : Fin 3) * 128 + 1 * k.val = k.val; omega

theorem blk5 (t : Fin cfg3.N) : iblk3 V c 5 t = V c main_v50 := by
  obtain ⟨e0, e1⟩ := idx5 t
  funext y
  refine congrArg (V c main_v50) (funext fun a => Fin.ext ?_)
  match a with
  | ⟨0, _⟩ => show win3_5.index t (0 : Fin 2) * 256 + 1 * (y 0).val = (y 0).val; omega
  | ⟨1, _⟩ => show win3_5.index t (1 : Fin 2) * 128 + 1 * (y 1).val = (y 1).val; omega

theorem blk6 (t : Fin cfg3.N) : iblk3 V c 6 t = V c main_v52 := by
  obtain ⟨e0, e1⟩ := idx6 t
  funext y
  refine congrArg (V c main_v52) (funext fun a => Fin.ext ?_)
  match a with
  | ⟨0, _⟩ => show win3_6.index t (0 : Fin 2) * 128 + 1 * (y 0).val = (y 0).val; omega
  | ⟨1, _⟩ => show win3_6.index t (1 : Fin 2) * 128 + 1 * (y 1).val = (y 1).val; omega

theorem blk7 (t : Fin cfg3.N) : iblk3 V c 7 t = V c main_v53 := by
  obtain ⟨e0, e1⟩ := idx7 t
  funext y
  refine congrArg (V c main_v53) (funext fun a => Fin.ext ?_)
  match a with
  | ⟨0, _⟩ => show win3_7.index t (0 : Fin 2) * 1 + 1 * (y 0).val = (y 0).val; omega
  | ⟨1, _⟩ => show win3_7.index t (1 : Fin 2) * 128 + 1 * (y 1).val = (y 1).val; omega

theorem emb8 (t : Fin cfg3.N) (r : Fin 512) (j : Fin 128) : ((View.whole main_v54).slice (win3_8.rect t)).emb (ix3 0 r j) = ix3 (bT t) (qT t r) j := by
  obtain ⟨e0, e1, e2⟩ := idx8 t
  funext a; apply Fin.ext
  match a with
  | ⟨0, _⟩ => show win3_8.index t (0 : Fin 3) * 1 + 1 * 0 = ((grid3.coords t) 0).val; omega
  | ⟨1, _⟩ => show win3_8.index t (1 : Fin 3) * 512 + 1 * r.val = ((grid3.coords t) 1).val * 512 + r.val; omega
  | ⟨2, _⟩ => show win3_8.index t (2 : Fin 3) * 128 + 1 * j.val = j.val; omega

theorem dist_eq (t : Fin cfg3.N) (r : Fin 512) (m : Fin 1024) :
    k3_pay2 (F := Ideal) (iblk3 V c 0 t) (iblk3 V c 1 t) (iblk3 V c 2 t) (ix2 r m)
      = dU (V c main_v25) (V c main_v44) (V c main_v45) (bT t) (qT t r) m := by
  unfold dU
  rw [← blk0 V c t r 0, ← blk0 V c t r 1, ← blk0 V c t r 2, ← blk1 V c t 0 m, ← blk1 V c t 1 m, ← blk1 V c t 2 m, ← blk2 V c t m]
  pointwise [k3_pay2]

theorem final8 : (dat3 V c).arrAt 8 cfg3.N
    = upOf (V c main_v25) (V c main_v44) (V c main_v45) (V c main_v48) (V c main_v30_0) (V c main_v50) (V c main_v52) (V c main_v53) := by
  refine (dat3 V c).arrAt_eq_of_covers 8 _ (by decide +kernel) fun t hf y => ?_
  blk_simp
  rw [after3_8]
  rw [out8]
  idx_vars y
  obtain rfl : y0 = 0 := Subsingleton.elim _ _
  rw [emb8]
  refine (value _ _ _ _ _ _ y1 y2).trans ?_
  simp only [dist_eq, blk3, blk4, blk5, blk6, blk7]
  rfl

end Cert.Up3

end
-- ==== Proof.Stage3.lean ====
/-
  What the first upsampling's region leaves.
-/
module

public import proofs.«01_k».proof.Proof.Stage2
public import proofs.«01_k».proof.Proof.Host3
public import proofs.«01_k».proof.Proof.Up3

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v99 val_main_v153 val_main_v196)
open Cert.RefConv (p0 p1 p2)

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

variable (H : Given m c x0 x1 x2 x3 x4 x5 x6 x7 x8 x9 x10 x11 x12 x13 x14 x15 x16 x17 x18 x19 x20 x21)
include H

/-- The first upsampling. -/
theorem up1 : (W8 m ρ c (Proc.devRef .tc main_v54) : Vec Ideal S2x2048x128 .f32) = (val_main_v196 (F := Ideal) x0 x1 x2 x3 x4 x5 x6 x7 x8 x9 x10 x11 x12 x13) := by
  refine ((W8_arr m ρ c 8).trans (Up3.final8 (V7 m ρ) c)).trans ?_
  funext y
  idx_vars y
  refine (upOf_eq _ _ _ _ _ _ _ _ (p1 x3) (p2 x5) (fun j k => x12 (ix2 j k)) (fun j => x13 (ix1 j)) (by norm_num) (show 384 = 256 + 128 from rfl)
    (fun b m' i => (congrFun ((((W7_of m ρ c main_v25 (by decide)).trans (W6_of m ρ c main_v25 (by decide +kernel))).trans (W5_of m ρ c main_v25 (by decide))).trans (W4_of m ρ c main_v25 (by decide +kernel))) _).trans (pad1 m ρ c x0 x1 x2 x3 x4 x5 x6 x7 x8 x9 x10 x11 x12 x13 x14 x15 x16 x17 x18 x19 x20 x21 H b m' i))
    (fun b m' i => (congrFun ((W7_of m ρ c main_v44 (by decide)).trans (W6_of m ρ c main_v44 (by decide +kernel))) _).trans (padT2 m ρ c x0 x1 x2 x3 x4 x5 x6 x7 x8 x9 x10 x11 x12 x13 x14 x15 x16 x17 x18 x19 x20 x21 H b m' i))
    (fun b m' => (congrFun ((W7_of m ρ c main_v45 (by decide)).trans (W6_of m ρ c main_v45 (by decide +kernel))) _).trans (sq2 m ρ c x0 x1 x2 x3 x4 x5 x6 x7 x8 x9 x10 x11 x12 x13 x14 x15 x16 x17 x18 x19 x20 x21 H b m'))
    (fun k j => (Host3.v50_at (W6 m ρ c) k j).trans (congrFun ((W6_args m ρ c main_arg12 (by decide)).trans H.e12) _))
    (fun k j => (Host3.v52_at (W6 m ρ c) k j).trans (congrFun ((W6_args m ρ c main_arg12 (by decide)).trans H.e12) _))
    (fun j => (Host3.v53_at (W6 m ρ c) j).trans (congrFun ((W6_args m ρ c main_arg13 (by decide)).trans H.e13) (ix1 j)))
    (fun b m' i => H.r3 _) (fun b m' i => H.r5 _) y0 y1 y2).trans ?_
  rw [RefConv.upU1 x0 x1 x2 x3 x4 x5 x6 x7 x8 x9 x10 x11 x12 x13 (fun b m' i => H.r3 _) (fun b m' i => H.r5 _) y0 y1 y2]
  rw [show V7 m ρ c main_v48 = (val_main_v153 (F := Ideal) x0 x1 x2 x3 x4 x5 x6 x7 x8 x9 x10 x11) from ((W7_of m ρ c main_v48 (by decide)).trans (feat2 m ρ c x0 x1 x2 x3 x4 x5 x6 x7 x8 x9 x10 x11 x12 x13 x14 x15 x16 x17 x18 x19 x20 x21 H)), show V7 m ρ c main_v30_0 = (val_main_v99 (F := Ideal) x0 x1 x2 x3 x6 x7 x8 x9) from ((((W7_of m ρ c main_v30_0 (by decide)).trans (W6_of m ρ c main_v30_0 (by decide +kernel))).trans (W5_of m ρ c main_v30_0 (by decide))).trans (feat1 m ρ c x0 x1 x2 x3 x4 x5 x6 x7 x8 x9 x10 x11 x12 x13 x14 x15 x16 x17 x18 x19 x20 x21 H))]

theorem real196 (i : S2x2048x128.Idx) : IsReal ((val_main_v196 (F := Ideal) x0 x1 x2 x3 x4 x5 x6 x7 x8 x9 x10 x11 x12 x13) i) := by
  idx_vars i
  rw [RefConv.upU1 x0 x1 x2 x3 x4 x5 x6 x7 x8 x9 x10 x11 x12 x13 (fun b m' i => H.r3 _) (fun b m' i => H.r5 _) i0 i1 i2]
  exact isReal_up _ (fun m' => isReal_sqd (fun i => H.r3 _) (fun i => H.r5 _)) (fun m' => le_max_right _ _) (fun m' k => real153 m c x0 x1 x2 x3 x4 x5 x6 x7 x8 x9 x10 x11 x12 x13 x14 x15 x16 x17 x18 x19 x20 x21 H _)
    (fun k => real99 m c x0 x1 x2 x3 x4 x5 x6 x7 x8 x9 x10 x11 x12 x13 x14 x15 x16 x17 x18 x19 x20 x21 H _) (fun j k => H.r12 _) (fun j => H.r13 _) i2

end Cert.Stages

end
-- ==== Proof.Host4.lean ====
/-
  The arrays that the host operations before the fourth convolution leave, read at an index.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host4

open Idealize.ShloMosaic Idealize.ShloMosaic.TcCoe Idealize.SL.Sem Cert.Select Cert.Layers Cert.Stretch
open Cert.KernelIdeal Cert.KernelIdeal.Gen

variable (U : Valuation τ sig (Elt Ideal))

/-- The points' coordinates. -/
abbrev pts (b : Fin 2) (m : Fin 2048) (i : Fin 3) : EReal := (U (Proc.devRef .tc main_v11) : Vec Ideal S2x2048x3 .f32) (ix3 b m i)

theorem v57_at (b : Fin 2) (m : Fin 2048) (z : Fin 1) :
    (StableHlo.after hostOps4 U (Proc.devRef .tc main_v57) : Vec Ideal S2x2048x1 .f32) (ix3 b m z) = ∑ i, pts U b m i * pts U b m i := by
  after_reads_simp
  exact norms_at (by decide) _ _ _ _ b m z

theorem v58_at (b : Fin 2) (m : Fin 2048) (k : Fin 132) :
    (StableHlo.after hostOps4 U (Proc.devRef .tc main_v58) : Vec Ideal S2x2048x132 .f32) (ix3 b m k)
      = aug (fun m k => (U (Proc.devRef .tc main_v54) : Vec Ideal S2x2048x128 .f32) (ix3 b m k)) (pts U b) m k := by
  after_reads_simp
  exact aug_at rfl _ _ (StableHlo.after hostOps4 U (Proc.devRef .tc main_v57)) _ (v57_at U) b m k

theorem v59_at (k : Fin 128) (j : Fin 128) :
    (StableHlo.after hostOps4 U (Proc.devRef .tc main_v59) : Vec Ideal S128x128 .f32) (ix2 k j)
      = (U (Proc.devRef .tc main_arg14) : Vec Ideal S128x128 .f32) (ix2 j k) := by
  after_reads_simp
  exact ValueIdx.transpose_ix2_apply _ _ k j

theorem v60_at (k : Fin 132) (j : Fin 128) :
    (StableHlo.after hostOps4 U (Proc.devRef .tc main_v60) : Vec Ideal S132x128 .f32) (ix2 k j)
      = (U (Proc.devRef .tc main_arg15) : Vec Ideal S128x132 .f32) (ix2 j k) := by
  after_reads_simp
  exact ValueIdx.transpose_ix2_apply _ _ k j

end Cert.Host4

end
-- ==== Proof.Out4.lean ====
/-
  The fourth convolution, which takes its weights from the second's mask: its body's value at an entry and what its
  region leaves in its result array.
-/
module

public import proofs.«01_k».proof.Proof.Gen.KernelIdeal.Frame.Region4
public import proofs.«01_k».proof.Proof.Blocks
public import Idealize.ShloMosaic.Lib.Pipeline.ValueKit

@[expose] public section

set_option maxRecDepth 16384

noncomputable section

namespace Cert.Conv4

open Idealize.ShloMosaic Idealize.ShloMosaic.TcCoe Idealize.SL.Sem Cert.Select Cert.Layers Cert.Blocks
open Cert.KernelIdeal Cert.KernelIdeal.Gen

/-- The body's value: the convolution's linear terms under the weights read. -/
theorem value (v2 : Vec Ideal S1x256x132 .f32) (w : Vec Ideal S1x256x2048 .bf16) (x3 : Vec Ideal S1x2048x132 .f32)
    (x4 : Vec Ideal S128x128 .f32) (x5 : Vec Ideal S132x128 .f32) (q : Fin 2048) (r : Fin 256) (hq : ∀ k, v2 (ix3 0 r k) = x3 (ix3 0 q k))
    (j : Fin 128) :
    k4_pay1 (k4_pay2 v2 w x3 x4 x5) (ix3 0 r j)
      = convK (c := 128) rfl (fun m => w (ix3 0 r m)) (fun m k => x3 (ix3 0 m k)) q (fun j k => x4 (ix2 k j)) (fun j k => x5 (ix2 k j)) j := by
  pointwise [k4_pay1, k4_pay2]
  simp only [hq]
  rw [convK_read]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The queries' rows of the point array. -/
abbrev qrows (i : grid4.Coords) (x3 : Vec Ideal S1x2048x132 .f32) : Vec Ideal S1x256x132 .f32 :=
  View.ld x3 (Rect.unit (s := S1x2048x132) (k4_off1 i) S1x256x132.size (k4_off1_inb i))

theorem out7 (c : Dev nD) (i : grid4.Coords) (a2 : Memref sig .tc .vmem S1x256x8 .f32) (h2 : a2.IsWhole)
    (a3 : Memref sig .tc .vmem S1x8x2048 .f32) (h3 : a3.IsWhole) (a4 : Memref sig .tc .vmem S1x1x2048 .f32) (h4 : a4.IsWhole)
    (a5 : Memref sig .tc .vmem S1x2048x132 .f32) (h5 : a5.IsWhole) (a6 : Memref sig .tc .vmem S128x128 .f32) (h6 : a6.IsWhole)
    (a7 : Memref sig .tc .vmem S132x128 .f32) (h7 : a7.IsWhole) (a8 : Memref sig .tc .vmem S1x256x2048 .bf16) (h8 : a8.IsWhole)
    (a9 : Memref sig .tc .vmem S1x256x128 .f32) (h9 : a9.IsWhole)
    (x0 : Vec Ideal S1x256x8 .f32) (x1 : Vec Ideal S1x8x2048 .f32) (x2 : Vec Ideal S1x1x2048 .f32)
    (x3 : Vec Ideal S1x2048x132 .f32) (x4 : Vec Ideal S128x128 .f32) (x5 : Vec Ideal S132x128 .f32) (x6 : Vec Ideal S1x256x2048 .bf16) :
    out4_A_7 c i a2 h2 a3 h3 a4 h4 a5 h5 a6 h6 a7 h7 a8 h8 a9 h9 x0 x1 x2 x3 x4 x5 x6
      = k4_pay1 (k4_pay2 (qrows i x3) x6 x3 x4 x5) := by
  unfold out4_A_7
  rw [View.read_writes_junk_eq_canon]
  unfold kernelRun4_A
  dsimp only
  sl_unfold_words
  rw [View.canon_unit_zero hz3]
  simp only [View.readAt_eq_ld, h5.read_unread, h6.read_unread, h7.read_unread, h8.read_unread,
    View.ld_unit_zero (S := S1x256x2048) hz3,
    View.ld_unit_zero (S := S1x2048x132) hz3, View.ld_unit_zero (S := S128x128) hz2, View.ld_unit_zero (S := S132x128) hz2]
  rfl

variable (V : (c : Dev nD) → (b : Ref sig .tc) → Buf (Elt Ideal) ((c : Thread nD τ).loc b)) (c : Dev nD)

/-- The batch of a grid point. -/
def bT (t : Fin cfg4.N) : Fin 2 := (grid4.coords t) 0
/-- The query of a row at a grid point. -/
def qT (t : Fin cfg4.N) (r : Fin 256) : Fin 2048 := ⟨((grid4.coords t) 1).val * 256 + r.val, by
  have h : ((grid4.coords t) 1).val < 8 := ((grid4.coords t) 1).isLt
  omega⟩

theorem idx3 : ∀ t : Fin cfg4.N, win4_3.index t (0 : Fin 3) = ((grid4.coords t) 0).val ∧ win4_3.index t (1 : Fin 3) = 0
    ∧ win4_3.index t (2 : Fin 3) = 0 := (by decide +kernel : ∀ t : Fin grid4.N, _)
theorem idx4 : ∀ t : Fin cfg4.N, win4_4.index t (0 : Fin 2) = 0 ∧ win4_4.index t (1 : Fin 2) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 3) = ((grid4.coords t) 0).val ∧ win4_6.index t (1 : Fin 3) = ((grid4.coords t) 1).val
    ∧ win4_6.index t (2 : Fin 3) = 0 := (by decide +kernel : ∀ t : Fin grid4.N, _)
theorem idx7 : ∀ t : Fin cfg4.N, win4_7.index t (0 : Fin 3) = ((grid4.coords t) 0).val ∧ win4_7.index t (1 : Fin 3) = ((grid4.coords t) 1).val
    ∧ win4_7.index t (2 : Fin 3) = 0 := (by decide +kernel : ∀ t : Fin grid4.N, _)

theorem blk3 (t : Fin cfg4.N) (m : Fin 2048) (k : Fin 132) : iblk4 V c 3 t (ix3 0 m k) = V c main_v58 (ix3 (bT t) m k) := by
  obtain ⟨e0, e1, e2⟩ := idx3 t
  refine congrArg (V c main_v58) (funext fun a => Fin.ext ?_)
  match a with
  | ⟨0, _⟩ => show win4_3.index t (0 : Fin 3) * 1 + 1 * 0 = ((grid4.coords t) 0).val; omega
  | ⟨1, _⟩ => show win4_3.index t (1 : Fin 3) * 2048 + 1 * m.val = m.val; omega
  | ⟨2, _⟩ => show win4_3.index t (2 : Fin 3) * 132 + 1 * k.val = k.val; omega

theorem blk4 (t : Fin cfg4.N) : iblk4 V c 4 t = V c main_v59 := by
  obtain ⟨e0, e1⟩ := idx4 t
  funext y
  refine congrArg (V c main_v59) (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

theorem blk5 (t : Fin cfg4.N) : iblk4 V c 5 t = V c main_v60 := by
  obtain ⟨e0, e1⟩ := idx5 t
  funext y
  refine congrArg (V c main_v60) (funext fun a => Fin.ext ?_)
  match a with
  | ⟨0, _⟩ => show win4_5.index t (0 : Fin 2) * 132 + 1 * (y 0).val = (y 0).val; omega
  | ⟨1, _⟩ => show win4_5.index t (1 : Fin 2) * 128 + 1 * (y 1).val = (y 1).val; omega

theorem blk6 (t : Fin cfg4.N) (r : Fin 256) (m : Fin 2048) : iblk4 V c 6 t (ix3 0 r m) = V c main_v30_1 (ix3 (bT t) (qT t r) m) := by
  obtain ⟨e0, e1, e2⟩ := idx6 t
  refine congrArg (V c main_v30_1) (funext fun a => Fin.ext ?_)
  match a with
  | ⟨0, _⟩ => show win4_6.index t (0 : Fin 3) * 1 + 1 * 0 = ((grid4.coords t) 0).val; omega
  | ⟨1, _⟩ => show win4_6.index t (1 : Fin 3) * 256 + 1 * r.val = ((grid4.coords t) 1).val * 256 + r.val; omega
  | ⟨2, _⟩ => show win4_6.index t (2 : Fin 3) * 2048 + 1 * m.val = m.val; omega

theorem emb7 (t : Fin cfg4.N) (r : Fin 256) (j : Fin 128) : ((View.whole main_v61).slice (win4_7.rect t)).emb (ix3 0 r j) = ix3 (bT t) (qT t r) j := by
  obtain ⟨e0, e1, e2⟩ := idx7 t
  funext a; apply Fin.ext
  match a with
  | ⟨0, _⟩ => show win4_7.index t (0 : Fin 3) * 1 + 1 * 0 = ((grid4.coords t) 0).val; omega
  | ⟨1, _⟩ => show win4_7.index t (1 : Fin 3) * 256 + 1 * r.val = ((grid4.coords t) 1).val * 256 + r.val; omega
  | ⟨2, _⟩ => show win4_7.index t (2 : Fin 3) * 128 + 1 * j.val = j.val; omega

/-- The queries' rows are the rows of the point array. -/
theorem qrows_eq (t : Fin cfg4.N) (x3 : Vec Ideal S1x2048x132 .f32) (r : Fin 256) (k : Fin 132) :
    qrows (grid4.coords t) x3 (ix3 0 r k) = x3 (ix3 0 (qT t r) k) := by
  have h : ∀ t : Fin grid4.N, k4_off1 (grid4.coords t) 1 = ((grid4.coords t) 1).val * 256 := by decide +kernel
  have e := h t
  refine congrArg x3 (funext fun a => Fin.ext ?_)
  match a with
  | ⟨0, _⟩ => rfl
  | ⟨1, _⟩ => show k4_off1 (grid4.coords t) 1 + 1 * r.val = ((grid4.coords t) 1).val * 256 + r.val; omega
  | ⟨2, _⟩ => show 0 + 1 * k.val = k.val; omega

theorem final7 : (dat4 V c).arrAt 7 cfg4.N
    = convOf (c := 128) rfl (V c main_v30_1) (V c main_v58) (V c main_v59) (V c main_v60) := by
  refine (dat4 V c).arrAt_eq_of_covers 7 _ (by decide +kernel) fun t hf y => ?_
  blk_simp
  rw [after4_7]
  unfold outsAt4
  rw [out7]
  idx_vars y
  obtain rfl : y0 = 0 := Subsingleton.elim _ _
  rw [emb7]
  refine (value _ _ _ _ _ (qT t y1) y1 (fun k => qrows_eq t _ y1 k) y2).trans ?_
  simp only [blk3, blk4, blk5, blk6]
  rfl

end Cert.Conv4

end
-- ==== Proof.Stage4.lean ====
/-
  What the fourth convolution's region leaves.
-/
module

public import proofs.«01_k».proof.Proof.Stage3
public import proofs.«01_k».proof.Proof.Host4
public import proofs.«01_k».proof.Proof.Out4

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v196 val_main_v242)
open Cert.RefConv (p0 p1 p2)

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

variable (H : Given m c x0 x1 x2 x3 x4 x5 x6 x7 x8 x9 x10 x11 x12 x13 x14 x15 x16 x17 x18 x19 x20 x21)
include H

theorem pts4 (b : Fin 2) (m' : Fin 2048) (i : Fin 3) : Host4.pts (W8 m ρ c) b m' i = p1 x3 b m' i :=
  (congrFun (((((W8_of m ρ c main_v11 (by decide +kernel)).trans (W7_of m ρ c main_v11 (by decide))).trans (W6_of m ρ c main_v11 (by decide +kernel))).trans (W5_of m ρ c main_v11 (by decide))).trans (W4_of m ρ c main_v11 (by decide +kernel))) (ix3 b m' i)).trans (pos1 m ρ c x0 x1 x2 x3 x4 x5 x6 x7 x8 x9 x10 x11 x12 x13 x14 x15 x16 x17 x18 x19 x20 x21 H b m' i)

theorem aug4 (b : Fin 2) (m' : Fin 2048) (k : Fin 132) :
    (W9 m ρ c (Proc.devRef .tc main_v58) : Vec Ideal S2x2048x132 .f32) (ix3 b m' k) = aug (fun m' k => (val_main_v196 (F := Ideal) x0 x1 x2 x3 x4 x5 x6 x7 x8 x9 x10 x11 x12 x13) (ix3 b m' k)) (p1 x3 b) m' k :=
  (Host4.v58_at (W8 m ρ c) b m' k).trans (aug_congr (fun m' k => congrFun (up1 m ρ c x0 x1 x2 x3 x4 x5 x6 x7 x8 x9 x10 x11 x12 x13 x14 x15 x16 x17 x18 x19 x20 x21 H) (ix3 b m' k)) (pts4 m ρ c x0 x1 x2 x3 x4 x5 x6 x7 x8 x9 x10 x11 x12 x13 x14 x15 x16 x17 x18 x19 x20 x21 H b) m' k)

/-- The features of the fourth convolution. -/
theorem feat4 : (W10 m ρ c (Proc.devRef .tc main_v61) : Vec Ideal S2x2048x128 .f32) = (val_main_v242 (F := Ideal) x0 x1 x2 x3 x4 x5 x6 x7 x8 x9 x10 x11 x12 x13 x14 x15) := by
  refine ((W10_arr m ρ c 7).trans (Conv4.final7 (V9 m ρ) c)).trans ?_
  funext y
  idx_vars y
  have es : ∀ k j, (W9 m ρ c (Proc.devRef .tc main_v59) : Vec Ideal S128x128 .f32) (ix2 k j) = x14 (ix2 j k) := fun k j => (Host4.v59_at (W8 m ρ c) k j).trans (congrFun ((W8_args m ρ c main_arg14 (by decide)).trans H.e14) (ix2 j k))
  have ee : ∀ k j, (W9 m ρ c (Proc.devRef .tc main_v60) : Vec Ideal S132x128 .f32) (ix2 k j) = x15 (ix2 j k) := fun k j => (Host4.v60_at (W8 m ρ c) k j).trans (congrFun ((W8_args m ρ c main_arg15 (by decide)).trans H.e15) (ix2 j k))
  refine (convOf_eq rfl _ _ _ (fun b m' k => (val_main_v196 (F := Ideal) x0 x1 x2 x3 x4 x5 x6 x7 x8 x9 x10 x11 x12 x13) (ix3 b m' k)) (p1 x3) (by norm_num) _
    (fun b q m' => (congrFun (((((W9_of m ρ c main_v30_1 (by decide)).trans (W8_of m ρ c main_v30_1 (by decide +kernel))).trans (W7_of m ρ c main_v30_1 (by decide))).trans (W6_of m ρ c main_v30_1 (by decide +kernel))).trans (W5_of m ρ c main_v30_1 (by decide))) _).trans (mask1 m ρ c x0 x1 x2 x3 x4 x5 x6 x7 x8 x9 x10 x11 x12 x13 x14 x15 x16 x17 x18 x19 x20 x21 H b q m'))
    (aug4 m ρ c x0 x1 x2 x3 x4 x5 x6 x7 x8 x9 x10 x11 x12 x13 x14 x15 x16 x17 x18 x19 x20 x21 H) (fun b m' k => real196 m c x0 x1 x2 x3 x4 x5 x6 x7 x8 x9 x10 x11 x12 x13 x14 x15 x16 x17 x18 x19 x20 x21 H _) (fun b m' i => H.r3 _) (fun k j => isReal_of (ee k j) (H.r15 _)) y0 y1 y2).trans ?_
  rw [RefConv.convU1 x0 x1 x2 x3 x4 x5 x6 x7 x8 x9 x10 x11 x12 x13 x14 x15 (fun b m' i => H.r3 _) y0 y1 y2]
  exact conv_congr (fun j k => es k j) (fun j k => ee k j) y1 y2

theorem real242 (i : S2x2048x128.Idx) : IsReal ((val_main_v242 (F := Ideal) x0 x1 x2 x3 x4 x5 x6 x7 x8 x9 x10 x11 x12 x13 x14 x15) i) := by
  idx_vars i
  rw [RefConv.convU1 x0 x1 x2 x3 x4 x5 x6 x7 x8 x9 x10 x11 x12 x13 x14 x15 (fun b m' i => H.r3 _) i0 i1 i2]
  exact isReal_conv (fun m' k => real196 m c x0 x1 x2 x3 x4 x5 x6 x7 x8 x9 x10 x11 x12 x13 x14 x15 x16 x17 x18 x19 x20 x21 H _) (fun m' i => H.r3 _) (fun j k => H.r14 _) (fun j k => H.r15 _) i1 i2

end Cert.Stages

end
-- ==== Proof.Host5.lean ====
/-
  The weights that the host operations before the second upsampling lay out.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host5

open Idealize.ShloMosaic Idealize.ShloMosaic.TcCoe Idealize.SL.Sem Cert.Select Cert.Layers Cert.Stretch
open Cert.KernelIdeal Cert.KernelIdeal.Gen

variable (U : Valuation τ sig (Elt Ideal))

theorem v63_at (k : Fin 128) (j : Fin 64) :
    (StableHlo.after hostOps5 U (Proc.devRef .tc main_v63) : Vec Ideal S128x64 .f32) (ix2 k j)
      = (U (Proc.devRef .tc main_arg16) : Vec Ideal S64x192 .f32) (ix2 j ⟨k, by omega⟩) := by
  after_reads_simp
  refine (ValueIdx.transpose_ix2_apply _ _ k j).trans ?_
  refine congrArg (U (Proc.devRef .tc main_arg16) : Vec Ideal S64x192 .f32) (funext fun x => Fin.ext ?_)
  match x with
  | ⟨0, _⟩ => exact Nat.zero_add _
  | ⟨1, _⟩ => exact Nat.zero_add _

theorem v65_at (k : Fin 64) (j : Fin 64) :
    (StableHlo.after hostOps5 U (Proc.devRef .tc main_v65) : Vec Ideal S64x64 .f32) (ix2 k j)
      = (U (Proc.devRef .tc main_arg16) : Vec Ideal S64x192 .f32) (ix2 j ⟨128 + k, by omega⟩) := by
  after_reads_simp
  refine (ValueIdx.transpose_ix2_apply _ _ k j).trans ?_
  refine congrArg (U (Proc.devRef .tc main_arg16) : Vec Ideal S64x192 .f32) (funext fun x => Fin.ext ?_)
  match x with
  | ⟨0, _⟩ => exact Nat.zero_add _
  | ⟨1, _⟩ => rfl

theorem v66_at (j : Fin 64) :
    (StableHlo.after hostOps5 U (Proc.devRef .tc main_v66) : Vec Ideal S1x64 .f32) (ix2 0 j)
      = (U (Proc.devRef .tc main_arg17) : Vec Ideal S64 .f32) (ix1 j) := by
  after_reads_simp
  exact congrArg (U (Proc.devRef .tc main_arg17) : Vec Ideal S64 .f32) (funext fun x => match x with | ⟨0, _⟩ => rfl)

end Cert.Host5

end
-- ==== Proof.Up5.lean ====
/-
  The second upsampling: its body's value at an entry and what its region leaves in its result array.
-/
module

public import proofs.«01_k».proof.Proof.Gen.KernelIdeal.Frame.Region5
public import proofs.«01_k».proof.Proof.Rounds
public import proofs.«01_k».proof.Proof.Blocks
public import Idealize.ShloMosaic.Lib.Pipeline.ValueKit

@[expose] public section

set_option maxRecDepth 16384

noncomputable section

namespace Cert.Up5

open Idealize.ShloMosaic Idealize.ShloMosaic.TcCoe Idealize.SL.Sem Cert.Select Cert.Layers Cert.Rounds Cert.Blocks
open Cert.KernelIdeal Cert.KernelIdeal.Gen

theorem H : Rounds.Facts 512 2048 := ⟨reduces_S512x2048_S512, shapeCasts_S512_S512x1, broadcasts_S512x1_S512x2048⟩

theorem inverse (v : IVec S512x2048 32) (d : FVec Ideal S512x2048 .f32) :
    k5_pay3 (F := Ideal) d v = divf (takenA H v 2048#32 d 3) (addf d (broadcast S512x2048 (Scalar.ofBits .f32 0x322BCC77#32 : Ideal .f32))) := rfl

/-- The positions along a row. -/
abbrev pos : IVec S512x2048 32 := iota .tc S512x2048 32 [1] iota_S512x2048_d1_w32

theorem pos_eq (r : Fin 512) (m : Fin 2048) : pos (ix2 r m) = BitVec.ofNat 32 m.val := by
  pointwise [pos]

/-- The inverse distances of the three nearest. -/
theorem inverse_apply (d : FVec Ideal S512x2048 .f32) (r : Fin 512) (m : Fin 2048) :
    k5_pay3 (F := Ideal) d pos (ix2 r m) = Ideal.div (taken (fun m => d (ix2 r m)) 3 m) (d (ix2 r m) + eps) := by
  rw [inverse, ← taken_apply H (by norm_num) _ pos_eq]
  rfl

theorem value (d : FVec Ideal S512x2048 .f32) (x3 : Vec Ideal S1x2048x128 .f32) (x5 : Vec Ideal S128x64 .f32) (x4 : Vec Ideal S1x512x64 .f32)
    (x6 : Vec Ideal S64x64 .f32) (x7 : Vec Ideal S1x64 .f32) (r : Fin 512) (j : Fin 64) :
    k5_pay1 (k5_pay3 d pos) x3 x5 x4 x6 x7 (ix3 0 r j)
      = upK (upW fun m => d (ix2 r m)) (fun m k => x3 (ix3 0 m k)) (fun k => x4 (ix3 0 r k)) (fun k => x5 (ix2 k j)) (fun k => x6 (ix2 k j))
          (x7 (ix2 0 j)) := by
  have hw := inverse_apply d
  generalize k5_pay3 d pos = a at hw ⊢
  pointwise [k5_pay1]
  simp only [hw]
  rfl

theorem hz3 : (![0, 0, 0] : Fin 3 → Nat) = fun _ => 0 := funext fun a => by fin_cases a <;> rfl
theorem hz2 : (![0, 0] : Fin 2 → Nat) = fun _ => 0 := funext fun a => by fin_cases a <;> rfl

theorem out8 (x0 : Vec Ideal S1x512x8 .f32) (x1 : Vec Ideal S1x8x2048 .f32) (x2 : Vec Ideal S1x1x2048 .f32) (x3 : Vec Ideal S1x2048x128 .f32)
    (x4 : Vec Ideal S1x512x64 .f32) (x5 : Vec Ideal S128x64 .f32) (x6 : Vec Ideal S64x64 .f32) (x7 : Vec Ideal S1x64 .f32) :
    out5_8 x0 x1 x2 x3 x4 x5 x6 x7 = k5_pay1 (k5_pay3 (k5_pay2 x0 x1 x2) pos) x3 x5 x4 x6 x7 := by
  unfold out5_8
  rw [View.canon_unit_zero hz3, View.ld_unit_zero (S := S1x512x8) hz3, View.ld_unit_zero (S := S1x8x2048) hz3,
    View.ld_unit_zero (S := S1x1x2048) hz3, View.ld_unit_zero (S := S1x2048x128) hz3, View.ld_unit_zero (S := S1x512x64) hz3,
    View.ld_unit_zero (S := S128x64) hz2, View.ld_unit_zero (S := S64x64) hz2, View.ld_unit_zero (S := S1x64) hz2]

variable (V : (c : Dev nD) → (b : Ref sig .tc) → Buf (Elt Ideal) ((c : Thread nD τ).loc b)) (c : Dev nD)

/-- The batch of a grid point. -/
def bT (t : Fin cfg5.N) : Fin 2 := (grid5.coords t) 0
/-- The point of a row at a grid point. -/
def qT (t : Fin cfg5.N) (r : Fin 512) : Fin 4096 := ⟨((grid5.coords t) 1).val * 512 + r.val, by
  have h : ((grid5.coords t) 1).val < 8 := ((grid5.coords t) 1).isLt
  omega⟩

theorem idx0 : ∀ t : Fin cfg5.N, win5_0.index t (0 : Fin 3) = ((grid5.coords t) 0).val ∧ win5_0.index t (1 : Fin 3) = ((grid5.coords t) 1).val
    ∧ win5_0.index t (2 : Fin 3) = 0 := (by decide +kernel : ∀ t : Fin grid5.N, _)
theorem idx1 : ∀ t : Fin cfg5.N, win5_1.index t (0 : Fin 3) = ((grid5.coords t) 0).val ∧ win5_1.index t (1 : Fin 3) = 0
    ∧ win5_1.index t (2 : Fin 3) = 0 := (by decide +kernel : ∀ t : Fin grid5.N, _)
theorem idx2 : ∀ t : Fin cfg5.N, win5_2.index t (0 : Fin 3) = ((grid5.coords t) 0).val ∧ win5_2.index t (1 : Fin 3) = 0
    ∧ win5_2.index t (2 : Fin 3) = 0 := (by decide +kernel : ∀ t : Fin grid5.N, _)
theorem idx3 : ∀ t : Fin cfg5.N, win5_3.index t (0 : Fin 3) = ((grid5.coords t) 0).val ∧ win5_3.index t (1 : Fin 3) = 0
    ∧ win5_3.index t (2 : Fin 3) = 0 := (by decide +kernel : ∀ t : Fin grid5.N, _)
theorem idx4 : ∀ t : Fin cfg5.N, win5_4.index t (0 : Fin 3) = ((grid5.coords t) 0).val ∧ win5_4.index t (1 : Fin 3) = ((grid5.coords t) 1).val
    ∧ win5_4.index t (2 : Fin 3) = 0 := (by decide +kernel : ∀ t : Fin grid5.N, _)
theorem idx5 : ∀ t : Fin cfg5.N, win5_5.index t (0 : Fin 2) = 0 ∧ win5_5.index t (1 : Fin 2) = 0 :=
  (by decide +kernel : ∀ t : Fin grid5.N, _)
theorem idx6 : ∀ t : Fin cfg5.N, win5_6.index t (0 : Fin 2) = 0 ∧ win5_6.index t (1 : Fin 2) = 0 :=
  (by decide +kernel : ∀ t : Fin grid5.N, _)
theorem idx7 : ∀ t : Fin cfg5.N, win5_7.index t (0 : Fin 2) = 0 ∧ win5_7.index t (1 : Fin 2) = 0 :=
  (by decide +kernel : ∀ t : Fin grid5.N, _)
theorem idx8 : ∀ t : Fin cfg5.N, win5_8.index t (0 : Fin 3) = ((grid5.coords t) 0).val ∧ win5_8.index t (1 : Fin 3) = ((grid5.coords t) 1).val
    ∧ win5_8.index t (2 : Fin 3) = 0 := (by decide +kernel : ∀ t : Fin grid5.N, _)

theorem blk0 (t : Fin cfg5.N) (r : Fin 512) (k : Fin 8) : iblk5 V c 0 t (ix3 0 r k) = V c main_v5 (ix3 (bT t) (qT t r) k) := by
  obtain ⟨e0, e1, e2⟩ := idx0 t
  refine congrArg (V c main_v5) (funext fun a => Fin.ext ?_)
  match a with
  | ⟨0, _⟩ => show win5_0.index t (0 : Fin 3) * 1 + 1 * 0 = ((grid5.coords t) 0).val; omega
  | ⟨1, _⟩ => show win5_0.index t (1 : Fin 3) * 512 + 1 * r.val = ((grid5.coords t) 1).val * 512 + r.val; omega
  | ⟨2, _⟩ => show win5_0.index t (2 : Fin 3) * 8 + 1 * k.val = k.val; omega

theorem blk1 (t : Fin cfg5.N) (k : Fin 8) (m : Fin 2048) : iblk5 V c 1 t (ix3 0 k m) = V c main_v26 (ix3 (bT t) k m) := by
  obtain ⟨e0, e1, e2⟩ := idx1 t
  refine congrArg (V c main_v26) (funext fun a => Fin.ext ?_)
  match a with
  | ⟨0, _⟩ => show win5_1.index t (0 : Fin 3) * 1 + 1 * 0 = ((grid5.coords t) 0).val; omega
  | ⟨1, _⟩ => show win5_1.index t (1 : Fin 3) * 8 + 1 * k.val = k.val; omega
  | ⟨2, _⟩ => show win5_1.index t (2 : Fin 3) * 2048 + 1 * m.val = m.val; omega

theorem blk2 (t : Fin cfg5.N) (m : Fin 2048) : iblk5 V c 2 t (ix3 0 0 m) = V c main_v27 (ix3 (bT t) 0 m) := by
  obtain ⟨e0, e1, e2⟩ := idx2 t
  refine congrArg (V c main_v27) (funext fun a => Fin.ext ?_)
  match a with
  | ⟨0, _⟩ => show win5_2.index t (0 : Fin 3) * 1 + 1 * 0 = ((grid5.coords t) 0).val; omega
  | ⟨1, _⟩ => show win5_2.index t (1 : Fin 3) * 1 + 1 * 0 = 0; omega
  | ⟨2, _⟩ => show win5_2.index t (2 : Fin 3) * 2048 + 1 * m.val = m.val; omega

theorem blk3 (t : Fin cfg5.N) (m : Fin 2048) (k : Fin 128) : iblk5 V c 3 t (ix3 0 m k) = V c main_v61 (ix3 (bT t) m k) := by
  obtain ⟨e0, e1, e2⟩ := idx3 t
  refine congrArg (V c main_v61) (funext fun a => Fin.ext ?_)
  match a with
  | ⟨0, _⟩ => show win5_3.index t (0 : Fin 3) * 1 + 1 * 0 = ((grid5.coords t) 0).val; omega
  | ⟨1, _⟩ => show win5_3.index t (1 : Fin 3) * 2048 + 1 * m.val = m.val; omega
  | ⟨2, _⟩ => show win5_3.index t (2 : Fin 3) * 128 + 1 * k.val = k.val; omega

theorem blk4 (t : Fin cfg5.N) (r : Fin 512) (k : Fin 64) : iblk5 V c 4 t (ix3 0 r k) = V c main_v10_0 (ix3 (bT t) (qT t r) k) := by
  obtain ⟨e0, e1, e2⟩ := idx4 t
  refine congrArg (V c main_v10_0) (funext fun a => Fin.ext ?_)
  match a with
  | ⟨0, _⟩ => show win5_4.index t (0 : Fin 3) * 1 + 1 * 0 = ((grid5.coords t) 0).val; omega
  | ⟨1, _⟩ => show win5_4.index t (1 : Fin 3) * 512 + 1 * r.val = ((grid5.coords t) 1).val * 512 + r.val; omega
  | ⟨2, _⟩ => show win5_4.index t (2 : Fin 3) * 64 + 1 * k.val = k.val; omega

theorem blk5 (t : Fin cfg5.N) : iblk5 V c 5 t = V c main_v63 := by
  obtain ⟨e0, e1⟩ := idx5 t
  funext y
  refine congrArg (V c main_v63) (funext fun a => Fin.ext ?_)
  match a with
  | ⟨0, _⟩ => show win5_5.index t (0 : Fin 2) * 128 + 1 * (y 0).val = (y 0).val; omega
  | ⟨1, _⟩ => show win5_5.index t (1 : Fin 2) * 64 + 1 * (y 1).val = (y 1).val; omega

theorem blk6 (t : Fin cfg5.N) : iblk5 V c 6 t = V c main_v65 := by
  obtain ⟨e0, e1⟩ := idx6 t
  funext y
  refine congrArg (V c main_v65) (funext fun a => Fin.ext ?_)
  match a with
  | ⟨0, _⟩ => show win5_6.index t (0 : Fin 2) * 64 + 1 * (y 0).val = (y 0).val; omega
  | ⟨1, _⟩ => show win5_6.index t (1 : Fin 2) * 64 + 1 * (y 1).val = (y 1).val; omega

theorem blk7 (t : Fin cfg5.N) : iblk5 V c 7 t = V c main_v66 := by
  obtain ⟨e0, e1⟩ := idx7 t
  funext y
  refine congrArg (V c main_v66) (funext fun a => Fin.ext ?_)
  match a with
  | ⟨0, _⟩ => show win5_7.index t (0 : Fin 2) * 1 + 1 * (y 0).val = (y 0).val; omega
  | ⟨1, _⟩ => show win5_7.index t (1 : Fin 2) * 64 + 1 * (y 1).val = (y 1).val; omega

theorem emb8 (t : Fin cfg5.N) (r : Fin 512) (j : Fin 64) : ((View.whole main_v67).slice (win5_8.rect t)).emb (ix3 0 r j) = ix3 (bT t) (qT t r) j := by
  obtain ⟨e0, e1, e2⟩ := idx8 t
  funext a; apply Fin.ext
  match a with
  | ⟨0, _⟩ => show win5_8.index t (0 : Fin 3) * 1 + 1 * 0 = ((grid5.coords t) 0).val; omega
  | ⟨1, _⟩ => show win5_8.index t (1 : Fin 3) * 512 + 1 * r.val = ((grid5.coords t) 1).val * 512 + r.val; omega
  | ⟨2, _⟩ => show win5_8.index t (2 : Fin 3) * 64 + 1 * j.val = j.val; omega

theorem dist_eq (t : Fin cfg5.N) (r : Fin 512) (m : Fin 2048) :
    k5_pay2 (F := Ideal) (iblk5 V c 0 t) (iblk5 V c 1 t) (iblk5 V c 2 t) (ix2 r m)
      = dU (V c main_v5) (V c main_v26) (V c main_v27) (bT t) (qT t r) m := by
  unfold dU
  rw [← blk0 V c t r 0, ← blk0 V c t r 1, ← blk0 V c t r 2, ← blk1 V c t 0 m, ← blk1 V c t 1 m, ← blk1 V c t 2 m, ← blk2 V c t m]
  pointwise [k5_pay2]

theorem final8 : (dat5 V c).arrAt 8 cfg5.N
    = upOf (V c main_v5) (V c main_v26) (V c main_v27) (V c main_v61) (V c main_v10_0) (V c main_v63) (V c main_v65) (V c main_v66) := by
  refine (dat5 V c).arrAt_eq_of_covers 8 _ (by decide +kernel) fun t hf y => ?_
  blk_simp
  rw [after5_8]
  rw [out8]
  idx_vars y
  obtain rfl : y0 = 0 := Subsingleton.elim _ _
  rw [emb8]
  refine (value _ _ _ _ _ _ y1 y2).trans ?_
  simp only [dist_eq, blk3, blk4, blk5, blk6, blk7]
  rfl

end Cert.Up5

end
-- ==== Proof.Stage5.lean ====
/-
  What the second upsampling's region leaves.
-/
module

public import proofs.«01_k».proof.Proof.Stage4
public import proofs.«01_k».proof.Proof.Host5
public import proofs.«01_k».proof.Proof.Up5

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v45 val_main_v242 val_main_v285)
open Cert.RefConv (p0 p1 p2)

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

variable (H : Given m c x0 x1 x2 x3 x4 x5 x6 x7 x8 x9 x10 x11 x12 x13 x14 x15 x16 x17 x18 x19 x20 x21)
include H

/-- The second upsampling. -/
theorem up0 : (W12 m ρ c (Proc.devRef .tc main_v67) : Vec Ideal S2x4096x64 .f32) = (val_main_v285 (F := Ideal) x0 x1 x2 x3 x4 x5 x6 x7 x8 x9 x10 x11 x12 x13 x14 x15 x16 x17) := by
  refine ((W12_arr m ρ c 8).trans (Up5.final8 (V11 m ρ) c)).trans ?_
  funext y
  idx_vars y
  refine (upOf_eq _ _ _ _ _ _ _ _ (p0 x1) (p1 x3) (fun j k => x16 (ix2 j k)) (fun j => x17 (ix1 j)) (by norm_num) (show 192 = 128 + 64 from rfl)
    (fun b m' i => (congrFun ((((((((((W11_of m ρ c main_v5 (by decide)).trans (W10_of m ρ c main_v5 (by decide +kernel))).trans (W9_of m ρ c main_v5 (by decide))).trans (W8_of m ρ c main_v5 (by decide +kernel))).trans (W7_of m ρ c main_v5 (by decide))).trans (W6_of m ρ c main_v5 (by decide +kernel))).trans (W5_of m ρ c main_v5 (by decide))).trans (W4_of m ρ c main_v5 (by decide +kernel))).trans (W3_of m ρ c main_v5 (by decide))).trans (W2_of m ρ c main_v5 (by decide +kernel))) _).trans (pad0 m ρ c x0 x1 x2 x3 x4 x5 x6 x7 x8 x9 x10 x11 x12 x13 x14 x15 x16 x17 x18 x19 x20 x21 H b m' i))
    (fun b m' i => (congrFun ((((((((W11_of m ρ c main_v26 (by decide)).trans (W10_of m ρ c main_v26 (by decide +kernel))).trans (W9_of m ρ c main_v26 (by decide))).trans (W8_of m ρ c main_v26 (by decide +kernel))).trans (W7_of m ρ c main_v26 (by decide))).trans (W6_of m ρ c main_v26 (by decide +kernel))).trans (W5_of m ρ c main_v26 (by decide))).trans (W4_of m ρ c main_v26 (by decide +kernel))) _).trans (padT1 m ρ c x0 x1 x2 x3 x4 x5 x6 x7 x8 x9 x10 x11 x12 x13 x14 x15 x16 x17 x18 x19 x20 x21 H b m' i))
    (fun b m' => (congrFun ((((((((W11_of m ρ c main_v27 (by decide)).trans (W10_of m ρ c main_v27 (by decide +kernel))).trans (W9_of m ρ c main_v27 (by decide))).trans (W8_of m ρ c main_v27 (by decide +kernel))).trans (W7_of m ρ c main_v27 (by decide))).trans (W6_of m ρ c main_v27 (by decide +kernel))).trans (W5_of m ρ c main_v27 (by decide))).trans (W4_of m ρ c main_v27 (by decide +kernel))) _).trans (sq1 m ρ c x0 x1 x2 x3 x4 x5 x6 x7 x8 x9 x10 x11 x12 x13 x14 x15 x16 x17 x18 x19 x20 x21 H b m'))
    (fun k j => (Host5.v63_at (W10 m ρ c) k j).trans (congrFun ((W10_args m ρ c main_arg16 (by decide)).trans H.e16) _))
    (fun k j => (Host5.v65_at (W10 m ρ c) k j).trans (congrFun ((W10_args m ρ c main_arg16 (by decide)).trans H.e16) _))
    (fun j => (Host5.v66_at (W10 m ρ c) j).trans (congrFun ((W10_args m ρ c main_arg17 (by decide)).trans H.e17) (ix1 j)))
    (fun b m' i => H.r1 _) (fun b m' i => H.r3 _) y0 y1 y2).trans ?_
  rw [RefConv.upU0 x0 x1 x2 x3 x4 x5 x6 x7 x8 x9 x10 x11 x12 x13 x14 x15 x16 x17 (fun b m' i => H.r1 _) (fun b m' i => H.r3 _) y0 y1 y2]
  rw [show V11 m ρ c main_v61 = (val_main_v242 (F := Ideal) x0 x1 x2 x3 x4 x5 x6 x7 x8 x9 x10 x11 x12 x13 x14 x15) from ((W11_of m ρ c main_v61 (by decide)).trans (feat4 m ρ c x0 x1 x2 x3 x4 x5 x6 x7 x8 x9 x10 x11 x12 x13 x14 x15 x16 x17 x18 x19 x20 x21 H)), show V11 m ρ c main_v10_0 = (val_main_v45 (F := Ideal) x0 x1 x6 x7) from ((((((((((W11_of m ρ c main_v10_0 (by decide)).trans (W10_of m ρ c main_v10_0 (by decide +kernel))).trans (W9_of m ρ c main_v10_0 (by decide))).trans (W8_of m ρ c main_v10_0 (by decide +kernel))).trans (W7_of m ρ c main_v10_0 (by decide))).trans (W6_of m ρ c main_v10_0 (by decide +kernel))).trans (W5_of m ρ c main_v10_0 (by decide))).trans (W4_of m ρ c main_v10_0 (by decide +kernel))).trans (W3_of m ρ c main_v10_0 (by decide))).trans (feat0 m ρ c x0 x1 x2 x3 x4 x5 x6 x7 x8 x9 x10 x11 x12 x13 x14 x15 x16 x17 x18 x19 x20 x21 H))]

theorem real285 (i : S2x4096x64.Idx) : IsReal ((val_main_v285 (F := Ideal) x0 x1 x2 x3 x4 x5 x6 x7 x8 x9 x10 x11 x12 x13 x14 x15 x16 x17) i) := by
  idx_vars i
  rw [RefConv.upU0 x0 x1 x2 x3 x4 x5 x6 x7 x8 x9 x10 x11 x12 x13 x14 x15 x16 x17 (fun b m' i => H.r1 _) (fun b m' i => H.r3 _) i0 i1 i2]
  exact isReal_up _ (fun m' => isReal_sqd (fun i => H.r1 _) (fun i => H.r3 _)) (fun m' => le_max_right _ _) (fun m' k => real242 m c x0 x1 x2 x3 x4 x5 x6 x7 x8 x9 x10 x11 x12 x13 x14 x15 x16 x17 x18 x19 x20 x21 H _)
    (fun k => real45 m c x0 x1 x2 x3 x4 x5 x6 x7 x8 x9 x10 x11 x12 x13 x14 x15 x16 x17 x18 x19 x20 x21 H _) (fun j k => H.r16 _) (fun j => H.r17 _) i2

end Cert.Stages

end
-- ==== Proof.Host6.lean ====
/-
  The arrays that the host operations before the fifth convolution leave, read at an index.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host6

open Idealize.ShloMosaic Idealize.ShloMosaic.TcCoe Idealize.SL.Sem Cert.Select Cert.Layers Cert.Stretch
open Cert.KernelIdeal Cert.KernelIdeal.Gen

variable (U : Valuation τ sig (Elt Ideal))

/-- The points' coordinates. -/
abbrev pts (b : Fin 2) (m : Fin 4096) (i : Fin 3) : EReal := (U (Proc.devRef .tc main_arg1) : Vec Ideal S2x4096x3 .f32) (ix3 b m i)

theorem v70_at (b : Fin 2) (m : Fin 4096) (z : Fin 1) :
    (StableHlo.after hostOps6 U (Proc.devRef .tc main_v70) : Vec Ideal S2x4096x1 .f32) (ix3 b m z) = ∑ i, pts U b m i * pts U b m i := by
  after_reads_simp
  exact norms_at (by decide) _ _ _ _ b m z

theorem v71_at (b : Fin 2) (m : Fin 4096) (k : Fin 68) :
    (StableHlo.after hostOps6 U (Proc.devRef .tc main_v71) : Vec Ideal S2x4096x68 .f32) (ix3 b m k)
      = aug (fun m k => (U (Proc.devRef .tc main_v67) : Vec Ideal S2x4096x64 .f32) (ix3 b m k)) (pts U b) m k := by
  after_reads_simp
  exact aug_at rfl _ _ (StableHlo.after hostOps6 U (Proc.devRef .tc main_v70)) _ (v70_at U) b m k

theorem v72_at (k : Fin 64) (j : Fin 64) :
    (StableHlo.after hostOps6 U (Proc.devRef .tc main_v72) : Vec Ideal S64x64 .f32) (ix2 k j)
      = (U (Proc.devRef .tc main_arg18) : Vec Ideal S64x64 .f32) (ix2 j k) := by
  after_reads_simp
  exact ValueIdx.transpose_ix2_apply _ _ k j

theorem v73_at (k : Fin 68) (j : Fin 64) :
    (StableHlo.after hostOps6 U (Proc.devRef .tc main_v73) : Vec Ideal S68x64 .f32) (ix2 k j)
      = (U (Proc.devRef .tc main_arg19) : Vec Ideal S64x68 .f32) (ix2 j k) := by
  after_reads_simp
  exact ValueIdx.transpose_ix2_apply _ _ k j

end Cert.Host6

end
-- ==== Proof.Host7.lean ====
/-
  The arrays that the host operations around the projection leave, read at an index.
-/
module

public import proofs.«01_k».proof.Proof.Gen.KernelIdeal.Launch
public import proofs.«01_k».proof.Proof.Stretch
public import Idealize.ShloMosaic.Lib.StableHlo.ReadAt
public import Idealize.ShloMosaic.Lib.ValueLayout

@[expose] public section

set_option maxRecDepth 16384

noncomputable section

namespace Cert.Host7

open Idealize.ShloMosaic Idealize.ShloMosaic.TcCoe Idealize.SL.Sem Cert.Select Cert.Layers Cert.Stretch
open Cert.KernelIdeal Cert.KernelIdeal.Gen

variable (U : Valuation τ sig (Elt Ideal))

theorem v75_at (b : Fin 2) (q : Fin 4096) (k : Fin 64) :
    (StableHlo.after hostOps7 U (Proc.devRef .tc main_v75) : Vec Ideal S8192x64 .f32) (ix2 ⟨b.val * 4096 + q.val, by omega⟩ k)
      = (U (Proc.devRef .tc main_v74) : Vec Ideal S2x4096x64 .f32) (ix3 b q k) := by
  after_reads_simp
  exact merge_at (U (Proc.devRef .tc main_v74) : Vec Ideal S2x4096x64 .f32) _ b q k _

theorem v76_at (k : Fin 64) (j : Fin 128) :
    (StableHlo.after hostOps7 U (Proc.devRef .tc main_v76) : Vec Ideal S64x128 .f32) (ix2 k j)
      = (U (Proc.devRef .tc main_arg20) : Vec Ideal S128x64 .f32) (ix2 j k) := by
  after_reads_simp
  exact ValueIdx.transpose_ix2_apply _ _ k j

theorem v77_at (j : Fin 128) :
    (StableHlo.after hostOps7 U (Proc.devRef .tc main_v77) : Vec Ideal S1x128 .f32) (ix2 0 j)
      = (U (Proc.devRef .tc main_arg21) : Vec Ideal S128 .f32) (ix1 j) := by
  after_reads_simp
  exact congrArg (U (Proc.devRef .tc main_arg21) : Vec Ideal S128 .f32) (funext fun x => match x with | ⟨0, _⟩ => rfl)

theorem v79_at (b : Fin 2) (q : Fin 4096) (j : Fin 128) :
    (StableHlo.after hostOps8 U (Proc.devRef .tc main_v79) : Vec Ideal S2x4096x128 .f32) (ix3 b q j)
      = (U (Proc.devRef .tc main_v78) : Vec Ideal S8192x128 .f32) (ix2 ⟨b.val * 4096 + q.val, by omega⟩ j) := by
  after_reads_simp
  exact split_at (U (Proc.devRef .tc main_v78) : Vec Ideal S8192x128 .f32) _ b q j _

end Cert.Host7

end
-- ==== Proof.Out6.lean ====
/-
  The fifth convolution, which takes its weights from the first's mask: its body's value at an entry and what its
  region leaves in its result array.
-/
module

public import proofs.«01_k».proof.Proof.Gen.KernelIdeal.Frame.Region6
public import proofs.«01_k».proof.Proof.Blocks
public import Idealize.ShloMosaic.Lib.Pipeline.ValueKit

@[expose] public section

set_option maxRecDepth 16384

noncomputable section

namespace Cert.Conv6

open Idealize.ShloMosaic Idealize.ShloMosaic.TcCoe Idealize.SL.Sem Cert.Select Cert.Layers Cert.Blocks
open Cert.KernelIdeal Cert.KernelIdeal.Gen

/-- The body's value: the convolution's linear terms under the weights read. -/
theorem value (v2 : Vec Ideal S1x256x68 .f32) (w : Vec Ideal S1x256x4096 .bf16) (x3 : Vec Ideal S1x4096x68 .f32)
    (x4 : Vec Ideal S64x64 .f32) (x5 : Vec Ideal S68x64 .f32) (q : Fin 4096) (r : Fin 256) (hq : ∀ k, v2 (ix3 0 r k) = x3 (ix3 0 q k))
    (j : Fin 64) :
    k6_pay1 (k6_pay2 v2 w x3 x4 x5) (ix3 0 r j)
      = convK (c := 64) rfl (fun m => w (ix3 0 r m)) (fun m k => x3 (ix3 0 m k)) q (fun j k => x4 (ix2 k j)) (fun j k => x5 (ix2 k j)) j := by
  pointwise [k6_pay1, k6_pay2]
  simp only [hq]
  rw [convK_read]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The queries' rows of the point array. -/
abbrev qrows (i : grid6.Coords) (x3 : Vec Ideal S1x4096x68 .f32) : Vec Ideal S1x256x68 .f32 :=
  View.ld x3 (Rect.unit (s := S1x4096x68) (k6_off1 i) S1x256x68.size (k6_off1_inb i))

theorem out7 (c : Dev nD) (i : grid6.Coords) (a2 : Memref sig .tc .vmem S1x256x8 .f32) (h2 : a2.IsWhole)
    (a3 : Memref sig .tc .vmem S1x8x4096 .f32) (h3 : a3.IsWhole) (a4 : Memref sig .tc .vmem S1x1x4096 .f32) (h4 : a4.IsWhole)
    (a5 : Memref sig .tc .vmem S1x4096x68 .f32) (h5 : a5.IsWhole) (a6 : Memref sig .tc .vmem S64x64 .f32) (h6 : a6.IsWhole)
    (a7 : Memref sig .tc .vmem S68x64 .f32) (h7 : a7.IsWhole) (a8 : Memref sig .tc .vmem S1x256x4096 .bf16) (h8 : a8.IsWhole)
    (a9 : Memref sig .tc .vmem S1x256x64 .f32) (h9 : a9.IsWhole)
    (x0 : Vec Ideal S1x256x8 .f32) (x1 : Vec Ideal S1x8x4096 .f32) (x2 : Vec Ideal S1x1x4096 .f32)
    (x3 : Vec Ideal S1x4096x68 .f32) (x4 : Vec Ideal S64x64 .f32) (x5 : Vec Ideal S68x64 .f32) (x6 : Vec Ideal S1x256x4096 .bf16) :
    out6_A_7 c i a2 h2 a3 h3 a4 h4 a5 h5 a6 h6 a7 h7 a8 h8 a9 h9 x0 x1 x2 x3 x4 x5 x6
      = k6_pay1 (k6_pay2 (qrows i x3) x6 x3 x4 x5) := by
  unfold out6_A_7
  rw [View.read_writes_junk_eq_canon]
  unfold kernelRun6_A
  dsimp only
  sl_unfold_words
  rw [View.canon_unit_zero hz3]
  simp only [View.readAt_eq_ld, h5.read_unread, h6.read_unread, h7.read_unread, h8.read_unread,
    View.ld_unit_zero (S := S1x256x4096) hz3,
    View.ld_unit_zero (S := S1x4096x68) hz3, View.ld_unit_zero (S := S64x64) hz2, View.ld_unit_zero (S := S68x64) hz2]
  rfl

variable (V : (c : Dev nD) → (b : Ref sig .tc) → Buf (Elt Ideal) ((c : Thread nD τ).loc b)) (c : Dev nD)

/-- The batch of a grid point. -/
def bT (t : Fin cfg6.N) : Fin 2 := (grid6.coords t) 0
/-- The query of a row at a grid point. -/
def qT (t : Fin cfg6.N) (r : Fin 256) : Fin 4096 := ⟨((grid6.coords t) 1).val * 256 + r.val, by
  have h : ((grid6.coords t) 1).val < 16 := ((grid6.coords t) 1).isLt
  omega⟩

theorem idx3 : ∀ t : Fin cfg6.N, win6_3.index t (0 : Fin 3) = ((grid6.coords t) 0).val ∧ win6_3.index t (1 : Fin 3) = 0
    ∧ win6_3.index t (2 : Fin 3) = 0 := (by decide +kernel : ∀ t : Fin grid6.N, _)
theorem idx4 : ∀ t : Fin cfg6.N, win6_4.index t (0 : Fin 2) = 0 ∧ win6_4.index t (1 : Fin 2) = 0 :=
  (by decide +kernel : ∀ t : Fin grid6.N, _)
theorem idx5 : ∀ t : Fin cfg6.N, win6_5.index t (0 : Fin 2) = 0 ∧ win6_5.index t (1 : Fin 2) = 0 :=
  (by decide +kernel : ∀ t : Fin grid6.N, _)
theorem idx6 : ∀ t : Fin cfg6.N, win6_6.index t (0 : Fin 3) = ((grid6.coords t) 0).val ∧ win6_6.index t (1 : Fin 3) = ((grid6.coords t) 1).val
    ∧ win6_6.index t (2 : Fin 3) = 0 := (by decide +kernel : ∀ t : Fin grid6.N, _)
theorem idx7 : ∀ t : Fin cfg6.N, win6_7.index t (0 : Fin 3) = ((grid6.coords t) 0).val ∧ win6_7.index t (1 : Fin 3) = ((grid6.coords t) 1).val
    ∧ win6_7.index t (2 : Fin 3) = 0 := (by decide +kernel : ∀ t : Fin grid6.N, _)

theorem blk3 (t : Fin cfg6.N) (m : Fin 4096) (k : Fin 68) : iblk6 V c 3 t (ix3 0 m k) = V c main_v71 (ix3 (bT t) m k) := by
  obtain ⟨e0, e1, e2⟩ := idx3 t
  refine congrArg (V c main_v71) (funext fun a => Fin.ext ?_)
  match a with
  | ⟨0, _⟩ => show win6_3.index t (0 : Fin 3) * 1 + 1 * 0 = ((grid6.coords t) 0).val; omega
  | ⟨1, _⟩ => show win6_3.index t (1 : Fin 3) * 4096 + 1 * m.val = m.val; omega
  | ⟨2, _⟩ => show win6_3.index t (2 : Fin 3) * 68 + 1 * k.val = k.val; omega

theorem blk4 (t : Fin cfg6.N) : iblk6 V c 4 t = V c main_v72 := by
  obtain ⟨e0, e1⟩ := idx4 t
  funext y
  refine congrArg (V c main_v72) (funext fun a => Fin.ext ?_)
  match a with
  | ⟨0, _⟩ => show win6_4.index t (0 : Fin 2) * 64 + 1 * (y 0).val = (y 0).val; omega
  | ⟨1, _⟩ => show win6_4.index t (1 : Fin 2) * 64 + 1 * (y 1).val = (y 1).val; omega

theorem blk5 (t : Fin cfg6.N) : iblk6 V c 5 t = V c main_v73 := by
  obtain ⟨e0, e1⟩ := idx5 t
  funext y
  refine congrArg (V c main_v73) (funext fun a => Fin.ext ?_)
  match a with
  | ⟨0, _⟩ => show win6_5.index t (0 : Fin 2) * 68 + 1 * (y 0).val = (y 0).val; omega
  | ⟨1, _⟩ => show win6_5.index t (1 : Fin 2) * 64 + 1 * (y 1).val = (y 1).val; omega

theorem blk6 (t : Fin cfg6.N) (r : Fin 256) (m : Fin 4096) : iblk6 V c 6 t (ix3 0 r m) = V c main_v10_1 (ix3 (bT t) (qT t r) m) := by
  obtain ⟨e0, e1, e2⟩ := idx6 t
  refine congrArg (V c main_v10_1) (funext fun a => Fin.ext ?_)
  match a with
  | ⟨0, _⟩ => show win6_6.index t (0 : Fin 3) * 1 + 1 * 0 = ((grid6.coords t) 0).val; omega
  | ⟨1, _⟩ => show win6_6.index t (1 : Fin 3) * 256 + 1 * r.val = ((grid6.coords t) 1).val * 256 + r.val; omega
  | ⟨2, _⟩ => show win6_6.index t (2 : Fin 3) * 4096 + 1 * m.val = m.val; omega

theorem emb7 (t : Fin cfg6.N) (r : Fin 256) (j : Fin 64) : ((View.whole main_v74).slice (win6_7.rect t)).emb (ix3 0 r j) = ix3 (bT t) (qT t r) j := by
  obtain ⟨e0, e1, e2⟩ := idx7 t
  funext a; apply Fin.ext
  match a with
  | ⟨0, _⟩ => show win6_7.index t (0 : Fin 3) * 1 + 1 * 0 = ((grid6.coords t) 0).val; omega
  | ⟨1, _⟩ => show win6_7.index t (1 : Fin 3) * 256 + 1 * r.val = ((grid6.coords t) 1).val * 256 + r.val; omega
  | ⟨2, _⟩ => show win6_7.index t (2 : Fin 3) * 64 + 1 * j.val = j.val; omega

/-- The queries' rows are the rows of the point array. -/
theorem qrows_eq (t : Fin cfg6.N) (x3 : Vec Ideal S1x4096x68 .f32) (r : Fin 256) (k : Fin 68) :
    qrows (grid6.coords t) x3 (ix3 0 r k) = x3 (ix3 0 (qT t r) k) := by
  have h : ∀ t : Fin grid6.N, k6_off1 (grid6.coords t) 1 = ((grid6.coords t) 1).val * 256 := by decide +kernel
  have e := h t
  refine congrArg x3 (funext fun a => Fin.ext ?_)
  match a with
  | ⟨0, _⟩ => rfl
  | ⟨1, _⟩ => show k6_off1 (grid6.coords t) 1 + 1 * r.val = ((grid6.coords t) 1).val * 256 + r.val; omega
  | ⟨2, _⟩ => show 0 + 1 * k.val = k.val; omega

theorem final7 : (dat6 V c).arrAt 7 cfg6.N
    = convOf (c := 64) rfl (V c main_v10_1) (V c main_v71) (V c main_v72) (V c main_v73) := by
  refine (dat6 V c).arrAt_eq_of_covers 7 _ (by decide +kernel) fun t hf y => ?_
  blk_simp
  rw [after6_7]
  unfold outsAt6
  rw [out7]
  idx_vars y
  obtain rfl : y0 = 0 := Subsingleton.elim _ _
  rw [emb7]
  refine (value _ _ _ _ _ (qT t y1) y1 (fun k => qrows_eq t _ y1 k) y2).trans ?_
  simp only [blk3, blk4, blk5, blk6]
  rfl

end Cert.Conv6

end
-- ==== Proof.Out7.lean ====
/-
  The projection: its body's value at an entry and what its region leaves in its result array.
-/
module

public import proofs.«01_k».proof.Proof.Gen.KernelIdeal.Frame.Region7
public import proofs.«01_k».proof.Proof.Blocks
public import Idealize.ShloMosaic.Lib.Pipeline.ValueKit

@[expose] public section

set_option maxRecDepth 16384

noncomputable section

namespace Cert.Proj7

open Idealize.ShloMosaic Idealize.ShloMosaic.TcCoe Idealize.SL.Sem Cert.Select Cert.Layers Cert.Blocks
open Cert.KernelIdeal Cert.KernelIdeal.Gen

/-- A linear layer with its bias. -/
def linOf (x : Vec Ideal S8192x64 .f32) (w : Vec Ideal S64x128 .f32) (b : Vec Ideal S1x128 .f32) : Vec Ideal S8192x128 .f32 :=
  fun y => (∑ k : Fin 64, x (ix2 (y 0) k) * w (ix2 k (y 1))) + b (ix2 0 (y 1))

/-- The body's value. -/
theorem value (x : Vec Ideal S8192x64 .f32) (w : Vec Ideal S64x128 .f32) (b : Vec Ideal S1x128 .f32) :
    k7_pay1 x w b = linOf x w b := by
  funext y
  idx_vars y
  pointwise [k7_pay1]
  rfl

theorem hz2 : (![0, 0] : Fin 2 → Nat) = fun _ => 0 := funext fun a => by fin_cases a <;> rfl

theorem out3 (x0 : Vec Ideal S8192x64 .f32) (x1 : Vec Ideal S64x128 .f32) (x2 : Vec Ideal S1x128 .f32) :
    out7_3 x0 x1 x2 = k7_pay1 x0 x1 x2 := by
  unfold out7_3
  rw [View.canon_unit_zero hz2, View.ld_unit_zero (S := S8192x64) hz2, View.ld_unit_zero (S := S64x128) hz2,
    View.ld_unit_zero (S := S1x128) hz2]

variable (V : (c : Dev nD) → (b : Ref sig .tc) → Buf (Elt Ideal) ((c : Thread nD τ).loc b)) (c : Dev nD)

theorem idx0 : ∀ t : Fin cfg7.N, win7_0.index t (0 : Fin 2) = 0 ∧ win7_0.index t (1 : Fin 2) = 0 :=
  (by decide +kernel : ∀ t : Fin grid7.N, _)
theorem idx1 : ∀ t : Fin cfg7.N, win7_1.index t (0 : Fin 2) = 0 ∧ win7_1.index t (1 : Fin 2) = 0 :=
  (by decide +kernel : ∀ t : Fin grid7.N, _)
theorem idx2 : ∀ t : Fin cfg7.N, win7_2.index t (0 : Fin 2) = 0 ∧ win7_2.index t (1 : Fin 2) = 0 :=
  (by decide +kernel : ∀ t : Fin grid7.N, _)
theorem idx3 : ∀ t : Fin cfg7.N, win7_3.index t (0 : Fin 2) = 0 ∧ win7_3.index t (1 : Fin 2) = 0 :=
  (by decide +kernel : ∀ t : Fin grid7.N, _)
theorem blk0 (t : Fin cfg7.N) : iblk7 V c 0 t = V c main_v75 := by
  obtain ⟨e0, e1⟩ := idx0 t
  funext y
  refine congrArg (V c main_v75) (funext fun a => Fin.ext ?_)
  match a with
  | ⟨0, _⟩ => show win7_0.index t (0 : Fin 2) * 8192 + 1 * (y 0).val = (y 0).val; omega
  | ⟨1, _⟩ => show win7_0.index t (1 : Fin 2) * 64 + 1 * (y 1).val = (y 1).val; omega
theorem blk1 (t : Fin cfg7.N) : iblk7 V c 1 t = V c main_v76 := by
  obtain ⟨e0, e1⟩ := idx1 t
  funext y
  refine congrArg (V c main_v76) (funext fun a => Fin.ext ?_)
  match a with
  | ⟨0, _⟩ => show win7_1.index t (0 : Fin 2) * 64 + 1 * (y 0).val = (y 0).val; omega
  | ⟨1, _⟩ => show win7_1.index t (1 : Fin 2) * 128 + 1 * (y 1).val = (y 1).val; omega
theorem blk2 (t : Fin cfg7.N) : iblk7 V c 2 t = V c main_v77 := by
  obtain ⟨e0, e1⟩ := idx2 t
  funext y
  refine congrArg (V c main_v77) (funext fun a => Fin.ext ?_)
  match a with
  | ⟨0, _⟩ => show win7_2.index t (0 : Fin 2) * 1 + 1 * (y 0).val = (y 0).val; omega
  | ⟨1, _⟩ => show win7_2.index t (1 : Fin 2) * 128 + 1 * (y 1).val = (y 1).val; omega
theorem emb3 (t : Fin cfg7.N) (y : S8192x128.Idx) : ((View.whole main_v78).slice (win7_3.rect t)).emb y = y := by
  obtain ⟨e0, e1⟩ := idx3 t
  funext a; apply Fin.ext
  match a with
  | ⟨0, _⟩ => show win7_3.index t (0 : Fin 2) * 8192 + 1 * (y 0).val = (y 0).val; omega
  | ⟨1, _⟩ => show win7_3.index t (1 : Fin 2) * 128 + 1 * (y 1).val = (y 1).val; omega

theorem final3 : (dat7 V c).arrAt 3 cfg7.N = linOf (V c main_v75) (V c main_v76) (V c main_v77) := by
  refine (dat7 V c).arrAt_eq_of_covers 3 _ (by decide +kernel) fun t hf y => ?_
  blk_simp
  rw [after7_3, out3, value, blk0, blk1, blk2]
  exact congrArg _ (emb3 t y).symm

end Cert.Proj7

end
-- ==== Proof.Stage6.lean ====
/-
  What the fifth convolution's region and the projection leave: the program's result.
-/
module

public import proofs.«01_k».proof.Proof.Stage5
public import proofs.«01_k».proof.Proof.Host6
public import proofs.«01_k».proof.Proof.Host7
public import proofs.«01_k».proof.Proof.Out6
public import proofs.«01_k».proof.Proof.Out7

@[expose] public section

set_option maxRecDepth 16384

noncomputable section

namespace Cert.Stages

open Idealize.ShloMosaic Idealize.ShloMosaic.TcCoe Idealize.SL.Sem Cert.Select Cert.Layers Cert.Blocks
open Cert.KernelIdeal Cert.KernelIdeal.Gen
open Cert.ReferenceIdeal.Read (val_main_v285 val_main_v331 val_main_v336)
open Cert.RefConv (p0 p1 p2)

variable (m : (ℓ : Loc nD τ sig) → Buf (Elt Ideal) ℓ) (ρ : Dev nD → PrngReg) (c : Dev nD)
  (x0 : FVec Ideal S2x4096x4 .f32)
  (x1 : FVec Ideal S2x4096x3 .f32)
  (x2 : IVec S2x2048 32)
  (x3 : FVec Ideal S2x3x2048 .f32)
  (x4 : IVec S2x1024 32)
  (x5 : FVec Ideal S2x3x1024 .f32)
  (x6 : FVec Ideal S64x4 .f32)
  (x7 : FVec Ideal S64x8 .f32)
  (x8 : FVec Ideal S128x64 .f32)
  (x9 : FVec Ideal S128x68 .f32)
  (x10 : FVec Ideal S256x128 .f32)
  (x11 : FVec Ideal S256x132 .f32)
  (x12 : FVec Ideal S128x384 .f32)
  (x13 : FVec Ideal S128 .f32)
  (x14 : FVec Ideal S128x128 .f32)
  (x15 : FVec Ideal S128x132 .f32)
  (x16 : FVec Ideal S64x192 .f32)
  (x17 : FVec Ideal S64 .f32)
  (x18 : FVec Ideal S64x64 .f32)
  (x19 : FVec Ideal S64x68 .f32)
  (x20 : FVec Ideal S128x64 .f32)
  (x21 : FVec Ideal S128 .f32)

variable (H : Given m c x0 x1 x2 x3 x4 x5 x6 x7 x8 x9 x10 x11 x12 x13 x14 x15 x16 x17 x18 x19 x20 x21)
include H

theorem pts6 (b : Fin 2) (m' : Fin 4096) (i : Fin 3) : Host6.pts (W12 m ρ c) b m' i = p0 x1 b m' i := congrFun ((W12_args m ρ c main_arg1 (by decide)).trans H.e1) (ix3 b m' i)

theorem aug6 (b : Fin 2) (m' : Fin 4096) (k : Fin 68) :
    (W13 m ρ c (Proc.devRef .tc main_v71) : Vec Ideal S2x4096x68 .f32) (ix3 b m' k) = aug (fun m' k => (val_main_v285 (F := Ideal) x0 x1 x2 x3 x4 x5 x6 x7 x8 x9 x10 x11 x12 x13 x14 x15 x16 x17) (ix3 b m' k)) (p0 x1 b) m' k :=
  (Host6.v71_at (W12 m ρ c) b m' k).trans (aug_congr (fun m' k => congrFun (up0 m ρ c x0 x1 x2 x3 x4 x5 x6 x7 x8 x9 x10 x11 x12 x13 x14 x15 x16 x17 x18 x19 x20 x21 H) (ix3 b m' k)) (pts6 m ρ c x0 x1 x2 x3 x4 x5 x6 x7 x8 x9 x10 x11 x12 x13 x14 x15 x16 x17 x18 x19 x20 x21 H b) m' k)

/-- The features of the fifth convolution. -/
theorem feat6 : (W14 m ρ c (Proc.devRef .tc main_v74) : Vec Ideal S2x4096x64 .f32) = (val_main_v331 (F := Ideal) x0 x1 x2 x3 x4 x5 x6 x7 x8 x9 x10 x11 x12 x13 x14 x15 x16 x17 x18 x19) := by
  refine ((W14_arr m ρ c 7).trans (Conv6.final7 (V13 m ρ) c)).trans ?_
  funext y
  idx_vars y
  have es : ∀ k j, (W13 m ρ c (Proc.devRef .tc main_v72) : Vec Ideal S64x64 .f32) (ix2 k j) = x18 (ix2 j k) := fun k j => (Host6.v72_at (W12 m ρ c) k j).trans (congrFun ((W12_args m ρ c main_arg18 (by decide)).trans H.e18) (ix2 j k))
  have ee : ∀ k j, (W13 m ρ c (Proc.devRef .tc main_v73) : Vec Ideal S68x64 .f32) (ix2 k j) = x19 (ix2 j k) := fun k j => (Host6.v73_at (W12 m ρ c) k j).trans (congrFun ((W12_args m ρ c main_arg19 (by decide)).trans H.e19) (ix2 j k))
  refine (convOf_eq rfl _ _ _ (fun b m' k => (val_main_v285 (F := Ideal) x0 x1 x2 x3 x4 x5 x6 x7 x8 x9 x10 x11 x12 x13 x14 x15 x16 x17) (ix3 b m' k)) (p0 x1) (by norm_num) _
    (fun b q m' => (congrFun (((((((((((W13_of m ρ c main_v10_1 (by decide)).trans (W12_of m ρ c main_v10_1 (by decide +kernel))).trans (W11_of m ρ c main_v10_1 (by decide))).trans (W10_of m ρ c main_v10_1 (by decide +kernel))).trans (W9_of m ρ c main_v10_1 (by decide))).trans (W8_of m ρ c main_v10_1 (by decide +kernel))).trans (W7_of m ρ c main_v10_1 (by decide))).trans (W6_of m ρ c main_v10_1 (by decide +kernel))).trans (W5_of m ρ c main_v10_1 (by decide))).trans (W4_of m ρ c main_v10_1 (by decide +kernel))).trans (W3_of m ρ c main_v10_1 (by decide))) _).trans (mask0 m ρ c x0 x1 x2 x3 x4 x5 x6 x7 x8 x9 x10 x11 x12 x13 x14 x15 x16 x17 x18 x19 x20 x21 H b q m'))
    (aug6 m ρ c x0 x1 x2 x3 x4 x5 x6 x7 x8 x9 x10 x11 x12 x13 x14 x15 x16 x17 x18 x19 x20 x21 H) (fun b m' k => real285 m c x0 x1 x2 x3 x4 x5 x6 x7 x8 x9 x10 x11 x12 x13 x14 x15 x16 x17 x18 x19 x20 x21 H _) (fun b m' i => H.r1 _) (fun k j => isReal_of (ee k j) (H.r19 _)) y0 y1 y2).trans ?_
  rw [RefConv.convU0 x0 x1 x2 x3 x4 x5 x6 x7 x8 x9 x10 x11 x12 x13 x14 x15 x16 x17 x18 x19 (fun b m' i => H.r1 _) y0 y1 y2]
  exact conv_congr (fun j k => es k j) (fun j k => ee k j) y1 y2

theorem proj : (W16 m ρ c (Proc.devRef .tc main_v78) : Vec Ideal S8192x128 .f32) = Proj7.linOf (V15 m ρ c main_v75) (V15 m ρ c main_v76) (V15 m ρ c main_v77) :=
  (W16_arr m ρ c 3).trans (Proj7.final3 (V15 m ρ) c)

/-- The program's result is the reference's. -/
theorem result : (W17 m ρ c (Proc.devRef .tc main_v79) : Vec Ideal S2x4096x128 .f32) = (val_main_v336 (F := Ideal) x0 x1 x2 x3 x4 x5 x6 x7 x8 x9 x10 x11 x12 x13 x14 x15 x16 x17 x18 x19 x20 x21) := by
  funext y
  idx_vars y
  refine (Host7.v79_at (W16 m ρ c) y0 y1 y2).trans ?_
  refine (congrFun (proj m ρ c x0 x1 x2 x3 x4 x5 x6 x7 x8 x9 x10 x11 x12 x13 x14 x15 x16 x17 x18 x19 x20 x21 H) _).trans ?_
  rw [RefConv.result x0 x1 x2 x3 x4 x5 x6 x7 x8 x9 x10 x11 x12 x13 x14 x15 x16 x17 x18 x19 x20 x21 y0 y1 y2]
  refine congrArg₂ (· + ·) (Finset.sum_congr rfl fun k _ => congrArg₂ (· * ·) ?_ ?_) ?_
  · exact (Host7.v75_at (W14 m ρ c) y0 y1 k).trans (congrFun (feat6 m ρ c x0 x1 x2 x3 x4 x5 x6 x7 x8 x9 x10 x11 x12 x13 x14 x15 x16 x17 x18 x19 x20 x21 H) (ix3 y0 y1 k))
  · exact (Host7.v76_at (W14 m ρ c) k y2).trans (congrFun ((W14_args m ρ c main_arg20 (by decide)).trans H.e20) (ix2 y2 k))
  · exact (Host7.v77_at (W14 m ρ c) y2).trans (congrFun ((W14_args m ρ c main_arg21 (by decide)).trans H.e21) (ix1 y2))

end Cert.Stages

end
-- ==== Proof.Finite.lean ====
/-
The precondition, read: where `finite_inputs` holds of the arguments, every element of the arrays it names is a
real number. Its side conditions are shown too.
-/
module

public import proofs.«01_k».proof.Pre_finite_inputs
public import proofs.«01_k».proof.Proof.Layers
public import proofs.«01_k».proof.Proof.Rounds
public import Idealize.ShloMosaic.Lib.ReduceAll

@[expose] public section

noncomputable section

namespace Cert.Finite

open Idealize.ShloMosaic Cert.Layers Cert.Pre_finite_inputs

/-- The side conditions of the precondition's operations. -/
theorem facts : Cert.Pre_finite_inputs.Facts where
  bcast_S_S2x4096x4 := by decide
  reducesTo_S2x4096x4_S_d0_1_2 := by decide
  h_S_ := by decide
  bcast_S_S2x4096x3 := by decide
  reducesTo_S2x4096x3_S_d0_1_2 := by decide
  bcast_S_S2x3x2048 := by decide
  reducesTo_S2x3x2048_S_d0_1_2 := by decide
  bcast_S_S2x3x1024 := by decide
  reducesTo_S2x3x1024_S_d0_1_2 := by decide
  bcast_S_S64x4 := by decide
  reducesTo_S64x4_S_d0_1 := by decide
  bcast_S_S64x8 := by decide
  reducesTo_S64x8_S_d0_1 := by decide
  bcast_S_S128x64 := by decide
  reducesTo_S128x64_S_d0_1 := by decide
  bcast_S_S128x68 := by decide
  reducesTo_S128x68_S_d0_1 := by decide
  bcast_S_S256x128 := by decide
  reducesTo_S256x128_S_d0_1 := by decide
  bcast_S_S256x132 := by decide
  reducesTo_S256x132_S_d0_1 := by decide
  bcast_S_S128x384 := by decide
  reducesTo_S128x384_S_d0_1 := by decide
  bcast_S_S128 := by decide
  reducesTo_S128_S_d0 := by decide
  bcast_S_S128x128 := by decide
  reducesTo_S128x128_S_d0_1 := by decide
  bcast_S_S128x132 := by decide
  reducesTo_S128x132_S_d0_1 := by decide
  bcast_S_S64x192 := by decide
  reducesTo_S64x192_S_d0_1 := by decide
  bcast_S_S64 := by decide
  reducesTo_S64_S_d0 := by decide
  bcast_S_S64x68 := by decide
  reducesTo_S64x68_S_d0_1 := by decide

/-- A value whose magnitude is below infinity is a real number. -/
theorem isReal_of_lt {a : EReal} (h : max a (-a) < ⊤) : IsReal a := by
  induction a using EReal.rec with
  | bot => simp at h
  | top => simp at h
  | coe r => exact ⟨r, rfl⟩

/-- One array's test: the conjunction over all of its elements of `|x| < ∞`. -/
theorem real_of_test {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  haveI : Subsingleton S_.Idx := ⟨fun a b => funext fun d => d.elim0⟩
  have h := Host.reduce_andi_all _ _ hr hu j e i
  have h' : max (x i : EReal) (-(x i : EReal)) < Ideal.ofBits .f32 0x7F800000#32 := (Ideal.cmp_olt_eq_one _ _).1 h
  rw [Rounds.inf_eq] at h'
  exact isReal_of_lt h'

theorem both {a b : IVec S_ 1} {j : S_.Idx} (h : andi a b j = 1#1) : a j = 1#1 ∧ b j = 1#1 := IntOp.andi_eq_one.1 h

/-- Where the precondition holds, the arrays it names hold real numbers. -/
theorem reals [Cert.Pre_finite_inputs.Facts] (x0 : FVec Ideal S2x4096x4 .f32) (x1 : FVec Ideal S2x4096x3 .f32) (x2 : IVec S2x2048 32) (x3 : FVec Ideal S2x3x2048 .f32) (x4 : IVec S2x1024 32) (x5 : FVec Ideal S2x3x1024 .f32) (x6 : FVec Ideal S64x4 .f32) (x7 : FVec Ideal S64x8 .f32) (x8 : FVec Ideal S128x64 .f32) (x9 : FVec Ideal S128x68 .f32) (x10 : FVec Ideal S256x128 .f32) (x11 : FVec Ideal S256x132 .f32) (x12 : FVec Ideal S128x384 .f32) (x13 : FVec Ideal S128 .f32) (x14 : FVec Ideal S128x128 .f32) (x15 : FVec Ideal S128x132 .f32) (x16 : FVec Ideal S64x192 .f32) (x17 : FVec Ideal S64 .f32) (x18 : FVec Ideal S64x64 .f32) (x19 : FVec Ideal S64x68 .f32) (x20 : FVec Ideal S128x64 .f32) (x21 : FVec Ideal S128 .f32)
    (h : fn (F := Ideal) x0 x1 x2 x3 x4 x5 x6 x7 x8 x9 x10 x11 x12 x13 x14 x15 x16 x17 x18 x19 x20 x21 = fun _ => 1#1) :
    (∀ i, IsReal (x0 i)) ∧ (∀ i, IsReal (x1 i)) ∧ (∀ i, IsReal (x3 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) ∧ (∀ i, IsReal (x19 i)) := by
  have h := congrFun h (Shape.Idx.first Facts.h_S_)
  unfold fn fn_part1 fn_part2 fn_part3 fn_part4 at h
  dsimp only at h
  obtain ⟨h, h19⟩ := both h
  obtain ⟨h, h17⟩ := both h
  obtain ⟨h, h16⟩ := both h
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h3⟩ := both h
  obtain ⟨h, h1⟩ := both h
  exact ⟨real_of_test _ _ _ _ _ h, real_of_test _ _ _ _ _ h1, real_of_test _ _ _ _ _ h3, real_of_test _ _ _ _ _ h5, real_of_test _ _ _ _ _ h6, real_of_test _ _ _ _ _ h7, real_of_test _ _ _ _ _ h8, real_of_test _ _ _ _ _ h9, real_of_test _ _ _ _ _ h10, real_of_test _ _ _ _ _ h11, real_of_test _ _ _ _ _ h12, real_of_test _ _ _ _ _ h13, real_of_test _ _ _ _ _ h14, real_of_test _ _ _ _ _ h15, real_of_test _ _ _ _ _ h16, real_of_test _ _ _ _ _ h17, real_of_test _ _ _ _ _ h19⟩

end Cert.Finite

end
-- ==== Proof.KernelRun.lean ====
/-
What the kernel's program leaves: every buffer that outlives the launch ends at the last boundary's contents.
-/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends with every such buffer at the contents of the last boundary: the same launch as the frame's, with
    the whole of the last state kept. -/
theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

/-- The result and the arguments at the end. -/
theorem result : θ_run defs (onTc (τ := τ) (main (F := F))) ⟨m, fun _ => 0, ρ⟩ (fun r => ∀ c : Dev nD,
      r.2.mem ((c.tc : Thread nD τ).loc main_v79) = W17 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c =>
    ⟨h c _ (mem_uc main_v79 (by decide)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c),
     (h c _ (mem_uc main_arg20 (by decide))).trans (W17_main_arg20 m ρ c),
     (h c _ (mem_uc main_arg21 (by decide))).trans (W17_main_arg21 m ρ c)⟩) (run m ρ)

end Cert.KernelRun

end
-- ==== Proof.SampleIdeal.lean ====
/-
  The sampling kernel's body and its run (Kernel2Ideal). Both counted loops compute without touching memory, so each is a fold of
  one pure step (`step1`, `step2`), and the four results are stated from those folds (`out1` … `out4`). `run` is the
  program's run: each result buffer ends at the host's last reshape of what the region leaves, the argument is
  unchanged and every semaphore ends at zero.
-/
module

public import proofs.«01_k».proof.Defs
public import proofs.«01_k».proof.Proof.Gen.Kernel2Ideal.Frame
public import proofs.«01_k».proof.Proof.Gen.Kernel2Ideal.Skeleton

@[expose] public section

set_option maxRecDepth 16384

noncomputable section

namespace Cert.Kernel2Ideal.Sample

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two loops as folds -/

/-- What the first loop carries: the distances, the places chosen so far, the chosen points' three coordinates so far,
    and the last chosen point. -/
abbrev State1 (F : FTy → Type) : Type := FVec F S2x8x512 .f32 × IVec S2x8x256 32 × FVec F S2x8x256 .f32 × FVec F S2x8x256 .f32 × FVec F S2x8x256 .f32 × FVec F S2x1x1 .f32 × FVec F S2x1x1 .f32 × FVec F S2x1x1 .f32

/-- What the second loop carries, likewise. -/
abbrev State2 (F : FTy → Type) : Type := FVec F S2x8x256 .f32 × IVec S2x8x128 32 × FVec F S2x8x128 .f32 × FVec F S2x8x128 .f32 × FVec F S2x8x128 .f32 × FVec F S2x1x1 .f32 × FVec F S2x1x1 .f32 × FVec F S2x1x1 .f32

/-- One trip of the first loop over the coordinates `x`, `y`, `z`. -/
def step1 (x y z : FVec F S2x8x512 .f32) (k : Fin k0_t1_loop.trips) (s : State1 F) : State1 F :=
  (k0_pay11 x y z s.1 s.2.2.2.2.2.1 s.2.2.2.2.2.2.1 s.2.2.2.2.2.2.2,
   k0_pay40 s.2.1 (k0_pay12 x y z k0_pay28 s.1 s.2.2.2.2.2.1 s.2.2.2.2.2.2.1 s.2.2.2.2.2.2.2) (k0_pay17 1#32 1#32 k),
   k0_pay41 s.2.2.1 (k0_pay14 x y z k0_pay28 s.1 s.2.2.2.2.2.1 s.2.2.2.2.2.2.1 s.2.2.2.2.2.2.2) (k0_pay17 1#32 1#32 k),
   k0_pay42 s.2.2.2.1 (k0_pay15 x y z k0_pay28 s.1 s.2.2.2.2.2.1 s.2.2.2.2.2.2.1 s.2.2.2.2.2.2.2) (k0_pay17 1#32 1#32 k),
   k0_pay43 s.2.2.2.2.1 (k0_pay16 x y z k0_pay28 s.1 s.2.2.2.2.2.1 s.2.2.2.2.2.2.1 s.2.2.2.2.2.2.2) (k0_pay17 1#32 1#32 k),
   k0_pay14 x y z k0_pay28 s.1 s.2.2.2.2.2.1 s.2.2.2.2.2.2.1 s.2.2.2.2.2.2.2,
   k0_pay15 x y z k0_pay28 s.1 s.2.2.2.2.2.1 s.2.2.2.2.2.2.1 s.2.2.2.2.2.2.2,
   k0_pay16 x y z k0_pay28 s.1 s.2.2.2.2.2.1 s.2.2.2.2.2.2.1 s.2.2.2.2.2.2.2)

/-- One trip of the second loop over the coordinates `x`, `y`, `z`. -/
def step2 (x y z : FVec F S2x8x256 .f32) (k : Fin k0_t2_loop.trips) (s : State2 F) : State2 F :=
  (k0_pay18 x y z s.1 s.2.2.2.2.2.1 s.2.2.2.2.2.2.1 s.2.2.2.2.2.2.2,
   k0_pay4 k0_pay48 s.2.1 (k0_pay19 x y z k0_pay47 s.1 s.2.2.2.2.2.1 s.2.2.2.2.2.2.1 s.2.2.2.2.2.2.2) (k0_pay24 1#32 1#32 k),
   k0_pay5 k0_pay48 s.2.2.1 (k0_pay21 x y z k0_pay47 s.1 s.2.2.2.2.2.1 s.2.2.2.2.2.2.1 s.2.2.2.2.2.2.2) (k0_pay24 1#32 1#32 k),
   k0_pay6 k0_pay48 s.2.2.2.1 (k0_pay22 x y z k0_pay47 s.1 s.2.2.2.2.2.1 s.2.2.2.2.2.2.1 s.2.2.2.2.2.2.2) (k0_pay24 1#32 1#32 k),
   k0_pay7 k0_pay48 s.2.2.2.2.1 (k0_pay23 x y z k0_pay47 s.1 s.2.2.2.2.2.1 s.2.2.2.2.2.2.1 s.2.2.2.2.2.2.2) (k0_pay24 1#32 1#32 k),
   k0_pay21 x y z k0_pay47 s.1 s.2.2.2.2.2.1 s.2.2.2.2.2.2.1 s.2.2.2.2.2.2.2,
   k0_pay22 x y z k0_pay47 s.1 s.2.2.2.2.2.1 s.2.2.2.2.2.2.1 s.2.2.2.2.2.2.2,
   k0_pay23 x y z k0_pay47 s.1 s.2.2.2.2.2.1 s.2.2.2.2.2.2.1 s.2.2.2.2.2.2.2)

/-- A trip of the first loop's region touches no memory and yields `step1`. -/
theorem body1_eq (arg0 : Memref sig .tc .vmem S2x3x8x512 .f32) (harg0 : arg0.IsWhole) (arg1 : Memref sig .tc .vmem S2x8x256 .i32) (harg1 : arg1.IsWhole) (arg2 : Memref sig .tc .vmem S2x3x8x256 .f32) (harg2 : arg2.IsWhole) (arg3 : Memref sig .tc .vmem S2x8x128 .i32) (harg3 : arg3.IsWhole) (arg4 : Memref sig .tc .vmem S2x3x8x128 .f32) (harg4 : arg4.IsWhole)
    (v0 v2 v4 : Vec F S2x1x8x512 .f32) (k : Fin k0_t1_loop.trips) (s : State1 F) :
    k0_t1_body arg0 harg0 arg1 harg1 arg2 harg2 arg3 harg3 arg4 harg4 v0 v2 v4 k s = .ret (step1 (k0_pay25 v0) (k0_pay26 v2) (k0_pay27 v4) k s) := by
  unfold k0_t1_body
  rw [k0_part1_eq_skeleton]
  rfl

/-- A trip of the second loop's region touches no memory and yields `step2`. -/
theorem body2_eq (arg0 : Memref sig .tc .vmem S2x3x8x512 .f32) (harg0 : arg0.IsWhole) (arg1 : Memref sig .tc .vmem S2x8x256 .i32) (harg1 : arg1.IsWhole) (arg2 : Memref sig .tc .vmem S2x3x8x256 .f32) (harg2 : arg2.IsWhole) (arg3 : Memref sig .tc .vmem S2x8x128 .i32) (harg3 : arg3.IsWhole) (arg4 : Memref sig .tc .vmem S2x3x8x128 .f32) (harg4 : arg4.IsWhole)
    (x y z : FVec F S2x8x256 .f32) (k : Fin k0_t2_loop.trips) (s : State2 F) :
    k0_t2_body arg0 harg0 arg1 harg1 arg2 harg2 arg3 harg3 arg4 harg4 x y z k0_pay47 k0_pay48 k s = .ret (step2 x y z k s) := by
  unfold k0_t2_body
  rw [k0_part2_eq_skeleton]
  rfl

/-- What the first loop leaves, from the three coordinate rows as loaded. -/
def res1 (v0 v2 v4 : Vec F S2x1x8x512 .f32) : State1 F :=
  Scf.fold (step1 (k0_pay25 v0) (k0_pay26 v2) (k0_pay27 v4))
    (k0_pay38, k0_pay34, k0_pay35 v0, k0_pay36 v2, k0_pay37 v4, k0_pay30 v0, k0_pay31 v2, k0_pay32 v4)

/-- What the second loop leaves, from the chosen points' coordinates. -/
def res2 (x y z : FVec F S2x8x256 .f32) : State2 F :=
  Scf.fold (step2 x y z)
    (k0_pay2, k0_pay53, k0_pay54 x, k0_pay55 y, k0_pay1 (k0_pay51 z) k0_pay52, k0_pay49 x, k0_pay50 y, k0_pay51 z)

/-! ## The body -/

/-- The body with its two loops replaced by what they leave: loads and stores only. -/
def straight (arg0 : Memref sig .tc .vmem S2x3x8x512 .f32) (arg1 : Memref sig .tc .vmem S2x8x256 .i32) (arg2 : Memref sig .tc .vmem S2x3x8x256 .f32) (arg3 : Memref sig .tc .vmem S2x8x128 .i32) (arg4 : Memref sig .tc .vmem S2x3x8x128 .f32) :
    Prog (TpuEff nD τ sig (Elt F) Λ₀ .tc) PUnit := do
  let v0 : Vec F S2x1x8x512 .f32 ← Prog.lift (.load arg0 (Rect.unit (s := S2x3x8x512) ![0, 0, 0, 0] S2x1x8x512.size inb_S2x3x8x512_S2x1x8x512_0_0_0_0).toLoadRect (View.loadsAt_vmem h_S2x1x8x512))
  let v2 : Vec F S2x1x8x512 .f32 ← Prog.lift (.load arg0 (Rect.unit (s := S2x3x8x512) ![0, 1, 0, 0] S2x1x8x512.size inb_S2x3x8x512_S2x1x8x512_0_1_0_0).toLoadRect (View.loadsAt_vmem h_S2x1x8x512))
  let v4 : Vec F S2x1x8x512 .f32 ← Prog.lift (.load arg0 (Rect.unit (s := S2x3x8x512) ![0, 2, 0, 0] S2x1x8x512.size inb_S2x3x8x512_S2x1x8x512_0_2_0_0).toLoadRect (View.loadsAt_vmem h_S2x1x8x512))
  let _v37 : Vec F S2x8x256 .i32 ← Prog.lift (.load arg1 (Rect.unit (s := S2x8x256) ![0, 0, 0] S2x8x256.size inb_S2x8x256_S2x8x256_0_0_0).toLoadRect (View.loadsAt_vmem h_S2x8x256))
  Prog.lift (.store arg1 (Rect.unit (s := S2x8x256) ![0, 0, 0] S2x8x256.size inb_S2x8x256_S2x8x256_0_0_0) (res1 v0 v2 v4).2.1 Finset.univ (View.stores_vmem_bits_univ h_S2x8x256 rfl) (.inl rfl))
  let _v38 : Vec F S2x1x8x256 .f32 ← Prog.lift (.load arg2 (Rect.unit (s := S2x3x8x256) ![0, 0, 0, 0] S2x1x8x256.size inb_S2x3x8x256_S2x1x8x256_0_0_0_0).toLoadRect (View.loadsAt_vmem h_S2x1x8x256))
  Prog.lift (.store arg2 (Rect.unit (s := S2x3x8x256) ![0, 0, 0, 0] S2x1x8x256.size inb_S2x3x8x256_S2x1x8x256_0_0_0_0) (k0_pay44 (res1 v0 v2 v4).2.2.1) Finset.univ (View.stores_vmem_bits_univ h_S2x1x8x256 rfl) (.inl rfl))
  let _v41 : Vec F S2x1x8x256 .f32 ← Prog.lift (.load arg2 (Rect.unit (s := S2x3x8x256) ![0, 1, 0, 0] S2x1x8x256.size inb_S2x3x8x256_S2x1x8x256_0_1_0_0).toLoadRect (View.loadsAt_vmem h_S2x1x8x256))
  Prog.lift (.store arg2 (Rect.unit (s := S2x3x8x256) ![0, 1, 0, 0] S2x1x8x256.size inb_S2x3x8x256_S2x1x8x256_0_1_0_0) (k0_pay45 (res1 v0 v2 v4).2.2.2.1) Finset.univ (View.stores_vmem_bits_univ h_S2x1x8x256 rfl) (.inl rfl))
  let _v44 : Vec F S2x1x8x256 .f32 ← Prog.lift (.load arg2 (Rect.unit (s := S2x3x8x256) ![0, 2, 0, 0] S2x1x8x256.size inb_S2x3x8x256_S2x1x8x256_0_2_0_0).toLoadRect (View.loadsAt_vmem h_S2x1x8x256))
  Prog.lift (.store arg2 (Rect.unit (s := S2x3x8x256) ![0, 2, 0, 0] S2x1x8x256.size inb_S2x3x8x256_S2x1x8x256_0_2_0_0) (k0_pay46 (res1 v0 v2 v4).2.2.2.2.1) Finset.univ (View.stores_vmem_bits_univ h_S2x1x8x256 rfl) (.inl rfl))
  let _v78 : Vec F S2x8x128 .i32 ← Prog.lift (.load arg3 (Rect.unit (s := S2x8x128) ![0, 0, 0] S2x8x128.size inb_S2x8x128_S2x8x128_0_0_0).toLoadRect (View.loadsAt_vmem h_S2x8x128))
  Prog.lift (.store arg3 (Rect.unit (s := S2x8x128) ![0, 0, 0] S2x8x128.size inb_S2x8x128_S2x8x128_0_0_0) (res2 (res1 v0 v2 v4).2.2.1 (res1 v0 v2 v4).2.2.2.1 (res1 v0 v2 v4).2.2.2.2.1).2.1 Finset.univ (View.stores_vmem_bits_univ h_S2x8x128 rfl) (.inl rfl))
  let _v79 : Vec F S2x1x8x128 .f32 ← Prog.lift (.load arg4 (Rect.unit (s := S2x3x8x128) ![0, 0, 0, 0] S2x1x8x128.size inb_S2x3x8x128_S2x1x8x128_0_0_0_0).toLoadRect (View.loadsAt_vmem h_S2x1x8x128))
  Prog.lift (.store arg4 (Rect.unit (s := S2x3x8x128) ![0, 0, 0, 0] S2x1x8x128.size inb_S2x3x8x128_S2x1x8x128_0_0_0_0) (k0_pay8 (res2 (res1 v0 v2 v4).2.2.1 (res1 v0 v2 v4).2.2.2.1 (res1 v0 v2 v4).2.2.2.2.1).2.2.1) Finset.univ (View.stores_vmem_bits_univ h_S2x1x8x128 rfl) (.inl rfl))
  let _v82 : Vec F S2x1x8x128 .f32 ← Prog.lift (.load arg4 (Rect.unit (s := S2x3x8x128) ![0, 1, 0, 0] S2x1x8x128.size inb_S2x3x8x128_S2x1x8x128_0_1_0_0).toLoadRect (View.loadsAt_vmem h_S2x1x8x128))
  Prog.lift (.store arg4 (Rect.unit (s := S2x3x8x128) ![0, 1, 0, 0] S2x1x8x128.size inb_S2x3x8x128_S2x1x8x128_0_1_0_0) (k0_pay9 (res2 (res1 v0 v2 v4).2.2.1 (res1 v0 v2 v4).2.2.2.1 (res1 v0 v2 v4).2.2.2.2.1).2.2.2.1) Finset.univ (View.stores_vmem_bits_univ h_S2x1x8x128 rfl) (.inl rfl))
  let _v85 : Vec F S2x1x8x128 .f32 ← Prog.lift (.load arg4 (Rect.unit (s := S2x3x8x128) ![0, 2, 0, 0] S2x1x8x128.size inb_S2x3x8x128_S2x1x8x128_0_2_0_0).toLoadRect (View.loadsAt_vmem h_S2x1x8x128))
  Prog.lift (.store arg4 (Rect.unit (s := S2x3x8x128) ![0, 2, 0, 0] S2x1x8x128.size inb_S2x3x8x128_S2x1x8x128_0_2_0_0) (k0_pay10 (res2 (res1 v0 v2 v4).2.2.1 (res1 v0 v2 v4).2.2.2.1 (res1 v0 v2 v4).2.2.2.2.1).2.2.2.2.1) Finset.univ (View.stores_vmem_bits_univ h_S2x1x8x128 rfl) (.inl rfl))
  pure ⟨⟩

/-- The printed body is the straight one: each loop is its fold. -/
theorem body_eq (arg0 : Memref sig .tc .vmem S2x3x8x512 .f32) (harg0 : arg0.IsWhole) (arg1 : Memref sig .tc .vmem S2x8x256 .i32) (harg1 : arg1.IsWhole) (arg2 : Memref sig .tc .vmem S2x3x8x256 .f32) (harg2 : arg2.IsWhole) (arg3 : Memref sig .tc .vmem S2x8x128 .i32) (harg3 : arg3.IsWhole) (arg4 : Memref sig .tc .vmem S2x3x8x128 .f32) (harg4 : arg4.IsWhole) :
    cc0__fps_body (F := F) arg0 harg0 arg1 harg1 arg2 harg2 arg3 harg3 arg4 harg4 = straight arg0 arg1 arg2 arg3 arg4 := by
  rw [cc0__fps_body_eq_skeleton]
  unfold cc0__fps_body_skel
  rw [k0_part3_eq_skeleton, k0_part4_eq_skeleton]
  unfold k0_part3_skel k0_part4_skel
  have h1 : ∀ v0 v2 v4 : Vec F S2x1x8x512 .f32, Scf.Loop.for k0_t1_loop k0_t1_ok (k0_pay38 (F := F), k0_pay34, k0_pay35 v0, k0_pay36 v2, k0_pay37 v4, k0_pay30 v0, k0_pay31 v2, k0_pay32 v4) (k0_t1_body arg0 harg0 arg1 harg1 arg2 harg2 arg3 harg3 arg4 harg4 v0 v2 v4) = .ret (res1 v0 v2 v4) := fun v0 v2 v4 =>
    Scf.for_pure _ _ _ _ _ _ _ fun k s => body1_eq arg0 harg0 arg1 harg1 arg2 harg2 arg3 harg3 arg4 harg4 v0 v2 v4 k s
  have h2 : ∀ x y z : FVec F S2x8x256 .f32, Scf.Loop.for k0_t2_loop k0_t2_ok (k0_pay2 (F := F), k0_pay53, k0_pay54 x, k0_pay55 y, k0_pay1 (k0_pay51 z) k0_pay52, k0_pay49 x, k0_pay50 y, k0_pay51 z) (k0_t2_body arg0 harg0 arg1 harg1 arg2 harg2 arg3 harg3 arg4 harg4 x y z k0_pay47 k0_pay48) = .ret (res2 x y z) := fun x y z =>
    Scf.for_pure _ _ _ _ _ _ _ fun k s => body2_eq arg0 harg0 arg1 harg1 arg2 harg2 arg3 harg3 arg4 harg4 x y z k s
  simp only [h1]
  simp only [bind_assoc, pure_bind, Prog.bind_ret, h2]
  rfl

abbrev a0 : Rect S2x3x8x512 := Rect.unit (s := S2x3x8x512) ![0, 0, 0, 0] S2x1x8x512.size inb_S2x3x8x512_S2x1x8x512_0_0_0_0
abbrev a1 : Rect S2x3x8x512 := Rect.unit (s := S2x3x8x512) ![0, 1, 0, 0] S2x1x8x512.size inb_S2x3x8x512_S2x1x8x512_0_1_0_0
abbrev a2 : Rect S2x3x8x512 := Rect.unit (s := S2x3x8x512) ![0, 2, 0, 0] S2x1x8x512.size inb_S2x3x8x512_S2x1x8x512_0_2_0_0
abbrev b0 : Rect S2x8x256 := Rect.unit (s := S2x8x256) ![0, 0, 0] S2x8x256.size inb_S2x8x256_S2x8x256_0_0_0
abbrev c0 : Rect S2x3x8x256 := Rect.unit (s := S2x3x8x256) ![0, 0, 0, 0] S2x1x8x256.size inb_S2x3x8x256_S2x1x8x256_0_0_0_0
abbrev c1 : Rect S2x3x8x256 := Rect.unit (s := S2x3x8x256) ![0, 1, 0, 0] S2x1x8x256.size inb_S2x3x8x256_S2x1x8x256_0_1_0_0
abbrev c2 : Rect S2x3x8x256 := Rect.unit (s := S2x3x8x256) ![0, 2, 0, 0] S2x1x8x256.size inb_S2x3x8x256_S2x1x8x256_0_2_0_0
abbrev d0 : Rect S2x8x128 := Rect.unit (s := S2x8x128) ![0, 0, 0] S2x8x128.size inb_S2x8x128_S2x8x128_0_0_0
abbrev e0 : Rect S2x3x8x128 := Rect.unit (s := S2x3x8x128) ![0, 0, 0, 0] S2x1x8x128.size inb_S2x3x8x128_S2x1x8x128_0_0_0_0
abbrev e1 : Rect S2x3x8x128 := Rect.unit (s := S2x3x8x128) ![0, 1, 0, 0] S2x1x8x128.size inb_S2x3x8x128_S2x1x8x128_0_1_0_0
abbrev e2 : Rect S2x3x8x128 := Rect.unit (s := S2x3x8x128) ![0, 2, 0, 0] S2x1x8x128.size inb_S2x3x8x128_S2x1x8x128_0_2_0_0

/-- What the first loop leaves, from the input block. -/
abbrev lvl1 (x0 : Vec F S2x3x8x512 .f32) : State1 F := res1 (View.ld x0 a0) (View.ld x0 a1) (View.ld x0 a2)
/-- What the second loop leaves, from the input block. -/
abbrev lvl2 (x0 : Vec F S2x3x8x512 .f32) : State2 F := res2 (lvl1 x0).2.2.1 (lvl1 x0).2.2.2.1 (lvl1 x0).2.2.2.2.1

/-- The four results as the stores leave them, last store first. -/
def out1 (x0 : Vec F S2x3x8x512 .f32) : Vec F S2x8x256 .i32 := View.canon [⟨b0, (lvl1 x0).2.1⟩]
def out2 (x0 : Vec F S2x3x8x512 .f32) : Vec F S2x3x8x256 .f32 := View.canon [⟨c2, k0_pay46 (lvl1 x0).2.2.2.2.1⟩, ⟨c1, k0_pay45 (lvl1 x0).2.2.2.1⟩, ⟨c0, k0_pay44 (lvl1 x0).2.2.1⟩]
def out3 (x0 : Vec F S2x3x8x512 .f32) : Vec F S2x8x128 .i32 := View.canon [⟨d0, (lvl2 x0).2.1⟩]
def out4 (x0 : Vec F S2x3x8x512 .f32) : Vec F S2x3x8x128 .f32 := View.canon [⟨e2, k0_pay10 (lvl2 x0).2.2.2.2.1⟩, ⟨e1, k0_pay9 (lvl2 x0).2.2.2.1⟩, ⟨e0, k0_pay8 (lvl2 x0).2.2.1⟩]

theorem cover1 (p0 : Vec F S2x8x256 .i32) (y : S2x8x256.Idx) :
    ∃ pc ∈ ([⟨b0, p0⟩] : List (View.Piece (Elt F) S2x8x256 .i32)), y ∈ pc.1.set :=
  View.cover_of_tiled [⟨b0, p0⟩] S2x8x256.size (by rfl) y
theorem cover2 (p0 p1 p2 : Vec F S2x1x8x256 .f32) (y : S2x3x8x256.Idx) :
    ∃ pc ∈ ([⟨c2, p2⟩, ⟨c1, p1⟩, ⟨c0, p0⟩] : List (View.Piece (Elt F) S2x3x8x256 .f32)), y ∈ pc.1.set :=
  View.cover_of_tiled [⟨c2, p2⟩, ⟨c1, p1⟩, ⟨c0, p0⟩] S2x1x8x256.size (by rfl) y
theorem cover3 (p0 : Vec F S2x8x128 .i32) (y : S2x8x128.Idx) :
    ∃ pc ∈ ([⟨d0, p0⟩] : List (View.Piece (Elt F) S2x8x128 .i32)), y ∈ pc.1.set :=
  View.cover_of_tiled [⟨d0, p0⟩] S2x8x128.size (by rfl) y
theorem cover4 (p0 p1 p2 : Vec F S2x1x8x128 .f32) (y : S2x3x8x128.Idx) :
    ∃ pc ∈ ([⟨e2, p2⟩, ⟨e1, p1⟩, ⟨e0, p0⟩] : List (View.Piece (Elt F) S2x3x8x128 .f32)), y ∈ pc.1.set :=
  View.cover_of_tiled [⟨e2, p2⟩, ⟨e1, p1⟩, ⟨e0, p0⟩] S2x1x8x128.size (by rfl) y

set_option maxHeartbeats 1000000 in
/-- The straight body on whole staging buffers leaves the input as it was and each result at `out1` … `out4` of it. -/
theorem sound_kernel (c : Dev nD) (E : Set ℕ) (arg0 : Memref sig .tc .vmem S2x3x8x512 .f32) (harg0 : arg0.IsWhole) (arg1 : Memref sig .tc .vmem S2x8x256 .i32) (harg1 : arg1.IsWhole) (arg2 : Memref sig .tc .vmem S2x3x8x256 .f32) (harg2 : arg2.IsWhole) (arg3 : Memref sig .tc .vmem S2x8x128 .i32) (harg3 : arg3.IsWhole) (arg4 : Memref sig .tc .vmem S2x3x8x128 .f32) (harg4 : arg4.IsWhole)
    (x0 : Vec F S2x3x8x512 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare (out1 x0) ∗ owns (c : Thread nD τ) arg2 fullShare (out2 x0) ∗ owns (c : Thread nD τ) arg3 fullShare (out3 x0) ∗ owns (c : Thread nD τ) arg4 fullShare (out4 x0)) -∗ K ⟨⟩))
      ⊢ wp frame (wpE (defs₀ (F := F)) Variants.none c none) E (cc0__fps_body arg0 harg0 arg1 harg1 arg2 harg2 arg3 harg3 arg4 harg4) K := by
  rw [body_eq]
  unfold straight
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1 _)
  isplitl [H2]
  · iexists _; isplitr
    swap; · iexact H2
    ipureintro
    exact View.read_writes_eq_canon _ _ _ (cover2 _ _ _)
  isplitl [H3]
  · iexists _; isplitr
    swap; · iexact H3
    ipureintro
    exact View.read_writes_eq_canon _ _ _ (cover3 _)
  iexists _; isplitr
  swap; · iexact H4
  ipureintro
  exact View.read_writes_eq_canon _ _ _ (cover4 _ _ _)

/-! ## The pipeline's proof data and the run -/

variable (m : (ℓ : Loc nD τ sig) → Buf (Elt F) ℓ) (ρ : Dev nD → PrngReg)

/-- The region's proof data: the arrays as the region finds them, and after the body the input's buffer at its block and
    the results' at `out1` … `out4` of it. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => out1 (iblk m c 0 t)
    | ⟨2, _⟩ => out2 (iblk m c 0 t)
    | ⟨3, _⟩ => out3 (iblk m c 0 t)
    | ⟨4, _⟩ => out4 (iblk m c 0 t)
  Φ _ := Pipeline.ΦA spec0 c
  q _ := fullShare
  owed _ := 0

theorem A_eq (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = out1 (iblk m c 0 t) := by dsimp only [dat]
theorem after_2 (c : Dev nD) (t : Fin cfg0.N) : (dat m c).after 2 t = out2 (iblk m c 0 t) := by dsimp only [dat]
theorem after_3 (c : Dev nD) (t : Fin cfg0.N) : (dat m c).after 3 t = out3 (iblk m c 0 t) := by dsimp only [dat]
theorem after_4 (c : Dev nD) (t : Fin cfg0.N) : (dat m c).after 4 t = out4 (iblk m c 0 t) := by dsimp only [dat]
theorem before_0 (c : Dev nD) (t : Fin cfg0.N) (d) : (dat m c).before 0 t d = iblk m c 0 t :=
  before0_0_of m (dat m c) (A_eq m c 0) (after_0 m c) t d

/-- What the body is called with at a point, window by window, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d)))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t))

/-- The body at the point: the input's buffer holds its block, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [show (dat m c).Φ t.succ = (dat m c).Φ t.castSucc from rfl,
    show (dat m c).owesAt () t.succ = (dat m c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body as the point spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- The proof data, pipeline by pipeline: there is one. -/
def dats (p : Fin 1) (c : Dev nD) : Dat τ (Elt F) Unit ℕ (UR sig nD τ) ℕ (cfgs p) c := match p with
  | ⟨0, _⟩ => dat m c

/-- The run: the region's arrays end at what the proof data say, every other buffer at the host operations' values,
    and every semaphore at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := fun c => (body_obligation m c).loose) (hshare := fun c w => by fin_cases w <;> rfl) (howed := fun _ _ => rfl)
    (V₀ := V0 m) (opss := [hostOps1]) (hsub := sfx_sub) (hfresh := sfx_fresh) (hkeep := sfx_keeps)
    (hmain := hmain m Variants.none) (hA := fun c w => A_eq m c w) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.Kernel2Ideal.Sample

end
-- ==== Proof.Sampling.lean ====
/-
  Farthest point sampling of one point set, as a sequence: the first point, and again and again the first of the points
  farthest from all taken so far. Beside it, how an array program finds the first greatest entry: by reductions along the
  axes of a plane, and by a fold over pairs of a value and a place.
-/
module

public import proofs.«01_k».proof.Proof.Select
public import Idealize.ShloMosaic.Lib.Pointwise

@[expose] public section

set_option maxRecDepth 16384

noncomputable section

namespace Cert.Sampling

open Idealize.ShloMosaic

/-! ## The sequence of points taken -/

section Sequence
variable {N : ℕ}

/-- `p` is the first of the places whose entry is greatest. -/
def IsFirstMax (f : Fin N → EReal) (p : Fin N) : Prop := (∀ q, f q ≤ f p) ∧ ∀ q, q < p → f q < f p

theorem exists_isFirstMax [NeZero N] (f : Fin N → EReal) : ∃ p, IsFirstMax f p := by
  obtain ⟨p, h1, h2⟩ := Select.exists_isFirstMin fun q => -(f q)
  exact ⟨p, fun q => EReal.neg_le_neg_iff.mp (h1 q), fun q hq => EReal.neg_lt_neg_iff.mp (h2 q hq)⟩

/-- There is only one first greatest place. -/
theorem IsFirstMax.unique {f : Fin N → EReal} {p p' : Fin N} (h : IsFirstMax f p) (h' : IsFirstMax f p') : p = p' := by
  rcases lt_trichotomy p p' with hlt | e | hlt
  · exact absurd (h'.2 _ hlt) (not_lt.mpr (h.1 _))
  · exact e
  · exact absurd (h.2 _ hlt) (not_lt.mpr (h'.1 _))

variable [NeZero N]

/-- The first place whose entry is greatest. -/
def firstMax (f : Fin N → EReal) : Fin N := Classical.choose (exists_isFirstMax f)

theorem firstMax_spec (f : Fin N → EReal) : IsFirstMax f (firstMax f) := Classical.choose_spec (exists_isFirstMax f)

omit [NeZero N] in
/-- The squared distance of two points of the set. -/
def dist (X : Fin N → Fin 3 → EReal) (n m : Fin N) : EReal :=
  (X n 0 - X m 0) * (X n 0 - X m 0) + (X n 1 - X m 1) * (X n 1 - X m 1) + (X n 2 - X m 2) * (X n 2 - X m 2)

/-- The distance every point starts with. -/
def far0 : EReal := Ideal.ofBits .f32 0x501502F9#32

/-- After `k` rounds: each point's least distance to the points taken, and the point taken last. -/
def rounds (X : Fin N → Fin 3 → EReal) : ℕ → (Fin N → EReal) × Fin N
  | 0 => (fun _ => far0, 0)
  | k + 1 =>
    (fun n => min ((rounds X k).1 n) (dist X n (rounds X k).2),
      firstMax fun n => min ((rounds X k).1 n) (dist X n (rounds X k).2))

/-- The point taken in round `k`. -/
abbrev taken (X : Fin N → Fin 3 → EReal) (k : ℕ) : Fin N := (rounds X k).2

/-- The least distances after `k` rounds. -/
abbrev least (X : Fin N → Fin 3 → EReal) (k : ℕ) : Fin N → EReal := (rounds X k).1

theorem least_succ (X : Fin N → Fin 3 → EReal) (k : ℕ) (n : Fin N) :
    least X (k + 1) n = min (least X k n) (dist X n (taken X k)) := rfl

theorem taken_succ (X : Fin N → Fin 3 → EReal) (k : ℕ) : taken X (k + 1) = firstMax (least X (k + 1)) := rfl

theorem isFirstMax_taken (X : Fin N → Fin 3 → EReal) (k : ℕ) : IsFirstMax (least X (k + 1)) (taken X (k + 1)) :=
  firstMax_spec _

end Sequence

/-! ## By reductions of a plane -/

/-- The shape facts of a plane's reductions. -/
structure Facts (L : ℕ) : Prop where
  r2 : (⟨3, ![2, 8, L]⟩ : Shape).Reduces [2] ⟨2, ![2, 8]⟩
  c1 : (⟨2, ![2, 8]⟩ : Shape).ShapeCasts ⟨3, ![2, 8, 1]⟩
  r1 : (⟨3, ![2, 8, 1]⟩ : Shape).Reduces [1] ⟨2, ![2, 1]⟩
  c2 : (⟨2, ![2, 1]⟩ : Shape).ShapeCasts ⟨3, ![2, 1, 1]⟩
  bc : (⟨3, ![2, 1, 1]⟩ : Shape).Broadcasts ⟨3, ![2, 8, L]⟩

section Plane
variable {L N : ℕ} (H : Facts L)

/-- The place in the point set of row `r`, column `l` of a plane. -/
def at8 (hN : 8 * L = N) (r : Fin 8) (l : Fin L) : Fin N :=
  ⟨r.val * L + l.val, by
    have := r.isLt; have := l.isLt
    have : r.val * L ≤ 7 * L := Nat.mul_le_mul_right L (by omega)
    omega⟩

theorem at8_surj (hN : 8 * L = N) (p : Fin N) : ∃ r l, at8 hN r l = p := by
  have hp := p.isLt
  have hL : 0 < L := by
    rcases Nat.eq_zero_or_pos L with h | h
    · subst h; omega
    · exact h
  refine ⟨⟨p.val / L, Nat.div_lt_of_lt_mul (by rw [Nat.mul_comm]; omega)⟩, ⟨p.val % L, Nat.mod_lt _ hL⟩, Fin.ext ?_⟩
  show p.val / L * L + p.val % L = p.val
  rw [Nat.mul_comm]; exact Nat.div_add_mod p.val L

theorem at8_inj (hN : 8 * L = N) {r r' : Fin 8} {l l' : Fin L} (h : at8 hN r l = at8 hN r' l') : r = r' ∧ l = l' := by
  have h := congrArg Fin.val h
  have hl := l.isLt; have hl' := l'.isLt
  change r.val * L + l.val = r'.val * L + l'.val at h
  have hL : 0 < L := by omega
  have e1 : (r.val * L + l.val) / L = r.val := by
    rw [Nat.mul_comm, Nat.mul_add_div hL, Nat.div_eq_of_lt hl]; rfl
  have e2 : (r'.val * L + l'.val) / L = r'.val := by
    rw [Nat.mul_comm, Nat.mul_add_div hL, Nat.div_eq_of_lt hl']; rfl
  have er : r.val = r'.val := by rw [← e1, h, e2]
  refine ⟨Fin.ext er, Fin.ext ?_⟩
  rw [er] at h; omega

/-- A value for each of the two point sets, spread over the plane. -/
theorem spread_apply {α : Type} (x : (⟨3, ![2, 1, 1]⟩ : Shape).Idx → α) (h : (⟨3, ![2, 1, 1]⟩ : Shape).Broadcasts ⟨3, ![2, 8, L]⟩)
    (b : Fin 2) (r : Fin 8) (l : Fin L) :
    broadcastTo ⟨3, ![2, 8, L]⟩ x h (ix3 b r l) = x (ix3 b 0 0) := by
  refine broadcastTo_apply _ h (ix3 b r l) (ix3 b (0 : Fin 1) (0 : Fin 1)) fun ax => ?_
  match ax with
  | ⟨0, _⟩ => rfl
  | ⟨1, _⟩ => rfl
  | ⟨2, _⟩ => rfl

/-- A plane reduced along its columns and then along its rows. -/
theorem cast1_apply {α : Type} (x : (⟨2, ![2, 8]⟩ : Shape).Idx → α) (h : (⟨2, ![2, 8]⟩ : Shape).ShapeCasts ⟨3, ![2, 8, 1]⟩)
    (b : Fin 2) (r : Fin 8) : shapeCast ⟨3, ![2, 8, 1]⟩ x h (ix3 b r 0) = x (ix2 b r) := by
  pointwise

theorem cast2_apply {α : Type} (x : (⟨2, ![2, 1]⟩ : Shape).Idx → α) (h : (⟨2, ![2, 1]⟩ : Shape).ShapeCasts ⟨3, ![2, 1, 1]⟩)
    (b : Fin 2) : shapeCast ⟨3, ![2, 1, 1]⟩ x h (ix3 b 0 0) = x (ix2 b 0) := by
  pointwise

/-- The greatest entry of each point set's plane. -/
def maxAll (d : FVec Ideal ⟨3, ![2, 8, L]⟩ .f32) : FVec Ideal ⟨3, ![2, 1, 1]⟩ .f32 :=
  shapeCast ⟨3, ![2, 1, 1]⟩ (multiReduction .maximumf [1] ⟨2, ![2, 1]⟩
    (shapeCast ⟨3, ![2, 8, 1]⟩ (multiReduction .maximumf [2] ⟨2, ![2, 8]⟩ d 0xFF800000#32 H.r2 (.inl rfl) rfl) H.c1)
    0xFF800000#32 H.r1 (.inl rfl) rfl) H.c2

/-- The least word of each point set's plane. -/
def minAll (v : IVec ⟨3, ![2, 8, L]⟩ 32) : IVec ⟨3, ![2, 1, 1]⟩ 32 :=
  shapeCast ⟨3, ![2, 1, 1]⟩ (multiReductionI .minsi [1] ⟨2, ![2, 1]⟩
    (shapeCast ⟨3, ![2, 8, 1]⟩ (multiReductionI .minsi [2] ⟨2, ![2, 8]⟩ v 2147483647#32 H.r2 rfl) H.c1)
    2147483647#32 H.r1 rfl) H.c2

/-- The sum of each point set's plane. -/
def sumAll (d : FVec Ideal ⟨3, ![2, 8, L]⟩ .f32) : FVec Ideal ⟨3, ![2, 1, 1]⟩ .f32 :=
  shapeCast ⟨3, ![2, 1, 1]⟩ (multiReduction .add [1] ⟨2, ![2, 1]⟩
    (shapeCast ⟨3, ![2, 8, 1]⟩ (multiReduction .add [2] ⟨2, ![2, 8]⟩ d 0x00000000#32 H.r2 (.inl rfl) rfl) H.c1)
    0x00000000#32 H.r1 (.inl rfl) rfl) H.c2

theorem negInf_eq : (Ideal.ofBits .f32 0xFF800000#32 : EReal) = ⊥ := by
  simp [Ideal.ofBits, Ideal.ieee]

theorem maxAll_apply (d : FVec Ideal ⟨3, ![2, 8, L]⟩ .f32) (b : Fin 2) :
    maxAll H d (ix3 b 0 0)
      = Finset.univ.fold max ⊥ fun r : Fin 8 => Finset.univ.fold max ⊥ fun l : Fin L => d (ix3 b r l) := by
  unfold maxAll
  pointwise
  simp only [negInf_eq]

theorem minAll_apply (v : IVec ⟨3, ![2, 8, L]⟩ 32) (b : Fin 2) :
    minAll H v (ix3 b 0 0)
      = Finset.univ.fold IntOp.minsi 2147483647#32 fun r : Fin 8 =>
          Finset.univ.fold IntOp.minsi 2147483647#32 fun l : Fin L => v (ix3 b r l) := by
  unfold minAll
  pointwise

theorem sumAll_apply (d : FVec Ideal ⟨3, ![2, 8, L]⟩ .f32) (b : Fin 2) :
    sumAll H d (ix3 b 0 0) = ∑ r : Fin 8, ∑ l : Fin L, d (ix3 b r l) := by
  unfold sumAll
  pointwise

/-! The reductions at a plane that holds a function of the places. -/

variable (hN : 8 * L = N)

theorem maxAll_eq (d : FVec Ideal ⟨3, ![2, 8, L]⟩ .f32) (b : Fin 2) (D : Fin N → EReal)
    (hd : ∀ r l, d (ix3 b r l) = D (at8 hN r l)) (p : Fin N) (hp : IsFirstMax D p) : maxAll H d (ix3 b 0 0) = D p := by
  rw [maxAll_apply]
  obtain ⟨r, l, e⟩ := at8_surj hN p
  refine le_antisymm ?_ ?_
  · refine Finset.fold_max_le _ |>.mpr ⟨bot_le, fun r _ => Finset.fold_max_le _ |>.mpr ⟨bot_le, fun l _ => ?_⟩⟩
    rw [hd]; exact hp.1 _
  · refine Finset.le_fold_max _ |>.mpr (Or.inr ⟨r, Finset.mem_univ _, Finset.le_fold_max _ |>.mpr (Or.inr ⟨l, Finset.mem_univ _, ?_⟩)⟩)
    rw [hd, e]

theorem toInt_fold {ι : Type} (s : Finset ι) (f : ι → BitVec 32) :
    (s.fold IntOp.minsi 2147483647#32 f).toInt = s.fold min 2147483647 fun i => (f i).toInt := by
  have hom := Finset.fold_hom (op := IntOp.minsi (w := 32)) (op' := (min : ℤ → ℤ → ℤ)) (s := s) (f := f)
    (b := 2147483647#32) (m := BitVec.toInt) (fun a b => SortNet.toInt_minsi a b)
  rw [← hom]; rfl

/-- The least of the words of the places that hold the greatest entry. -/
theorem minAll_eq (hs : N < 2147483647) (v : IVec ⟨3, ![2, 8, L]⟩ 32) (b : Fin 2) (D : Fin N → EReal) (p : Fin N)
    (hp : IsFirstMax D p)
    (hv : ∀ r l, v (ix3 b r l) = if D (at8 hN r l) = D p then BitVec.ofNat 32 (at8 hN r l).val else BitVec.ofNat 32 N) :
    minAll H v (ix3 b 0 0) = BitVec.ofNat 32 p.val := by
  rw [minAll_apply]
  obtain ⟨r, l, e⟩ := at8_surj hN p
  have hpi : (BitVec.ofNat 32 p.val).toInt = p.val := Select.toInt_ofNat _ (by have := p.isLt; omega)
  have hNi : (BitVec.ofNat 32 N).toInt = N := Select.toInt_ofNat _ (by omega)
  apply BitVec.eq_of_toInt_eq
  rw [toInt_fold, hpi]
  simp only [toInt_fold]
  refine le_antisymm ?_ ?_
  · refine Finset.fold_min_le _ |>.mpr (Or.inr ⟨r, Finset.mem_univ _, Finset.fold_min_le _ |>.mpr (Or.inr ⟨l, Finset.mem_univ _, ?_⟩)⟩)
    rw [hv, e, if_pos rfl, hpi]
  · have hlast : (p.val : ℤ) ≤ 2147483647 := by have := p.isLt; omega
    refine Finset.le_fold_min _ |>.mpr ⟨hlast, fun r _ => Finset.le_fold_min _ |>.mpr ⟨hlast, fun l _ => ?_⟩⟩
    rw [hv]
    split
    · rename_i h
      rw [Select.toInt_ofNat _ (by have := (at8 hN r l).isLt; omega)]
      have : p ≤ at8 hN r l := by
        by_contra hlt
        exact absurd (hp.2 _ (not_le.mp hlt)) (by rw [h]; exact lt_irrefl _)
      exact_mod_cast this
    · rw [hNi]; have := p.isLt; omega

/-- The place of the first greatest entry, as reductions find it. -/
def placeOf (n : BitVec 32) (v : IVec ⟨3, ![2, 8, L]⟩ 32) (d : FVec Ideal ⟨3, ![2, 8, L]⟩ .f32) : IVec ⟨3, ![2, 1, 1]⟩ 32 :=
  minAll H (select (cmpf .oeq d (broadcastTo ⟨3, ![2, 8, L]⟩ (maxAll H d) H.bc)) v (broadcast ⟨3, ![2, 8, L]⟩ n))

/-- The mark of a place. -/
def hitAt (v : IVec ⟨3, ![2, 8, L]⟩ 32) (p : IVec ⟨3, ![2, 1, 1]⟩ 32) : IVec ⟨3, ![2, 8, L]⟩ 1 :=
  cmpi .eq v (broadcastTo ⟨3, ![2, 8, L]⟩ p H.bc)

/-- The entry at the mark, as a sum finds it. -/
def valueAt (g : IVec ⟨3, ![2, 8, L]⟩ 1) (x : FVec Ideal ⟨3, ![2, 8, L]⟩ .f32) : FVec Ideal ⟨3, ![2, 1, 1]⟩ .f32 :=
  sumAll H (select g x (broadcast ⟨3, ![2, 8, L]⟩ (Scalar.ofBits .f32 0x00000000#32 : Ideal .f32)))

theorem placeOf_eq (hs : N < 2147483647) (v : IVec ⟨3, ![2, 8, L]⟩ 32) (d : FVec Ideal ⟨3, ![2, 8, L]⟩ .f32) (b : Fin 2)
    (hv : ∀ r l, v (ix3 b r l) = BitVec.ofNat 32 (at8 hN r l).val) (D : Fin N → EReal)
    (hd : ∀ r l, d (ix3 b r l) = D (at8 hN r l)) (p : Fin N) (hp : IsFirstMax D p) :
    placeOf H (BitVec.ofNat 32 N) v d (ix3 b 0 0) = BitVec.ofNat 32 p.val := by
  refine minAll_eq H hN hs _ b D p hp fun r l => ?_
  show Scalar.select (FloatOps.cmpf (F := Ideal) .oeq (d (ix3 b r l)) (broadcastTo ⟨3, ![2, 8, L]⟩ (maxAll H d) H.bc (ix3 b r l)))
    (v (ix3 b r l)) (BitVec.ofNat 32 N) = _
  rw [spread_apply, maxAll_eq H hN d b D hd p hp, hd, hv]
  show Scalar.select (BitVec.ofBool (decide (D (at8 hN r l) = D p))) _ _ = _
  by_cases h : D (at8 hN r l) = D p <;> simp [h, Scalar.select]

theorem valueAt_eq (hs : N < 2147483647) (v : IVec ⟨3, ![2, 8, L]⟩ 32) (q : IVec ⟨3, ![2, 1, 1]⟩ 32) (x : FVec Ideal ⟨3, ![2, 8, L]⟩ .f32)
    (b : Fin 2) (hv : ∀ r l, v (ix3 b r l) = BitVec.ofNat 32 (at8 hN r l).val) (p : Fin N)
    (hq : q (ix3 b 0 0) = BitVec.ofNat 32 p.val) (X : Fin N → EReal) (hx : ∀ r l, x (ix3 b r l) = X (at8 hN r l)) :
    valueAt H (hitAt H v q) x (ix3 b 0 0) = X p := by
  unfold valueAt
  rw [sumAll_apply]
  have h : ∀ r l, select (hitAt H v q) x (broadcast ⟨3, ![2, 8, L]⟩ (Scalar.ofBits .f32 0x00000000#32 : Ideal .f32)) (ix3 b r l)
      = if at8 hN r l = p then X p else 0 := fun r l => by
    show Scalar.select (IntOp.cmpi .eq (v (ix3 b r l)) (broadcastTo ⟨3, ![2, 8, L]⟩ q H.bc (ix3 b r l))) (x (ix3 b r l))
      (Ideal.ofBits .f32 0x00000000#32) = _
    haveI : NeZero N := ⟨by have := p.isLt; omega⟩
    rw [spread_apply, hq, hv, hx, Select.cmpi_eq_firstMin hs, Ideal.ofBits_zero_f32]
    by_cases e : at8 hN r l = p
    · rw [if_pos e, if_pos e, e]; rfl
    · rw [if_neg e, if_neg e]; rfl
  simp only [h]
  obtain ⟨r, l, e⟩ := at8_surj hN p
  rw [Finset.sum_eq_single r, Finset.sum_eq_single l, if_pos e]
  · intro l' _ hne
    exact if_neg fun e' => hne (at8_inj hN (e'.trans e.symm)).2
  · exact fun hne => absurd (Finset.mem_univ _) hne
  · intro r' _ hne
    exact Finset.sum_eq_zero fun l' _ => if_neg fun e' => hne (at8_inj hN (e'.trans e.symm)).1
  · exact fun hne => absurd (Finset.mem_univ _) hne

end Plane

/-! ## By a fold over pairs -/

section Pairs
variable {N : ℕ}

/-- Of two pairs of a value and a place, the one with the greater value; at equal values, with the smaller place. -/
def better (a b : EReal × BitVec 32) : EReal × BitVec 32 :=
  if b.1 < a.1 ∨ (a.1 = b.1 ∧ a.2.toInt < b.2.toInt) then a else b

theorem better_foldl (D : Fin N → EReal) (hs : N < 2147483648) (l : List (Fin N)) (hl : l.Pairwise (· < ·))
    (seen : List (Fin N)) (hb : ∀ a ∈ seen, ∀ c ∈ l, a < c) (a : EReal × BitVec 32)
    (ha : (∃ p ∈ seen, a = (D p, BitVec.ofNat 32 p.val) ∧ (∀ q ∈ seen, D q ≤ D p ∧ (q < p → D q < D p)))
      ∨ (a = (⊥, 0#32) ∧ ∀ q ∈ seen, D q = ⊥ ∧ 0 < q.val)) :
    (∃ p ∈ seen ++ l, (l.map fun n => (D n, BitVec.ofNat 32 n.val)).foldl better a = (D p, BitVec.ofNat 32 p.val)
        ∧ (∀ q ∈ seen ++ l, D q ≤ D p ∧ (q < p → D q < D p)))
      ∨ ((l.map fun n => (D n, BitVec.ofNat 32 n.val)).foldl better a = (⊥, 0#32) ∧ ∀ q ∈ seen ++ l, D q = ⊥ ∧ 0 < q.val) := by
  induction l generalizing seen a with
  | nil => simpa using ha
  | cons c l ih =>
    rw [List.pairwise_cons] at hl
    have e : seen ++ c :: l = (seen ++ [c]) ++ l := by simp
    rw [e, List.map_cons, List.foldl_cons]
    have hci : (BitVec.ofNat 32 c.val).toInt = c.val := Select.toInt_ofNat _ (by have := c.isLt; omega)
    refine ih hl.2 (seen ++ [c]) ?_ _ ?_
    · intro a ha d hd
      rcases List.mem_append.mp ha with h | h
      · exact hb a h d (List.mem_cons_of_mem _ hd)
      · rw [List.mem_singleton.mp h]; exact hl.1 d hd
    · rcases ha with ⟨p, hp, rfl, hq⟩ | ⟨rfl, hq⟩
      · have hpc : p < c := hb p hp c List.mem_cons_self
        have hpi : (BitVec.ofNat 32 p.val).toInt = p.val := Select.toInt_ofNat _ (by have := p.isLt; omega)
        unfold better
        simp only [hci, hpi]
        by_cases h : D c ≤ D p
        · rw [if_pos (by
            rcases lt_or_eq_of_le h with h | h
            · exact Or.inl h
            · exact Or.inr ⟨h.symm, by exact_mod_cast hpc⟩)]
          refine Or.inl ⟨p, List.mem_append_left _ hp, rfl, fun q hq' => ?_⟩
          rcases List.mem_append.mp hq' with h' | h'
          · exact hq q h'
          · rw [List.mem_singleton.mp h']
            exact ⟨h, fun hlt => absurd hlt (not_lt.mpr hpc.le)⟩
        · have hlt := not_le.mp h
          rw [if_neg (by rintro (h' | h'); exacts [h h'.le, h h'.1.symm.le])]
          refine Or.inl ⟨c, by simp, rfl, fun q hq' => ?_⟩
          rcases List.mem_append.mp hq' with h' | h'
          · have := lt_of_le_of_lt (hq q h').1 hlt
            exact ⟨this.le, fun _ => this⟩
          · rw [List.mem_singleton.mp h']
            exact ⟨le_refl _, fun hl => absurd hl (lt_irrefl _)⟩
      · unfold better
        have h0 : (0#32 : BitVec 32).toInt = 0 := rfl
        simp only [hci, h0, not_lt_bot, false_or]
        by_cases h : ⊥ = D c ∧ (0 : ℤ) < c.val
        · rw [if_pos h]
          refine Or.inr ⟨rfl, fun q hq' => ?_⟩
          rcases List.mem_append.mp hq' with h' | h'
          · exact hq q h'
          · rw [List.mem_singleton.mp h']
            exact ⟨h.1.symm, by exact_mod_cast h.2⟩
        · rw [if_neg h]
          refine Or.inl ⟨c, by simp, rfl, fun q hq' => ?_⟩
          rcases List.mem_append.mp hq' with h' | h'
          · have hq0 := hq q h'
            have hqc : q < c := hb q h' c List.mem_cons_self
            have : D q < D c := by
              rw [hq0.1]
              refine bot_lt_iff_ne_bot.mpr fun e => h ⟨e.symm, ?_⟩
              have : q.val < c.val := hqc
              omega
            exact ⟨this.le, fun _ => this⟩
          · rw [List.mem_singleton.mp h']
            exact ⟨le_refl _, fun hl => absurd hl (lt_irrefl _)⟩

/-- The fold over all places in order, from minus infinity at place 0, ends at the first greatest. -/
theorem better_fold_all [NeZero N] (D : Fin N → EReal) (hs : N < 2147483648) (l : List (Fin N)) (hl : l.Pairwise (· < ·))
    (hall : ∀ n, n ∈ l) (p : Fin N) (hp : IsFirstMax D p) :
    (l.map fun n => (D n, BitVec.ofNat 32 n.val)).foldl better (⊥, 0#32) = (D p, BitVec.ofNat 32 p.val) := by
  rcases better_foldl D hs l hl [] (by simp) (⊥, 0#32) (Or.inr ⟨rfl, by simp⟩) with ⟨p', -, e, h⟩ | ⟨-, h⟩
  · have : IsFirstMax D p' := ⟨fun q => (h q (by simpa using hall q)).1, fun q => (h q (by simpa using hall q)).2⟩
    rw [e, hp.unique this]
  · exact absurd (h 0 (by simpa using hall 0)).2 (by simp)

/-- The row of pairs a reduction over the last axis folds. -/
theorem fiber_eq (x : (⟨2, ![2, N]⟩ : Shape).Idx → EReal) (y : (⟨2, ![2, N]⟩ : Shape).Idx → BitVec 32)
    (h : (⟨2, ![2, N]⟩ : Shape).ReducesTo [1] ⟨1, ![2]⟩) (b : Fin 2) (D : Fin N → EReal)
    (hx : ∀ n, x (ix2 b n) = D n) (hy : ∀ n, y (ix2 b n) = BitVec.ofNat 32 n.val) :
    ∃ l : List (Fin N), l.Pairwise (· < ·) ∧ (∀ n, n ∈ l)
      ∧ Host.argReduceFiber x y h (ix1 b) = l.map fun n => (D n, BitVec.ofNat 32 n.val) := by
  have hdrop : ∀ i : (⟨2, ![2, N]⟩ : Shape).Idx, h.drop i = ix1 b ↔ i 0 = b := fun i => by
    have hv : (h.drop i 0).val = (i 0).val := rfl
    constructor
    · intro e
      refine Fin.ext ?_
      rw [← hv, e]; rfl
    · intro e
      funext a
      match a with
      | ⟨0, _⟩ => exact Fin.ext (hv.trans (congrArg Fin.val e))
  have hix : ∀ i : (⟨2, ![2, N]⟩ : Shape).Idx, i 0 = b → i = ix2 b (i 1) := fun i e => by
    funext a
    match a with
    | ⟨0, _⟩ => exact e
    | ⟨1, _⟩ => rfl
  let col : Fin (⟨2, ![2, N]⟩ : Shape).numel → Fin N := fun n => (⟨2, ![2, N]⟩ : Shape).rowMajor.symm n 1
  refine ⟨((List.finRange (⟨2, ![2, N]⟩ : Shape).numel).filter fun n => h.drop ((⟨2, ![2, N]⟩ : Shape).rowMajor.symm n) = ix1 b).map col,
    ?_, ?_, ?_⟩
  · rw [List.pairwise_map]
    refine List.Pairwise.imp_of_mem ?_ ((List.pairwise_lt_finRange _).filter _)
    intro n m hn hm hlt
    have hn := (hdrop _).mp (of_decide_eq_true (List.mem_filter.mp hn).2)
    have hm := (hdrop _).mp (of_decide_eq_true (List.mem_filter.mp hm).2)
    have e1 : ((⟨2, ![2, N]⟩ : Shape).rowMajor ((⟨2, ![2, N]⟩ : Shape).rowMajor.symm n)).val = n.val := by rw [Equiv.apply_symm_apply]
    have e2 : ((⟨2, ![2, N]⟩ : Shape).rowMajor ((⟨2, ![2, N]⟩ : Shape).rowMajor.symm m)).val = m.val := by rw [Equiv.apply_symm_apply]
    rw [Shape.rowMajor_val_two, hn] at e1
    rw [Shape.rowMajor_val_two, hm] at e2
    have : n.val < m.val := hlt
    show ((⟨2, ![2, N]⟩ : Shape).rowMajor.symm n 1).val < ((⟨2, ![2, N]⟩ : Shape).rowMajor.symm m 1).val
    omega
  · intro n
    refine List.mem_map.mpr ⟨(⟨2, ![2, N]⟩ : Shape).rowMajor (ix2 b n), List.mem_filter.mpr ⟨List.mem_finRange _, ?_⟩, ?_⟩
    · rw [Equiv.symm_apply_apply]
      exact decide_eq_true ((hdrop _).mpr rfl)
    · show (⟨2, ![2, N]⟩ : Shape).rowMajor.symm _ 1 = n
      rw [Equiv.symm_apply_apply]; rfl
  · unfold Host.argReduceFiber
    rw [List.map_map]
    refine List.map_congr_left fun n hn => ?_
    have hn := (hdrop _).mp (of_decide_eq_true (List.mem_filter.mp hn).2)
    show (x _, y _) = (D _, _)
    rw [hix _ hn]
    exact Prod.ext (hx _) (hy _)

/-- A reduction over the last axis by the better of two pairs finds the first greatest entry. -/
theorem argReduce_eq [NeZero N] (hs : N < 2147483648) {u : Shape} (f : EReal × BitVec 32 → EReal × BitVec 32 → EReal × BitVec 32)
    (hf : f = better) (x : FVec Ideal ⟨2, ![2, N]⟩ .f32) (y : (⟨2, ![2, N]⟩ : Shape).Idx → BitVec 32)
    (ix : u.Idx → EReal) (iy : u.Idx → BitVec 32) (h : (⟨2, ![2, N]⟩ : Shape).ReducesTo [1] ⟨1, ![2]⟩) (hu : 0 < u.numel)
    (hix : ix (Shape.Idx.first hu) = ⊥) (hiy : iy (Shape.Idx.first hu) = 0#32) (b : Fin 2) (D : Fin N → EReal)
    (hx : ∀ n, x (ix2 b n) = D n) (hy : ∀ n, y (ix2 b n) = BitVec.ofNat 32 n.val) (p : Fin N) (hp : IsFirstMax D p) :
    Host.argReduce (F := Ideal) (φ := .f32) f x y ix iy h hu (ix1 b) = (D p, BitVec.ofNat 32 p.val) := by
  subst hf
  rw [Ideal.argReduce_eq_reduce2, Host.reduce2_eq_foldl_fiber, hix, hiy]
  obtain ⟨l, hl, hall, e⟩ := fiber_eq x y h b D hx hy
  rw [e]
  exact better_fold_all D hs l hl hall p hp

end Pairs

end Cert.Sampling

end
-- ==== Proof.SamplePlane.lean ====
/-
  One round of farthest point sampling on planes of eight rows, as array functions, and what every carried array holds
  after `k` rounds.
-/
module

public import proofs.«01_k».proof.Proof.Sampling
public import Idealize.ShloMosaic.Lib.Scf

@[expose] public section

set_option maxRecDepth 16384

noncomputable section

namespace Cert.Sampling

open Idealize.ShloMosaic

/-- A property that every trip of a counted loop carries on holds at the loop's end. -/
theorem fold_holds {σ : Type} {n : ℕ} (P : ℕ → σ → Prop) (g : Fin n → σ → σ) (h : ∀ (k : Fin n) s, P k.val s → P (k.val + 1) (g k s))
    (s : σ) (h0 : P 0 s) : P n (Scf.fold g s) := by
  rw [Scf.fold_eq]
  induction n generalizing P s with
  | zero => exact h0
  | succ n ih =>
    rw [List.finRange_succ, List.foldl_cons, List.foldl_map]
    exact ih (fun j => P (j + 1)) (fun k => g k.succ) (fun k s hs => h k.succ s hs) _ (h 0 s h0)

theorem iv_one (k : ℕ) : Scf.iv (1#32 : BitVec 32) 1#32 k = BitVec.ofNat 32 (k + 1) := by
  induction k with
  | zero => exact Scf.iv_zero _ _
  | succ k ih => rw [Scf.iv_succ, ih, ← BitVec.ofNat_add]

variable {L M N : ℕ} (H : Facts L) (hN : 8 * L = N)

/-- The carried arrays: the points' least distances; the places taken and their three coordinates, slot by slot; the
    coordinates of the point taken last. -/
abbrev Carried (L M : ℕ) : Type :=
  FVec Ideal ⟨3, ![2, 8, L]⟩ .f32 × IVec ⟨3, ![2, 8, M]⟩ 32 × FVec Ideal ⟨3, ![2, 8, M]⟩ .f32 × FVec Ideal ⟨3, ![2, 8, M]⟩ .f32
    × FVec Ideal ⟨3, ![2, 8, M]⟩ .f32 × FVec Ideal ⟨3, ![2, 1, 1]⟩ .f32 × FVec Ideal ⟨3, ![2, 1, 1]⟩ .f32 × FVec Ideal ⟨3, ![2, 1, 1]⟩ .f32

/-- The least distances after one more point. -/
def newDist (x y z d : FVec Ideal ⟨3, ![2, 8, L]⟩ .f32) (lx ly lz : FVec Ideal ⟨3, ![2, 1, 1]⟩ .f32) : FVec Ideal ⟨3, ![2, 8, L]⟩ .f32 :=
  minimumf d (addf (addf
    (mulf (subf x (broadcastTo ⟨3, ![2, 8, L]⟩ lx H.bc)) (subf x (broadcastTo ⟨3, ![2, 8, L]⟩ lx H.bc)))
    (mulf (subf y (broadcastTo ⟨3, ![2, 8, L]⟩ ly H.bc)) (subf y (broadcastTo ⟨3, ![2, 8, L]⟩ ly H.bc))))
    (mulf (subf z (broadcastTo ⟨3, ![2, 8, L]⟩ lz H.bc)) (subf z (broadcastTo ⟨3, ![2, 8, L]⟩ lz H.bc))))

/-- The facts of the planes of slots. -/
structure SlotFacts (M : ℕ) : Prop where
  bc : (⟨3, ![2, 1, 1]⟩ : Shape).Broadcasts ⟨3, ![2, 8, M]⟩
  cast : (⟨3, ![2, 1, 1]⟩ : Shape).ShapeCasts ⟨3, ![2, 1, 1]⟩

variable (G : SlotFacts M)

/-- A value put into slot `i`. -/
def put {α : Type} (slots : IVec ⟨3, ![2, 8, M]⟩ 32) (i : BitVec 32) (w : (⟨3, ![2, 1, 1]⟩ : Shape).Idx → α)
    (old : (⟨3, ![2, 8, M]⟩ : Shape).Idx → α) : (⟨3, ![2, 8, M]⟩ : Shape).Idx → α :=
  select (cmpi .eq slots (broadcast ⟨3, ![2, 8, M]⟩ i)) (broadcastTo ⟨3, ![2, 8, M]⟩ (shapeCast ⟨3, ![2, 1, 1]⟩ w G.cast) G.bc) old

/-- One round. -/
def round (x y z : FVec Ideal ⟨3, ![2, 8, L]⟩ .f32) (v : IVec ⟨3, ![2, 8, L]⟩ 32) (slots : IVec ⟨3, ![2, 8, M]⟩ 32) (n i : BitVec 32)
    (s : Carried L M) : Carried L M :=
  let d := newDist H x y z s.1 s.2.2.2.2.2.1 s.2.2.2.2.2.2.1 s.2.2.2.2.2.2.2
  let q := placeOf H n v d
  let g := hitAt H v q
  (d, put G slots i q s.2.1, put G slots i (valueAt H g x) s.2.2.1, put G slots i (valueAt H g y) s.2.2.2.1,
    put G slots i (valueAt H g z) s.2.2.2.2.1, valueAt H g x, valueAt H g y, valueAt H g z)

/-- The carried arrays before the first round. -/
def start (hs : (⟨3, ![2, 8, L]⟩ : Shape).Slices ![0, 0, 0] ⟨3, ![2, 1, 1]⟩) (x y z : FVec Ideal ⟨3, ![2, 8, L]⟩ .f32)
    (slots : IVec ⟨3, ![2, 8, M]⟩ 32) : Carried L M :=
  let f := fun w => put G slots 0#32 (extractStridedSlice ⟨3, ![2, 1, 1]⟩ ![0, 0, 0] w hs)
    (broadcast ⟨3, ![2, 8, M]⟩ (Scalar.ofBits .f32 0x00000000#32 : Ideal .f32))
  (broadcast ⟨3, ![2, 8, L]⟩ (Scalar.ofBits .f32 0x501502F9#32 : Ideal .f32), broadcast ⟨3, ![2, 8, M]⟩ 0#32, f x, f y, f z,
    extractStridedSlice ⟨3, ![2, 1, 1]⟩ ![0, 0, 0] x hs, extractStridedSlice ⟨3, ![2, 1, 1]⟩ ![0, 0, 0] y hs,
    extractStridedSlice ⟨3, ![2, 1, 1]⟩ ![0, 0, 0] z hs)

/-- The slot in row `r`, column `l`. -/
abbrev slot (M : ℕ) (r : Fin 8) (l : Fin M) : ℕ := r.val * M + l.val

/-- The carried arrays are those of the sampling after `k` rounds. -/
structure Holds [NeZero N] (X : Fin 2 → Fin N → Fin 3 → EReal) (k : ℕ) (s : Carried L M) : Prop where
  dist : ∀ b r l, s.1 (ix3 b r l) = least (X b) k (at8 hN r l)
  idx : ∀ b r l, s.2.1 (ix3 b r l) = if slot M r l ≤ k then BitVec.ofNat 32 (taken (X b) (slot M r l)).val else 0#32
  sx : ∀ b r l, s.2.2.1 (ix3 b r l) = if slot M r l ≤ k then X b (taken (X b) (slot M r l)) 0 else 0
  sy : ∀ b r l, s.2.2.2.1 (ix3 b r l) = if slot M r l ≤ k then X b (taken (X b) (slot M r l)) 1 else 0
  sz : ∀ b r l, s.2.2.2.2.1 (ix3 b r l) = if slot M r l ≤ k then X b (taken (X b) (slot M r l)) 2 else 0
  lx : ∀ b, s.2.2.2.2.2.1 (ix3 b 0 0) = X b (taken (X b) k) 0
  ly : ∀ b, s.2.2.2.2.2.2.1 (ix3 b 0 0) = X b (taken (X b) k) 1
  lz : ∀ b, s.2.2.2.2.2.2.2 (ix3 b 0 0) = X b (taken (X b) k) 2

theorem put_apply {α : Type} (hM : 8 * M < 2147483648) (slots : IVec ⟨3, ![2, 8, M]⟩ 32)
    (hslot : ∀ b r l, slots (ix3 b r l) = BitVec.ofNat 32 (slot M r l)) (j : ℕ) (hj : j < 2147483648)
    (w : (⟨3, ![2, 1, 1]⟩ : Shape).Idx → α) (old : (⟨3, ![2, 8, M]⟩ : Shape).Idx → α) (b : Fin 2) (r : Fin 8) (l : Fin M) :
    put G slots (BitVec.ofNat 32 j) w old (ix3 b r l) = if slot M r l = j then w (ix3 b 0 0) else old (ix3 b r l) := by
  have hc : shapeCast ⟨3, ![2, 1, 1]⟩ w G.cast (ix3 b 0 0) = w (ix3 b 0 0) := shapeCast_apply w G.cast _ _ rfl
  show Scalar.select (IntOp.cmpi .eq (slots (ix3 b r l)) (BitVec.ofNat 32 j))
    (broadcastTo ⟨3, ![2, 8, M]⟩ (shapeCast ⟨3, ![2, 1, 1]⟩ w G.cast) G.bc (ix3 b r l)) (old (ix3 b r l)) = _
  rw [spread_apply, hc, hslot]
  have hlt : slot M r l < 2147483648 := lt_trans (at8 rfl r l).isLt hM
  have he : (BitVec.ofNat 32 (slot M r l) = BitVec.ofNat 32 j) ↔ slot M r l = j := by
    constructor
    · intro e
      have := congrArg BitVec.toNat e
      rw [BitVec.toNat_ofNat, BitVec.toNat_ofNat, Nat.mod_eq_of_lt (by omega), Nat.mod_eq_of_lt (by omega)] at this
      exact this
    · intro e; rw [e]
  show Scalar.select (BitVec.ofBool (BitVec.ofNat 32 (slot M r l) == BitVec.ofNat 32 j)) _ _ = _
  by_cases e : slot M r l = j
  · rw [if_pos e, e]; simp [Scalar.select]
  · rw [if_neg e, beq_eq_false_iff_ne.mpr (mt he.mp e)]; rfl

/-- A slot that takes its value in this round, or has it already. -/
theorem slot_step {α : Type} (f : ℕ → α) (z : α) (j k : ℕ) :
    (if j = k + 1 then f (k + 1) else if j ≤ k then f j else z) = if j ≤ k + 1 then f j else z := by
  by_cases h : j = k + 1
  · subst h; simp
  · by_cases h' : j ≤ k
    · rw [if_neg h, if_pos h', if_pos (by omega)]
    · rw [if_neg h, if_neg h', if_neg (by omega)]

section Rounds
variable [NeZero N] (hs : N < 2147483647) (hM : 8 * M < 2147483648)
  (x y z : FVec Ideal ⟨3, ![2, 8, L]⟩ .f32) (v : IVec ⟨3, ![2, 8, L]⟩ 32) (slots : IVec ⟨3, ![2, 8, M]⟩ 32)
  (hv : ∀ b r l, v (ix3 b r l) = BitVec.ofNat 32 (at8 hN r l).val)
  (hslot : ∀ b r l, slots (ix3 b r l) = BitVec.ofNat 32 (slot M r l)) (X : Fin 2 → Fin N → Fin 3 → EReal)
  (hx : ∀ b r l, x (ix3 b r l) = X b (at8 hN r l) 0) (hy : ∀ b r l, y (ix3 b r l) = X b (at8 hN r l) 1)
  (hz : ∀ b r l, z (ix3 b r l) = X b (at8 hN r l) 2)

include hx hy hz in
theorem newDist_apply (k : ℕ) (s : Carried L M) (h : Holds hN X k s) (b : Fin 2) (r : Fin 8) (l : Fin L) :
    newDist H x y z s.1 s.2.2.2.2.2.1 s.2.2.2.2.2.2.1 s.2.2.2.2.2.2.2 (ix3 b r l) = least (X b) (k + 1) (at8 hN r l) := by
  have e : ∀ (w u : FVec Ideal _ .f32), mulf (subf w (broadcastTo ⟨3, ![2, 8, L]⟩ u H.bc)) (subf w (broadcastTo ⟨3, ![2, 8, L]⟩ u H.bc)) (ix3 b r l)
      = ((w (ix3 b r l) : EReal) - u (ix3 b 0 0)) * (w (ix3 b r l) - u (ix3 b 0 0)) := fun w u => by
    rw [← spread_apply u H.bc b r l]; rfl
  show min (s.1 (ix3 b r l) : EReal) ((mulf _ _ (ix3 b r l) + mulf _ _ (ix3 b r l)) + mulf _ _ (ix3 b r l)) = _
  rw [e, e, e, h.lx, h.ly, h.lz, hx, hy, hz, h.dist, least_succ]
  rfl

include hs hM hv hslot hx hy hz in
theorem round_holds (k : ℕ) (hk : k + 1 < 2147483648) (s : Carried L M) (h : Holds hN X k s) :
    Holds hN X (k + 1) (round H G x y z v slots (BitVec.ofNat 32 N) (BitVec.ofNat 32 (k + 1)) s) := by
  have hd := newDist_apply H hN x y z X hx hy hz k s h
  have hq : ∀ b, placeOf H (BitVec.ofNat 32 N) v (newDist H x y z s.1 s.2.2.2.2.2.1 s.2.2.2.2.2.2.1 s.2.2.2.2.2.2.2) (ix3 b 0 0)
      = BitVec.ofNat 32 (taken (X b) (k + 1)).val := fun b =>
    placeOf_eq H hN hs v _ b (hv b) (least (X b) (k + 1)) (hd b) _ (isFirstMax_taken (X b) k)
  have hw : ∀ (w : FVec Ideal ⟨3, ![2, 8, L]⟩ .f32) (c : Fin 3), (∀ b r l, w (ix3 b r l) = X b (at8 hN r l) c) → ∀ b,
      valueAt H (hitAt H v (placeOf H (BitVec.ofNat 32 N) v (newDist H x y z s.1 s.2.2.2.2.2.1 s.2.2.2.2.2.2.1 s.2.2.2.2.2.2.2))) w (ix3 b 0 0)
        = X b (taken (X b) (k + 1)) c := fun w c hwc b =>
    valueAt_eq H hN hs v _ w b (hv b) _ (hq b) (fun n => X b n c) (hwc b)
  refine ⟨hd, fun b r l => ?_, fun b r l => ?_, fun b r l => ?_, fun b r l => ?_, hw x 0 hx, hw y 1 hy, hw z 2 hz⟩
  · refine (put_apply G hM slots hslot (k + 1) hk _ _ b r l).trans ?_
    rw [hq, h.idx]
    exact slot_step (fun j => BitVec.ofNat 32 (taken (X b) j).val) 0#32 (slot M r l) k
  · refine (put_apply G hM slots hslot (k + 1) hk _ _ b r l).trans ?_
    rw [hw x 0 hx, h.sx]
    exact slot_step (fun j => X b (taken (X b) j) 0) 0 (slot M r l) k
  · refine (put_apply G hM slots hslot (k + 1) hk _ _ b r l).trans ?_
    rw [hw y 1 hy, h.sy]
    exact slot_step (fun j => X b (taken (X b) j) 1) 0 (slot M r l) k
  · refine (put_apply G hM slots hslot (k + 1) hk _ _ b r l).trans ?_
    rw [hw z 2 hz, h.sz]
    exact slot_step (fun j => X b (taken (X b) j) 2) 0 (slot M r l) k

include hM hslot hx hy hz in
theorem start_holds (hsl : (⟨3, ![2, 8, L]⟩ : Shape).Slices ![0, 0, 0] ⟨3, ![2, 1, 1]⟩) :
    Holds hN X 0 (start G hsl x y z slots) := by
  have hL : 0 < L := by have := NeZero.pos N; omega
  have h0 : at8 hN 0 ⟨0, hL⟩ = 0 := Fin.ext (by show 0 * L + 0 = 0; omega)
  have hcorner : ∀ (w : FVec Ideal ⟨3, ![2, 8, L]⟩ .f32) (c : Fin 3), (∀ b r l, w (ix3 b r l) = X b (at8 hN r l) c) → ∀ b,
      extractStridedSlice ⟨3, ![2, 1, 1]⟩ ![0, 0, 0] w hsl (ix3 b 0 0) = X b (taken (X b) 0) c := fun w c hwc b => by
    rw [show taken (X b) 0 = 0 from rfl, ← h0, ← hwc]
    unfold extractStridedSlice
    refine congrArg w (funext fun a => Fin.ext ?_)
    match a with
    | ⟨0, _⟩ => exact Nat.zero_add _
    | ⟨1, _⟩ => rfl
    | ⟨2, _⟩ => rfl
  have hp : ∀ (w : FVec Ideal ⟨3, ![2, 8, L]⟩ .f32) (c : Fin 3), (∀ b r l, w (ix3 b r l) = X b (at8 hN r l) c) → ∀ b r l,
      put G slots 0#32 (extractStridedSlice ⟨3, ![2, 1, 1]⟩ ![0, 0, 0] w hsl)
        (broadcast ⟨3, ![2, 8, M]⟩ (Scalar.ofBits .f32 0x00000000#32 : Ideal .f32)) (ix3 b r l)
      = if slot M r l ≤ 0 then X b (taken (X b) (slot M r l)) c else 0 := fun w c hwc b r l => by
    refine (put_apply G hM slots hslot 0 (by omega) _ _ b r l).trans ?_
    rw [hcorner w c hwc]
    by_cases e : slot M r l = 0
    · rw [if_pos e, if_pos e.le, e]
    · rw [if_neg e, if_neg (by omega)]; exact Ideal.ofBits_zero_f32
  refine ⟨fun b r l => rfl, fun b r l => ?_, hp x 0 hx, hp y 1 hy, hp z 2 hz, hcorner x 0 hx, hcorner y 1 hy, hcorner z 2 hz⟩
  show 0#32 = _
  split
  · rename_i e
    rw [Nat.le_zero.mp e]; rfl
  · rfl

end Rounds

end Cert.Sampling

end
-- ==== Proof.SampleKernel.lean ====
/-
  The sampling kernel's two loops, read as rounds of farthest point sampling: what the carried arrays hold when each ends.
-/
module

public import proofs.«01_k».proof.Proof.SampleIdeal
public import proofs.«01_k».proof.Proof.SamplePlane

@[expose] public section

set_option maxRecDepth 16384

noncomputable section

namespace Cert.Kernel2Ideal.Sample

open Cert.Kernel2Ideal Cert.Kernel2Ideal.Gen Cert.Sampling
open Idealize.ShloMosaic

/-- A plane of place numbers. -/
theorem iota_word (a b L : ℕ) : IntOp.addi (IntOp.muli (BitVec.ofNat 32 a) (BitVec.ofNat 32 L)) (BitVec.ofNat 32 b)
    = BitVec.ofNat 32 (a * L + b) := by
  show BitVec.ofNat 32 a * BitVec.ofNat 32 L + BitVec.ofNat 32 b = _
  rw [BitVec.ofNat_add, BitVec.ofNat_mul]

theorem iota512_apply (b : Fin 2) (r : Fin 8) (l : Fin 512) : k0_pay28 (ix3 b r l) = BitVec.ofNat 32 (r.val * 512 + l.val) := by
  rw [← iota_word]
  pointwise [k0_pay28]

theorem iota256_apply (b : Fin 2) (r : Fin 8) (l : Fin 256) : k0_pay29 (ix3 b r l) = BitVec.ofNat 32 (r.val * 256 + l.val) := by
  rw [← iota_word]
  pointwise [k0_pay29]

theorem iota256'_apply (b : Fin 2) (r : Fin 8) (l : Fin 256) : k0_pay47 (ix3 b r l) = BitVec.ofNat 32 (r.val * 256 + l.val) := by
  rw [← iota_word]
  pointwise [k0_pay47]

theorem iota128_apply (b : Fin 2) (r : Fin 8) (l : Fin 128) : k0_pay48 (ix3 b r l) = BitVec.ofNat 32 (r.val * 128 + l.val) := by
  rw [← iota_word]
  pointwise [k0_pay48]

theorem facts512 : Sampling.Facts 512 := ⟨reduces_S2x8x512_S2x8, shapeCasts_S2x8_S2x8x1, reduces_S2x8x1_S2x1, shapeCasts_S2x1_S2x1x1, broadcasts_S2x1x1_S2x8x512⟩
theorem facts256 : Sampling.Facts 256 := ⟨reduces_S2x8x256_S2x8, shapeCasts_S2x8_S2x8x1, reduces_S2x8x1_S2x1, shapeCasts_S2x1_S2x1x1, broadcasts_S2x1x1_S2x8x256⟩
theorem slots256 : SlotFacts 256 := ⟨broadcasts_S2x1x1_S2x8x256, shapeCasts_S2x1x1_S2x1x1⟩
theorem slots128 : SlotFacts 128 := ⟨broadcasts_S2x1x1_S2x8x128, shapeCasts_S2x1x1_S2x1x1⟩

/-- A trip of the first loop is one round. -/
theorem step1_eq (x y z : FVec Ideal S2x8x512 .f32) (k : Fin k0_t1_loop.trips) (s : State1 Ideal) :
    step1 x y z k s = round facts512 slots256 x y z k0_pay28 k0_pay29 (BitVec.ofNat 32 4096) (Scf.iv 1#32 1#32 k.val) s := rfl

/-- A trip of the second loop is one round. -/
theorem step2_eq (x y z : FVec Ideal S2x8x256 .f32) (k : Fin k0_t2_loop.trips) (s : State2 Ideal) :
    step2 x y z k s = round facts256 slots128 x y z k0_pay47 k0_pay48 (BitVec.ofNat 32 2048) (Scf.iv 1#32 1#32 k.val) s := rfl

theorem trips1 : k0_t1_loop.trips = 2047 := by decide
theorem trips2 : k0_t2_loop.trips = 1023 := by decide

/-- The first loop leaves the sampling after 2047 rounds. -/
theorem res1_holds (v0 v2 v4 : Vec Ideal S2x1x8x512 .f32) (X : Fin 2 → Fin 4096 → Fin 3 → EReal)
    (hx : ∀ b r l, k0_pay25 v0 (ix3 b r l) = X b (at8 rfl r l) 0) (hy : ∀ b r l, k0_pay26 v2 (ix3 b r l) = X b (at8 rfl r l) 1)
    (hz : ∀ b r l, k0_pay27 v4 (ix3 b r l) = X b (at8 rfl r l) 2) :
    Holds (L := 512) (M := 256) (N := 4096) rfl X 2047 (res1 v0 v2 v4) := by
  have key : Holds (L := 512) (M := 256) (N := 4096) rfl X k0_t1_loop.trips (res1 v0 v2 v4) := by
    refine fold_holds (fun k s => Holds (L := 512) (M := 256) (N := 4096) rfl X k s) _ (fun k s hs => ?_) _ ?_
    · have hk : k.val < 2047 := trips1 ▸ k.isLt
      show Holds _ X _ (step1 _ _ _ k s)
      rw [step1_eq, iv_one]
      exact round_holds facts512 rfl slots256 (by omega) (by omega) _ _ _ _ _ iota512_apply iota256_apply X hx hy hz k.val (by omega) s hs
    · exact start_holds (L := 512) rfl slots256 (by omega) _ _ _ _ iota256_apply X hx hy hz slices_S2x8x512_o0_0_0_S2x1x1
  exact trips1 ▸ key

/-- The second loop leaves the sampling after 1023 rounds. -/
theorem res2_holds (x y z : FVec Ideal S2x8x256 .f32) (X : Fin 2 → Fin 2048 → Fin 3 → EReal)
    (hx : ∀ b r l, x (ix3 b r l) = X b (at8 rfl r l) 0) (hy : ∀ b r l, y (ix3 b r l) = X b (at8 rfl r l) 1)
    (hz : ∀ b r l, z (ix3 b r l) = X b (at8 rfl r l) 2) :
    Holds (L := 256) (M := 128) (N := 2048) rfl X 1023 (res2 x y z) := by
  have key : Holds (L := 256) (M := 128) (N := 2048) rfl X k0_t2_loop.trips (res2 x y z) := by
    refine fold_holds (fun k s => Holds (L := 256) (M := 128) (N := 2048) rfl X k s) _ (fun k s hs => ?_) _ ?_
    · have hk : k.val < 1023 := trips2 ▸ k.isLt
      show Holds _ X _ (step2 _ _ _ k s)
      rw [step2_eq, iv_one]
      exact round_holds facts256 rfl slots128 (by omega) (by omega) _ _ _ _ _ iota256'_apply iota128_apply X hx hy hz k.val (by omega) s hs
    · exact start_holds (L := 256) rfl slots128 (by omega) _ _ _ _ iota128_apply X hx hy hz slices_S2x8x256_o0_0_0_S2x1x1
  exact trips2 ▸ key

end Cert.Kernel2Ideal.Sample

end
-- ==== Proof.SampleSpec.lean ====
/-
  The sampling's four results as functions of the points: the places taken and the coordinates at them, on each of the
  two levels.
-/
module

public import proofs.«01_k».proof.Proof.Sampling

@[expose] public section

noncomputable section

namespace Cert.Sampling

open Idealize.ShloMosaic

variable {N : ℕ} [NeZero N] (M : ℕ) (X : Fin 2 → Fin N → Fin 3 → EReal)

/-- The points taken, in order. -/
def sub : Fin 2 → Fin M → Fin 3 → EReal := fun b s i => X b (taken (X b) s.val) i

/-- Their places. -/
def placesOf : Vec Ideal ⟨2, ![2, M]⟩ .i32 := fun j => BitVec.ofNat 32 (taken (X (j 0)) (j 1).val).val

/-- Their coordinates, by rows. -/
def coordsOf : Vec Ideal ⟨3, ![2, 3, M]⟩ .f32 := fun j => sub M X (j 0) (j 2) (j 1)

end Cert.Sampling

end
-- ==== Proof.SampleResults.lean ====
/-
  The sampling kernel's four results: the places taken and the coordinates at them, on each of the two levels.
-/
module

public import proofs.«01_k».proof.Proof.SampleKernel
public import proofs.«01_k».proof.Proof.SampleSpec
public import Idealize.ShloMosaic.Lib.Pipeline.ValueKit
public import Idealize.ShloMosaic.Lib.StableHlo.ReadAt
public import Idealize.ShloMosaic.Lib.ValueLayout

@[expose] public section

set_option maxRecDepth 16384

noncomputable section

namespace Cert.Kernel2Ideal.Sample

open Cert.Kernel2Ideal Cert.Kernel2Ideal.Gen Cert.Sampling
open Idealize.ShloMosaic Idealize.ShloMosaic.TcCoe Idealize.SL.Sem

/-- A plane without, and with, the axis of one row. -/
theorem drop_row {α : Type} {L : ℕ} (x : (⟨4, ![2, 1, 8, L]⟩ : Shape).Idx → α) (h : (⟨4, ![2, 1, 8, L]⟩ : Shape).ShapeCasts ⟨3, ![2, 8, L]⟩)
    (b : Fin 2) (r : Fin 8) (l : Fin L) : shapeCast ⟨3, ![2, 8, L]⟩ x h (ix3 b r l) = x (ix4 b 0 r l) :=
  shapeCast_apply x h _ _ (by
    rw [Shape.rowMajor_val_four, Shape.rowMajor_val_three]
    show ((b.val * 1 + 0) * 8 + r.val) * L + l.val = (b.val * 8 + r.val) * L + l.val
    rw [Nat.mul_one, Nat.add_zero])

theorem add_row {α : Type} {L : ℕ} (x : (⟨3, ![2, 8, L]⟩ : Shape).Idx → α) (h : (⟨3, ![2, 8, L]⟩ : Shape).ShapeCasts ⟨4, ![2, 1, 8, L]⟩)
    (b : Fin 2) (u : Fin 1) (r : Fin 8) (l : Fin L) : shapeCast ⟨4, ![2, 1, 8, L]⟩ x h (ix4 b u r l) = x (ix3 b r l) :=
  shapeCast_apply x h _ _ (by
    rw [Shape.rowMajor_val_four, Shape.rowMajor_val_three]
    show (b.val * 8 + r.val) * L + l.val = ((b.val * 1 + u.val) * 8 + r.val) * L + l.val
    rw [Nat.mul_one, show u.val = 0 by omega, Nat.add_zero])

/-- Three planes stored one by one. -/
theorem planes_at {L N : ℕ} (hN : 8 * L = N)
    (i0 : ∀ a, (![0, 0, 0, 0] : Fin 4 → ℕ) a + (⟨4, ![2, 1, 8, L]⟩ : Shape).size a ≤ (⟨4, ![2, 3, 8, L]⟩ : Shape).size a)
    (i1 : ∀ a, (![0, 1, 0, 0] : Fin 4 → ℕ) a + (⟨4, ![2, 1, 8, L]⟩ : Shape).size a ≤ (⟨4, ![2, 3, 8, L]⟩ : Shape).size a)
    (i2 : ∀ a, (![0, 2, 0, 0] : Fin 4 → ℕ) a + (⟨4, ![2, 1, 8, L]⟩ : Shape).size a ≤ (⟨4, ![2, 3, 8, L]⟩ : Shape).size a)
    (p0 p1 p2 : Vec Ideal ⟨4, ![2, 1, 8, L]⟩ .f32) (X : Fin 2 → Fin N → Fin 3 → EReal)
    (h0 : ∀ b u r l, p0 (ix4 b u r l) = X b (at8 hN r l) 0) (h1 : ∀ b u r l, p1 (ix4 b u r l) = X b (at8 hN r l) 1)
    (h2 : ∀ b u r l, p2 (ix4 b u r l) = X b (at8 hN r l) 2)
    (hc : ∀ y : (⟨4, ![2, 3, 8, L]⟩ : Shape).Idx, ∃ pc ∈ ([⟨Rect.unit (s := ⟨4, ![2, 3, 8, L]⟩) ![0, 2, 0, 0] (⟨4, ![2, 1, 8, L]⟩ : Shape).size i2, p2⟩,
      ⟨Rect.unit (s := ⟨4, ![2, 3, 8, L]⟩) ![0, 1, 0, 0] (⟨4, ![2, 1, 8, L]⟩ : Shape).size i1, p1⟩,
      ⟨Rect.unit (s := ⟨4, ![2, 3, 8, L]⟩) ![0, 0, 0, 0] (⟨4, ![2, 1, 8, L]⟩ : Shape).size i0, p0⟩] : List (View.Piece (Elt Ideal) ⟨4, ![2, 3, 8, L]⟩ .f32)), y ∈ pc.1.set)
    (b : Fin 2) (i : Fin 3) (r : Fin 8) (l : Fin L) :
    View.canon ([⟨Rect.unit (s := ⟨4, ![2, 3, 8, L]⟩) ![0, 2, 0, 0] (⟨4, ![2, 1, 8, L]⟩ : Shape).size i2, p2⟩,
      ⟨Rect.unit (s := ⟨4, ![2, 3, 8, L]⟩) ![0, 1, 0, 0] (⟨4, ![2, 1, 8, L]⟩ : Shape).size i1, p1⟩,
      ⟨Rect.unit (s := ⟨4, ![2, 3, 8, L]⟩) ![0, 0, 0, 0] (⟨4, ![2, 1, 8, L]⟩ : Shape).size i0, p0⟩] : List (View.Piece (Elt Ideal) ⟨4, ![2, 3, 8, L]⟩ .f32)) (ix4 b i r l)
      = X b (at8 hN r l) i := by
  have key : ∀ (o : Fin 3) (off : Fin 4 → ℕ) (hoff : off = ![0, o.val, 0, 0]) (inb) (p : Vec Ideal ⟨4, ![2, 1, 8, L]⟩ .f32)
      (hp : ∀ b u r l, p (ix4 b u r l) = X b (at8 hN r l) o)
      (x : (Rect.unit (s := ⟨4, ![2, 3, 8, L]⟩) off (⟨4, ![2, 1, 8, L]⟩ : Shape).size inb).shape.Idx),
      p x = (fun y : (⟨4, ![2, 3, 8, L]⟩ : Shape).Idx => X (y 0) (at8 hN (y 2) (y 3)) (y 1))
        ((Rect.unit (s := ⟨4, ![2, 3, 8, L]⟩) off (⟨4, ![2, 1, 8, L]⟩ : Shape).size inb).emb x) := by
    intro o off hoff inb p hp x
    subst hoff
    have ex : x = ix4 (x 0) (x 1) (x 2) (x 3) := funext fun a => by
      match a with
      | ⟨0, _⟩ => rfl
      | ⟨1, _⟩ => rfl
      | ⟨2, _⟩ => rfl
      | ⟨3, _⟩ => rfl
    have e1 : (x 1).val = 0 := by
      have h : (x 1).val < 1 := (x 1).isLt
      omega
    refine ((congrArg p ex).trans (hp _ _ _ _)).trans ?_
    have f0 : (Rect.unit (s := ⟨4, ![2, 3, 8, L]⟩) ![0, o.val, 0, 0] (⟨4, ![2, 1, 8, L]⟩ : Shape).size inb).emb x 0 = x 0 :=
      Fin.ext (show 0 + 1 * (x 0).val = (x 0).val by omega)
    have f1 : (Rect.unit (s := ⟨4, ![2, 3, 8, L]⟩) ![0, o.val, 0, 0] (⟨4, ![2, 1, 8, L]⟩ : Shape).size inb).emb x 1 = o :=
      Fin.ext (show o.val + 1 * (x 1).val = o.val by omega)
    have f2 : (Rect.unit (s := ⟨4, ![2, 3, 8, L]⟩) ![0, o.val, 0, 0] (⟨4, ![2, 1, 8, L]⟩ : Shape).size inb).emb x 2 = x 2 :=
      Fin.ext (show 0 + 1 * (x 2).val = (x 2).val by omega)
    have f3 : (Rect.unit (s := ⟨4, ![2, 3, 8, L]⟩) ![0, o.val, 0, 0] (⟨4, ![2, 1, 8, L]⟩ : Shape).size inb).emb x 3 = x 3 :=
      Fin.ext (show 0 + 1 * (x 3).val = (x 3).val by omega)
    show _ = X (Rect.emb _ x 0) (at8 hN (Rect.emb _ x 2) (Rect.emb _ x 3)) (Rect.emb _ x 1)
    rw [f0, f1, f2, f3]
  refine View.canon_apply_of_pieces (fun y : (⟨4, ![2, 3, 8, L]⟩ : Shape).Idx => X (y 0) (at8 hN (y 2) (y 3)) (y 1)) _ (fun p hp => ?_) _ (hc _)
  simp only [List.mem_cons, List.mem_nil_iff, or_false] at hp
  rcases hp with rfl | rfl | rfl
  · exact key 2 _ rfl i2 p2 h2
  · exact key 1 _ rfl i1 p1 h1
  · exact key 0 _ rfl i0 p0 h0

section Levels
variable (x : Vec Ideal S2x3x8x512 .f32) (X : Fin 2 → Fin 4096 → Fin 3 → EReal)
  (hx : ∀ b i r l, x (ix4 b i r l) = X b (at8 rfl r l) i)

include hx

/-- A plane of the input block. -/
theorem plane_ld (i : Fin 3) (off : Fin 4 → ℕ) (hoff : off = ![0, i.val, 0, 0]) (inb) (b : Fin 2) (r : Fin 8) (l : Fin 512) :
    shapeCast S2x8x512 (View.ld x (Rect.unit (s := S2x3x8x512) off S2x1x8x512.size inb)) shapeCasts_S2x1x8x512_S2x8x512 (ix3 b r l)
      = X b (at8 rfl r l) i := by
  subst hoff
  refine (drop_row _ _ b r l).trans (Eq.trans ?_ (hx b i r l))
  refine View.ld_unit_apply_of x _ _ inb _ (ix4 b i r l) fun a => ?_
  match a with
  | ⟨0, _⟩ => show b.val = 0 + b.val; omega
  | ⟨1, _⟩ => show i.val = i.val + 0; omega
  | ⟨2, _⟩ => show r.val = 0 + r.val; omega
  | ⟨3, _⟩ => show l.val = 0 + l.val; omega

theorem lvl1_holds : Holds (L := 512) (M := 256) (N := 4096) rfl X 2047 (lvl1 x) :=
  res1_holds _ _ _ X (plane_ld x X hx 0 _ rfl _) (plane_ld x X hx 1 _ rfl _) (plane_ld x X hx 2 _ rfl _)

theorem slot1 (r : Fin 8) (l : Fin 256) : slot 256 r l ≤ 2047 := by
  have := r.isLt; have := l.isLt
  show r.val * 256 + l.val ≤ 2047
  omega

theorem slot2 (r : Fin 8) (l : Fin 128) : slot 128 r l ≤ 1023 := by
  have := r.isLt; have := l.isLt
  show r.val * 128 + l.val ≤ 1023
  omega

theorem sx1 (b : Fin 2) (r : Fin 8) (l : Fin 256) : (lvl1 x).2.2.1 (ix3 b r l) = sub 2048 X b (at8 rfl r l) 0 :=
  ((lvl1_holds x X hx).sx b r l).trans (if_pos (slot1 x X hx r l))
theorem sy1 (b : Fin 2) (r : Fin 8) (l : Fin 256) : (lvl1 x).2.2.2.1 (ix3 b r l) = sub 2048 X b (at8 rfl r l) 1 :=
  ((lvl1_holds x X hx).sy b r l).trans (if_pos (slot1 x X hx r l))
theorem sz1 (b : Fin 2) (r : Fin 8) (l : Fin 256) : (lvl1 x).2.2.2.2.1 (ix3 b r l) = sub 2048 X b (at8 rfl r l) 2 :=
  ((lvl1_holds x X hx).sz b r l).trans (if_pos (slot1 x X hx r l))

theorem lvl2_holds : Holds (L := 256) (M := 128) (N := 2048) rfl (sub 2048 X) 1023 (lvl2 x) :=
  res2_holds _ _ _ _ (sx1 x X hx) (sy1 x X hx) (sz1 x X hx)

theorem out1_at (b : Fin 2) (r : Fin 8) (l : Fin 256) : out1 x (ix3 b r l) = placesOf 2048 X (ix2 b (at8 rfl r l)) := by
  unfold out1
  rw [View.canon_unit_zero (funext fun a => by fin_cases a <;> rfl)]
  exact ((lvl1_holds x X hx).idx b r l).trans (if_pos (slot1 x X hx r l))

theorem out3_at (b : Fin 2) (r : Fin 8) (l : Fin 128) : out3 x (ix3 b r l) = placesOf 1024 (sub 2048 X) (ix2 b (at8 rfl r l)) := by
  unfold out3
  rw [View.canon_unit_zero (funext fun a => by fin_cases a <;> rfl)]
  exact ((lvl2_holds x X hx).idx b r l).trans (if_pos (slot2 x X hx r l))

theorem out2_at (b : Fin 2) (i : Fin 3) (r : Fin 8) (l : Fin 256) : out2 x (ix4 b i r l) = sub 2048 X b (at8 rfl r l) i := by
  unfold out2
  exact planes_at (L := 256) (N := 2048) rfl _ _ _ _ _ _ (sub 2048 X)
    (fun b u r l => (add_row _ _ b u r l).trans (sx1 x X hx b r l)) (fun b u r l => (add_row _ _ b u r l).trans (sy1 x X hx b r l))
    (fun b u r l => (add_row _ _ b u r l).trans (sz1 x X hx b r l)) (fun y => cover2 _ _ _ y) b i r l

theorem out4_at (b : Fin 2) (i : Fin 3) (r : Fin 8) (l : Fin 128) : out4 x (ix4 b i r l) = sub 1024 (sub 2048 X) b (at8 rfl r l) i := by
  have h := lvl2_holds x X hx
  unfold out4
  exact planes_at (L := 128) (N := 1024) rfl _ _ _ _ _ _ (sub 1024 (sub 2048 X))
    (fun b u r l => (add_row _ _ b u r l).trans ((h.sx b r l).trans (if_pos (slot2 x X hx r l))))
    (fun b u r l => (add_row _ _ b u r l).trans ((h.sy b r l).trans (if_pos (slot2 x X hx r l))))
    (fun b u r l => (add_row _ _ b u r l).trans ((h.sz b r l).trans (if_pos (slot2 x X hx r l)))) (fun y => cover4 _ _ _ y) b i r l

end Levels

/-- Rows of a plane laid end to end. -/
theorem flat2 {α : Type} {L N : ℕ} (hN : 8 * L = N) (x : (⟨3, ![2, 8, L]⟩ : Shape).Idx → α) (y : (⟨2, ![2, N]⟩ : Shape).Idx → α)
    (h : (⟨3, ![2, 8, L]⟩ : Shape).ShapeCasts ⟨2, ![2, N]⟩) (hxy : ∀ b r l, x (ix3 b r l) = y (ix2 b (at8 hN r l))) :
    shapeCast ⟨2, ![2, N]⟩ x h = y := by
  funext j
  obtain ⟨b, p, rfl⟩ : ∃ b p, j = ix2 b p := ⟨j 0, j 1, funext fun a => by
    match a with
    | ⟨0, _⟩ => rfl
    | ⟨1, _⟩ => rfl⟩
  obtain ⟨r, l, rfl⟩ := at8_surj hN p
  refine (shapeCast_apply x h _ (ix3 b r l) ?_).trans (hxy b r l)
  rw [Shape.rowMajor_val_three, Shape.rowMajor_val_two]
  show (b.val * 8 + r.val) * L + l.val = b.val * N + (r.val * L + l.val)
  subst hN
  ring

theorem flat3 {α : Type} {L N : ℕ} (hN : 8 * L = N) (x : (⟨4, ![2, 3, 8, L]⟩ : Shape).Idx → α) (y : (⟨3, ![2, 3, N]⟩ : Shape).Idx → α)
    (h : (⟨4, ![2, 3, 8, L]⟩ : Shape).ShapeCasts ⟨3, ![2, 3, N]⟩) (hxy : ∀ b i r l, x (ix4 b i r l) = y (ix3 b i (at8 hN r l))) :
    shapeCast ⟨3, ![2, 3, N]⟩ x h = y := by
  funext j
  obtain ⟨b, i, p, rfl⟩ : ∃ b i p, j = ix3 b i p := ⟨j 0, j 1, j 2, funext fun a => by
    match a with
    | ⟨0, _⟩ => rfl
    | ⟨1, _⟩ => rfl
    | ⟨2, _⟩ => rfl⟩
  obtain ⟨r, l, rfl⟩ := at8_surj hN p
  refine (shapeCast_apply x h _ (ix4 b i r l) ?_).trans (hxy b i r l)
  rw [Shape.rowMajor_val_four, Shape.rowMajor_val_three]
  show ((b.val * 3 + i.val) * 8 + r.val) * L + l.val = (b.val * 3 + i.val) * N + (r.val * L + l.val)
  subst hN
  ring

section Tail
variable (U : Valuation τ sig (Elt Ideal))

theorem tail3 : StableHlo.after hostOps1 U (Proc.devRef .tc main_v3) = shapeCast S2x2048 (U (Proc.devRef .tc main_v2_0)) shapeCasts_S2x8x256_S2x2048 := by
  after_reads_simp
  rfl
theorem tail4 : StableHlo.after hostOps1 U (Proc.devRef .tc main_v4) = shapeCast S2x3x2048 (U (Proc.devRef .tc main_v2_1)) shapeCasts_S2x3x8x256_S2x3x2048 := by
  after_reads_simp
  rfl
theorem tail5 : StableHlo.after hostOps1 U (Proc.devRef .tc main_v5) = shapeCast S2x1024 (U (Proc.devRef .tc main_v2_2)) shapeCasts_S2x8x128_S2x1024 := by
  after_reads_simp
  rfl
theorem tail6 : StableHlo.after hostOps1 U (Proc.devRef .tc main_v6) = shapeCast S2x3x1024 (U (Proc.devRef .tc main_v2_3)) shapeCasts_S2x3x8x128_S2x3x1024 := by
  after_reads_simp
  rfl
theorem head1 : StableHlo.after hostOps0 U (Proc.devRef .tc main_v1)
    = shapeCast S2x3x8x512 (transpose S2x3x4096 [0, 2, 1] (U (Proc.devRef .tc main_arg0) : Vec Ideal S2x4096x3 .f32) transposes_S2x4096x3_S2x3x4096_0_2_1)
        shapeCasts_S2x3x4096_S2x3x8x512 := by
  after_reads_simp
  rfl

end Tail

variable (m : (ℓ : Loc nD τ sig) → Buf (Elt Ideal) ℓ) (ρ : Dev nD → PrngReg) (c : Dev nD)

/-- The points. -/
abbrev pts (b : Fin 2) (n : Fin 4096) (i : Fin 3) : EReal := (m ((c.tc : Thread nD τ).loc main_arg0) : Vec Ideal S2x4096x3 .f32) (ix3 b n i)

/-- The input's one block is the whole array, -/
theorem block (t : Fin cfg0.N) : iblk m c 0 t = V m c main_v1 :=
  Memref.read_access_unit_zero (Elt Ideal) main_v1 (funext fun a => by fin_cases a <;> rfl) _ _

/-- which holds the points' coordinates plane by plane. -/
theorem block_at (t : Fin cfg0.N) (b : Fin 2) (i : Fin 3) (r : Fin 8) (l : Fin 512) :
    (iblk m c 0 t : Vec Ideal S2x3x8x512 .f32) (ix4 b i r l) = pts m c b (at8 rfl r l) i := by
  rw [block]
  refine (congrFun (head1 _) (ix4 b i r l)).trans ?_
  refine (shapeCast_apply _ _ _ (ix3 b i (at8 rfl r l)) ?_).trans (ValueIdx.transpose_ix3_021_apply _ _ b i _)
  rw [Shape.rowMajor_val_three, Shape.rowMajor_val_four]
  show (b.val * 3 + i.val) * 4096 + (r.val * 512 + l.val) = ((b.val * 3 + i.val) * 8 + r.val) * 512 + l.val
  omega

theorem end1 : (dats m 0 c).arrAt 1 cfg0.N = out1 (iblk m c 0 t0_0) :=
  (dat m c).arrAt_eq_of_after_last 1 t0_0 (by decide +kernel) _ (fun j => by
    rw [after_1]
    generalize out1 (iblk m c 0 t0_0) = G
    rfl)
theorem end2 : (dats m 0 c).arrAt 2 cfg0.N = out2 (iblk m c 0 t0_0) :=
  (dat m c).arrAt_eq_of_after_last 2 t0_0 (by decide +kernel) _ (fun j => by
    rw [after_2]
    generalize out2 (iblk m c 0 t0_0) = G
    rfl)
theorem end3 : (dats m 0 c).arrAt 3 cfg0.N = out3 (iblk m c 0 t0_0) :=
  (dat m c).arrAt_eq_of_after_last 3 t0_0 (by decide +kernel) _ (fun j => by
    rw [after_3]
    generalize out3 (iblk m c 0 t0_0) = G
    rfl)
theorem end4 : (dats m 0 c).arrAt 4 cfg0.N = out4 (iblk m c 0 t0_0) :=
  (dat m c).arrAt_eq_of_after_last 4 t0_0 (by decide +kernel) _ (fun j => by
    rw [after_4]
    generalize out4 (iblk m c 0 t0_0) = G
    rfl)

/-- The contents after the region. -/
abbrev left : Valuation τ sig (Elt Ideal) := Pipeline.withArrays spec0 c (V0 m c) fun w => (dats m 0 c).arrAt w cfg0.N

theorem left1 : left m c (Proc.devRef .tc main_v2_0) = out1 (iblk m c 0 t0_0) :=
  (Pipeline.withArrays_arr spec0 launch0.win.arr_inj c _ _ 1).trans (end1 m c)
theorem left2 : left m c (Proc.devRef .tc main_v2_1) = out2 (iblk m c 0 t0_0) :=
  (Pipeline.withArrays_arr spec0 launch0.win.arr_inj c _ _ 2).trans (end2 m c)
theorem left3 : left m c (Proc.devRef .tc main_v2_2) = out3 (iblk m c 0 t0_0) :=
  (Pipeline.withArrays_arr spec0 launch0.win.arr_inj c _ _ 3).trans (end3 m c)
theorem left4 : left m c (Proc.devRef .tc main_v2_3) = out4 (iblk m c 0 t0_0) :=
  (Pipeline.withArrays_arr spec0 launch0.win.arr_inj c _ _ 4).trans (end4 m c)

theorem v3_eq : StableHlo.after hostOps1 (left m c) (Proc.devRef .tc main_v3) = placesOf 2048 (pts m c) := by
  rw [tail3, left1]
  exact flat2 (L := 256) rfl _ _ _ (out1_at _ _ (block_at m c t0_0))
theorem v4_eq : StableHlo.after hostOps1 (left m c) (Proc.devRef .tc main_v4) = coordsOf 2048 (pts m c) := by
  rw [tail4, left2]
  exact flat3 (L := 256) rfl _ _ _ (out2_at _ _ (block_at m c t0_0))
theorem v5_eq : StableHlo.after hostOps1 (left m c) (Proc.devRef .tc main_v5) = placesOf 1024 (sub 2048 (pts m c)) := by
  rw [tail5, left3]
  exact flat2 (L := 128) rfl _ _ _ (out3_at _ _ (block_at m c t0_0))
theorem v6_eq : StableHlo.after hostOps1 (left m c) (Proc.devRef .tc main_v6) = coordsOf 1024 (sub 2048 (pts m c)) := by
  rw [tail6, left4]
  exact flat3 (L := 128) rfl _ _ _ (out4_at _ _ (block_at m c t0_0))

/-- The run's results and argument. -/
theorem result : θ_run defs (onTc (τ := τ) (main (F := Ideal))) ⟨m, fun _ => 0, ρ⟩ (fun r => ∀ c : Dev nD,
      r.2.mem ((c.tc : Thread nD τ).loc main_v3) = placesOf 2048 (pts m c)
      ∧ r.2.mem ((c.tc : Thread nD τ).loc main_v4) = coordsOf 2048 (pts m c)
      ∧ r.2.mem ((c.tc : Thread nD τ).loc main_v5) = placesOf 1024 (sub 2048 (pts m c))
      ∧ r.2.mem ((c.tc : Thread nD τ).loc main_v6) = coordsOf 1024 (sub 2048 (pts m c))
      ∧ r.2.mem ((c.tc : Thread nD τ).loc main_arg0) = m ((c.tc : Thread nD τ).loc main_arg0)) :=
  (θ_run defs _ _).mono (fun r h c =>
    ⟨((h.1 c).2 main_v3 (Pipeline.mem_restRefs_of main_v3 (by decide) (by decide))).trans (v3_eq m c),
     ((h.1 c).2 main_v4 (Pipeline.mem_restRefs_of main_v4 (by decide) (by decide))).trans (v4_eq m c),
     ((h.1 c).2 main_v5 (Pipeline.mem_restRefs_of main_v5 (by decide) (by decide))).trans (v5_eq m c),
     ((h.1 c).2 main_v6 (Pipeline.mem_restRefs_of main_v6 (by decide) (by decide))).trans (v6_eq m c),
     ((h.1 c).2 main_arg0 (Pipeline.mem_restRefs_of main_arg0 (by decide) (by decide))).trans (W_main_arg0 m (dats m) c)⟩) (run m ρ)

end Cert.Kernel2Ideal.Sample

end
-- ==== Proof.SampleRun.lean ====
/-
  The sampling reference's run: its operations as lists, and what every buffer holds after its two counted loops. `run`
  says the program ends with each tensor buffer at `fin`, the operations' values in order (the first loop's body 2047
  times, the second's 1023 times), and every semaphore at zero.
-/
module

public import proofs.«01_k».proof.Defs
public import proofs.«01_k».proof.Proof.Gen.Reference2Ideal
public import Idealize.ShloMosaic.Lib.StableHlo.RunLoop
public import Idealize.ShloMosaic.Lib.StableHlo.RunRead
public import Idealize.ShloMosaic.Lib.Scf
public import Idealize.ShloMosaic.Lib.Scf.ExitTest

@[expose] public section

set_option maxRecDepth 16384

noncomputable section

namespace Cert.Reference2Ideal.Sample

open Cert.Reference2Ideal Cert.Reference2Ideal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The operations -/

/-- @main's operations before the first loop. -/
def preOps : List (HloOp τ sig (Elt F)) :=
  [ StableHlo.nullary main_c (constantI S_ 32 0#32),
    StableHlo.unary main_c main_v0 (broadcastInDim S2x2048 ![] bcast_S_S2x2048 : (⟨S_, .i32⟩ : BufTy).Contents (Elt F) → (⟨S2x2048, .i32⟩ : BufTy).Contents (Elt F)),
    StableHlo.nullary main_cst (constant S_ .f32 0x501502F9#32),
    StableHlo.unary main_cst main_v1 (broadcastInDim S2x4096 ![] bcast_S_S2x4096 : (⟨S_, .f32⟩ : BufTy).Contents (Elt F) → (⟨S2x4096, .f32⟩ : BufTy).Contents (Elt F)),
    StableHlo.nullary main_c_0 (constantI S_ 32 0#32),
    StableHlo.unary main_c_0 main_v2 (broadcastInDim S2x1 ![] bcast_S_S2x1 : (⟨S_, .i32⟩ : BufTy).Contents (Elt F) → (⟨S2x1, .i32⟩ : BufTy).Contents (Elt F)),
    StableHlo.nullary main_c_1 (constantI S_ 32 1#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v1 main_v3_4 id,
    StableHlo.unary main_v2 main_v3_5 id ]

/-- The first loop's condition. -/
def cond0Ops : List (HloOp τ sig (Elt F)) :=
  [ StableHlo.nullary main_while0c_c_17 (constantI S_ 32 2047#32),
    StableHlo.binary main_v3_1 main_while0c_c_17 main_while0c_v24 (cmpi .slt : (⟨S_, .i32⟩ : BufTy).Contents (Elt F) → (⟨S_, .i32⟩ : BufTy).Contents (Elt F) → (⟨S_, .i1⟩ : BufTy).Contents (Elt F)) ]

/-- The first loop's body. -/
def body0Ops : List (HloOp τ sig (Elt F)) :=
  [ StableHlo.nullary main_while0b_c_17 (constantI S_ 32 1#32),
    StableHlo.binary main_v3_2 main_while0b_c_17 main_while0b_v24 (addi : (⟨S_, .i32⟩ : BufTy).Contents (Elt F) → (⟨S_, .i32⟩ : BufTy).Contents (Elt F) → (⟨S_, .i32⟩ : BufTy).Contents (Elt F)),
    StableHlo.nullary main_while0b_c_18 (constantI S_ 32 0#32),
    StableHlo.unary main_while0b_c_18 main_while0b_v25 (broadcastInDim S2x1 ![] bcast_S_S2x1 : (⟨S_, .i32⟩ : BufTy).Contents (Elt F) → (⟨S2x1, .i32⟩ : BufTy).Contents (Elt F)),
    StableHlo.binary main_v3_5 main_while0b_v25 main_while0b_v26 (cmpi .slt : (⟨S2x1, .i32⟩ : BufTy).Contents (Elt F) → (⟨S2x1, .i32⟩ : BufTy).Contents (Elt F) → (⟨S2x1, .i1⟩ : BufTy).Contents (Elt F)),
    StableHlo.nullary main_while0b_c_19 (constantI S_ 32 4096#32),
    StableHlo.unary main_while0b_c_19 main_while0b_v27 (broadcastInDim S2x1 ![] bcast_S_S2x1 : (⟨S_, .i32⟩ : BufTy).Contents (Elt F) → (⟨S2x1, .i32⟩ : BufTy).Contents (Elt F)),
    StableHlo.binary main_v3_5 main_while0b_v27 main_while0b_v28 (addi : (⟨S2x1, .i32⟩ : BufTy).Contents (Elt F) → (⟨S2x1, .i32⟩ : BufTy).Contents (Elt F) → (⟨S2x1, .i32⟩ : BufTy).Contents (Elt F)),
    StableHlo.ternary main_while0b_v26 main_while0b_v28 main_v3_5 main_while0b_v29 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    StableHlo.unary main_while0b_v29 main_while0b_v30 (broadcastInDim S2x1x1 ![0, 1] bcast_S2x1_S2x1x1_0_1 : (⟨S2x1, .i32⟩ : BufTy).Contents (Elt F) → (⟨S2x1x1, .i32⟩ : BufTy).Contents (Elt F)),
    StableHlo.binary main_v3_0 main_while0b_v30 main_while0b_v31 ((fun x i => Host.gather gather_S2x4096x3_S2x1x1_S2x1x3_2_1_0_0_1_2_113 x i) : (⟨S2x4096x3, .f32⟩ : BufTy).Contents (Elt F) → (⟨S2x1x1, .i32⟩ : BufTy).Contents (Elt F) → (⟨S2x1x3, .f32⟩ : BufTy).Contents (Elt F)),
    StableHlo.unary main_while0b_v31 main_while0b_v32 (broadcastInDim S2x4096x3 ![0, 1, 2] bcast_S2x1x3_S2x4096x3_0_1_2 : (⟨S2x1x3, .f32⟩ : BufTy).Contents (Elt F) → (⟨S2x4096x3, .f32⟩ : BufTy).Contents (Elt F)),
    StableHlo.binary main_v3_0 main_while0b_v32 main_while0b_v33 (subf : (⟨S2x4096x3, .f32⟩ : BufTy).Contents (Elt F) → (⟨S2x4096x3, .f32⟩ : BufTy).Contents (Elt F) → (⟨S2x4096x3, .f32⟩ : BufTy).Contents (Elt F)),
    StableHlo.binary main_while0b_v33 main_while0b_v33 main_while0b_v34 (mulf : (⟨S2x4096x3, .f32⟩ : BufTy).Contents (Elt F) → (⟨S2x4096x3, .f32⟩ : BufTy).Contents (Elt F) → (⟨S2x4096x3, .f32⟩ : BufTy).Contents (Elt F)),
    StableHlo.nullary main_while0b_cst_20 (constant S_ .f32 0x00000000#32),
    StableHlo.binary main_while0b_v34 main_while0b_cst_20 main_while0b_v35 ((fun x v => Host.reduceAdd x v reducesTo_S2x4096x3_S2x4096_d2 h_S_) : (⟨S2x4096x3, .f32⟩ : BufTy).Contents (Elt F) → (⟨S_, .f32⟩ : BufTy).Contents (Elt F) → (⟨S2x4096, .f32⟩ : BufTy).Contents (Elt F)),
    StableHlo.binary main_v3_4 main_while0b_v35 main_while0b_v36 (minimumf : (⟨S2x4096, .f32⟩ : BufTy).Contents (Elt F) → (⟨S2x4096, .f32⟩ : BufTy).Contents (Elt F) → (⟨S2x4096, .f32⟩ : BufTy).Contents (Elt F)),
    StableHlo.TRef.nullary main_while0b_call0.v0 (iotaInDim S2x4096 32 1),
    StableHlo.TRef.nullary main_while0b_call0.cst (constant S_ .f32 0xFF800000#32),
    StableHlo.TRef.nullary main_while0b_call0.c (constantI S_ 32 0#32),
    StableHlo.TRef.quaternary (.of main_while0b_v36) main_while0b_call0.v0 main_while0b_call0.cst main_while0b_call0.c main_while0b_call0.v1_0 (fun x y u v j => (Host.argReduce reducer_argmax_f32_i32 x y u v reducesTo_S2x4096_S2_d1 h_S_ j).1),
    StableHlo.TRef.quaternary (.of main_while0b_v36) main_while0b_call0.v0 main_while0b_call0.cst main_while0b_call0.c main_while0b_call0.v1_1 (fun x y u v j => (Host.argReduce reducer_argmax_f32_i32 x y u v reducesTo_S2x4096_S2_d1 h_S_ j).2),
    StableHlo.unary main_while0b_v37 main_while0b_v38 (broadcastInDim S2x1 ![0] bcast_S2_S2x1_0 : (⟨S2, .i32⟩ : BufTy).Contents (Elt F) → (⟨S2x1, .i32⟩ : BufTy).Contents (Elt F)),
    StableHlo.nullary main_while0b_c_21 (constantI S_ 32 0#32),
    StableHlo.binary main_v3_2 main_while0b_c_21 main_while0b_v39 (cmpi .slt : (⟨S_, .i32⟩ : BufTy).Contents (Elt F) → (⟨S_, .i32⟩ : BufTy).Contents (Elt F) → (⟨S_, .i1⟩ : BufTy).Contents (Elt F)),
    StableHlo.unary main_v3_2 main_while0b_v40 (id : (⟨S_, .i32⟩ : BufTy).Contents (Elt F) → (⟨S_, .i32⟩ : BufTy).Contents (Elt F)),
    StableHlo.nullary main_while0b_c_22 (constantI S_ 32 2048#32),
    StableHlo.binary main_while0b_v40 main_while0b_c_22 main_while0b_v41 (addi : (⟨S_, .i32⟩ : BufTy).Contents (Elt F) → (⟨S_, .i32⟩ : BufTy).Contents (Elt F) → (⟨S_, .i32⟩ : BufTy).Contents (Elt F)),
    StableHlo.ternary main_while0b_v39 main_while0b_v41 main_v3_2 main_while0b_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_23 (constantI S_ 32 0#32),
    StableHlo.binaryIndexed main_v3_3 main_while0b_v38 ![main_while0b_c_23, main_while0b_v42] ⟨S_, .i32⟩ main_while0b_v43 ((fun x u i => Host.dynamicUpdateSlice x u (fun k => (i k (Shape.Idx.first h_S_)).toInt) updateFits_S2x2048_S2x1) : (⟨S2x2048, .i32⟩ : BufTy).Contents (Elt F) → (⟨S2x1, .i32⟩ : BufTy).Contents (Elt F) → (Fin 2 → (⟨S_, .i32⟩ : BufTy).Contents (Elt F)) → (⟨S2x2048, .i32⟩ : BufTy).Contents (Elt F)),
    StableHlo.nullary main_while0b_c_24 (constantI S_ 32 1#32),
    StableHlo.binary main_v3_1 main_while0b_c_24 main_while0b_v44 (addi : (⟨S_, .i32⟩ : BufTy).Contents (Elt F) → (⟨S_, .i32⟩ : BufTy).Contents (Elt F) → (⟨S_, .i32⟩ : BufTy).Contents (Elt F)),
    StableHlo.unary main_while0b_v44 main_v3_1 id,
    StableHlo.unary main_while0b_v24 main_v3_2 id,
    StableHlo.unary main_while0b_v43 main_v3_3 id,
    StableHlo.unary main_while0b_v36 main_v3_4 id,
    StableHlo.unary main_while0b_v38 main_v3_5 id ]

/-- @main's operations between the loops. -/
def midOps : List (HloOp τ sig (Elt F)) :=
  [ StableHlo.nullary main_c_3 (constantI S_ 32 0#32),
    StableHlo.unary main_c_3 main_v4 (broadcastInDim S2x2048 ![] bcast_S_S2x2048 : (⟨S_, .i32⟩ : BufTy).Contents (Elt F) → (⟨S2x2048, .i32⟩ : BufTy).Contents (Elt F)),
    StableHlo.binary main_v3_3 main_v4 main_v5 (cmpi .slt : (⟨S2x2048, .i32⟩ : BufTy).Contents (Elt F) → (⟨S2x2048, .i32⟩ : BufTy).Contents (Elt F) → (⟨S2x2048, .i1⟩ : BufTy).Contents (Elt F)),
    StableHlo.nullary main_c_4 (constantI S_ 32 4096#32),
    StableHlo.unary main_c_4 main_v6 (broadcastInDim S2x2048 ![] bcast_S_S2x2048 : (⟨S_, .i32⟩ : BufTy).Contents (Elt F) → (⟨S2x2048, .i32⟩ : BufTy).Contents (Elt F)),
    StableHlo.binary main_v3_3 main_v6 main_v7 (addi : (⟨S2x2048, .i32⟩ : BufTy).Contents (Elt F) → (⟨S2x2048, .i32⟩ : BufTy).Contents (Elt F) → (⟨S2x2048, .i32⟩ : BufTy).Contents (Elt F)),
    StableHlo.ternary main_v5 main_v7 main_v3_3 main_v8 (select : (⟨S2x2048, .i1⟩ : BufTy).Contents (Elt F) → (⟨S2x2048, .i32⟩ : BufTy).Contents (Elt F) → (⟨S2x2048, .i32⟩ : BufTy).Contents (Elt F) → (⟨S2x2048, .i32⟩ : BufTy).Contents (Elt F)),
    StableHlo.unary main_v8 main_v9 (broadcastInDim S2x2048x1 ![0, 1] bcast_S2x2048_S2x2048x1_0_1 : (⟨S2x2048, .i32⟩ : BufTy).Contents (Elt F) → (⟨S2x2048x1, .i32⟩ : BufTy).Contents (Elt F)),
    StableHlo.binary main_arg0 main_v9 main_v10 ((fun x i => Host.gather gather_S2x4096x3_S2x2048x1_S2x2048x3_2_1_0_0_1_2_113 x i) : (⟨S2x4096x3, .f32⟩ : BufTy).Contents (Elt F) → (⟨S2x2048x1, .i32⟩ : BufTy).Contents (Elt F) → (⟨S2x2048x3, .f32⟩ : BufTy).Contents (Elt F)),
    StableHlo.nullary main_c_5 (constantI S_ 32 0#32),
    StableHlo.unary main_c_5 main_v11 (broadcastInDim S2x1024 ![] bcast_S_S2x1024 : (⟨S_, .i32⟩ : BufTy).Contents (Elt F) → (⟨S2x1024, .i32⟩ : BufTy).Contents (Elt F)),
    StableHlo.nullary main_cst_6 (constant S_ .f32 0x501502F9#32),
    StableHlo.unary main_cst_6 main_v12 (broadcastInDim S2x2048 ![] bcast_S_S2x2048 : (⟨S_, .f32⟩ : BufTy).Contents (Elt F) → (⟨S2x2048, .f32⟩ : BufTy).Contents (Elt F)),
    StableHlo.nullary main_c_7 (constantI S_ 32 0#32),
    StableHlo.unary main_c_7 main_v13 (broadcastInDim S2x1 ![] bcast_S_S2x1 : (⟨S_, .i32⟩ : BufTy).Contents (Elt F) → (⟨S2x1, .i32⟩ : BufTy).Contents (Elt F)),
    StableHlo.nullary main_c_8 (constantI S_ 32 1#32),
    StableHlo.nullary main_c_9 (constantI S_ 32 0#32),
    StableHlo.unary main_v10 main_v14_0 id,
    StableHlo.unary main_c_9 main_v14_1 id,
    StableHlo.unary main_c_8 main_v14_2 id,
    StableHlo.unary main_v11 main_v14_3 id,
    StableHlo.unary main_v12 main_v14_4 id,
    StableHlo.unary main_v13 main_v14_5 id ]

/-- The second loop's condition. -/
def cond1Ops : List (HloOp τ sig (Elt F)) :=
  [ StableHlo.nullary main_while1c_c_17 (constantI S_ 32 1023#32),
    StableHlo.binary main_v14_1 main_while1c_c_17 main_while1c_v24 (cmpi .slt : (⟨S_, .i32⟩ : BufTy).Contents (Elt F) → (⟨S_, .i32⟩ : BufTy).Contents (Elt F) → (⟨S_, .i1⟩ : BufTy).Contents (Elt F)) ]

/-- The second loop's body. -/
def body1Ops : List (HloOp τ sig (Elt F)) :=
  [ StableHlo.nullary main_while1b_c_17 (constantI S_ 32 1#32),
    StableHlo.binary main_v14_2 main_while1b_c_17 main_while1b_v24 (addi : (⟨S_, .i32⟩ : BufTy).Contents (Elt F) → (⟨S_, .i32⟩ : BufTy).Contents (Elt F) → (⟨S_, .i32⟩ : BufTy).Contents (Elt F)),
    StableHlo.nullary main_while1b_c_18 (constantI S_ 32 0#32),
    StableHlo.unary main_while1b_c_18 main_while1b_v25 (broadcastInDim S2x1 ![] bcast_S_S2x1 : (⟨S_, .i32⟩ : BufTy).Contents (Elt F) → (⟨S2x1, .i32⟩ : BufTy).Contents (Elt F)),
    StableHlo.binary main_v14_5 main_while1b_v25 main_while1b_v26 (cmpi .slt : (⟨S2x1, .i32⟩ : BufTy).Contents (Elt F) → (⟨S2x1, .i32⟩ : BufTy).Contents (Elt F) → (⟨S2x1, .i1⟩ : BufTy).Contents (Elt F)),
    StableHlo.nullary main_while1b_c_19 (constantI S_ 32 2048#32),
    StableHlo.unary main_while1b_c_19 main_while1b_v27 (broadcastInDim S2x1 ![] bcast_S_S2x1 : (⟨S_, .i32⟩ : BufTy).Contents (Elt F) → (⟨S2x1, .i32⟩ : BufTy).Contents (Elt F)),
    StableHlo.binary main_v14_5 main_while1b_v27 main_while1b_v28 (addi : (⟨S2x1, .i32⟩ : BufTy).Contents (Elt F) → (⟨S2x1, .i32⟩ : BufTy).Contents (Elt F) → (⟨S2x1, .i32⟩ : BufTy).Contents (Elt F)),
    StableHlo.ternary main_while1b_v26 main_while1b_v28 main_v14_5 main_while1b_v29 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    StableHlo.unary main_while1b_v29 main_while1b_v30 (broadcastInDim S2x1x1 ![0, 1] bcast_S2x1_S2x1x1_0_1 : (⟨S2x1, .i32⟩ : BufTy).Contents (Elt F) → (⟨S2x1x1, .i32⟩ : BufTy).Contents (Elt F)),
    StableHlo.binary main_v14_0 main_while1b_v30 main_while1b_v31 ((fun x i => Host.gather gather_S2x2048x3_S2x1x1_S2x1x3_2_1_0_0_1_2_113 x i) : (⟨S2x2048x3, .f32⟩ : BufTy).Contents (Elt F) → (⟨S2x1x1, .i32⟩ : BufTy).Contents (Elt F) → (⟨S2x1x3, .f32⟩ : BufTy).Contents (Elt F)),
    StableHlo.unary main_while1b_v31 main_while1b_v32 (broadcastInDim S2x2048x3 ![0, 1, 2] bcast_S2x1x3_S2x2048x3_0_1_2 : (⟨S2x1x3, .f32⟩ : BufTy).Contents (Elt F) → (⟨S2x2048x3, .f32⟩ : BufTy).Contents (Elt F)),
    StableHlo.binary main_v14_0 main_while1b_v32 main_while1b_v33 (subf : (⟨S2x2048x3, .f32⟩ : BufTy).Contents (Elt F) → (⟨S2x2048x3, .f32⟩ : BufTy).Contents (Elt F) → (⟨S2x2048x3, .f32⟩ : BufTy).Contents (Elt F)),
    StableHlo.binary main_while1b_v33 main_while1b_v33 main_while1b_v34 (mulf : (⟨S2x2048x3, .f32⟩ : BufTy).Contents (Elt F) → (⟨S2x2048x3, .f32⟩ : BufTy).Contents (Elt F) → (⟨S2x2048x3, .f32⟩ : BufTy).Contents (Elt F)),
    StableHlo.nullary main_while1b_cst_20 (constant S_ .f32 0x00000000#32),
    StableHlo.binary main_while1b_v34 main_while1b_cst_20 main_while1b_v35 ((fun x v => Host.reduceAdd x v reducesTo_S2x2048x3_S2x2048_d2 h_S_) : (⟨S2x2048x3, .f32⟩ : BufTy).Contents (Elt F) → (⟨S_, .f32⟩ : BufTy).Contents (Elt F) → (⟨S2x2048, .f32⟩ : BufTy).Contents (Elt F)),
    StableHlo.binary main_v14_4 main_while1b_v35 main_while1b_v36 (minimumf : (⟨S2x2048, .f32⟩ : BufTy).Contents (Elt F) → (⟨S2x2048, .f32⟩ : BufTy).Contents (Elt F) → (⟨S2x2048, .f32⟩ : BufTy).Contents (Elt F)),
    StableHlo.TRef.nullary main_while1b_call1.v0 (iotaInDim S2x2048 32 1),
    StableHlo.TRef.nullary main_while1b_call1.cst (constant S_ .f32 0xFF800000#32),
    StableHlo.TRef.nullary main_while1b_call1.c (constantI S_ 32 0#32),
    StableHlo.TRef.quaternary (.of main_while1b_v36) main_while1b_call1.v0 main_while1b_call1.cst main_while1b_call1.c main_while1b_call1.v1_0 (fun x y u v j => (Host.argReduce reducer_argmax_f32_i32 x y u v reducesTo_S2x2048_S2_d1 h_S_ j).1),
    StableHlo.TRef.quaternary (.of main_while1b_v36) main_while1b_call1.v0 main_while1b_call1.cst main_while1b_call1.c main_while1b_call1.v1_1 (fun x y u v j => (Host.argReduce reducer_argmax_f32_i32 x y u v reducesTo_S2x2048_S2_d1 h_S_ j).2),
    StableHlo.unary main_while1b_v37 main_while1b_v38 (broadcastInDim S2x1 ![0] bcast_S2_S2x1_0 : (⟨S2, .i32⟩ : BufTy).Contents (Elt F) → (⟨S2x1, .i32⟩ : BufTy).Contents (Elt F)),
    StableHlo.nullary main_while1b_c_21 (constantI S_ 32 0#32),
    StableHlo.binary main_v14_2 main_while1b_c_21 main_while1b_v39 (cmpi .slt : (⟨S_, .i32⟩ : BufTy).Contents (Elt F) → (⟨S_, .i32⟩ : BufTy).Contents (Elt F) → (⟨S_, .i1⟩ : BufTy).Contents (Elt F)),
    StableHlo.unary main_v14_2 main_while1b_v40 (id : (⟨S_, .i32⟩ : BufTy).Contents (Elt F) → (⟨S_, .i32⟩ : BufTy).Contents (Elt F)),
    StableHlo.nullary main_while1b_c_22 (constantI S_ 32 1024#32),
    StableHlo.binary main_while1b_v40 main_while1b_c_22 main_while1b_v41 (addi : (⟨S_, .i32⟩ : BufTy).Contents (Elt F) → (⟨S_, .i32⟩ : BufTy).Contents (Elt F) → (⟨S_, .i32⟩ : BufTy).Contents (Elt F)),
    StableHlo.ternary main_while1b_v39 main_while1b_v41 main_v14_2 main_while1b_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_23 (constantI S_ 32 0#32),
    StableHlo.binaryIndexed main_v14_3 main_while1b_v38 ![main_while1b_c_23, main_while1b_v42] ⟨S_, .i32⟩ main_while1b_v43 ((fun x u i => Host.dynamicUpdateSlice x u (fun k => (i k (Shape.Idx.first h_S_)).toInt) updateFits_S2x1024_S2x1) : (⟨S2x1024, .i32⟩ : BufTy).Contents (Elt F) → (⟨S2x1, .i32⟩ : BufTy).Contents (Elt F) → (Fin 2 → (⟨S_, .i32⟩ : BufTy).Contents (Elt F)) → (⟨S2x1024, .i32⟩ : BufTy).Contents (Elt F)),
    StableHlo.nullary main_while1b_c_24 (constantI S_ 32 1#32),
    StableHlo.binary main_v14_1 main_while1b_c_24 main_while1b_v44 (addi : (⟨S_, .i32⟩ : BufTy).Contents (Elt F) → (⟨S_, .i32⟩ : BufTy).Contents (Elt F) → (⟨S_, .i32⟩ : BufTy).Contents (Elt F)),
    StableHlo.unary main_while1b_v44 main_v14_1 id,
    StableHlo.unary main_while1b_v24 main_v14_2 id,
    StableHlo.unary main_while1b_v43 main_v14_3 id,
    StableHlo.unary main_while1b_v36 main_v14_4 id,
    StableHlo.unary main_while1b_v38 main_v14_5 id ]

/-- @main's operations after the second loop. -/
def postOps : List (HloOp τ sig (Elt F)) :=
  [ StableHlo.nullary main_c_10 (constantI S_ 32 0#32),
    StableHlo.unary main_c_10 main_v15 (broadcastInDim S2x1024 ![] bcast_S_S2x1024 : (⟨S_, .i32⟩ : BufTy).Contents (Elt F) → (⟨S2x1024, .i32⟩ : BufTy).Contents (Elt F)),
    StableHlo.binary main_v14_3 main_v15 main_v16 (cmpi .slt : (⟨S2x1024, .i32⟩ : BufTy).Contents (Elt F) → (⟨S2x1024, .i32⟩ : BufTy).Contents (Elt F) → (⟨S2x1024, .i1⟩ : BufTy).Contents (Elt F)),
    StableHlo.nullary main_c_11 (constantI S_ 32 2048#32),
    StableHlo.unary main_c_11 main_v17 (broadcastInDim S2x1024 ![] bcast_S_S2x1024 : (⟨S_, .i32⟩ : BufTy).Contents (Elt F) → (⟨S2x1024, .i32⟩ : BufTy).Contents (Elt F)),
    StableHlo.binary main_v14_3 main_v17 main_v18 (addi : (⟨S2x1024, .i32⟩ : BufTy).Contents (Elt F) → (⟨S2x1024, .i32⟩ : BufTy).Contents (Elt F) → (⟨S2x1024, .i32⟩ : BufTy).Contents (Elt F)),
    StableHlo.ternary main_v16 main_v18 main_v14_3 main_v19 (select : (⟨S2x1024, .i1⟩ : BufTy).Contents (Elt F) → (⟨S2x1024, .i32⟩ : BufTy).Contents (Elt F) → (⟨S2x1024, .i32⟩ : BufTy).Contents (Elt F) → (⟨S2x1024, .i32⟩ : BufTy).Contents (Elt F)),
    StableHlo.unary main_v19 main_v20 (broadcastInDim S2x1024x1 ![0, 1] bcast_S2x1024_S2x1024x1_0_1 : (⟨S2x1024, .i32⟩ : BufTy).Contents (Elt F) → (⟨S2x1024x1, .i32⟩ : BufTy).Contents (Elt F)),
    StableHlo.binary main_v10 main_v20 main_v21 ((fun x i => Host.gather gather_S2x2048x3_S2x1024x1_S2x1024x3_2_1_0_0_1_2_113 x i) : (⟨S2x2048x3, .f32⟩ : BufTy).Contents (Elt F) → (⟨S2x1024x1, .i32⟩ : BufTy).Contents (Elt F) → (⟨S2x1024x3, .f32⟩ : BufTy).Contents (Elt F)),
    StableHlo.unary main_v10 main_v22 ((transpose S2x3x2048 [0, 2, 1] · transposes_S2x2048x3_S2x3x2048_0_2_1) : (⟨S2x2048x3, .f32⟩ : BufTy).Contents (Elt F) → (⟨S2x3x2048, .f32⟩ : BufTy).Contents (Elt F)),
    StableHlo.unary main_v21 main_v23 ((transpose S2x3x1024 [0, 2, 1] · transposes_S2x1024x3_S2x3x1024_0_2_1) : (⟨S2x1024x3, .f32⟩ : BufTy).Contents (Elt F) → (⟨S2x3x1024, .f32⟩ : BufTy).Contents (Elt F)) ]

theorem pre_sub : ((preOps (F := F))).Forall fun op => op.bufs ⊆ tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

theorem pre_plain : Plain [preOps (F := F)] := .cons pre_sub .nil

theorem mid_sub : ((midOps (F := F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

theorem mid_plain : Plain [midOps (F := F)] := .cons mid_sub .nil

theorem post_sub : ((postOps (F := F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub ..⟩

theorem post_plain : Plain [postOps (F := F)] := .cons post_sub .nil

theorem cond0_sub : ((cond0Ops (F := F))).Forall fun op => op.bufs ⊆ tcRefs τ sig :=
  ⟨StableHlo.nullary_bufs_sub .., StableHlo.binary_bufs_sub ..⟩

theorem cond0_plain : Plain [cond0Ops (F := F)] := .cons cond0_sub .nil

theorem body0_sub : ((body0Ops (F := F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩

theorem body0_plain : Plain [body0Ops (F := F)] := .cons body0_sub .nil

theorem cond1_sub : ((cond1Ops (F := F))).Forall fun op => op.bufs ⊆ tcRefs τ sig :=
  ⟨StableHlo.nullary_bufs_sub .., StableHlo.binary_bufs_sub ..⟩

theorem cond1_plain : Plain [cond1Ops (F := F)] := .cons cond1_sub .nil

theorem body1_sub : ((body1Ops (F := F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩

theorem body1_plain : Plain [body1Ops (F := F)] := .cons body1_sub .nil

set_option maxHeartbeats 1000000 in
theorem main_eq (c : Dev nD) : main (F := F) c = Pipeline.chain (([preOps (F := F)].map fun ops => (seq ops : Prog _ PUnit))
    ++ HostLoop.enter 0 :: (([midOps (F := F)].map fun ops => (seq ops : Prog _ PUnit))
    ++ HostLoop.enter 1 :: [postOps (F := F)].map fun ops => (seq ops : Prog _ PUnit))) := by
  unfold main
  chain_rfl
theorem body0_eq : main_while0_body (F := F) = Pipeline.chain ([body0Ops (F := F)].map fun ops => (seq ops : Prog _ PUnit)) := by
  unfold main_while0_body
  chain_rfl
theorem body1_eq : main_while1_body (F := F) = Pipeline.chain ([body1Ops (F := F)].map fun ops => (seq ops : Prog _ PUnit)) := by
  unfold main_while1_body
  chain_rfl

/-! ## The loop counters -/

theorem ctr_pre (V : Valuation τ sig (Elt F)) : after preOps V (Proc.devRef .tc main_v3_1) = fun _ => (0#32 : BitVec 32) := by
  after_reads_simp
  rfl
theorem ctr_cond0 (V : Valuation τ sig (Elt F)) : after cond0Ops V (Proc.devRef .tc main_v3_1) = V (Proc.devRef .tc main_v3_1) := by
  after_reads_simp
theorem ctr_body0 (V : Valuation τ sig (Elt F)) : after body0Ops V (Proc.devRef .tc main_v3_1) = addi (V (Proc.devRef .tc main_v3_1)) (constantI S_ 32 1#32) := by
  after_reads_simp
  rfl
theorem ctr_mid (V : Valuation τ sig (Elt F)) : after midOps V (Proc.devRef .tc main_v14_1) = fun _ => (0#32 : BitVec 32) := by
  after_reads_simp
  rfl
theorem ctr_cond1 (V : Valuation τ sig (Elt F)) : after cond1Ops V (Proc.devRef .tc main_v14_1) = V (Proc.devRef .tc main_v14_1) := by
  after_reads_simp
theorem ctr_body1 (V : Valuation τ sig (Elt F)) : after body1Ops V (Proc.devRef .tc main_v14_1) = addi (V (Proc.devRef .tc main_v14_1)) (constantI S_ 32 1#32) := by
  after_reads_simp
  rfl

variable (m : (ℓ : Loc nD τ sig) → Buf (Elt F) ℓ) (ρ : Dev nD → PrngReg)

/-- The buffers as the first loop finds them, -/
abbrev in0 (c : Dev nD) : Valuation τ sig (Elt F) := afterL [preOps] (launchContents m c)
/-- before its `k`-th trip, -/
abbrev at0 (k : ℕ) (c : Dev nD) : Valuation τ sig (Elt F) := atTrip cond0Ops [body0Ops] (in0 m) k c
/-- and as it leaves them; -/
abbrev out0 (c : Dev nD) : Valuation τ sig (Elt F) := after cond0Ops (at0 m 2047 c)
/-- as the second loop finds them, -/
abbrev in1 (c : Dev nD) : Valuation τ sig (Elt F) := afterL [midOps] (out0 m c)
/-- before its `k`-th trip, -/
abbrev at1 (k : ℕ) (c : Dev nD) : Valuation τ sig (Elt F) := atTrip cond1Ops [body1Ops] (in1 m) k c
/-- and as it leaves them. -/
abbrev out1 (c : Dev nD) : Valuation τ sig (Elt F) := after cond1Ops (at1 m 1023 c)
/-- The buffers at the program's end. -/
abbrev fin (c : Dev nD) : Valuation τ sig (Elt F) := afterL [postOps] (out1 m c)

theorem at0_ctr (c : Dev nD) : ∀ k, at0 m k c (Proc.devRef .tc main_v3_1) = fun _ => Scf.iv 0#32 1#32 k
  | 0 => by
    rw [Scf.iv_zero]; exact ctr_pre (F := F) (launchContents m c)
  | k + 1 => by
    rw [show at0 m (k + 1) c = after body0Ops (after cond0Ops (at0 m k c)) from rfl, ctr_body0, ctr_cond0, at0_ctr c k, Scf.iv_succ]
    rfl

theorem at1_ctr (c : Dev nD) : ∀ k, at1 m k c (Proc.devRef .tc main_v14_1) = fun _ => Scf.iv 0#32 1#32 k
  | 0 => by
    rw [Scf.iv_zero]; exact ctr_mid (F := F) (out0 m c)
  | k + 1 => by
    rw [show at1 m (k + 1) c = after body1Ops (after cond1Ops (at1 m k c)) from rfl, ctr_body1, ctr_cond1, at1_ctr c k, Scf.iv_succ]
    rfl

/-! ## The conditions -/

/-- What is carried beside the buffers: the core's dues. -/
abbrev Rw (c : Dev nD) : sProp 𝕄 := iprop(∃ W, owes (c : Thread nD τ) (0 : CellTallies nD τ sig Unit) W)

set_option backward.isDefEq.respectTransparency.types false in
theorem cond0_spec : LoopCond (pcfgs (F := F)) defs₀ Variants.none loops (Rw (F := F)) (main_while0_cond (F := F)) cond0Ops [body0Ops] (in0 m) 2047 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v3_1 HostLoop.idx0)
        (HloOp.result _ (at0 m k c) main_while0c_c_17 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  isplitl [Hh]; · unfold cond0Ops; rw [after_cons, after_cons, after_nil]; iexact Hh
  iexact HR

set_option backward.isDefEq.respectTransparency.types false in
theorem cond1_spec : LoopCond (pcfgs (F := F)) defs₀ Variants.none loops (Rw (F := F)) (main_while1_cond (F := F)) cond1Ops [body1Ops] (in1 m) 1023 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v14_1 HostLoop.idx0)
        (HloOp.result _ (at1 m k c) main_while1c_c_17 HostLoop.idx0) = 1#1) (k < 1023)
    rw [nullary_result_ne _ _ _ _ (by decide), nullary_result, hctr]
    exact Scf.cmpi_slt_iv_ub_iff (lb := 0#32) (ub := 1023#32) (st := 1#32) (by decide) (show k ≤ Scf.trips 0#32 1023#32 1#32 from hk)
  isplitl [Hb]; · iexact Hb
  isplitl [Hh]; · unfold cond1Ops; rw [after_cons, after_cons, after_nil]; iexact Hh
  iexact HR

/-! ## The run -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- The program's segments: the stretches and the two loops, in order. -/
def segs : List (CSeg (pcfgs (F := F)) adm defs₀ Variants.none L lv loops tk) :=
  segsOf _ _ _ _ _ _ _ _ Rw [preOps] pre_plain (launchContents m)
    ++ loopSeg _ _ _ _ _ _ _ _ 0 main_while0_cond main_while0_body rfl cond0Ops [body0Ops] body0_plain body0_eq 2047 (in0 m) Rw (cond0_spec m)
      :: (segsOf _ _ _ _ _ _ _ _ Rw [midOps] mid_plain (out0 m)
        ++ loopSeg _ _ _ _ _ _ _ _ 1 main_while1_cond main_while1_body rfl cond1Ops [body1Ops] body1_plain body1_eq 1023 (in1 m) Rw (cond1_spec m)
          :: segsOf _ _ _ _ _ _ _ _ Rw [postOps] post_plain (out1 m))

theorem segs_prog : (segs m).map CSeg.prog = ([preOps (F := F)].map fun ops => (seq ops : Prog _ PUnit))
    ++ HostLoop.enter 0 :: (([midOps (F := F)].map fun ops => (seq ops : Prog _ PUnit))
    ++ HostLoop.enter 1 :: [postOps (F := F)].map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw [preOps] pre_plain _) ⟨fun _ => .rfl,
    CSeg.Chains.append (segsOf_chains _ _ _ _ _ _ _ _ Rw [midOps] mid_plain _) ⟨fun _ => .rfl, segsOf_chains _ _ _ _ _ _ _ _ Rw [postOps] post_plain _⟩⟩

/-- The run: every tensor buffer ends at `fin`, every semaphore at zero. -/
theorem run [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm (fun k => k.1.elim0) defs₀ Variants.none L lv loops tk m ρ main (segs m)
    (fun c Q => by
      rw [main_eq c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => by
      refine hs g ?_
      rcases g with ⟨⟨d, p⟩, sm⟩
      cases sm with
      | reg i => exact i.elim0
      | dma i => exact i.elim0⟩)

end Cert.Reference2Ideal.Sample

end
-- ==== Proof.SampleRounds.lean ====
/-
  One trip of each of the sampling reference's loops, as array functions read from the buffers it starts from, and what
  those functions hold at an index.
-/
module

public import proofs.«01_k».proof.Proof.SampleRun
public import proofs.«01_k».proof.Proof.Sampling
public import proofs.«01_k».proof.Proof.Reads
public import Idealize.ShloMosaic.Lib.WordCmp

@[expose] public section

set_option maxRecDepth 16384

noncomputable section

namespace Cert.Reference2Ideal.Sample

open Cert.Reference2Ideal Cert.Reference2Ideal.Gen Cert.Sampling
open Idealize.ShloMosaic Idealize.ShloMosaic.TcCoe Idealize.ShloMosaic.Tactic Idealize.ShloMosaic.StableHlo

/-- A place counted from the end where it is negative. -/
def wrapLast (n : BitVec 32) (t : IVec S2x1 32) : IVec S2x1 32 :=
  select (cmpi .slt t (broadcastInDim S2x1 ![] bcast_S_S2x1 (constantI S_ 32 0#32)))
    (addi t (broadcastInDim S2x1 ![] bcast_S_S2x1 (constantI S_ 32 n))) t

/-- A column of one place for each point set. -/
def colOf (q : IVec S2 32) : IVec S2x1 32 := broadcastInDim S2x1 ![0] bcast_S2_S2x1_0 q

/-- A slot counted from the end where it is negative. -/
def wrapSlot (n : BitVec 32) (i : IVec S_ 32) : IVec S_ 32 :=
  select (cmpi .slt i (constantI S_ 32 0#32)) (addi i (constantI S_ 32 n)) i

theorem wrapLast_apply (N : ℕ) (hN : N < 2147483648) (n : BitVec 32) (t : IVec S2x1 32) (b : Fin 2) (m : Fin N)
    (h : t (ix2 b 0) = BitVec.ofNat 32 m.val) : wrapLast n t (ix2 b 0) = BitVec.ofNat 32 m.val := by
  show Scalar.select (IntOp.cmpi .slt (t (ix2 b 0)) 0#32) (IntOp.addi (t (ix2 b 0)) n) (t (ix2 b 0)) = _
  rw [h]
  exact Reads.wrap_ofNat n hN m

theorem colOf_apply (q : IVec S2 32) (b : Fin 2) : colOf q (ix2 b 0) = q (ix1 b) := by
  unfold colOf
  pointwise

theorem argmax_eq : reducer_argmax_f32_i32 (F := Ideal) = better := by
  funext a b
  obtain ⟨a, i⟩ := a
  obtain ⟨c, j⟩ := b
  have h1 : FloatOps.cmpf (F := Ideal) (φ := .f32) .ogt a c = BitVec.ofBool (decide (c < a)) := rfl
  have h2 : FloatOps.cmpf (F := Ideal) (φ := .f32) .une a a = 0#1 := by
    show BitVec.ofBool (decide (a ≠ a)) = 0#1
    simp
  have h3 : FloatOps.cmpf (F := Ideal) (φ := .f32) .oeq a c = BitVec.ofBool (decide (a = c)) := rfl
  have h4 : IntOp.cmpi .slt i j = BitVec.ofBool (decide (i.toInt < j.toInt)) := rfl
  unfold reducer_argmax_f32_i32 better
  simp only [h1, h2, h3, h4]
  by_cases e1 : c < a
  · have e2 : a ≠ c := fun e => absurd e1 (by rw [e]; exact lt_irrefl _)
    simp [e1, e2, IntOp.ori, IntOp.andi, Scalar.select]
  · by_cases e2 : a = c
    · subst e2
      by_cases e3 : i.toInt < j.toInt <;> simp [e3, IntOp.ori, IntOp.andi, Scalar.select]
    · simp [e1, e2, IntOp.ori, IntOp.andi, Scalar.select]

theorem first_S (g : S_.Idx → BitVec 32) (v : BitVec 32) (h : g = fun _ => v) : g (Shape.Idx.first h_S_) = v := by rw [h]

/-! ## The first loop -/

/-- The coordinates of the point taken last. -/
def lastRow0 (p : FVec Ideal S2x4096x3 .f32) (t : IVec S2x1 32) : FVec Ideal S2x1x3 .f32 :=
  Host.gather gather_S2x4096x3_S2x1x1_S2x1x3_2_1_0_0_1_2_113 p (broadcastInDim S2x1x1 ![0, 1] bcast_S2x1_S2x1x1_0_1 (wrapLast 4096#32 t))

/-- The least distances after one more point. -/
def near0 (p : FVec Ideal S2x4096x3 .f32) (d : FVec Ideal S2x4096 .f32) (t : IVec S2x1 32) : FVec Ideal S2x4096 .f32 :=
  minimumf d (Host.reduceAdd
    (mulf (subf p (broadcastInDim S2x4096x3 ![0, 1, 2] bcast_S2x1x3_S2x4096x3_0_1_2 (lastRow0 p t)))
      (subf p (broadcastInDim S2x4096x3 ![0, 1, 2] bcast_S2x1x3_S2x4096x3_0_1_2 (lastRow0 p t))))
    (constant S_ .f32 0x00000000#32) reducesTo_S2x4096x3_S2x4096_d2 h_S_)

/-- The first place of the greatest of them. -/
def place0 (d : FVec Ideal S2x4096 .f32) : IVec S2 32 := fun j =>
  (Host.argReduce reducer_argmax_f32_i32 d (iotaInDim S2x4096 32 1) (constant S_ .f32 0xFF800000#32) (constantI S_ 32 0#32)
    reducesTo_S2x4096_S2_d1 h_S_ j).2

/-- A column put at slot `i`. -/
def put0 (old : IVec S2x2048 32) (u : IVec S2x1 32) (i : IVec S_ 32) : IVec S2x2048 32 :=
  Host.dynamicUpdateSlice old u
    (fun k => ((![constantI S_ 32 0#32, wrapSlot 2048#32 i] : Fin 2 → IVec S_ 32) k (Shape.Idx.first h_S_)).toInt) updateFits_S2x2048_S2x1

section Reads0
variable (V : Valuation τ sig (Elt Ideal))

theorem cond0_0 : after cond0Ops V (Proc.devRef .tc main_v3_0) = V (Proc.devRef .tc main_v3_0) := by after_reads_simp
theorem cond0_2 : after cond0Ops V (Proc.devRef .tc main_v3_2) = V (Proc.devRef .tc main_v3_2) := by after_reads_simp
theorem cond0_3 : after cond0Ops V (Proc.devRef .tc main_v3_3) = V (Proc.devRef .tc main_v3_3) := by after_reads_simp
theorem cond0_4 : after cond0Ops V (Proc.devRef .tc main_v3_4) = V (Proc.devRef .tc main_v3_4) := by after_reads_simp
theorem cond0_5 : after cond0Ops V (Proc.devRef .tc main_v3_5) = V (Proc.devRef .tc main_v3_5) := by after_reads_simp

theorem body0_0 : after body0Ops V (Proc.devRef .tc main_v3_0) = V (Proc.devRef .tc main_v3_0) := by after_reads_simp
theorem body0_2 : after body0Ops V (Proc.devRef .tc main_v3_2) = addi (V (Proc.devRef .tc main_v3_2)) (constantI S_ 32 1#32) := by
  after_reads_simp
  rfl
theorem body0_4 : after body0Ops V (Proc.devRef .tc main_v3_4)
    = near0 (V (Proc.devRef .tc main_v3_0)) (V (Proc.devRef .tc main_v3_4)) (V (Proc.devRef .tc main_v3_5)) := by
  after_reads_simp
  rfl
theorem body0_5 : after body0Ops V (Proc.devRef .tc main_v3_5)
    = colOf (place0 (near0 (V (Proc.devRef .tc main_v3_0)) (V (Proc.devRef .tc main_v3_4)) (V (Proc.devRef .tc main_v3_5)))) := by
  after_reads_simp
  rfl
set_option maxHeartbeats 2000000 in
theorem body0_3 : after body0Ops V (Proc.devRef .tc main_v3_3)
    = put0 (V (Proc.devRef .tc main_v3_3))
        (colOf (place0 (near0 (V (Proc.devRef .tc main_v3_0)) (V (Proc.devRef .tc main_v3_4)) (V (Proc.devRef .tc main_v3_5)))))
        (V (Proc.devRef .tc main_v3_2)) := by
  after_reads_simp
  unfold put0
  refine congrArg₂ (fun u st => Host.dynamicUpdateSlice (V (Proc.devRef .tc main_v3_3)) u st updateFits_S2x2048_S2x1) ?_ (funext fun k => ?_)
  · rfl
  · match k with
    | ⟨0, _⟩ => rfl
    | ⟨1, _⟩ => rfl

end Reads0

theorem lastRow0_apply (p : FVec Ideal S2x4096x3 .f32) (t : IVec S2x1 32) (b : Fin 2) (m : Fin 4096)
    (h : t (ix2 b 0) = BitVec.ofNat 32 m.val) (c : Fin 3) : lastRow0 p t (ix3 b 0 c) = p (ix3 b m c) := by
  have hw : broadcastInDim S2x1x1 ![0, 1] bcast_S2x1_S2x1x1_0_1 (wrapLast 4096#32 t) (ix3 b 0 0) = BitVec.ofNat 32 m.val := by
    refine Eq.trans ?_ (wrapLast_apply 4096 (by omega) 4096#32 t b m h)
    pointwise
  refine (Reads.gather_rows3 (B := 2) (N := 4096) (Q := 1) (C := 3) (by omega) _ p _ b 0 c).trans ?_
  rw [hw, Reads.row_ofNat (by omega) (by omega)]

theorem near0_apply (p : FVec Ideal S2x4096x3 .f32) (d : FVec Ideal S2x4096 .f32) (t : IVec S2x1 32) (b : Fin 2)
    (X : Fin 4096 → Fin 3 → EReal) (hp : ∀ n c, p (ix3 b n c) = X n c) (m : Fin 4096) (h : t (ix2 b 0) = BitVec.ofNat 32 m.val)
    (n : Fin 4096) : near0 p d t (ix2 b n) = min (d (ix2 b n) : EReal) (dist X n m) := by
  have hq : ∀ c : Fin 3, mulf (subf p (broadcastInDim S2x4096x3 ![0, 1, 2] bcast_S2x1x3_S2x4096x3_0_1_2 (lastRow0 p t)))
      (subf p (broadcastInDim S2x4096x3 ![0, 1, 2] bcast_S2x1x3_S2x4096x3_0_1_2 (lastRow0 p t))) (ix3 b n c)
      = (X n c - X m c) * (X n c - X m c) := fun c => by
    have e : broadcastInDim S2x4096x3 ![0, 1, 2] bcast_S2x1x3_S2x4096x3_0_1_2 (lastRow0 p t) (ix3 b n c) = X m c := by
      refine Eq.trans ?_ ((lastRow0_apply p t b m h c).trans (hp m c))
      pointwise
    rw [← hp n c, ← e]; rfl
  unfold near0
  generalize mulf (subf p (broadcastInDim S2x4096x3 ![0, 1, 2] bcast_S2x1x3_S2x4096x3_0_1_2 (lastRow0 p t)))
      (subf p (broadcastInDim S2x4096x3 ![0, 1, 2] bcast_S2x1x3_S2x4096x3_0_1_2 (lastRow0 p t))) = w at hq
  pointwise
  rw [Fin.sum_univ_three, hq, hq, hq]
  rfl

theorem place0_apply (d : FVec Ideal S2x4096 .f32) (b : Fin 2) (D : Fin 4096 → EReal) (hd : ∀ n, d (ix2 b n) = D n) (p : Fin 4096)
    (hp : IsFirstMax D p) : colOf (place0 d) (ix2 b 0) = BitVec.ofNat 32 p.val := by
  rw [colOf_apply]
  exact congrArg Prod.snd (argReduce_eq (N := 4096) (by omega) _ argmax_eq d (iotaInDim S2x4096 32 1)
    (constant S_ .f32 0xFF800000#32 : FVec Ideal S_ .f32) (constantI S_ 32 0#32) reducesTo_S2x4096_S2_d1 h_S_ negInf_eq rfl b D hd (fun n => rfl) p hp)

theorem put0_apply (old : IVec S2x2048 32) (u : IVec S2x1 32) (i : IVec S_ 32) (j : Fin 2048) (hi : i = fun _ => BitVec.ofNat 32 j.val)
    (b : Fin 2) (s : Fin 2048) : put0 old u i (ix2 b s) = if s.val = j.val then u (ix2 b 0) else old (ix2 b s) := by
  have hj := j.isLt
  have hw : wrapSlot 2048#32 i = fun _ => BitVec.ofNat 32 j.val := by
    subst hi
    funext _
    exact Reads.wrap_ofNat 2048#32 (by omega) j
  have hfit : S2x2048.Slices (![0, j.val] : Fin 2 → ℕ) S2x1 := ⟨rfl, fun a => by
    match a with
    | ⟨0, _⟩ => show 0 + 2 ≤ 2; omega
    | ⟨1, _⟩ => show j.val + 1 ≤ 2048; omega⟩
  unfold put0
  rw [hw, WordCmp.dynamicUpdateSlice_eq_update old u _ _ (![0, j.val] : Fin 2 → ℕ) hfit (fun a => by
    match a with
    | ⟨0, _⟩ => rfl
    | ⟨1, _⟩ => exact Select.toInt_ofNat _ (by omega))]
  unfold updateSlice
  by_cases e : s.val = j.val
  · rw [if_pos e, dif_pos (fun a => by
      match a with
      | ⟨0, _⟩ => exact ⟨Nat.zero_le _, by show b.val < 0 + 2; omega⟩
      | ⟨1, _⟩ => exact ⟨e.ge, by show s.val < j.val + 1; omega⟩)]
    refine congrArg u (funext fun a => Fin.ext ?_)
    match a with
    | ⟨0, _⟩ => exact Nat.sub_zero _
    | ⟨1, _⟩ => show s.val - j.val = 0; omega
  · rw [if_neg e, dif_neg (fun h => by
      have h1 : j.val ≤ s.val ∧ s.val < j.val + 1 := h 1
      omega)]

/-- The loop's buffers are those of the sampling after `k` rounds. -/
structure Holds0 (X : Fin 2 → Fin 4096 → Fin 3 → EReal) (k : ℕ) (V : Valuation τ sig (Elt Ideal)) : Prop where
  pts : ∀ b n c, (V (Proc.devRef .tc main_v3_0) : FVec Ideal S2x4096x3 .f32) (ix3 b n c) = X b n c
  next : (V (Proc.devRef .tc main_v3_2) : IVec S_ 32) = fun _ => BitVec.ofNat 32 (k + 1)
  idx : ∀ b (s : Fin 2048), (V (Proc.devRef .tc main_v3_3) : IVec S2x2048 32) (ix2 b s)
    = if s.val ≤ k then BitVec.ofNat 32 (taken (X b) s.val).val else 0#32
  near : ∀ b n, (V (Proc.devRef .tc main_v3_4) : FVec Ideal S2x4096 .f32) (ix2 b n) = least (X b) k n
  last : ∀ b, (V (Proc.devRef .tc main_v3_5) : IVec S2x1 32) (ix2 b 0) = BitVec.ofNat 32 (taken (X b) k).val

theorem holds0_cond (X : Fin 2 → Fin 4096 → Fin 3 → EReal) (k : ℕ) (V : Valuation τ sig (Elt Ideal)) (h : Holds0 X k V) :
    Holds0 X k (after cond0Ops V) := by
  refine ⟨?_, ?_, ?_, ?_, ?_⟩
  · rw [cond0_0]; exact h.pts
  · rw [cond0_2]; exact h.next
  · rw [cond0_3]; exact h.idx
  · rw [cond0_4]; exact h.near
  · rw [cond0_5]; exact h.last

theorem holds0_body (X : Fin 2 → Fin 4096 → Fin 3 → EReal) (k : ℕ) (hk : k + 1 < 2048) (V : Valuation τ sig (Elt Ideal))
    (h : Holds0 X k V) : Holds0 X (k + 1) (after body0Ops V) := by
  have hn : ∀ b n, near0 (V (Proc.devRef .tc main_v3_0)) (V (Proc.devRef .tc main_v3_4)) (V (Proc.devRef .tc main_v3_5)) (ix2 b n)
      = least (X b) (k + 1) n := fun b n => by
    rw [near0_apply _ _ _ b (X b) (h.pts b) _ (h.last b), h.near]; rfl
  have hl : ∀ b, colOf (place0 (near0 (V (Proc.devRef .tc main_v3_0)) (V (Proc.devRef .tc main_v3_4)) (V (Proc.devRef .tc main_v3_5)))) (ix2 b 0)
      = BitVec.ofNat 32 (taken (X b) (k + 1)).val := fun b =>
    place0_apply _ b (least (X b) (k + 1)) (hn b) _ (isFirstMax_taken (X b) k)
  refine ⟨?_, ?_, fun b s => ?_, ?_, ?_⟩
  · rw [body0_0]; exact h.pts
  · rw [body0_2, h.next]
    funext _
    show BitVec.ofNat 32 (k + 1) + BitVec.ofNat 32 1 = BitVec.ofNat 32 (k + 1 + 1)
    rw [← BitVec.ofNat_add]
  · rw [body0_3, put0_apply _ _ _ ⟨k + 1, hk⟩ h.next b s, hl, h.idx]
    by_cases e : s.val = k + 1
    · rw [if_pos e, if_pos (by omega), e]
    · rw [if_neg e]
      by_cases e' : s.val ≤ k
      · rw [if_pos e', if_pos (by omega)]
      · rw [if_neg e', if_neg (by omega)]
  · rw [body0_4]; exact hn
  · rw [body0_5]; exact hl

/-! ## The second loop -/

/-- The coordinates of the point taken last. -/
def lastRow1 (p : FVec Ideal S2x2048x3 .f32) (t : IVec S2x1 32) : FVec Ideal S2x1x3 .f32 :=
  Host.gather gather_S2x2048x3_S2x1x1_S2x1x3_2_1_0_0_1_2_113 p (broadcastInDim S2x1x1 ![0, 1] bcast_S2x1_S2x1x1_0_1 (wrapLast 2048#32 t))

/-- The least distances after one more point. -/
def near1 (p : FVec Ideal S2x2048x3 .f32) (d : FVec Ideal S2x2048 .f32) (t : IVec S2x1 32) : FVec Ideal S2x2048 .f32 :=
  minimumf d (Host.reduceAdd
    (mulf (subf p (broadcastInDim S2x2048x3 ![0, 1, 2] bcast_S2x1x3_S2x2048x3_0_1_2 (lastRow1 p t)))
      (subf p (broadcastInDim S2x2048x3 ![0, 1, 2] bcast_S2x1x3_S2x2048x3_0_1_2 (lastRow1 p t))))
    (constant S_ .f32 0x00000000#32) reducesTo_S2x2048x3_S2x2048_d2 h_S_)

/-- The first place of the greatest of them. -/
def place1 (d : FVec Ideal S2x2048 .f32) : IVec S2 32 := fun j =>
  (Host.argReduce reducer_argmax_f32_i32 d (iotaInDim S2x2048 32 1) (constant S_ .f32 0xFF800000#32) (constantI S_ 32 0#32)
    reducesTo_S2x2048_S2_d1 h_S_ j).2

/-- A column put at slot `i`. -/
def put1 (old : IVec S2x1024 32) (u : IVec S2x1 32) (i : IVec S_ 32) : IVec S2x1024 32 :=
  Host.dynamicUpdateSlice old u
    (fun k => ((![constantI S_ 32 0#32, wrapSlot 1024#32 i] : Fin 2 → IVec S_ 32) k (Shape.Idx.first h_S_)).toInt) updateFits_S2x1024_S2x1

section Reads1
variable (V : Valuation τ sig (Elt Ideal))

theorem cond1_0 : after cond1Ops V (Proc.devRef .tc main_v14_0) = V (Proc.devRef .tc main_v14_0) := by after_reads_simp
theorem cond1_2 : after cond1Ops V (Proc.devRef .tc main_v14_2) = V (Proc.devRef .tc main_v14_2) := by after_reads_simp
theorem cond1_3 : after cond1Ops V (Proc.devRef .tc main_v14_3) = V (Proc.devRef .tc main_v14_3) := by after_reads_simp
theorem cond1_4 : after cond1Ops V (Proc.devRef .tc main_v14_4) = V (Proc.devRef .tc main_v14_4) := by after_reads_simp
theorem cond1_5 : after cond1Ops V (Proc.devRef .tc main_v14_5) = V (Proc.devRef .tc main_v14_5) := by after_reads_simp

theorem body1_0 : after body1Ops V (Proc.devRef .tc main_v14_0) = V (Proc.devRef .tc main_v14_0) := by after_reads_simp
theorem body1_2 : after body1Ops V (Proc.devRef .tc main_v14_2) = addi (V (Proc.devRef .tc main_v14_2)) (constantI S_ 32 1#32) := by
  after_reads_simp
  rfl
theorem body1_4 : after body1Ops V (Proc.devRef .tc main_v14_4)
    = near1 (V (Proc.devRef .tc main_v14_0)) (V (Proc.devRef .tc main_v14_4)) (V (Proc.devRef .tc main_v14_5)) := by
  after_reads_simp
  rfl
theorem body1_5 : after body1Ops V (Proc.devRef .tc main_v14_5)
    = colOf (place1 (near1 (V (Proc.devRef .tc main_v14_0)) (V (Proc.devRef .tc main_v14_4)) (V (Proc.devRef .tc main_v14_5)))) := by
  after_reads_simp
  rfl
set_option maxHeartbeats 2000000 in
theorem body1_3 : after body1Ops V (Proc.devRef .tc main_v14_3)
    = put1 (V (Proc.devRef .tc main_v14_3))
        (colOf (place1 (near1 (V (Proc.devRef .tc main_v14_0)) (V (Proc.devRef .tc main_v14_4)) (V (Proc.devRef .tc main_v14_5)))))
        (V (Proc.devRef .tc main_v14_2)) := by
  after_reads_simp
  unfold put1
  refine congrArg₂ (fun u st => Host.dynamicUpdateSlice (V (Proc.devRef .tc main_v14_3)) u st updateFits_S2x1024_S2x1) ?_ (funext fun k => ?_)
  · rfl
  · match k with
    | ⟨0, _⟩ => rfl
    | ⟨1, _⟩ => rfl

end Reads1

theorem lastRow1_apply (p : FVec Ideal S2x2048x3 .f32) (t : IVec S2x1 32) (b : Fin 2) (m : Fin 2048)
    (h : t (ix2 b 0) = BitVec.ofNat 32 m.val) (c : Fin 3) : lastRow1 p t (ix3 b 0 c) = p (ix3 b m c) := by
  have hw : broadcastInDim S2x1x1 ![0, 1] bcast_S2x1_S2x1x1_0_1 (wrapLast 2048#32 t) (ix3 b 0 0) = BitVec.ofNat 32 m.val := by
    refine Eq.trans ?_ (wrapLast_apply 2048 (by omega) 2048#32 t b m h)
    pointwise
  refine (Reads.gather_rows3 (B := 2) (N := 2048) (Q := 1) (C := 3) (by omega) _ p _ b 0 c).trans ?_
  rw [hw, Reads.row_ofNat (by omega) (by omega)]

theorem near1_apply (p : FVec Ideal S2x2048x3 .f32) (d : FVec Ideal S2x2048 .f32) (t : IVec S2x1 32) (b : Fin 2)
    (X : Fin 2048 → Fin 3 → EReal) (hp : ∀ n c, p (ix3 b n c) = X n c) (m : Fin 2048) (h : t (ix2 b 0) = BitVec.ofNat 32 m.val)
    (n : Fin 2048) : near1 p d t (ix2 b n) = min (d (ix2 b n) : EReal) (dist X n m) := by
  have hq : ∀ c : Fin 3, mulf (subf p (broadcastInDim S2x2048x3 ![0, 1, 2] bcast_S2x1x3_S2x2048x3_0_1_2 (lastRow1 p t)))
      (subf p (broadcastInDim S2x2048x3 ![0, 1, 2] bcast_S2x1x3_S2x2048x3_0_1_2 (lastRow1 p t))) (ix3 b n c)
      = (X n c - X m c) * (X n c - X m c) := fun c => by
    have e : broadcastInDim S2x2048x3 ![0, 1, 2] bcast_S2x1x3_S2x2048x3_0_1_2 (lastRow1 p t) (ix3 b n c) = X m c := by
      refine Eq.trans ?_ ((lastRow1_apply p t b m h c).trans (hp m c))
      pointwise
    rw [← hp n c, ← e]; rfl
  unfold near1
  generalize mulf (subf p (broadcastInDim S2x2048x3 ![0, 1, 2] bcast_S2x1x3_S2x2048x3_0_1_2 (lastRow1 p t)))
      (subf p (broadcastInDim S2x2048x3 ![0, 1, 2] bcast_S2x1x3_S2x2048x3_0_1_2 (lastRow1 p t))) = w at hq
  pointwise
  rw [Fin.sum_univ_three, hq, hq, hq]
  rfl

theorem place1_apply (d : FVec Ideal S2x2048 .f32) (b : Fin 2) (D : Fin 2048 → EReal) (hd : ∀ n, d (ix2 b n) = D n) (p : Fin 2048)
    (hp : IsFirstMax D p) : colOf (place1 d) (ix2 b 0) = BitVec.ofNat 32 p.val := by
  rw [colOf_apply]
  exact congrArg Prod.snd (argReduce_eq (N := 2048) (by omega) _ argmax_eq d (iotaInDim S2x2048 32 1)
    (constant S_ .f32 0xFF800000#32 : FVec Ideal S_ .f32) (constantI S_ 32 0#32) reducesTo_S2x2048_S2_d1 h_S_ negInf_eq rfl b D hd (fun n => rfl) p hp)

theorem put1_apply (old : IVec S2x1024 32) (u : IVec S2x1 32) (i : IVec S_ 32) (j : Fin 1024) (hi : i = fun _ => BitVec.ofNat 32 j.val)
    (b : Fin 2) (s : Fin 1024) : put1 old u i (ix2 b s) = if s.val = j.val then u (ix2 b 0) else old (ix2 b s) := by
  have hj := j.isLt
  have hw : wrapSlot 1024#32 i = fun _ => BitVec.ofNat 32 j.val := by
    subst hi
    funext _
    exact Reads.wrap_ofNat 1024#32 (by omega) j
  have hfit : S2x1024.Slices (![0, j.val] : Fin 2 → ℕ) S2x1 := ⟨rfl, fun a => by
    match a with
    | ⟨0, _⟩ => show 0 + 2 ≤ 2; omega
    | ⟨1, _⟩ => show j.val + 1 ≤ 1024; omega⟩
  unfold put1
  rw [hw, WordCmp.dynamicUpdateSlice_eq_update old u _ _ (![0, j.val] : Fin 2 → ℕ) hfit (fun a => by
    match a with
    | ⟨0, _⟩ => rfl
    | ⟨1, _⟩ => exact Select.toInt_ofNat _ (by omega))]
  unfold updateSlice
  by_cases e : s.val = j.val
  · rw [if_pos e, dif_pos (fun a => by
      match a with
      | ⟨0, _⟩ => exact ⟨Nat.zero_le _, by show b.val < 0 + 2; omega⟩
      | ⟨1, _⟩ => exact ⟨e.ge, by show s.val < j.val + 1; omega⟩)]
    refine congrArg u (funext fun a => Fin.ext ?_)
    match a with
    | ⟨0, _⟩ => exact Nat.sub_zero _
    | ⟨1, _⟩ => show s.val - j.val = 0; omega
  · rw [if_neg e, dif_neg (fun h => by
      have h1 : j.val ≤ s.val ∧ s.val < j.val + 1 := h 1
      omega)]

/-- The loop's buffers are those of the sampling after `k` rounds. -/
structure Holds1 (X : Fin 2 → Fin 2048 → Fin 3 → EReal) (k : ℕ) (V : Valuation τ sig (Elt Ideal)) : Prop where
  pts : ∀ b n c, (V (Proc.devRef .tc main_v14_0) : FVec Ideal S2x2048x3 .f32) (ix3 b n c) = X b n c
  next : (V (Proc.devRef .tc main_v14_2) : IVec S_ 32) = fun _ => BitVec.ofNat 32 (k + 1)
  idx : ∀ b (s : Fin 1024), (V (Proc.devRef .tc main_v14_3) : IVec S2x1024 32) (ix2 b s)
    = if s.val ≤ k then BitVec.ofNat 32 (taken (X b) s.val).val else 0#32
  near : ∀ b n, (V (Proc.devRef .tc main_v14_4) : FVec Ideal S2x2048 .f32) (ix2 b n) = least (X b) k n
  last : ∀ b, (V (Proc.devRef .tc main_v14_5) : IVec S2x1 32) (ix2 b 0) = BitVec.ofNat 32 (taken (X b) k).val

theorem holds1_cond (X : Fin 2 → Fin 2048 → Fin 3 → EReal) (k : ℕ) (V : Valuation τ sig (Elt Ideal)) (h : Holds1 X k V) :
    Holds1 X k (after cond1Ops V) := by
  refine ⟨?_, ?_, ?_, ?_, ?_⟩
  · rw [cond1_0]; exact h.pts
  · rw [cond1_2]; exact h.next
  · rw [cond1_3]; exact h.idx
  · rw [cond1_4]; exact h.near
  · rw [cond1_5]; exact h.last

theorem holds1_body (X : Fin 2 → Fin 2048 → Fin 3 → EReal) (k : ℕ) (hk : k + 1 < 1024) (V : Valuation τ sig (Elt Ideal))
    (h : Holds1 X k V) : Holds1 X (k + 1) (after body1Ops V) := by
  have hn : ∀ b n, near1 (V (Proc.devRef .tc main_v14_0)) (V (Proc.devRef .tc main_v14_4)) (V (Proc.devRef .tc main_v14_5)) (ix2 b n)
      = least (X b) (k + 1) n := fun b n => by
    rw [near1_apply _ _ _ b (X b) (h.pts b) _ (h.last b), h.near]; rfl
  have hl : ∀ b, colOf (place1 (near1 (V (Proc.devRef .tc main_v14_0)) (V (Proc.devRef .tc main_v14_4)) (V (Proc.devRef .tc main_v14_5)))) (ix2 b 0)
      = BitVec.ofNat 32 (taken (X b) (k + 1)).val := fun b =>
    place1_apply _ b (least (X b) (k + 1)) (hn b) _ (isFirstMax_taken (X b) k)
  refine ⟨?_, ?_, fun b s => ?_, ?_, ?_⟩
  · rw [body1_0]; exact h.pts
  · rw [body1_2, h.next]
    funext _
    show BitVec.ofNat 32 (k + 1) + BitVec.ofNat 32 1 = BitVec.ofNat 32 (k + 1 + 1)
    rw [← BitVec.ofNat_add]
  · rw [body1_3, put1_apply _ _ _ ⟨k + 1, hk⟩ h.next b s, hl, h.idx]
    by_cases e : s.val = k + 1
    · rw [if_pos e, if_pos (by omega), e]
    · rw [if_neg e]
      by_cases e' : s.val ≤ k
      · rw [if_pos e', if_pos (by omega)]
      · rw [if_neg e', if_neg (by omega)]
  · rw [body1_4]; exact hn
  · rw [body1_5]; exact hl

end Cert.Reference2Ideal.Sample

end
-- ==== Proof.SampleEnds.lean ====
/-
  The sampling reference around its loops: what the loops start from, and the points at the places taken.
-/
module

public import proofs.«01_k».proof.Proof.SampleRun
public import proofs.«01_k».proof.Proof.Reads

@[expose] public section

set_option maxRecDepth 16384

noncomputable section

namespace Cert.Reference2Ideal.Sample

open Cert.Reference2Ideal Cert.Reference2Ideal.Gen
open Idealize.ShloMosaic Idealize.ShloMosaic.TcCoe Idealize.ShloMosaic.Tactic Idealize.ShloMosaic.StableHlo

/-- The places of level 1 counted from the end where negative, in a column each. -/
def cols1 (q : IVec S2x2048 32) : IVec S2x2048x1 32 :=
  broadcastInDim S2x2048x1 ![0, 1] bcast_S2x2048_S2x2048x1_0_1
    (select (cmpi .slt q (broadcastInDim S2x2048 ![] bcast_S_S2x2048 (constantI S_ 32 0#32)))
      (addi q (broadcastInDim S2x2048 ![] bcast_S_S2x2048 (constantI S_ 32 4096#32))) q)

theorem cols1_apply (q : IVec S2x2048 32) (b : Fin 2) (s : Fin 2048) (n : Fin 4096) (h : q (ix2 b s) = BitVec.ofNat 32 n.val) :
    cols1 q (ix3 b s 0) = BitVec.ofNat 32 n.val := by
  have e : Scalar.select (IntOp.cmpi .slt (q (ix2 b s)) 0#32) (IntOp.addi (q (ix2 b s)) 4096#32) (q (ix2 b s)) = BitVec.ofNat 32 n.val := by
    rw [h]
    exact Reads.wrap_ofNat 4096#32 (by omega) n
  refine Eq.trans ?_ e
  have hb : ∀ w : IVec S2x2048 32, broadcastInDim S2x2048x1 ![0, 1] bcast_S2x2048_S2x2048x1_0_1 w (ix3 b s 0) = w (ix2 b s) := fun w => by
    pointwise
  exact hb _

/-- The points at the places of level 1. -/
def pick1 (p : FVec Ideal S2x4096x3 .f32) (q : IVec S2x2048 32) : FVec Ideal S2x2048x3 .f32 :=
  Host.gather gather_S2x4096x3_S2x2048x1_S2x2048x3_2_1_0_0_1_2_113 p (cols1 q)

theorem pick1_apply (p : FVec Ideal S2x4096x3 .f32) (q : IVec S2x2048 32) (b : Fin 2) (s : Fin 2048) (n : Fin 4096)
    (h : q (ix2 b s) = BitVec.ofNat 32 n.val) (i : Fin 3) : pick1 p q (ix3 b s i) = p (ix3 b n i) := by
  refine (Reads.gather_rows3 (B := 2) (N := 4096) (Q := 2048) (C := 3) (by omega) _ p _ b s i).trans ?_
  rw [cols1_apply q b s n h, Reads.row_ofNat (by omega) (by omega)]

/-- The places of level 2 counted from the end where negative, in a column each. -/
def cols2 (q : IVec S2x1024 32) : IVec S2x1024x1 32 :=
  broadcastInDim S2x1024x1 ![0, 1] bcast_S2x1024_S2x1024x1_0_1
    (select (cmpi .slt q (broadcastInDim S2x1024 ![] bcast_S_S2x1024 (constantI S_ 32 0#32)))
      (addi q (broadcastInDim S2x1024 ![] bcast_S_S2x1024 (constantI S_ 32 2048#32))) q)

theorem cols2_apply (q : IVec S2x1024 32) (b : Fin 2) (s : Fin 1024) (n : Fin 2048) (h : q (ix2 b s) = BitVec.ofNat 32 n.val) :
    cols2 q (ix3 b s 0) = BitVec.ofNat 32 n.val := by
  have e : Scalar.select (IntOp.cmpi .slt (q (ix2 b s)) 0#32) (IntOp.addi (q (ix2 b s)) 2048#32) (q (ix2 b s)) = BitVec.ofNat 32 n.val := by
    rw [h]
    exact Reads.wrap_ofNat 2048#32 (by omega) n
  refine Eq.trans ?_ e
  have hb : ∀ w : IVec S2x1024 32, broadcastInDim S2x1024x1 ![0, 1] bcast_S2x1024_S2x1024x1_0_1 w (ix3 b s 0) = w (ix2 b s) := fun w => by
    pointwise
  exact hb _

/-- The points at the places of level 2. -/
def pick2 (p : FVec Ideal S2x2048x3 .f32) (q : IVec S2x1024 32) : FVec Ideal S2x1024x3 .f32 :=
  Host.gather gather_S2x2048x3_S2x1024x1_S2x1024x3_2_1_0_0_1_2_113 p (cols2 q)

theorem pick2_apply (p : FVec Ideal S2x2048x3 .f32) (q : IVec S2x1024 32) (b : Fin 2) (s : Fin 1024) (n : Fin 2048)
    (h : q (ix2 b s) = BitVec.ofNat 32 n.val) (i : Fin 3) : pick2 p q (ix3 b s i) = p (ix3 b n i) := by
  refine (Reads.gather_rows3 (B := 2) (N := 2048) (Q := 1024) (C := 3) (by omega) _ p _ b s i).trans ?_
  rw [cols2_apply q b s n h, Reads.row_ofNat (by omega) (by omega)]

section Reads
variable (V : Valuation τ sig (Elt Ideal))

/-! ## Buffers a stretch leaves alone -/

theorem pre_arg0 : after preOps V (Proc.devRef .tc main_arg0) = V (Proc.devRef .tc main_arg0) := by after_reads_simp
theorem cond0_arg0 : after cond0Ops V (Proc.devRef .tc main_arg0) = V (Proc.devRef .tc main_arg0) := by after_reads_simp
theorem body0_arg0 : after body0Ops V (Proc.devRef .tc main_arg0) = V (Proc.devRef .tc main_arg0) := by after_reads_simp
theorem mid_arg0 : after midOps V (Proc.devRef .tc main_arg0) = V (Proc.devRef .tc main_arg0) := by after_reads_simp
theorem mid_v3_3 : after midOps V (Proc.devRef .tc main_v3_3) = V (Proc.devRef .tc main_v3_3) := by after_reads_simp
theorem cond1_arg0 : after cond1Ops V (Proc.devRef .tc main_arg0) = V (Proc.devRef .tc main_arg0) := by after_reads_simp
theorem cond1_v3_3 : after cond1Ops V (Proc.devRef .tc main_v3_3) = V (Proc.devRef .tc main_v3_3) := by after_reads_simp
theorem cond1_v10 : after cond1Ops V (Proc.devRef .tc main_v10) = V (Proc.devRef .tc main_v10) := by after_reads_simp
theorem body1_arg0 : after body1Ops V (Proc.devRef .tc main_arg0) = V (Proc.devRef .tc main_arg0) := by after_reads_simp
theorem body1_v3_3 : after body1Ops V (Proc.devRef .tc main_v3_3) = V (Proc.devRef .tc main_v3_3) := by after_reads_simp
theorem body1_v10 : after body1Ops V (Proc.devRef .tc main_v10) = V (Proc.devRef .tc main_v10) := by after_reads_simp
theorem post_arg0 : after postOps V (Proc.devRef .tc main_arg0) = V (Proc.devRef .tc main_arg0) := by after_reads_simp
theorem post_v3_3 : after postOps V (Proc.devRef .tc main_v3_3) = V (Proc.devRef .tc main_v3_3) := by after_reads_simp
theorem post_v14_3 : after postOps V (Proc.devRef .tc main_v14_3) = V (Proc.devRef .tc main_v14_3) := by after_reads_simp

/-! ## What the stretches write -/

theorem pre_v3_0 : after preOps V (Proc.devRef .tc main_v3_0) = V (Proc.devRef .tc main_arg0) := by
  after_reads_simp
  rfl

theorem pre_v3_2 : (after preOps V (Proc.devRef .tc main_v3_2) : IVec S_ 32) = fun _ => BitVec.ofNat 32 1 := by
  after_reads_simp
  rfl
theorem pre_v3_3 : (after preOps V (Proc.devRef .tc main_v3_3) : IVec S2x2048 32) = broadcastInDim S2x2048 ![] bcast_S_S2x2048 (constantI S_ 32 0#32) := by
  after_reads_simp
  rfl
theorem pre_v3_4 : (after preOps V (Proc.devRef .tc main_v3_4) : FVec Ideal S2x4096 .f32) = broadcastInDim S2x4096 ![] bcast_S_S2x4096 (constant (F := Ideal) S_ .f32 0x501502F9#32) := by
  after_reads_simp
  rfl
theorem pre_v3_5 : (after preOps V (Proc.devRef .tc main_v3_5) : IVec S2x1 32) = broadcastInDim S2x1 ![] bcast_S_S2x1 (constantI S_ 32 0#32) := by
  after_reads_simp
  rfl

theorem mid_v10 : after midOps V (Proc.devRef .tc main_v10) = pick1 (V (Proc.devRef .tc main_arg0)) (V (Proc.devRef .tc main_v3_3)) := by
  after_reads_simp
  rfl
theorem mid_v14_0 : after midOps V (Proc.devRef .tc main_v14_0) = pick1 (V (Proc.devRef .tc main_arg0)) (V (Proc.devRef .tc main_v3_3)) := by
  after_reads_simp
  rfl

theorem mid_v14_2 : (after midOps V (Proc.devRef .tc main_v14_2) : IVec S_ 32) = fun _ => BitVec.ofNat 32 1 := by
  after_reads_simp
  rfl
theorem mid_v14_3 : (after midOps V (Proc.devRef .tc main_v14_3) : IVec S2x1024 32) = broadcastInDim S2x1024 ![] bcast_S_S2x1024 (constantI S_ 32 0#32) := by
  after_reads_simp
  rfl
theorem mid_v14_4 : (after midOps V (Proc.devRef .tc main_v14_4) : FVec Ideal S2x2048 .f32) = broadcastInDim S2x2048 ![] bcast_S_S2x2048 (constant (F := Ideal) S_ .f32 0x501502F9#32) := by
  after_reads_simp
  rfl
theorem mid_v14_5 : (after midOps V (Proc.devRef .tc main_v14_5) : IVec S2x1 32) = broadcastInDim S2x1 ![] bcast_S_S2x1 (constantI S_ 32 0#32) := by
  after_reads_simp
  rfl

theorem post_v22 : after postOps V (Proc.devRef .tc main_v22)
    = transpose S2x3x2048 [0, 2, 1] (V (Proc.devRef .tc main_v10) : FVec Ideal S2x2048x3 .f32) transposes_S2x2048x3_S2x3x2048_0_2_1 := by
  after_reads_simp
theorem post_v23 : after postOps V (Proc.devRef .tc main_v23)
    = transpose S2x3x1024 [0, 2, 1] (pick2 (V (Proc.devRef .tc main_v10)) (V (Proc.devRef .tc main_v14_3))) transposes_S2x1024x3_S2x3x1024_0_2_1 := by
  after_reads_simp
  rfl

end Reads

end Cert.Reference2Ideal.Sample

end
-- ==== Proof.SampleRef.lean ====
/-
  The sampling reference's four results: the places taken and the coordinates at them, on each of the two levels.
-/
module

public import proofs.«01_k».proof.Proof.SampleRounds
public import proofs.«01_k».proof.Proof.SampleEnds
public import proofs.«01_k».proof.Proof.SampleSpec
public import Idealize.ShloMosaic.Lib.ValueLayout

@[expose] public section

set_option maxRecDepth 16384

noncomputable section

namespace Cert.Reference2Ideal.Sample

open Cert.Reference2Ideal Cert.Reference2Ideal.Gen Cert.Sampling
open Idealize.ShloMosaic Idealize.ShloMosaic.TcCoe Idealize.ShloMosaic.Tactic Idealize.ShloMosaic.StableHlo Idealize.SL.Sem

theorem pre_starts (X : Fin 2 → Fin 4096 → Fin 3 → EReal) (V : Valuation τ sig (Elt Ideal))
    (h0 : ∀ b n c, (after preOps V (Proc.devRef .tc main_v3_0) : FVec Ideal S2x4096x3 .f32) (ix3 b n c) = X b n c) : Holds0 X 0 (after preOps V) := by
  refine ⟨h0, pre_v3_2 V, fun b s => ?_, fun b n => ?_, fun b => ?_⟩
  · rw [pre_v3_3]
    have e : broadcastInDim S2x2048 ![] bcast_S_S2x2048 (constantI S_ 32 0#32) (ix2 b s) = 0#32 := rfl
    rw [e]
    by_cases hs : s.val ≤ 0
    · rw [if_pos hs, show s.val = 0 by omega]; rfl
    · rw [if_neg hs]
  · rw [pre_v3_4]; rfl
  · rw [pre_v3_5]; rfl

theorem mid_starts (X : Fin 2 → Fin 2048 → Fin 3 → EReal) (V : Valuation τ sig (Elt Ideal))
    (h0 : ∀ b n c, (after midOps V (Proc.devRef .tc main_v14_0) : FVec Ideal S2x2048x3 .f32) (ix3 b n c) = X b n c) : Holds1 X 0 (after midOps V) := by
  refine ⟨h0, mid_v14_2 V, fun b s => ?_, fun b n => ?_, fun b => ?_⟩
  · rw [mid_v14_3]
    have e : broadcastInDim S2x1024 ![] bcast_S_S2x1024 (constantI S_ 32 0#32) (ix2 b s) = 0#32 := rfl
    rw [e]
    by_cases hs : s.val ≤ 0
    · rw [if_pos hs, show s.val = 0 by omega]; rfl
    · rw [if_neg hs]
  · rw [mid_v14_4]; rfl
  · rw [mid_v14_5]; rfl

variable (m : (ℓ : Loc nD τ sig) → Buf (Elt Ideal) ℓ) (ρ : Dev nD → PrngReg) (c : Dev nD)

/-- The points. -/
abbrev pts (b : Fin 2) (n : Fin 4096) (i : Fin 3) : EReal := (m ((c.tc : Thread nD τ).loc main_arg0) : Vec Ideal S2x4096x3 .f32) (ix3 b n i)

/-! ## The first loop -/

theorem in0_arg0 : in0 m c (Proc.devRef .tc main_arg0) = m ((c.tc : Thread nD τ).loc main_arg0) := pre_arg0 (launchContents m c)

theorem at0_arg0 (k : ℕ) : at0 m k c (Proc.devRef .tc main_arg0) = m ((c.tc : Thread nD τ).loc main_arg0) := by
  induction k with
  | zero => exact in0_arg0 m c
  | succ k ih =>
    rw [show at0 m (k + 1) c = after body0Ops (after cond0Ops (at0 m k c)) from rfl, body0_arg0, cond0_arg0]
    exact ih

theorem out0_arg0 : out0 m c (Proc.devRef .tc main_arg0) = m ((c.tc : Thread nD τ).loc main_arg0) := (cond0_arg0 _).trans (at0_arg0 m c 2047)

theorem at0_holds (k : ℕ) (hk : k < 2048) : Holds0 (pts m c) k (at0 m k c) := by
  induction k with
  | zero => exact pre_starts (pts m c) (launchContents m c) fun b n i => by rw [pre_v3_0]
  | succ k ih =>
    rw [show at0 m (k + 1) c = after body0Ops (after cond0Ops (at0 m k c)) from rfl]
    exact holds0_body (pts m c) k hk _ (holds0_cond (pts m c) k _ (ih (by omega)))

theorem out0_holds : Holds0 (pts m c) 2047 (out0 m c) := holds0_cond (pts m c) 2047 _ (at0_holds m c 2047 (by omega))

theorem out0_places (b : Fin 2) (s : Fin 2048) :
    (out0 m c (Proc.devRef .tc main_v3_3) : IVec S2x2048 32) (ix2 b s) = BitVec.ofNat 32 (taken (pts m c b) s.val).val :=
  ((out0_holds m c).idx b s).trans (if_pos (by have := s.isLt; omega))

/-- The points at the first level's places. -/
theorem pick_first (b : Fin 2) (s : Fin 2048) (i : Fin 3) :
    pick1 (out0 m c (Proc.devRef .tc main_arg0)) (out0 m c (Proc.devRef .tc main_v3_3)) (ix3 b s i) = sub 2048 (pts m c) b s i :=
  (pick1_apply _ _ b s _ (out0_places m c b s) i).trans (by rw [out0_arg0]; rfl)

/-! ## The second loop -/

theorem at1_keeps (k : ℕ) : at1 m k c (Proc.devRef .tc main_arg0) = m ((c.tc : Thread nD τ).loc main_arg0)
      ∧ at1 m k c (Proc.devRef .tc main_v3_3) = out0 m c (Proc.devRef .tc main_v3_3)
      ∧ at1 m k c (Proc.devRef .tc main_v10) = pick1 (out0 m c (Proc.devRef .tc main_arg0)) (out0 m c (Proc.devRef .tc main_v3_3)) := by
  induction k with
  | zero =>
    exact ⟨(mid_arg0 (out0 m c)).trans (out0_arg0 m c), mid_v3_3 (out0 m c), mid_v10 (out0 m c)⟩
  | succ k ih =>
    rw [show at1 m (k + 1) c = after body1Ops (after cond1Ops (at1 m k c)) from rfl, body1_arg0, cond1_arg0, body1_v3_3, cond1_v3_3,
      body1_v10, cond1_v10]
    exact ih

theorem at1_holds (k : ℕ) (hk : k < 1024) : Holds1 (sub 2048 (pts m c)) k (at1 m k c) := by
  induction k with
  | zero => exact mid_starts (sub 2048 (pts m c)) (out0 m c) fun b n i => by rw [mid_v14_0]; exact pick_first m c b n i
  | succ k ih =>
    rw [show at1 m (k + 1) c = after body1Ops (after cond1Ops (at1 m k c)) from rfl]
    exact holds1_body (sub 2048 (pts m c)) k hk _ (holds1_cond (sub 2048 (pts m c)) k _ (ih (by omega)))

theorem out1_places (b : Fin 2) (s : Fin 1024) :
    (out1 m c (Proc.devRef .tc main_v14_3) : IVec S2x1024 32) (ix2 b s) = BitVec.ofNat 32 (taken (sub 2048 (pts m c) b) s.val).val :=
  ((holds1_cond (sub 2048 (pts m c)) 1023 _ (at1_holds m c 1023 (by omega))).idx b s).trans (if_pos (by have := s.isLt; omega))

theorem out1_points (b : Fin 2) (s : Fin 2048) (i : Fin 3) :
    (out1 m c (Proc.devRef .tc main_v10) : FVec Ideal S2x2048x3 .f32) (ix3 b s i) = sub 2048 (pts m c) b s i :=
  (congrFun ((cond1_v10 _).trans (at1_keeps m c 1023).2.2) (ix3 b s i)).trans (pick_first m c b s i)

/-! ## The results -/

theorem fin_arg0 : fin m c (Proc.devRef .tc main_arg0) = m ((c.tc : Thread nD τ).loc main_arg0) :=
  ((post_arg0 _).trans (cond1_arg0 _)).trans (at1_keeps m c 1023).1

theorem fin_v3_3 : fin m c (Proc.devRef .tc main_v3_3) = placesOf 2048 (pts m c) := by
  refine (((post_v3_3 _).trans (cond1_v3_3 _)).trans (at1_keeps m c 1023).2.1).trans (funext fun j => ?_)
  obtain ⟨b, s, rfl⟩ : ∃ b s, j = ix2 b s := ⟨j 0, j 1, funext fun a => by
    match a with
    | ⟨0, _⟩ => rfl
    | ⟨1, _⟩ => rfl⟩
  exact out0_places m c b s

theorem fin_v14_3 : fin m c (Proc.devRef .tc main_v14_3) = placesOf 1024 (sub 2048 (pts m c)) := by
  refine (post_v14_3 _).trans (funext fun j => ?_)
  obtain ⟨b, s, rfl⟩ : ∃ b s, j = ix2 b s := ⟨j 0, j 1, funext fun a => by
    match a with
    | ⟨0, _⟩ => rfl
    | ⟨1, _⟩ => rfl⟩
  exact out1_places m c b s

theorem fin_v22 : fin m c (Proc.devRef .tc main_v22) = coordsOf 2048 (pts m c) := by
  refine (post_v22 _).trans (funext fun j => ?_)
  obtain ⟨b, i, s, rfl⟩ : ∃ b i s, j = ix3 b i s := ⟨j 0, j 1, j 2, funext fun a => by
    match a with
    | ⟨0, _⟩ => rfl
    | ⟨1, _⟩ => rfl
    | ⟨2, _⟩ => rfl⟩
  exact (ValueIdx.transpose_ix3_021_apply _ _ b i s).trans (out1_points m c b s i)

theorem fin_v23 : fin m c (Proc.devRef .tc main_v23) = coordsOf 1024 (sub 2048 (pts m c)) := by
  refine (post_v23 _).trans (funext fun j => ?_)
  obtain ⟨b, i, s, rfl⟩ : ∃ b i s, j = ix3 b i s := ⟨j 0, j 1, j 2, funext fun a => by
    match a with
    | ⟨0, _⟩ => rfl
    | ⟨1, _⟩ => rfl
    | ⟨2, _⟩ => rfl⟩
  exact (ValueIdx.transpose_ix3_021_apply _ _ b i s).trans
    ((pick2_apply _ _ b s _ (out1_places m c b s) i).trans (out1_points m c b _ i))

/-- The run's results and argument. -/
theorem result : θ_run defs (onTc (τ := τ) (main (F := Ideal))) ⟨m, fun _ => 0, ρ⟩ (fun r => ∀ c : Dev nD,
      r.2.mem ((c.tc : Thread nD τ).loc main_v3_3) = placesOf 2048 (pts m c)
      ∧ r.2.mem ((c.tc : Thread nD τ).loc main_v22) = coordsOf 2048 (pts m c)
      ∧ r.2.mem ((c.tc : Thread nD τ).loc main_v14_3) = placesOf 1024 (sub 2048 (pts m c))
      ∧ r.2.mem ((c.tc : Thread nD τ).loc main_v23) = coordsOf 1024 (sub 2048 (pts m c))
      ∧ r.2.mem ((c.tc : Thread nD τ).loc main_arg0) = m ((c.tc : Thread nD τ).loc main_arg0)) :=
  (θ_run defs _ _).mono (fun r h c =>
    ⟨(h.1 c main_v3_3 rfl).trans (fin_v3_3 m c), (h.1 c main_v22 rfl).trans (fin_v22 m c), (h.1 c main_v14_3 rfl).trans (fin_v14_3 m c),
     (h.1 c main_v23 rfl).trans (fin_v23 m c), (h.1 c main_arg0 rfl).trans (fin_arg0 m c)⟩) (run m ρ)

end Cert.Reference2Ideal.Sample

end
-- ==== Proof.lean ====
/-
The proof of the certificate's claim. The layers' frames are the generated ones (the reference's is its run); the ideal
program is the kernel unchanged; and where the precondition holds the kernel's result over the extended reals is the
reference's, by the stages (`Cert.Stages.result`). The sampling's frames come from its runs, and its results from the
two `result` theorems, which name the same arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Stage6
public import proofs.«01_k».proof.Proof.Finite
public import proofs.«01_k».proof.Proof.KernelRun
public import proofs.«01_k».proof.Proof.SampleBits
public import proofs.«01_k».proof.Proof.SampleResults
public import proofs.«01_k».proof.Proof.SampleRef
public import Idealize.ShloMosaic.Adequacy
public import Idealize.ShloMosaic.Init

@[expose] public section

noncomputable section

namespace Cert.Proof

open Idealize.ShloMosaic Idealize.SL.Sem

/-- The reference's frame: it runs on the host alone, so no semaphore of it is ever raised. -/
theorem reference : quiescent_ReferenceIdeal (hReferenceIdeal := Cert.ReferenceIdeal.Gen.facts) := fun m ρ _ =>
  (θ_run Cert.ReferenceIdeal.defs _ _).mono
    (fun r h => And.intro (fun c => (h c).2) (Idealize.ShloMosaic.sem_eq_zero_of_no_sems (by decide) r.2))
    (Cert.ReferenceIdeal.Value.run m ρ)

/-- What the stages need of the launch memory, from the precondition. -/
theorem given [Cert.Pre_finite_inputs.Facts]
    (m : (ℓ : Loc Cert.KernelIdeal.nD Cert.KernelIdeal.τ Cert.KernelIdeal.sig) → Buf (Elt Ideal) ℓ)
    (hpre : Pre_KernelIdeal_finite_inputs m) (c : Dev Cert.KernelIdeal.nD)
    {x0 : FVec Ideal Cert.KernelIdeal.S2x4096x4 .f32} {x1 : FVec Ideal Cert.KernelIdeal.S2x4096x3 .f32} {x2 : IVec Cert.KernelIdeal.S2x2048 32} {x3 : FVec Ideal Cert.KernelIdeal.S2x3x2048 .f32} {x4 : IVec Cert.KernelIdeal.S2x1024 32} {x5 : FVec Ideal Cert.KernelIdeal.S2x3x1024 .f32} {x6 : FVec Ideal Cert.KernelIdeal.S64x4 .f32} {x7 : FVec Ideal Cert.KernelIdeal.S64x8 .f32} {x8 : FVec Ideal Cert.KernelIdeal.S128x64 .f32} {x9 : FVec Ideal Cert.KernelIdeal.S128x68 .f32} {x10 : FVec Ideal Cert.KernelIdeal.S256x128 .f32} {x11 : FVec Ideal Cert.KernelIdeal.S256x132 .f32} {x12 : FVec Ideal Cert.KernelIdeal.S128x384 .f32} {x13 : FVec Ideal Cert.KernelIdeal.S128 .f32} {x14 : FVec Ideal Cert.KernelIdeal.S128x128 .f32} {x15 : FVec Ideal Cert.KernelIdeal.S128x132 .f32} {x16 : FVec Ideal Cert.KernelIdeal.S64x192 .f32} {x17 : FVec Ideal Cert.KernelIdeal.S64 .f32} {x18 : FVec Ideal Cert.KernelIdeal.S64x64 .f32} {x19 : FVec Ideal Cert.KernelIdeal.S64x68 .f32} {x20 : FVec Ideal Cert.KernelIdeal.S128x64 .f32} {x21 : FVec Ideal Cert.KernelIdeal.S128 .f32}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11))
    (h12 : x12 = m ((c.tc : Thread Cert.KernelIdeal.nD Cert.KernelIdeal.τ).loc Cert.KernelIdeal.main_arg12))
    (h13 : x13 = m ((c.tc : Thread Cert.KernelIdeal.nD Cert.KernelIdeal.τ).loc Cert.KernelIdeal.main_arg13))
    (h14 : x14 = m ((c.tc : Thread Cert.KernelIdeal.nD Cert.KernelIdeal.τ).loc Cert.KernelIdeal.main_arg14))
    (h15 : x15 = m ((c.tc : Thread Cert.KernelIdeal.nD Cert.KernelIdeal.τ).loc Cert.KernelIdeal.main_arg15))
    (h16 : x16 = m ((c.tc : Thread Cert.KernelIdeal.nD Cert.KernelIdeal.τ).loc Cert.KernelIdeal.main_arg16))
    (h17 : x17 = m ((c.tc : Thread Cert.KernelIdeal.nD Cert.KernelIdeal.τ).loc Cert.KernelIdeal.main_arg17))
    (h18 : x18 = m ((c.tc : Thread Cert.KernelIdeal.nD Cert.KernelIdeal.τ).loc Cert.KernelIdeal.main_arg18))
    (h19 : x19 = m ((c.tc : Thread Cert.KernelIdeal.nD Cert.KernelIdeal.τ).loc Cert.KernelIdeal.main_arg19))
    (h20 : x20 = m ((c.tc : Thread Cert.KernelIdeal.nD Cert.KernelIdeal.τ).loc Cert.KernelIdeal.main_arg20))
    (h21 : x21 = m ((c.tc : Thread Cert.KernelIdeal.nD Cert.KernelIdeal.τ).loc Cert.KernelIdeal.main_arg21)) :
    Cert.Stages.Given m c x0 x1 x2 x3 x4 x5 x6 x7 x8 x9 x10 x11 x12 x13 x14 x15 x16 x17 x18 x19 x20 x21 := by
  subst h0 h1 h2 h3 h4 h5 h6 h7 h8 h9 h10 h11 h12 h13 h14 h15 h16 h17 h18 h19 h20 h21
  obtain ⟨r0, r1, r3, r5, r6, r7, r8, r9, r10, r11, r12, r13, r14, r15, r16, r17, r19⟩ := Cert.Finite.reals _ _ _ _ _ _ _ _ _ _ _ _ _ _ _ _ _ _ _ _ _ _ (hpre c)
  exact ⟨rfl, rfl, rfl, rfl, rfl, rfl, rfl, rfl, rfl, rfl, rfl, rfl, rfl, rfl, rfl, rfl, rfl, rfl, rfl, rfl, rfl, rfl,
    r0, r1, r3, r5, r6, r7, r8, r9, r10, r11, r12, r13, r14, r15, r16, r17, r19⟩

theorem algebraic : algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m ρ m' ρ' hpre hag
  haveI := Cert.Finite.facts
  refine ⟨fun c => Cert.KernelIdeal.Gen.W17 m ρ c (Proc.devRef .tc Cert.KernelIdeal.main_v79), Cert.KernelRun.result m ρ,
    (θ_run _ _ _).mono (fun _ h c => ⟨(h c).1.trans ?_, (h c).2⟩) (Cert.ReferenceIdeal.Value.run m' ρ')⟩
  refine (Cert.ReferenceIdeal.Read.val_main_v336_eq (StableHlo.launchContents m' c)).trans ?_
  obtain ⟨h0, h1, h2, h3, h4, h5, h6, h7, h8, h9, h10, h11, h12, h13, h14, h15, h16, h17, h18, h19, h20, h21⟩ := hag c
  exact (Cert.Stages.result m ρ c _ _ _ _ _ _ _ _ _ _ _ _ _ _ _ _ _ _ _ _ _ _ (given m hpre c h0 h1 h2 h3 h4 h5 h6 h7 h8 h9 h10 h11 h12 h13 h14 h15 h16 h17 h18 h19 h20 h21)).symm

/-- The sampling kernel's frame, -/
theorem sampling : quiescent_Kernel2 (hKernel2 := Cert.Kernel2.Gen.facts) := fun m ρ _ =>
  (θ_run Cert.Kernel2.defs _ _).mono
    (fun _ h => And.intro (fun c => ((h.1 c).2 Cert.Kernel2.main_arg0 (Pipeline.mem_restRefs_of Cert.Kernel2.main_arg0 (by decide) (by decide))).trans
      (Cert.Kernel2.Gen.W_main_arg0 m (Cert.Kernel2.Sample.dats m) c)) h.2)
    (Cert.Kernel2.Sample.run m ρ)

/-- over the extended reals, -/
theorem samplingIdeal : quiescent_Kernel2Ideal (hKernel2Ideal := Cert.Kernel2Ideal.Gen.facts) := fun m ρ _ =>
  (θ_run Cert.Kernel2Ideal.defs _ _).mono
    (fun _ h => And.intro (fun c => ((h.1 c).2 Cert.Kernel2Ideal.main_arg0 (Pipeline.mem_restRefs_of Cert.Kernel2Ideal.main_arg0 (by decide) (by decide))).trans
      (Cert.Kernel2Ideal.Gen.W_main_arg0 m (Cert.Kernel2Ideal.Sample.dats m) c)) h.2)
    (Cert.Kernel2Ideal.Sample.run m ρ)

/-- and its reference's. -/
theorem samplingReference : quiescent_Reference2Ideal (hReference2Ideal := Cert.Reference2Ideal.Gen.facts) := fun m ρ _ =>
  (θ_run Cert.Reference2Ideal.defs _ _).mono
    (fun _ h => And.intro (fun c => (h.1 c Cert.Reference2Ideal.main_arg0 rfl).trans (Cert.Reference2Ideal.Sample.fin_arg0 m c)) h.2)
    (Cert.Reference2Ideal.Sample.run m ρ)

/-- Both take the same places on both levels, and the coordinates at them. -/
theorem samplingAlgebraic : algebraic_Kernel2Ideal_Reference2Ideal (hKernel2Ideal := Cert.Kernel2Ideal.Gen.facts)
    (hReference2Ideal := Cert.Reference2Ideal.Gen.facts) := by
  intro m ρ m' ρ' _ hag
  have e : ∀ c, Cert.Reference2Ideal.Sample.pts m' c = Cert.Kernel2Ideal.Sample.pts m c := fun c => by
    unfold Cert.Reference2Ideal.Sample.pts
    rw [hag c]
  refine ⟨fun c => Cert.Sampling.placesOf 2048 (Cert.Kernel2Ideal.Sample.pts m c),
    fun c => Cert.Sampling.coordsOf 2048 (Cert.Kernel2Ideal.Sample.pts m c),
    fun c => Cert.Sampling.placesOf 1024 (Cert.Sampling.sub 2048 (Cert.Kernel2Ideal.Sample.pts m c)),
    fun c => Cert.Sampling.coordsOf 1024 (Cert.Sampling.sub 2048 (Cert.Kernel2Ideal.Sample.pts m c)),
    Cert.Kernel2Ideal.Sample.result m ρ, ?_⟩
  refine (θ_run _ _ _).mono (fun _ h c => ?_) (Cert.Reference2Ideal.Sample.result m' ρ')
  have hc := h c
  rw [e c] at hc
  exact hc

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Finite.facts,
    fun m ρ _ => Cert.Kernel.Gen.frame m ρ, fun m ρ _ => Cert.KernelIdeal.Gen.frame m ρ,
    fun m ρ _ => Cert.KernelIdeal.Gen.frame m ρ, fun m ρ _ => reference m ρ trivial, fun m ρ _ => reference m ρ trivial,
    sampling, samplingIdeal, samplingReference, trivial, algebraic, trivial, samplingAlgebraic⟩

end Cert.Proof

end
